-- ==== Defs.lean ====
def Pre_Kernel [hPre_groups_fill_the_rows : Cert.Pre_groups_fill_the_rows.Facts] (m : (ℓ : Loc Cert.Kernel.nD Cert.Kernel.τ Cert.Kernel.sig) → Buf (Elt Bits) ℓ) : Prop :=
  ∀ c : Dev Cert.Kernel.nD,
    (Cert.Pre_groups_fill_the_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_fill_the_rows : Cert.Pre_groups_fill_the_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill_the_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fill_the_rows [hPre_groups_fill_the_rows : Cert.Pre_groups_fill_the_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fill_the_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up [hPre_groups_fill_the_rows_up : Cert.Pre_groups_fill_the_rows_up.Facts] (m : (ℓ : Loc Cert.Up.nD Cert.Up.τ Cert.Up.sig) → Buf (Elt Bits) ℓ) : Prop :=
  ∀ c : Dev Cert.Up.nD,
    (Cert.Pre_groups_fill_the_rows_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))) = (fun _ => 1#1)

def Pre_UpIdeal [hPre_groups_fill_the_rows_up : Cert.Pre_groups_fill_the_rows_up.Facts] (m : (ℓ : Loc Cert.UpIdeal.nD Cert.UpIdeal.τ Cert.UpIdeal.sig) → Buf (Elt Ideal) ℓ) : Prop :=
  ∀ c : Dev Cert.UpIdeal.nD,
    (Cert.Pre_groups_fill_the_rows_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_groups_fill_the_rows_up [hPre_groups_fill_the_rows_up : Cert.Pre_groups_fill_the_rows_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_groups_fill_the_rows_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))) = (fun _ => 1#1)

def quiescent_Kernel [hKernel : Cert.Kernel.Facts] [hPre_groups_fill_the_rows : Cert.Pre_groups_fill_the_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_fill_the_rows : Cert.Pre_groups_fill_the_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_fill_the_rows [hReferenceIdeal : Cert.ReferenceIdeal.Facts] [hPre_groups_fill_the_rows : Cert.Pre_groups_fill_the_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fill_the_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] [hPre_groups_fill_the_rows_up : Cert.Pre_groups_fill_the_rows_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7)
      ∧ r.2.mem ((c.tc : Thread Cert.Up.nD Cert.Up.τ).loc Cert.Up.main_arg8) = m ((c.tc : Thread Cert.Up.nD Cert.Up.τ).loc Cert.Up.main_arg8))
      ∧ r.2.sem = fun _ => 0)

def quiescent_UpIdeal [hUpIdeal : Cert.UpIdeal.Facts] [hPre_groups_fill_the_rows_up : Cert.Pre_groups_fill_the_rows_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8))
      ∧ r.2.sem = fun _ => 0)

def quiescent_UpReferenceIdeal_pre_groups_fill_the_rows_up [hUpReferenceIdeal : Cert.UpReferenceIdeal.Facts] [hPre_groups_fill_the_rows_up : Cert.Pre_groups_fill_the_rows_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_groups_fill_the_rows_up m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_fill_the_rows : Cert.Pre_groups_fill_the_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal [hUpIdeal : Cert.UpIdeal.Facts] [hUpReferenceIdeal : Cert.UpReferenceIdeal.Facts] [hPre_groups_fill_the_rows_up : Cert.Pre_groups_fill_the_rows_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)
      ∧ m' ((c.tc : Thread Cert.UpReferenceIdeal.nD Cert.UpReferenceIdeal.τ).loc Cert.UpReferenceIdeal.main_arg6) = m ((c.tc : Thread Cert.UpIdeal.nD Cert.UpIdeal.τ).loc Cert.UpIdeal.main_arg6)
      ∧ m' ((c.tc : Thread Cert.UpReferenceIdeal.nD Cert.UpReferenceIdeal.τ).loc Cert.UpReferenceIdeal.main_arg7) = m ((c.tc : Thread Cert.UpIdeal.nD Cert.UpIdeal.τ).loc Cert.UpIdeal.main_arg7)
      ∧ m' ((c.tc : Thread Cert.UpReferenceIdeal.nD Cert.UpReferenceIdeal.τ).loc Cert.UpReferenceIdeal.main_arg8) = m ((c.tc : Thread Cert.UpIdeal.nD Cert.UpIdeal.τ).loc Cert.UpIdeal.main_arg8)) →
    ∃ (v0 : (c : Dev Cert.UpIdeal.nD) → Buf (Elt Ideal) ((c.tc : Thread Cert.UpIdeal.nD Cert.UpIdeal.τ).loc Cert.UpIdeal.main_v43)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v43) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
          ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v45) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6)
          ∧ r.2.mem ((c.tc : Thread Cert.UpReferenceIdeal.nD Cert.UpReferenceIdeal.τ).loc Cert.UpReferenceIdeal.main_arg7) = m' ((c.tc : Thread Cert.UpReferenceIdeal.nD Cert.UpReferenceIdeal.τ).loc Cert.UpReferenceIdeal.main_arg7)
          ∧ r.2.mem ((c.tc : Thread Cert.UpReferenceIdeal.nD Cert.UpReferenceIdeal.τ).loc Cert.UpReferenceIdeal.main_arg8) = m' ((c.tc : Thread Cert.UpReferenceIdeal.nD Cert.UpReferenceIdeal.τ).loc Cert.UpReferenceIdeal.main_arg8))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hPre_groups_fill_the_rows : Cert.Pre_groups_fill_the_rows.Facts) (hPre_groups_fill_the_rows_up : Cert.Pre_groups_fill_the_rows_up.Facts),
    quiescent_Kernel (hKernel := hKernel) (hPre_groups_fill_the_rows := hPre_groups_fill_the_rows)
    ∧ quiescent_KernelIdeal (hKernelIdeal := hKernelIdeal) (hPre_groups_fill_the_rows := hPre_groups_fill_the_rows)
    ∧ quiescent_ReferenceIdeal (hReferenceIdeal := hReferenceIdeal)
    ∧ quiescent_ReferenceIdeal_pre_groups_fill_the_rows (hReferenceIdeal := hReferenceIdeal) (hPre_groups_fill_the_rows := hPre_groups_fill_the_rows)
    ∧ quiescent_Up (hUp := hUp) (hPre_groups_fill_the_rows_up := hPre_groups_fill_the_rows_up)
    ∧ quiescent_UpIdeal (hUpIdeal := hUpIdeal) (hPre_groups_fill_the_rows_up := hPre_groups_fill_the_rows_up)
    ∧ quiescent_UpReferenceIdeal (hUpReferenceIdeal := hUpReferenceIdeal)
    ∧ quiescent_UpReferenceIdeal_pre_groups_fill_the_rows_up (hUpReferenceIdeal := hUpReferenceIdeal) (hPre_groups_fill_the_rows_up := hPre_groups_fill_the_rows_up)
    ∧ preserves_Kernel_KernelIdeal
    ∧ algebraic_KernelIdeal_ReferenceIdeal (hKernelIdeal := hKernelIdeal) (hReferenceIdeal := hReferenceIdeal) (hPre_groups_fill_the_rows := hPre_groups_fill_the_rows)
    ∧ preserves_Up_UpIdeal
    ∧ algebraic_UpIdeal_UpReferenceIdeal (hUpIdeal := hUpIdeal) (hUpReferenceIdeal := hUpReferenceIdeal) (hPre_groups_fill_the_rows_up := hPre_groups_fill_the_rows_up)
-- ==== Pre_groups_fill_the_rows.lean ====
abbrev S8 : Shape := ⟨1, ![8]⟩
abbrev S9216x4096 : Shape := ⟨2, ![9216, 4096]⟩
abbrev S8x2048x6144 : Shape := ⟨3, ![8, 2048, 6144]⟩
abbrev S8x32x6144 : Shape := ⟨3, ![8, 32, 6144]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S8 .f32) (main_arg2 : FVec F S9216x4096 .fp8e4m3) (main_arg3 : IVec S8x2048x6144 8) (main_arg4 : FVec F S8x32x6144 .bf16) : IVec S8 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 9216#32
  let main_v2 : IVec S8 32 := broadcastInDim S8 ![] bcast_S_S8 main_c_0
  let main_v3 : IVec S8 1 := cmpi .sle main_arg0 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg0 main_c_1
  let main_c_2 : IVec S_ 32 := constantI S_ 32 9216#32
  let main_v6 : IVec S_ 1 := cmpi .eq main_v5 main_c_2
  let main_v7 : IVec S8 1 := broadcastInDim S8 ![] bcast_S_S8 main_v6
  let main_v8 : IVec S8 1 := andi main_v4 main_v7
  main_v8
-- ==== Pre_groups_fill_the_rows_up.lean ====
abbrev S8 : Shape := ⟨1, ![8]⟩
abbrev S9216x6144 : Shape := ⟨2, ![9216, 6144]⟩
abbrev S8x3072x4096 : Shape := ⟨3, ![8, 3072, 4096]⟩
abbrev S8x48x4096 : Shape := ⟨3, ![8, 48, 4096]⟩
abbrev S8x4096 : Shape := ⟨2, ![8, 4096]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S8 .f32) (main_arg2 : FVec F S8 .f32) (main_arg3 : FVec F S9216x6144 .fp8e4m3) (main_arg4 : IVec S8x3072x4096 8) (main_arg5 : FVec F S8x48x4096 .bf16) (main_arg6 : IVec S8x3072x4096 8) (main_arg7 : FVec F S8x48x4096 .bf16) (main_arg8 : FVec F S8x4096 .f32) : IVec S8 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 9216#32
  let main_v2 : IVec S8 32 := broadcastInDim S8 ![] bcast_S_S8 main_c_0
  let main_v3 : IVec S8 1 := cmpi .sle main_arg0 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg0 main_c_1
  let main_c_2 : IVec S_ 32 := constantI S_ 32 9216#32
  let main_v6 : IVec S_ 1 := cmpi .eq main_v5 main_c_2
  let main_v7 : IVec S8 1 := broadcastInDim S8 ![] bcast_S_S8 main_v6
  let main_v8 : IVec S8 1 := andi main_v4 main_v7
  main_v8
-- ==== Kernel.lean ====
abbrev S8 : Shape := ⟨1, ![8]⟩
abbrev S9216x4096 : Shape := ⟨2, ![9216, 4096]⟩
abbrev S8x2048x6144 : Shape := ⟨3, ![8, 2048, 6144]⟩
abbrev S8x32x6144 : Shape := ⟨3, ![8, 32, 6144]⟩
abbrev S_ : Shape := ⟨0, ![]⟩
abbrev S43 : Shape := ⟨1, ![43]⟩
abbrev S43x1 : Shape := ⟨2, ![43, 1]⟩
abbrev S7 : Shape := ⟨1, ![7]⟩
abbrev S1x7 : Shape := ⟨2, ![1, 7]⟩
abbrev S43x7 : Shape := ⟨2, ![43, 7]⟩
abbrev S1 : Shape := ⟨1, ![1]⟩
abbrev S9216x6144 : Shape := ⟨2, ![9216, 6144]⟩
abbrev S256x4096 : Shape := ⟨2, ![256, 4096]⟩
abbrev S1x2048x1024 : Shape := ⟨3, ![1, 2048, 1024]⟩
abbrev S1x32x1024 : Shape := ⟨3, ![1, 32, 1024]⟩
abbrev S256x1024 : Shape := ⟨2, ![256, 1024]⟩
abbrev S4096x1024 : Shape := ⟨2, ![4096, 1024]⟩
abbrev S2048x1024 : Shape := ⟨2, ![2048, 1024]⟩
abbrev S64x1024 : Shape := ⟨2, ![64, 1024]⟩
abbrev S16x1024 : Shape := ⟨2, ![16, 1024]⟩
abbrev S32x1024 : Shape := ⟨2, ![32, 1024]⟩
abbrev S1x1024 : Shape := ⟨2, ![1, 1024]⟩

abbrev nBuf : Space → Nat
  | .hbm => 95
  | .vmem => 9
  | .smem => 5
  | _ => 0

abbrev bufTy : (tb : Table) → Fin (tcTables nBuf tb) → BufTy
  | .hbm, ⟨0, _⟩ => ⟨S8, .i32⟩
  | .hbm, ⟨1, _⟩ => ⟨S8, .f32⟩
  | .hbm, ⟨2, _⟩ => ⟨S9216x4096, .fp8e4m3⟩
  | .hbm, ⟨3, _⟩ => ⟨S8x2048x6144, .i8⟩
  | .hbm, ⟨4, _⟩ => ⟨S8x32x6144, .bf16⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S8, .i32⟩
  | .hbm, ⟨44, _⟩ => ⟨S8, .i1⟩
  | .hbm, ⟨45, _⟩ => ⟨S8, .i1⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S_, .i32⟩
  | .hbm, ⟨60, _⟩ => ⟨S8, .i32⟩
  | .hbm, ⟨61, _⟩ => ⟨S43, .i32⟩
  | .hbm, ⟨62, _⟩ => ⟨S43x1, .i32⟩
  | .hbm, ⟨63, _⟩ => ⟨S7, .i32⟩
  | .hbm, ⟨64, _⟩ => ⟨S1x7, .i32⟩
  | .hbm, ⟨65, _⟩ => ⟨S43x7, .i32⟩
  | .hbm, ⟨66, _⟩ => ⟨S43x7, .i32⟩
  | .hbm, ⟨67, _⟩ => ⟨S43x7, .i1⟩
  | .hbm, ⟨68, _⟩ => ⟨S43x7, .i32⟩
  | .hbm, ⟨69, _⟩ => ⟨S_, .i32⟩
  | .hbm, ⟨70, _⟩ => ⟨S_, .i32⟩
  | .hbm, ⟨71, _⟩ => ⟨S43, .i32⟩
  | .hbm, ⟨72, _⟩ => ⟨S43, .i1⟩
  | .hbm, ⟨73, _⟩ => ⟨S_, .i32⟩
  | .hbm, ⟨74, _⟩ => ⟨S43, .i32⟩
  | .hbm, ⟨75, _⟩ => ⟨S43, .i32⟩
  | .hbm, ⟨76, _⟩ => ⟨S43, .i32⟩
  | .hbm, ⟨77, _⟩ => ⟨S43x1, .i32⟩
  | .hbm, ⟨78, _⟩ => ⟨S43, .i32⟩
  | .hbm, ⟨79, _⟩ => ⟨S43, .i32⟩
  | .hbm, ⟨80, _⟩ => ⟨S8, .i32⟩
  | .hbm, ⟨81, _⟩ => ⟨S_, .i32⟩
  | .hbm, ⟨82, _⟩ => ⟨S43, .i32⟩
  | .hbm, ⟨83, _⟩ => ⟨S43, .i1⟩
  | .hbm, ⟨84, _⟩ => ⟨S_, .i32⟩
  | .hbm, ⟨85, _⟩ => ⟨S43, .i32⟩
  | .hbm, ⟨86, _⟩ => ⟨S43, .i32⟩
  | .hbm, ⟨87, _⟩ => ⟨S43, .i32⟩
  | .hbm, ⟨88, _⟩ => ⟨S43x1, .i32⟩
  | .hbm, ⟨89, _⟩ => ⟨S43, .i32⟩
  | .hbm, ⟨90, _⟩ => ⟨S43, .i32⟩
  | .hbm, ⟨91, _⟩ => ⟨S_, .i32⟩
  | .hbm, ⟨92, _⟩ => ⟨S43, .i32⟩
  | .hbm, ⟨93, _⟩ => ⟨S1, .i32⟩
  | .hbm, ⟨94, _⟩ => ⟨S9216x6144, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S1x2048x1024, .i8⟩
  | .local _ .vmem, ⟨3, _⟩ => ⟨S1x2048x1024, .i8⟩
  | .local _ .vmem, ⟨4, _⟩ => ⟨S1x32x1024, .bf16⟩
  | .local _ .vmem, ⟨5, _⟩ => ⟨S1x32x1024, .bf16⟩
  | .local _ .vmem, ⟨6, _⟩ => ⟨S256x1024, .f32⟩
  | .local _ .vmem, ⟨7, _⟩ => ⟨S256x1024, .f32⟩
  | .local _ .vmem, ⟨8, _⟩ => ⟨S4096x1024, .bf16⟩
  | .local _ .smem, ⟨0, _⟩ => ⟨S_, .i32⟩
  | .local _ .smem, ⟨1, _⟩ => ⟨S43, .i32⟩
  | .local _ .smem, ⟨2, _⟩ => ⟨S43, .i32⟩
  | .local _ .smem, ⟨3, _⟩ => ⟨S8, .i32⟩
  | .local _ .smem, ⟨4, _⟩ => ⟨S8, .f32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_c_5 : Ref sig .tc := ⟨.hbm, 69, rfl⟩
abbrev main_c_6 : Ref sig .tc := ⟨.hbm, 70, rfl⟩
abbrev main_v22 : Ref sig .tc := ⟨.hbm, 71, rfl⟩
abbrev main_v23 : Ref sig .tc := ⟨.hbm, 72, rfl⟩
abbrev main_c_7 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_c_8 : Ref sig .tc := ⟨.hbm, 81, rfl⟩
abbrev main_v31 : Ref sig .tc := ⟨.hbm, 82, rfl⟩
abbrev main_v32 : Ref sig .tc := ⟨.hbm, 83, rfl⟩
abbrev main_c_9 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_c_10 : Ref sig .tc := ⟨.hbm, 91, rfl⟩
abbrev main_v39 : Ref sig .tc := ⟨.hbm, 92, rfl⟩
abbrev main_v41 : Ref sig .tc := ⟨.hbm, 93, rfl⟩
abbrev main_v43 : Ref sig .tc := ⟨.hbm, 94, rfl⟩
abbrev main_v42 : Ref sig .tc := ⟨.smem, 0, rfl⟩
abbrev main_v21 : Ref sig .tc := ⟨.smem, 1, rfl⟩
abbrev main_v40 : Ref sig .tc := ⟨.smem, 2, rfl⟩
abbrev main_v0 : Ref sig .tc := ⟨.smem, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 0], ![false, true]⟩

abbrev pre0 : Pipeline.Prefetch sig := ⟨4, ![main_v42.idx, main_v21.idx, main_v40.idx, main_v0.idx], fun | 0 => main_v42.names | 1 => main_v21.names | 2 => main_v40.names | 3 => main_v0.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def dynb0 (pf : pre0.Contents (Elt F)) : grid0.Bounds := ![6, (pf 0 fun a => a.elim0).toNat]

def k0_off1 (b : grid0.Bounds) (i : (grid0.at b).Coords) : Fin 1 → Nat :=
  let arg1 : BitVec 32 := BitVec.ofNat 32 (i 1).val
  let v0 : Index := Scalar.indexCast arg1
  ![v0.toNat]

def k0_off2 (arg1 : BitVec 32) : Fin 1 → Nat :=
  let v0 : Index := Scalar.indexCast arg1
  ![v0.toNat]

def k0_off3 (arg1 : BitVec 32) : Fin 1 → Nat :=
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_off4 (v1 : BitVec 32) : Fin 1 → Nat :=
  let v17 : Index := Scalar.indexCast v1
  ![v17.toNat]

def k0_chk2 (v1 : BitVec 32) : Prop :=
  (∀ a, (k0_off4 v1) a + S1.size a ≤ S8.size a)
theorem k0_off4_inb : ∀ (v1 : BitVec 32) (k0_hw2 : k0_chk2 v1), ∀ a, (k0_off4 v1) a + S1.size a ≤ S8.size a := fun v1 k0_hw2 => k0_hw2

def k0_off5 (arg1 : BitVec 32) : Fin 1 → Nat :=
  let v21 : Index := Scalar.indexCast arg1
  ![v21.toNat]

def k0_chk1 (arg1 : BitVec 32) : Prop :=
  (∀ a, (k0_off2 arg1) a + S1.size a ≤ S43.size a) ∧
  (∀ a, (k0_off3 arg1) a + S1.size a ≤ S43.size a) ∧
  (∀ a, (k0_off5 arg1) a + S1.size a ≤ S43.size a)
theorem k0_off2_inb : ∀ (arg1 : BitVec 32) (k0_hw1 : k0_chk1 arg1), ∀ a, (k0_off2 arg1) a + S1.size a ≤ S43.size a := fun arg1 k0_hw1 => k0_hw1.1
theorem k0_off3_inb : ∀ (arg1 : BitVec 32) (k0_hw1 : k0_chk1 arg1), ∀ a, (k0_off3 arg1) a + S1.size a ≤ S43.size a := fun arg1 k0_hw1 => k0_hw1.2.1
theorem k0_off5_inb : ∀ (arg1 : BitVec 32) (k0_hw1 : k0_chk1 arg1), ∀ a, (k0_off5 arg1) a + S1.size a ≤ S43.size a := fun arg1 k0_hw1 => k0_hw1.2.2

def k0_off6 (v22 : BitVec 32) : Fin 1 → Nat :=
  let c1_i32_6 : BitVec 32 := 1#32
  let v30 : BitVec 32 := Scalar.subi v22 c1_i32_6
  let c0_i32_7 : BitVec 32 := 0#32
  let v31 : BitVec 32 := Scalar.maxsi v30 c0_i32_7
  let v32 : Index := Scalar.indexCast v31
  ![v32.toNat]

def k0_off7 (v22 : BitVec 32) : Fin 1 → Nat :=
  let v37 : Index := Scalar.indexCast v22
  ![v37.toNat]

def k0_chk3 (v22 : BitVec 32) : Prop :=
  (∀ a, (k0_off6 v22) a + S1.size a ≤ S8.size a) ∧
  (∀ a, (k0_off7 v22) a + S1.size a ≤ S8.size a)
theorem k0_off6_inb : ∀ (v22 : BitVec 32) (k0_hw3 : k0_chk3 v22), ∀ a, (k0_off6 v22) a + S1.size a ≤ S8.size a := fun v22 k0_hw3 => k0_hw3.1
theorem k0_off7_inb : ∀ (v22 : BitVec 32) (k0_hw3 : k0_chk3 v22), ∀ a, (k0_off7 v22) a + S1.size a ≤ S8.size a := fun v22 k0_hw3 => k0_hw3.2

def cc0_transform_0 (b : grid0.Bounds) (i : (grid0.at b).Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (pf : pre0.Contents (Elt F)) (b : grid0.Bounds) (i : (grid0.at b).Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.atD 2 ![v0.toNat]
  let c0_i32 : BitVec 32 := 0#32
  let c0_i32_0 : BitVec 32 := 0#32
  ![v1.toNat, c0_i32.toNat]

def cc0_transform_2 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.atD 1 ![v0.toNat]
  let c0_i32 : BitVec 32 := 0#32
  let c0_i32_0 : BitVec 32 := 0#32
  ![v1.toNat, c0_i32.toNat, arg0.toNat]

def cc0_transform_3 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.atD 1 ![v0.toNat]
  let c0_i32 : BitVec 32 := 0#32
  let c0_i32_0 : BitVec 32 := 0#32
  ![v1.toNat, c0_i32.toNat, arg0.toNat]

def cc0_transform_4 (pf : pre0.Contents (Elt F)) (b : grid0.Bounds) (i : (grid0.at b).Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.atD 2 ![v0.toNat]
  let c0_i32 : BitVec 32 := 0#32
  ![v1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8 : Shape := ⟨1, ![8]⟩
abbrev S9216x4096 : Shape := ⟨2, ![9216, 4096]⟩
abbrev S8x2048x6144 : Shape := ⟨3, ![8, 2048, 6144]⟩
abbrev S8x32x6144 : Shape := ⟨3, ![8, 32, 6144]⟩
abbrev S_ : Shape := ⟨0, ![]⟩
abbrev S9216 : Shape := ⟨1, ![9216]⟩
abbrev S9216x1 : Shape := ⟨2, ![9216, 1]⟩
abbrev S7 : Shape := ⟨1, ![7]⟩
abbrev S1x7 : Shape := ⟨2, ![1, 7]⟩
abbrev S9216x7 : Shape := ⟨2, ![9216, 7]⟩
abbrev S8x32x1x64x6144 : Shape := ⟨5, ![8, 32, 1, 64, 6144]⟩
abbrev S8x32x2x64x6144 : Shape := ⟨5, ![8, 32, 2, 64, 6144]⟩
abbrev S8x32x1x1x6144 : Shape := ⟨5, ![8, 32, 1, 1, 6144]⟩
abbrev S8x4096x6144 : Shape := ⟨3, ![8, 4096, 6144]⟩
abbrev S9216x6144 : Shape := ⟨2, ![9216, 6144]⟩
abbrev S1x4096x6144 : Shape := ⟨3, ![1, 4096, 6144]⟩
abbrev S4096x6144 : Shape := ⟨2, ![4096, 6144]⟩
abbrev S1 : Shape := ⟨1, ![1]⟩

abbrev nBuf : Space → Nat
  | .hbm => 145
  | .vmem => 2
  | .smem => 0
  | _ => 0

abbrev hbmTy0_0 (i : Nat) : BufTy := match i % 128 with
  | 0 => ⟨S8, .i32⟩
  | 1 => ⟨S8, .f32⟩
  | 2 => ⟨S9216x4096, .fp8e4m3⟩
  | 3 => ⟨S8x2048x6144, .i8⟩
  | 4 => ⟨S8x32x6144, .bf16⟩
  | 5 => ⟨S9216x4096, .bf16⟩
  | 6 => ⟨S_, .i32⟩
  | 7 => ⟨S_, .i32⟩
  | 8 => ⟨S8, .i32⟩
  | 9 => ⟨S9216, .i32⟩
  | 10 => ⟨S9216x1, .i32⟩
  | 11 => ⟨S7, .i32⟩
  | 12 => ⟨S1x7, .i32⟩
  | 13 => ⟨S9216x7, .i32⟩
  | 14 => ⟨S9216x7, .i32⟩
  | 15 => ⟨S9216x7, .i1⟩
  | 16 => ⟨S9216x7, .i32⟩
  | 17 => ⟨S_, .i32⟩
  | 18 => ⟨S9216, .i32⟩
  | 19 => ⟨S8x32x1x64x6144, .i8⟩
  | 20 => ⟨S8x32x1x64x6144, .i32⟩
  | 21 => ⟨S_, .i32⟩
  | 22 => ⟨S8x32x1x64x6144, .i32⟩
  | 23 => ⟨S8x32x1x64x6144, .i32⟩
  | 24 => ⟨S_, .i32⟩
  | 25 => ⟨S8x32x1x64x6144, .i32⟩
  | 26 => ⟨S8x32x1x64x6144, .i32⟩
  | 27 => ⟨S_, .i32⟩
  | 28 => ⟨S8x32x1x64x6144, .i32⟩
  | 29 => ⟨S8x32x1x64x6144, .i32⟩
  | 30 => ⟨S_, .i32⟩
  | 31 => ⟨S8x32x1x64x6144, .i32⟩
  | 32 => ⟨S8x32x1x64x6144, .i32⟩
  | 33 => ⟨S8x32x2x64x6144, .i32⟩
  | 34 => ⟨S8x32x2x64x6144, .bf16⟩
  | 35 => ⟨S8x32x1x1x6144, .bf16⟩
  | 36 => ⟨S8x32x2x64x6144, .bf16⟩
  | 37 => ⟨S8x32x2x64x6144, .bf16⟩
  | 38 => ⟨S8x4096x6144, .bf16⟩
  | 39 => ⟨S_, .f32⟩
  | 40 => ⟨S9216x6144, .f32⟩
  | 41 => ⟨S1x4096x6144, .bf16⟩
  | 42 => ⟨S4096x6144, .bf16⟩
  | 43 => ⟨S9216x6144, .f32⟩
  | 44 => ⟨S1, .f32⟩
  | 45 => ⟨S_, .f32⟩
  | 46 => ⟨S9216x6144, .f32⟩
  | 47 => ⟨S9216x6144, .f32⟩
  | 48 => ⟨S_, .i32⟩
  | 49 => ⟨S9216, .i32⟩
  | 50 => ⟨S9216, .i1⟩
  | 51 => ⟨S9216x1, .i1⟩
  | 52 => ⟨S9216x6144, .i1⟩
  | 53 => ⟨S9216x6144, .f32⟩
  | 54 => ⟨S1x4096x6144, .bf16⟩
  | 55 => ⟨S4096x6144, .bf16⟩
  | 56 => ⟨S9216x6144, .f32⟩
  | 57 => ⟨S1, .f32⟩
  | 58 => ⟨S_, .f32⟩
  | 59 => ⟨S9216x6144, .f32⟩
  | 60 => ⟨S9216x6144, .f32⟩
  | 61 => ⟨S_, .i32⟩
  | 62 => ⟨S9216, .i32⟩
  | 63 => ⟨S9216, .i1⟩
  | 64 => ⟨S9216x1, .i1⟩
  | 65 => ⟨S9216x6144, .i1⟩
  | 66 => ⟨S9216x6144, .f32⟩
  | 67 => ⟨S1x4096x6144, .bf16⟩
  | 68 => ⟨S4096x6144, .bf16⟩
  | 69 => ⟨S9216x6144, .f32⟩
  | 70 => ⟨S1, .f32⟩
  | 71 => ⟨S_, .f32⟩
  | 72 => ⟨S9216x6144, .f32⟩
  | 73 => ⟨S9216x6144, .f32⟩
  | 74 => ⟨S_, .i32⟩
  | 75 => ⟨S9216, .i32⟩
  | 76 => ⟨S9216, .i1⟩
  | 77 => ⟨S9216x1, .i1⟩
  | 78 => ⟨S9216x6144, .i1⟩
  | 79 => ⟨S9216x6144, .f32⟩
  | 80 => ⟨S1x4096x6144, .bf16⟩
  | 81 => ⟨S4096x6144, .bf16⟩
  | 82 => ⟨S9216x6144, .f32⟩
  | 83 => ⟨S1, .f32⟩
  | 84 => ⟨S_, .f32⟩
  | 85 => ⟨S9216x6144, .f32⟩
  | 86 => ⟨S9216x6144, .f32⟩
  | 87 => ⟨S_, .i32⟩
  | 88 => ⟨S9216, .i32⟩
  | 89 => ⟨S9216, .i1⟩
  | 90 => ⟨S9216x1, .i1⟩
  | 91 => ⟨S9216x6144, .i1⟩
  | 92 => ⟨S9216x6144, .f32⟩
  | 93 => ⟨S1x4096x6144, .bf16⟩
  | 94 => ⟨S4096x6144, .bf16⟩
  | 95 => ⟨S9216x6144, .f32⟩
  | 96 => ⟨S1, .f32⟩
  | 97 => ⟨S_, .f32⟩
  | 98 => ⟨S9216x6144, .f32⟩
  | 99 => ⟨S9216x6144, .f32⟩
  | 100 => ⟨S_, .i32⟩
  | 101 => ⟨S9216, .i32⟩
  | 102 => ⟨S9216, .i1⟩
  | 103 => ⟨S9216x1, .i1⟩
  | 104 => ⟨S9216x6144, .i1⟩
  | 105 => ⟨S9216x6144, .f32⟩
  | 106 => ⟨S1x4096x6144, .bf16⟩
  | 107 => ⟨S4096x6144, .bf16⟩
  | 108 => ⟨S9216x6144, .f32⟩
  | 109 => ⟨S1, .f32⟩
  | 110 => ⟨S_, .f32⟩
  | 111 => ⟨S9216x6144, .f32⟩
  | 112 => ⟨S9216x6144, .f32⟩
  | 113 => ⟨S_, .i32⟩
  | 114 => ⟨S9216, .i32⟩
  | 115 => ⟨S9216, .i1⟩
  | 116 => ⟨S9216x1, .i1⟩
  | 117 => ⟨S9216x6144, .i1⟩
  | 118 => ⟨S9216x6144, .f32⟩
  | 119 => ⟨S1x4096x6144, .bf16⟩
  | 120 => ⟨S4096x6144, .bf16⟩
  | 121 => ⟨S9216x6144, .f32⟩
  | 122 => ⟨S1, .f32⟩
  | 123 => ⟨S_, .f32⟩
  | 124 => ⟨S9216x6144, .f32⟩
  | 125 => ⟨S9216x6144, .f32⟩
  | 126 => ⟨S_, .i32⟩
  | 127 => ⟨S9216, .i32⟩
  | _ => ⟨S8, .i32⟩

abbrev hbmTy0_1 (i : Nat) : BufTy := match i % 128 with
  | 0 => ⟨S9216, .i1⟩
  | 1 => ⟨S9216x1, .i1⟩
  | 2 => ⟨S9216x6144, .i1⟩
  | 3 => ⟨S9216x6144, .f32⟩
  | 4 => ⟨S1x4096x6144, .bf16⟩
  | 5 => ⟨S4096x6144, .bf16⟩
  | 6 => ⟨S9216x6144, .f32⟩
  | 7 => ⟨S1, .f32⟩
  | 8 => ⟨S_, .f32⟩
  | 9 => ⟨S9216x6144, .f32⟩
  | 10 => ⟨S9216x6144, .f32⟩
  | 11 => ⟨S_, .i32⟩
  | 12 => ⟨S9216, .i32⟩
  | 13 => ⟨S9216, .i1⟩
  | 14 => ⟨S9216x1, .i1⟩
  | 15 => ⟨S9216x6144, .i1⟩
  | 16 => ⟨S9216x6144, .f32⟩
  | _ => ⟨S8, .i32⟩

abbrev hbmTy (i : Nat) : BufTy := match i / 128 with
  | 0 => hbmTy0_0 i
  | 1 => hbmTy0_1 i
  | _ => ⟨S8, .i32⟩

abbrev bufTy : (tb : Table) → Fin (tcTables nBuf tb) → BufTy
  | .hbm, ⟨i, _⟩ => hbmTy i
  | .local _ .vmem, ⟨0, _⟩ => ⟨S9216x4096, .fp8e4m3⟩
  | .local _ .vmem, ⟨1, _⟩ => ⟨S9216x4096, .bf16⟩
  | _, _ => ⟨S8, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_c : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call1_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call2_v0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call3_v0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_7 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call4_v0 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_8 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_call5_v0 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_9 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_call6_v0 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_c_10 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_call7_v0 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_c_11 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_call8_v0 : Ref sig .tc := ⟨.hbm, 143, rfl⟩
abbrev main_v115 : Ref sig .tc := ⟨.hbm, 144, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S9216x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Up.lean ====
abbrev S8 : Shape := ⟨1, ![8]⟩
abbrev S9216x6144 : Shape := ⟨2, ![9216, 6144]⟩
abbrev S8x3072x4096 : Shape := ⟨3, ![8, 3072, 4096]⟩
abbrev S8x48x4096 : Shape := ⟨3, ![8, 48, 4096]⟩
abbrev S8x4096 : Shape := ⟨2, ![8, 4096]⟩
abbrev S_ : Shape := ⟨0, ![]⟩
abbrev S43 : Shape := ⟨1, ![43]⟩
abbrev S43x1 : Shape := ⟨2, ![43, 1]⟩
abbrev S7 : Shape := ⟨1, ![7]⟩
abbrev S1x7 : Shape := ⟨2, ![1, 7]⟩
abbrev S43x7 : Shape := ⟨2, ![43, 7]⟩
abbrev S1 : Shape := ⟨1, ![1]⟩
abbrev S9216x4096 : Shape := ⟨2, ![9216, 4096]⟩
abbrev S256x6144 : Shape := ⟨2, ![256, 6144]⟩
abbrev S1x3072x512 : Shape := ⟨3, ![1, 3072, 512]⟩
abbrev S1x48x512 : Shape := ⟨3, ![1, 48, 512]⟩
abbrev S8x512 : Shape := ⟨2, ![8, 512]⟩
abbrev S256x512 : Shape := ⟨2, ![256, 512]⟩
abbrev S6144x512 : Shape := ⟨2, ![6144, 512]⟩
abbrev S3072x512 : Shape := ⟨2, ![3072, 512]⟩
abbrev S64x512 : Shape := ⟨2, ![64, 512]⟩
abbrev S16x512 : Shape := ⟨2, ![16, 512]⟩
abbrev S48x512 : Shape := ⟨2, ![48, 512]⟩
abbrev S1x512 : Shape := ⟨2, ![1, 512]⟩

abbrev nBuf : Space → Nat
  | .hbm => 99
  | .vmem => 16
  | .smem => 6
  | _ => 0

abbrev bufTy : (tb : Table) → Fin (tcTables nBuf tb) → BufTy
  | .hbm, ⟨0, _⟩ => ⟨S8, .i32⟩
  | .hbm, ⟨1, _⟩ => ⟨S8, .f32⟩
  | .hbm, ⟨2, _⟩ => ⟨S8, .f32⟩
  | .hbm, ⟨3, _⟩ => ⟨S9216x6144, .fp8e4m3⟩
  | .hbm, ⟨4, _⟩ => ⟨S8x3072x4096, .i8⟩
  | .hbm, ⟨5, _⟩ => ⟨S8x48x4096, .bf16⟩
  | .hbm, ⟨6, _⟩ => ⟨S8x3072x4096, .i8⟩
  | .hbm, ⟨7, _⟩ => ⟨S8x48x4096, .bf16⟩
  | .hbm, ⟨8, _⟩ => ⟨S8x4096, .f32⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i1⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S_, .i32⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8, .i32⟩
  | .hbm, ⟨41, _⟩ => ⟨S_, .i32⟩
  | .hbm, ⟨42, _⟩ => ⟨S8, .i32⟩
  | .hbm, ⟨43, _⟩ => ⟨S8, .i1⟩
  | .hbm, ⟨44, _⟩ => ⟨S8, .i32⟩
  | .hbm, ⟨45, _⟩ => ⟨S8, .i32⟩
  | .hbm, ⟨46, _⟩ => ⟨S_, .i32⟩
  | .hbm, ⟨47, _⟩ => ⟨S8, .i32⟩
  | .hbm, ⟨48, _⟩ => ⟨S8, .i1⟩
  | .hbm, ⟨49, _⟩ => ⟨S8, .i1⟩
  | .hbm, ⟨50, _⟩ => ⟨S_, .i32⟩
  | .hbm, ⟨51, _⟩ => ⟨S8, .i32⟩
  | .hbm, ⟨52, _⟩ => ⟨S8, .i32⟩
  | .hbm, ⟨53, _⟩ => ⟨S8, .i32⟩
  | .hbm, ⟨54, _⟩ => ⟨S8, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S_, .i32⟩
  | .hbm, ⟨60, _⟩ => ⟨S8, .i32⟩
  | .hbm, ⟨61, _⟩ => ⟨S8, .i32⟩
  | .hbm, ⟨62, _⟩ => ⟨S_, .i32⟩
  | .hbm, ⟨63, _⟩ => ⟨S_, .i32⟩
  | .hbm, ⟨64, _⟩ => ⟨S8, .i32⟩
  | .hbm, ⟨65, _⟩ => ⟨S43, .i32⟩
  | .hbm, ⟨66, _⟩ => ⟨S43x1, .i32⟩
  | .hbm, ⟨67, _⟩ => ⟨S7, .i32⟩
  | .hbm, ⟨68, _⟩ => ⟨S1x7, .i32⟩
  | .hbm, ⟨69, _⟩ => ⟨S43x7, .i32⟩
  | .hbm, ⟨70, _⟩ => ⟨S43x7, .i32⟩
  | .hbm, ⟨71, _⟩ => ⟨S43x7, .i1⟩
  | .hbm, ⟨72, _⟩ => ⟨S43x7, .i32⟩
  | .hbm, ⟨73, _⟩ => ⟨S_, .i32⟩
  | .hbm, ⟨74, _⟩ => ⟨S_, .i32⟩
  | .hbm, ⟨75, _⟩ => ⟨S43, .i32⟩
  | .hbm, ⟨76, _⟩ => ⟨S43, .i1⟩
  | .hbm, ⟨77, _⟩ => ⟨S_, .i32⟩
  | .hbm, ⟨78, _⟩ => ⟨S43, .i32⟩
  | .hbm, ⟨79, _⟩ => ⟨S43, .i32⟩
  | .hbm, ⟨80, _⟩ => ⟨S43, .i32⟩
  | .hbm, ⟨81, _⟩ => ⟨S43x1, .i32⟩
  | .hbm, ⟨82, _⟩ => ⟨S43, .i32⟩
  | .hbm, ⟨83, _⟩ => ⟨S43, .i32⟩
  | .hbm, ⟨84, _⟩ => ⟨S8, .i32⟩
  | .hbm, ⟨85, _⟩ => ⟨S_, .i32⟩
  | .hbm, ⟨86, _⟩ => ⟨S43, .i32⟩
  | .hbm, ⟨87, _⟩ => ⟨S43, .i1⟩
  | .hbm, ⟨88, _⟩ => ⟨S_, .i32⟩
  | .hbm, ⟨89, _⟩ => ⟨S43, .i32⟩
  | .hbm, ⟨90, _⟩ => ⟨S43, .i32⟩
  | .hbm, ⟨91, _⟩ => ⟨S43, .i32⟩
  | .hbm, ⟨92, _⟩ => ⟨S43x1, .i32⟩
  | .hbm, ⟨93, _⟩ => ⟨S43, .i32⟩
  | .hbm, ⟨94, _⟩ => ⟨S43, .i32⟩
  | .hbm, ⟨95, _⟩ => ⟨S_, .i32⟩
  | .hbm, ⟨96, _⟩ => ⟨S43, .i32⟩
  | .hbm, ⟨97, _⟩ => ⟨S1, .i32⟩
  | .hbm, ⟨98, _⟩ => ⟨S9216x4096, .fp8e4m3⟩
  | .local _ .vmem, ⟨0, _⟩ => ⟨S256x6144, .fp8e4m3⟩
  | .local _ .vmem, ⟨1, _⟩ => ⟨S256x6144, .fp8e4m3⟩
  | .local _ .vmem, ⟨2, _⟩ => ⟨S1x3072x512, .i8⟩
  | .local _ .vmem, ⟨3, _⟩ => ⟨S1x3072x512, .i8⟩
  | .local _ .vmem, ⟨4, _⟩ => ⟨S1x48x512, .bf16⟩
  | .local _ .vmem, ⟨5, _⟩ => ⟨S1x48x512, .bf16⟩
  | .local _ .vmem, ⟨6, _⟩ => ⟨S1x3072x512, .i8⟩
  | .local _ .vmem, ⟨7, _⟩ => ⟨S1x3072x512, .i8⟩
  | .local _ .vmem, ⟨8, _⟩ => ⟨S1x48x512, .bf16⟩
  | .local _ .vmem, ⟨9, _⟩ => ⟨S1x48x512, .bf16⟩
  | .local _ .vmem, ⟨10, _⟩ => ⟨S8x512, .f32⟩
  | .local _ .vmem, ⟨11, _⟩ => ⟨S8x512, .f32⟩
  | .local _ .vmem, ⟨12, _⟩ => ⟨S256x512, .fp8e4m3⟩
  | .local _ .vmem, ⟨13, _⟩ => ⟨S256x512, .fp8e4m3⟩
  | .local _ .vmem, ⟨14, _⟩ => ⟨S6144x512, .bf16⟩
  | .local _ .vmem, ⟨15, _⟩ => ⟨S6144x512, .bf16⟩
  | .local _ .smem, ⟨0, _⟩ => ⟨S_, .i32⟩
  | .local _ .smem, ⟨1, _⟩ => ⟨S43, .i32⟩
  | .local _ .smem, ⟨2, _⟩ => ⟨S43, .i32⟩
  | .local _ .smem, ⟨3, _⟩ => ⟨S8, .i32⟩
  | .local _ .smem, ⟨4, _⟩ => ⟨S8, .f32⟩
  | .local _ .smem, ⟨5, _⟩ => ⟨S8, .f32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_call0_c : Ref sig .tc := ⟨.hbm, 9, rfl⟩
abbrev main_call0_call0_v0 : Ref sig .tc := ⟨.hbm, 10, rfl⟩
abbrev main_v1 : Ref sig .tc := ⟨.hbm, 11, rfl⟩
abbrev main_c : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_c : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_0 : Ref sig .tc := ⟨.hbm, 26, rfl⟩
abbrev main_call1_v12 : Ref sig .tc := ⟨.hbm, 27, rfl⟩
abbrev main_call1_v13 : Ref sig .tc := ⟨.hbm, 28, rfl⟩
abbrev main_v2 : Ref sig .tc := ⟨.hbm, 29, rfl⟩
abbrev main_c_0 : Ref sig .tc := ⟨.hbm, 30, rfl⟩
abbrev main_v3 : Ref sig .tc := ⟨.hbm, 31, rfl⟩
abbrev main_v4 : Ref sig .tc := ⟨.hbm, 32, rfl⟩
abbrev main_c_1 : Ref sig .tc := ⟨.hbm, 33, rfl⟩
abbrev main_v5 : Ref sig .tc := ⟨.hbm, 34, rfl⟩
abbrev main_v6 : Ref sig .tc := ⟨.hbm, 35, rfl⟩
abbrev main_c_2 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v7 : Ref sig .tc := ⟨.hbm, 53, rfl⟩
abbrev main_v8 : Ref sig .tc := ⟨.hbm, 54, rfl⟩
abbrev main_c_3 : Ref sig .tc := ⟨.hbm, 55, rfl⟩
abbrev main_v9 : Ref sig .tc := ⟨.hbm, 56, rfl⟩
abbrev main_v10 : Ref sig .tc := ⟨.hbm, 57, rfl⟩
abbrev main_c_4 : Ref sig .tc := ⟨.hbm, 58, rfl⟩
abbrev main_call3_v0 : Ref sig .tc := ⟨.hbm, 59, rfl⟩
abbrev main_call3_v1 : Ref sig .tc := ⟨.hbm, 60, rfl⟩
abbrev main_v11 : Ref sig .tc := ⟨.hbm, 61, rfl⟩
abbrev main_call4_call0_c : Ref sig .tc := ⟨.hbm, 62, rfl⟩
abbrev main_call4_call0_v0 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_c_5 : Ref sig .tc := ⟨.hbm, 73, rfl⟩
abbrev main_c_6 : Ref sig .tc := ⟨.hbm, 74, rfl⟩
abbrev main_v22 : Ref sig .tc := ⟨.hbm, 75, rfl⟩
abbrev main_v23 : Ref sig .tc := ⟨.hbm, 76, rfl⟩
abbrev main_c_7 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_c_8 : Ref sig .tc := ⟨.hbm, 85, rfl⟩
abbrev main_v31 : Ref sig .tc := ⟨.hbm, 86, rfl⟩
abbrev main_v32 : Ref sig .tc := ⟨.hbm, 87, rfl⟩
abbrev main_c_9 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_c_10 : Ref sig .tc := ⟨.hbm, 95, rfl⟩
abbrev main_v39 : Ref sig .tc := ⟨.hbm, 96, rfl⟩
abbrev main_v41 : Ref sig .tc := ⟨.hbm, 97, rfl⟩
abbrev main_v43 : Ref sig .tc := ⟨.hbm, 98, rfl⟩
abbrev main_v42 : Ref sig .tc := ⟨.smem, 0, rfl⟩
abbrev main_v21 : Ref sig .tc := ⟨.smem, 1, rfl⟩
abbrev main_v40 : Ref sig .tc := ⟨.smem, 2, rfl⟩
abbrev main_v0 : Ref sig .tc := ⟨.smem, 3, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 4, rfl⟩
abbrev cc0_stg1_0 : Ref sig .tc := ⟨.smem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 0], ![false, true]⟩

abbrev pre0 : Pipeline.Prefetch sig := ⟨4, ![main_v42.idx, main_v21.idx, main_v40.idx, main_v0.idx], fun | 0 => main_v42.names | 1 => main_v21.names | 2 => main_v40.names | 3 => main_v0.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def dynb0 (pf : pre0.Contents (Elt F)) : grid0.Bounds := ![8, (pf 0 fun a => a.elim0).toNat]

def k0_off1 (b : grid0.Bounds) (i : (grid0.at b).Coords) : Fin 1 → Nat :=
  let arg1 : BitVec 32 := BitVec.ofNat 32 (i 1).val
  let v0 : Index := Scalar.indexCast arg1
  ![v0.toNat]

def k0_off2 (arg1 : BitVec 32) : Fin 1 → Nat :=
  let v0 : Index := Scalar.indexCast arg1
  ![v0.toNat]

def k0_off3 (arg1 : BitVec 32) : Fin 1 → Nat :=
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_off4 (v1 : BitVec 32) : Fin 1 → Nat :=
  let v17 : Index := Scalar.indexCast v1
  ![v17.toNat]

def k0_off5 (v1 : BitVec 32) : Fin 2 → Nat :=
  let v30 : Index := Scalar.indexCast v1
  let c0_8 : Index := 0#32
  ![v30.toNat, 0]

def k0_chk2 (v1 : BitVec 32) : Prop :=
  (∀ a, (k0_off4 v1) a + S1.size a ≤ S8.size a) ∧
  (∀ a, (k0_off5 v1) a + S1x512.size a ≤ S8x512.size a)
theorem k0_off4_inb : ∀ (v1 : BitVec 32) (k0_hw2 : k0_chk2 v1), ∀ a, (k0_off4 v1) a + S1.size a ≤ S8.size a := fun v1 k0_hw2 => k0_hw2.1
theorem k0_off5_inb : ∀ (v1 : BitVec 32) (k0_hw2 : k0_chk2 v1), ∀ a, (k0_off5 v1) a + S1x512.size a ≤ S8x512.size a := fun v1 k0_hw2 => k0_hw2.2

def k0_off6 (arg1 : BitVec 32) : Fin 1 → Nat :=
  let v45 : Index := Scalar.indexCast arg1
  ![v45.toNat]

def k0_chk1 (arg1 : BitVec 32) : Prop :=
  (∀ a, (k0_off2 arg1) a + S1.size a ≤ S43.size a) ∧
  (∀ a, (k0_off3 arg1) a + S1.size a ≤ S43.size a) ∧
  (∀ a, (k0_off6 arg1) a + S1.size a ≤ S43.size a)
theorem k0_off2_inb : ∀ (arg1 : BitVec 32) (k0_hw1 : k0_chk1 arg1), ∀ a, (k0_off2 arg1) a + S1.size a ≤ S43.size a := fun arg1 k0_hw1 => k0_hw1.1
theorem k0_off3_inb : ∀ (arg1 : BitVec 32) (k0_hw1 : k0_chk1 arg1), ∀ a, (k0_off3 arg1) a + S1.size a ≤ S43.size a := fun arg1 k0_hw1 => k0_hw1.2.1
theorem k0_off6_inb : ∀ (arg1 : BitVec 32) (k0_hw1 : k0_chk1 arg1), ∀ a, (k0_off6 arg1) a + S1.size a ≤ S43.size a := fun arg1 k0_hw1 => k0_hw1.2.2

def k0_off7 (v46 : BitVec 32) : Fin 1 → Nat :=
  let c1_i32_14 : BitVec 32 := 1#32
  let v54 : BitVec 32 := Scalar.subi v46 c1_i32_14
  let c0_i32_15 : BitVec 32 := 0#32
  let v55 : BitVec 32 := Scalar.maxsi v54 c0_i32_15
  let v56 : Index := Scalar.indexCast v55
  ![v56.toNat]

def k0_off8 (v46 : BitVec 32) : Fin 1 → Nat :=
  let v61 : Index := Scalar.indexCast v46
  ![v61.toNat]

def k0_chk3 (v46 : BitVec 32) : Prop :=
  (∀ a, (k0_off7 v46) a + S1.size a ≤ S8.size a) ∧
  (∀ a, (k0_off8 v46) a + S1.size a ≤ S8.size a)
theorem k0_off7_inb : ∀ (v46 : BitVec 32) (k0_hw3 : k0_chk3 v46), ∀ a, (k0_off7 v46) a + S1.size a ≤ S8.size a := fun v46 k0_hw3 => k0_hw3.1
theorem k0_off8_inb : ∀ (v46 : BitVec 32) (k0_hw3 : k0_chk3 v46), ∀ a, (k0_off8 v46) a + S1.size a ≤ S8.size a := fun v46 k0_hw3 => k0_hw3.2

def cc0_transform_0 (b : grid0.Bounds) (i : (grid0.at b).Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (b : grid0.Bounds) (i : (grid0.at b).Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (pf : pre0.Contents (Elt F)) (b : grid0.Bounds) (i : (grid0.at b).Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.atD 2 ![v0.toNat]
  let c0_i32 : BitVec 32 := 0#32
  let c0_i32_0 : BitVec 32 := 0#32
  ![v1.toNat, c0_i32.toNat]

def cc0_transform_3 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.atD 1 ![v0.toNat]
  let c0_i32 : BitVec 32 := 0#32
  let c0_i32_0 : BitVec 32 := 0#32
  ![v1.toNat, c0_i32.toNat, arg0.toNat]

def cc0_transform_4 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.atD 1 ![v0.toNat]
  let c0_i32 : BitVec 32 := 0#32
  let c0_i32_0 : BitVec 32 := 0#32
  ![v1.toNat, c0_i32.toNat, arg0.toNat]

def cc0_transform_5 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.atD 1 ![v0.toNat]
  let c0_i32 : BitVec 32 := 0#32
  let c0_i32_0 : BitVec 32 := 0#32
  ![v1.toNat, c0_i32.toNat, arg0.toNat]

def cc0_transform_6 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.atD 1 ![v0.toNat]
  let c0_i32 : BitVec 32 := 0#32
  let c0_i32_0 : BitVec 32 := 0#32
  ![v1.toNat, c0_i32.toNat, arg0.toNat]

def cc0_transform_7 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (pf : pre0.Contents (Elt F)) (b : grid0.Bounds) (i : (grid0.at b).Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.atD 2 ![v0.toNat]
  let c0_i32 : BitVec 32 := 0#32
  ![v1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3072x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x48x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3072x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x48x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpReferenceIdeal.lean ====
abbrev S8 : Shape := ⟨1, ![8]⟩
abbrev S9216x6144 : Shape := ⟨2, ![9216, 6144]⟩
abbrev S8x3072x4096 : Shape := ⟨3, ![8, 3072, 4096]⟩
abbrev S8x48x4096 : Shape := ⟨3, ![8, 48, 4096]⟩
abbrev S8x4096 : Shape := ⟨2, ![8, 4096]⟩
abbrev S_ : Shape := ⟨0, ![]⟩
abbrev S9216 : Shape := ⟨1, ![9216]⟩
abbrev S9216x1 : Shape := ⟨2, ![9216, 1]⟩
abbrev S7 : Shape := ⟨1, ![7]⟩
abbrev S1x7 : Shape := ⟨2, ![1, 7]⟩
abbrev S9216x7 : Shape := ⟨2, ![9216, 7]⟩
abbrev S8x1 : Shape := ⟨2, ![8, 1]⟩
abbrev S8x48x1x64x4096 : Shape := ⟨5, ![8, 48, 1, 64, 4096]⟩
abbrev S8x48x2x64x4096 : Shape := ⟨5, ![8, 48, 2, 64, 4096]⟩
abbrev S8x48x1x1x4096 : Shape := ⟨5, ![8, 48, 1, 1, 4096]⟩
abbrev S8x6144x4096 : Shape := ⟨3, ![8, 6144, 4096]⟩
abbrev S9216x4096 : Shape := ⟨2, ![9216, 4096]⟩
abbrev S1x6144x4096 : Shape := ⟨3, ![1, 6144, 4096]⟩
abbrev S6144x4096 : Shape := ⟨2, ![6144, 4096]⟩
abbrev S1x4096 : Shape := ⟨2, ![1, 4096]⟩
abbrev S1x1 : Shape := ⟨2, ![1, 1]⟩

abbrev nBuf : Space → Nat
  | .hbm => 66
  | .vmem => 8
  | .smem => 0
  | _ => 0

abbrev bufTy : (tb : Table) → Fin (tcTables nBuf tb) → BufTy
  | .hbm, ⟨0, _⟩ => ⟨S8, .i32⟩
  | .hbm, ⟨1, _⟩ => ⟨S8, .f32⟩
  | .hbm, ⟨2, _⟩ => ⟨S8, .f32⟩
  | .hbm, ⟨3, _⟩ => ⟨S9216x6144, .fp8e4m3⟩
  | .hbm, ⟨4, _⟩ => ⟨S8x3072x4096, .i8⟩
  | .hbm, ⟨5, _⟩ => ⟨S8x48x4096, .bf16⟩
  | .hbm, ⟨6, _⟩ => ⟨S8x3072x4096, .i8⟩
  | .hbm, ⟨7, _⟩ => ⟨S8x48x4096, .bf16⟩
  | .hbm, ⟨8, _⟩ => ⟨S8x4096, .f32⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S9216, .i32⟩
  | .hbm, ⟨13, _⟩ => ⟨S9216x1, .i32⟩
  | .hbm, ⟨14, _⟩ => ⟨S7, .i32⟩
  | .hbm, ⟨15, _⟩ => ⟨S1x7, .i32⟩
  | .hbm, ⟨16, _⟩ => ⟨S9216x7, .i32⟩
  | .hbm, ⟨17, _⟩ => ⟨S9216x7, .i32⟩
  | .hbm, ⟨18, _⟩ => ⟨S9216x7, .i1⟩
  | .hbm, ⟨19, _⟩ => ⟨S9216x7, .i32⟩
  | .hbm, ⟨20, _⟩ => ⟨S_, .i32⟩
  | .hbm, ⟨21, _⟩ => ⟨S9216, .i32⟩
  | .hbm, ⟨22, _⟩ => ⟨S9216x1, .i32⟩
  | .hbm, ⟨23, _⟩ => ⟨S8x1, .f32⟩
  | .hbm, ⟨24, _⟩ => ⟨S8x1, .f32⟩
  | .hbm, ⟨25, _⟩ => ⟨S8x48x1x64x4096, .i8⟩
  | .hbm, ⟨26, _⟩ => ⟨S8x48x1x64x4096, .i32⟩
  | .hbm, ⟨27, _⟩ => ⟨S_, .i32⟩
  | .hbm, ⟨28, _⟩ => ⟨S8x48x1x64x4096, .i32⟩
  | .hbm, ⟨29, _⟩ => ⟨S8x48x1x64x4096, .i32⟩
  | .hbm, ⟨30, _⟩ => ⟨S_, .i32⟩
  | .hbm, ⟨31, _⟩ => ⟨S8x48x1x64x4096, .i32⟩
  | .hbm, ⟨32, _⟩ => ⟨S8x48x1x64x4096, .i32⟩
  | .hbm, ⟨33, _⟩ => ⟨S_, .i32⟩
  | .hbm, ⟨34, _⟩ => ⟨S8x48x1x64x4096, .i32⟩
  | .hbm, ⟨35, _⟩ => ⟨S8x48x1x64x4096, .i32⟩
  | .hbm, ⟨36, _⟩ => ⟨S_, .i32⟩
  | .hbm, ⟨37, _⟩ => ⟨S8x48x1x64x4096, .i32⟩
  | .hbm, ⟨38, _⟩ => ⟨S8x48x1x64x4096, .i32⟩
  | .hbm, ⟨39, _⟩ => ⟨S8x48x2x64x4096, .i32⟩
  | .hbm, ⟨40, _⟩ => ⟨S8x48x2x64x4096, .bf16⟩
  | .hbm, ⟨41, _⟩ => ⟨S8x48x1x1x4096, .bf16⟩
  | .hbm, ⟨42, _⟩ => ⟨S8x48x2x64x4096, .bf16⟩
  | .hbm, ⟨43, _⟩ => ⟨S8x48x2x64x4096, .bf16⟩
  | .hbm, ⟨44, _⟩ => ⟨S8x6144x4096, .bf16⟩
  | .hbm, ⟨45, _⟩ => ⟨S8x48x1x64x4096, .i8⟩
  | .hbm, ⟨46, _⟩ => ⟨S8x48x1x64x4096, .i32⟩
  | .hbm, ⟨47, _⟩ => ⟨S_, .i32⟩
  | .hbm, ⟨48, _⟩ => ⟨S8x48x1x64x4096, .i32⟩
  | .hbm, ⟨49, _⟩ => ⟨S8x48x1x64x4096, .i32⟩
  | .hbm, ⟨50, _⟩ => ⟨S_, .i32⟩
  | .hbm, ⟨51, _⟩ => ⟨S8x48x1x64x4096, .i32⟩
  | .hbm, ⟨52, _⟩ => ⟨S8x48x1x64x4096, .i32⟩
  | .hbm, ⟨53, _⟩ => ⟨S_, .i32⟩
  | .hbm, ⟨54, _⟩ => ⟨S8x48x1x64x4096, .i32⟩
  | .hbm, ⟨55, _⟩ => ⟨S8x48x1x64x4096, .i32⟩
  | .hbm, ⟨56, _⟩ => ⟨S_, .i32⟩
  | .hbm, ⟨57, _⟩ => ⟨S8x48x1x64x4096, .i32⟩
  | .hbm, ⟨58, _⟩ => ⟨S8x48x1x64x4096, .i32⟩
  | .hbm, ⟨59, _⟩ => ⟨S8x48x2x64x4096, .i32⟩
  | .hbm, ⟨60, _⟩ => ⟨S8x48x2x64x4096, .bf16⟩
  | .hbm, ⟨61, _⟩ => ⟨S8x48x1x1x4096, .bf16⟩
  | .hbm, ⟨62, _⟩ => ⟨S8x48x2x64x4096, .bf16⟩
  | .hbm, ⟨63, _⟩ => ⟨S8x48x2x64x4096, .bf16⟩
  | .hbm, ⟨64, _⟩ => ⟨S8x6144x4096, .bf16⟩
  | .hbm, ⟨65, _⟩ => ⟨S9216x4096, .fp8e4m3⟩
  | .local _ .vmem, ⟨0, _⟩ => ⟨S9216x6144, .fp8e4m3⟩
  | .local _ .vmem, ⟨1, _⟩ => ⟨S9216x1, .i32⟩
  | .local _ .vmem, ⟨2, _⟩ => ⟨S8x1, .f32⟩
  | .local _ .vmem, ⟨3, _⟩ => ⟨S8x1, .f32⟩
  | .local _ .vmem, ⟨4, _⟩ => ⟨S8x6144x4096, .bf16⟩
  | .local _ .vmem, ⟨5, _⟩ => ⟨S8x6144x4096, .bf16⟩
  | .local _ .vmem, ⟨6, _⟩ => ⟨S8x4096, .f32⟩
  | .local _ .vmem, ⟨7, _⟩ => ⟨S9216x4096, .fp8e4m3⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_call0_c : Ref sig .tc := ⟨.hbm, 9, rfl⟩
abbrev main_call0_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S9216x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x6144x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x6144x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.RefRead.lean ====
/- The reference runs, and leaves its arguments as it found them. -/
module

public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read

@[expose] public section

end
-- ==== Proof.Work.lean ====
/- The work list of the grouped matmul, over the naturals: from the group sizes, the steps, each step's expert and tile, and that
   the steps of a tile cover its rows one group after the other. Nothing here names a program. -/
module

public import Idealize.ShloMosaic.Lib.Routing.Count

@[expose] public section

namespace Cert.Down

open Idealize.ShloMosaic.Routing

/-- `f 0 + … + f (k - 1)`. -/
def pre (f : Nat → Nat) (k : Nat) : Nat := ((List.range k).map f).sum

theorem pre_succ (f : Nat → Nat) (k : Nat) : pre f (k + 1) = pre f k + f k := by
  unfold pre; rw [List.range_succ, List.map_append, List.sum_append]; simp

theorem pre_zero (f : Nat → Nat) : pre f 0 = 0 := rfl

theorem pre_mono (f : Nat → Nat) {a b : Nat} (h : a ≤ b) : pre f a ≤ pre f b := by
  induction b, h using Nat.le_induction with
  | base => exact le_rfl
  | succ k _ ih => rw [pre_succ]; omega

/-- The interval of the running sums of `f` that `x` lies in, among the eight. -/
def slot (f : Nat → Nat) (x : Nat) : Nat := Nat.count (fun e => pre f (e + 1) ≤ x) 7

theorem slot_lt (f : Nat → Nat) (x : Nat) : slot f x < 8 := Nat.lt_succ_of_le (Nat.count_le _)

theorem slot_down (f : Nat → Nat) (x : Nat) : ∀ a b, a ≤ b → b < 7 → pre f (b + 1) ≤ x → pre f (a + 1) ≤ x :=
  fun _ _ hab _ h => le_trans (pre_mono f (Nat.succ_le_succ hab)) h

theorem slot_le (f : Nat → Nat) (x : Nat) : pre f (slot f x) ≤ x := by
  rcases Nat.eq_zero_or_pos (slot f x) with h | h
  · rw [h, pre_zero]; exact Nat.zero_le _
  · have h7 := slot_lt f x
    have := (lt_count_iff (N := 7) (slot_down f x) (r := slot f x - 1) (by omega)).2 (by show slot f x - 1 < slot f x; omega)
    rwa [Nat.sub_add_cancel h] at this

theorem lt_slot_succ (f : Nat → Nat) (x : Nat) (hx : x < pre f 8) : x < pre f (slot f x + 1) := by
  by_cases h : slot f x < 7
  · by_contra hc
    exact absurd ((lt_count_iff (N := 7) (slot_down f x) h).1 (by omega)) (Nat.lt_irrefl _)
  · have := slot_lt f x
    rw [show slot f x = 7 by omega]; exact hx

theorem slot_eq (f : Nat → Nat) {x e : Nat} (h1 : pre f e ≤ x) (h2 : x < pre f (e + 1)) (he : e < 8) : slot f x = e := by
  have hx : x < pre f 8 := lt_of_lt_of_le h2 (pre_mono f he)
  have a := slot_le f x
  have b := lt_slot_succ f x hx
  by_contra hne
  rcases Nat.lt_or_gt_of_ne hne with h | h
  · have := pre_mono f (show slot f x + 1 ≤ e from h); omega
  · have := pre_mono f (show e + 1 ≤ slot f x from h); omega

section
variable (γ : Nat → Nat)

/-- The first tile the group `e` has rows in. -/
def firstTile (e : Nat) : Nat := pre γ e / 256
/-- The number of tiles the group `e` has rows in. -/
def tiles (e : Nat) : Nat := if 0 < γ e then (pre γ (e + 1) - 1) / 256 - firstTile γ e + 1 else 0
/-- The number of steps. -/
def steps : Nat := pre (tiles γ) 8
/-- The step's expert. -/
def expertOf (s : Nat) : Nat := slot (tiles γ) s
/-- The step's tile. -/
def tileOf (s : Nat) : Nat := min (firstTile γ (expertOf γ s) + s - pre (tiles γ) (expertOf γ s)) 35

theorem pre_tiles_le (e : Nat) : pre (tiles γ) (e + 1) ≤ (pre γ (e + 1) + 255) / 256 + e := by
  induction e with
  | zero => rw [pre_succ, pre_succ, pre_zero, pre_zero]; unfold tiles firstTile; rw [pre_succ, pre_zero]; split <;> omega
  | succ e ih => rw [pre_succ (tiles γ) (e + 1), pre_succ γ (e + 1)]; unfold tiles firstTile at *; rw [pre_succ γ (e + 1)]; split <;> omega

/-- Groups between which no step lies are empty. -/
theorem pre_eq_of_tiles {a b : Nat} (hab : a ≤ b) (h : pre (tiles γ) a = pre (tiles γ) b) : pre γ a = pre γ b := by
  induction b, hab using Nat.le_induction with
  | base => rfl
  | succ k hk ih =>
    have hm := pre_mono (tiles γ) hk
    rw [pre_succ] at h
    have h0 : tiles γ k = 0 := by omega
    rw [pre_succ, ih (by omega)]
    unfold tiles at h0
    split at h0 <;> omega

variable (h8 : pre γ 8 = 9216)
include h8

theorem steps_le : steps γ ≤ 43 := by
  have := pre_tiles_le γ 7
  rw [h8] at this
  exact this

theorem steps_pos : 0 < steps γ := by
  by_contra hc
  have h0 : steps γ = 0 := by omega
  have := pre_eq_of_tiles γ (Nat.zero_le 8) (by rw [pre_zero]; exact h0.symm)
  rw [pre_zero, h8] at this
  omega

/-- What a step is: its expert has rows, and its tile is one of the expert's. -/
theorem step_spec {s : Nat} (hs : s < steps γ) :
    expertOf γ s < 8 ∧ pre (tiles γ) (expertOf γ s) ≤ s ∧ s < pre (tiles γ) (expertOf γ s + 1)
      ∧ tileOf γ s = pre γ (expertOf γ s) / 256 + (s - pre (tiles γ) (expertOf γ s))
      ∧ tileOf γ s ≤ (pre γ (expertOf γ s + 1) - 1) / 256
      ∧ pre γ (expertOf γ s) < pre γ (expertOf γ s + 1) ∧ pre γ (expertOf γ s + 1) ≤ 9216
      ∧ s + 1 - pre (tiles γ) (expertOf γ s) ≤ (pre γ (expertOf γ s + 1) - 1) / 256 - pre γ (expertOf γ s) / 256 + 1
      ∧ pre (tiles γ) (expertOf γ s + 1) = pre (tiles γ) (expertOf γ s) + ((pre γ (expertOf γ s + 1) - 1) / 256 - pre γ (expertOf γ s) / 256 + 1) := by
  have he := slot_lt (tiles γ) s
  have h1 := slot_le (tiles γ) s
  have h2 := lt_slot_succ (tiles γ) s hs
  have h3 : tileOf γ s = min (firstTile γ (expertOf γ s) + s - pre (tiles γ) (expertOf γ s)) 35 := rfl
  unfold expertOf at *
  generalize slot (tiles γ) s = e at *
  have hle : pre γ (e + 1) ≤ 9216 := h8 ▸ pre_mono γ he
  have h2' := h2
  rw [pre_succ] at h2
  have hγ : 0 < γ e := by
    by_contra hc
    have h0 : tiles γ e = 0 := by unfold tiles; rw [if_neg hc]
    omega
  have hp := pre_succ γ e
  have ht : tiles γ e = (pre γ (e + 1) - 1) / 256 - pre γ e / 256 + 1 := by unfold tiles firstTile; rw [if_pos hγ]
  have ht' := pre_succ (tiles γ) e
  unfold firstTile at h3
  refine ⟨he, h1, h2', ?_, ?_, ?_, hle, ?_, ?_⟩ <;> omega

/-- The step after: one tile on in the same group, or the next group with rows, from its first tile. -/
theorem step_next {s : Nat} (hs : s + 1 < steps γ) :
    (expertOf γ (s + 1) = expertOf γ s ∧ tileOf γ (s + 1) = tileOf γ s + 1)
      ∨ (pre γ (expertOf γ (s + 1)) = pre γ (expertOf γ s + 1) ∧ tileOf γ s = (pre γ (expertOf γ s + 1) - 1) / 256
          ∧ tileOf γ (s + 1) = pre γ (expertOf γ s + 1) / 256) := by
  obtain ⟨e1, a1, b1, c1, d1, f1, g1, i1, j1⟩ := step_spec γ h8 (show s < steps γ by omega)
  obtain ⟨e2, a2, b2, c2, d2, f2, g2, i2, j2⟩ := step_spec γ h8 hs
  by_cases h : s + 1 < pre (tiles γ) (expertOf γ s + 1)
  · have he : expertOf γ (s + 1) = expertOf γ s := slot_eq (tiles γ) (by omega) h e1
    refine .inl ⟨he, ?_⟩
    rw [he] at c2
    omega
  · right
    have hlt : expertOf γ s + 1 ≤ expertOf γ (s + 1) := by
      by_contra hc
      have := pre_mono (tiles γ) (show expertOf γ (s + 1) + 1 ≤ expertOf γ s + 1 by omega)
      omega
    have hm := pre_mono (tiles γ) hlt
    have hq := pre_eq_of_tiles γ hlt (by omega)
    refine ⟨hq.symm, by omega, ?_⟩
    rw [c2, ← hq]
    omega

theorem step_last {s : Nat} (hs : s + 1 = steps γ) : pre γ (expertOf γ s + 1) = 9216 ∧ tileOf γ s = 35 := by
  obtain ⟨e1, a1, b1, c1, d1, f1, g1, i1, j1⟩ := step_spec γ h8 (show s < steps γ by omega)
  have hm := pre_mono (tiles γ) (show expertOf γ s + 1 ≤ 8 from e1)
  have hq := pre_eq_of_tiles γ (show expertOf γ s + 1 ≤ 8 from e1) (by unfold steps at hs; omega)
  rw [h8] at hq
  refine ⟨hq, ?_⟩
  unfold steps at hs
  omega

theorem step_zero : pre γ (expertOf γ 0) = 0 ∧ tileOf γ 0 = 0 := by
  obtain ⟨e1, a1, b1, c1, d1, f1, g1, i1, j1⟩ := step_spec γ h8 (steps_pos γ h8)
  have hq := pre_eq_of_tiles γ (Nat.zero_le (expertOf γ 0)) (by rw [pre_zero]; omega)
  rw [pre_zero] at hq
  exact ⟨hq.symm, by omega⟩

/-- A row of a step's tile is below the step's group only if the step before it was at the same tile. -/
theorem tile_first {s : Nat} (hs : s + 1 < steps γ) (hne : tileOf γ s ≠ tileOf γ (s + 1)) :
    pre γ (expertOf γ (s + 1)) ≤ 256 * tileOf γ (s + 1) := by
  obtain ⟨e1, a1, b1, c1, d1, f1, g1, i1, j1⟩ := step_spec γ h8 (show s < steps γ by omega)
  rcases step_next γ h8 hs with ⟨he, ht⟩ | ⟨hp, h1, h2⟩
  · rw [he, ht]; omega
  · rw [hp]; omega

theorem tile_again {s : Nat} (hs : s + 1 < steps γ) (he : tileOf γ s = tileOf γ (s + 1)) :
    pre γ (expertOf γ (s + 1)) = pre γ (expertOf γ s + 1) := by
  rcases step_next γ h8 hs with ⟨_, ht⟩ | ⟨hp, _, _⟩
  · omega
  · exact hp

theorem tile_done {s : Nat} (hs : s < steps γ) (hne : s + 1 = steps γ ∨ tileOf γ s ≠ tileOf γ (s + 1)) :
    256 * (tileOf γ s + 1) ≤ pre γ (expertOf γ s + 1) := by
  by_cases hl : s + 1 = steps γ
  · obtain ⟨h1, h2⟩ := step_last γ h8 hl; omega
  · obtain ⟨e1, a1, b1, c1, d1, f1, g1, i1, j1⟩ := step_spec γ h8 hs
    have hs' : s + 1 < steps γ := by omega
    obtain ⟨e2, a2, b2, c2, d2, f2, g2, i2, j2⟩ := step_spec γ h8 hs'
    have hne := hne.resolve_left hl
    rcases step_next γ h8 hs' with ⟨he, ht⟩ | ⟨hp, h1, h2⟩
    · rw [he] at d2; omega
    · omega

/-- The row a step keeps has the step's expert. -/
theorem slot_row {s r : Nat} (hs : s < steps γ) (h1 : pre γ (expertOf γ s) ≤ r) (h2 : r < pre γ (expertOf γ s + 1)) : slot γ r = expertOf γ s :=
  slot_eq γ h1 h2 (step_spec γ h8 hs).1

/-- Every tile is some step's last. -/
theorem tile_met {k : Nat} (hk : k < 36) : ∃ s, s < steps γ ∧ tileOf γ s = k ∧ (s + 1 = steps γ ∨ tileOf γ s ≠ tileOf γ (s + 1)) := by
  have hr : 256 * k + 255 < pre γ 8 := by omega
  have l1 := slot_le γ (256 * k + 255)
  have l2 := lt_slot_succ γ (256 * k + 255) hr
  have l3 := slot_lt γ (256 * k + 255)
  generalize slot γ (256 * k + 255) = e at *
  have hγ : 0 < γ e := by rw [pre_succ] at l2; omega
  have ht : tiles γ e = (pre γ (e + 1) - 1) / 256 - pre γ e / 256 + 1 := by unfold tiles firstTile; rw [if_pos hγ]
  have ht' := pre_succ (tiles γ) e
  have hm := pre_mono (tiles γ) (show e + 1 ≤ 8 from l3)
  have hs : pre (tiles γ) e + (k - pre γ e / 256) < steps γ := by unfold steps; omega
  have he : expertOf γ (pre (tiles γ) e + (k - pre γ e / 256)) = e := slot_eq (tiles γ) (by omega) (by omega) l3
  obtain ⟨e1, a1, b1, c1, d1, f1, g1, i1, j1⟩ := step_spec γ h8 hs
  rw [he] at a1 b1 c1 d1 f1 g1 i1 j1
  have htile : tileOf γ (pre (tiles γ) e + (k - pre γ e / 256)) = k := by omega
  refine ⟨_, hs, htile, ?_⟩
  by_cases hl : pre (tiles γ) e + (k - pre γ e / 256) + 1 = steps γ
  · exact .inl hl
  · right
    rcases step_next γ h8 (show pre (tiles γ) e + (k - pre γ e / 256) + 1 < steps γ by omega) with ⟨_, h2⟩ | ⟨h1, h2, h3⟩
    · omega
    · rw [he] at h2 h3; omega

end

end Cert.Down
-- ==== Proof.PreRead.lean ====
/- What the precondition says: eight sizes between 0 and 9216 that add up to 9216. -/
module

public import proofs.«01_k».proof.Pre_groups_fill_the_rows
public import proofs.«01_k».proof.Pre_groups_fill_the_rows_up
public import proofs.«01_k».proof.Proof.Work
public import Idealize.ShloMosaic.Lib.Routing.Ops
public import Idealize.ShloMosaic.Lib.Routing.BitFacts

@[expose] public section

noncomputable section

namespace Cert.Down

open Idealize.ShloMosaic Idealize.ShloMosaic.ValueIdx
open Cert.Pre_groups_fill_the_rows

theorem preFacts : Facts := ⟨by decide, by decide, by decide⟩

theorem ofBool_one {b : Bool} (h : BitVec.ofBool b = 1#1) : b = true := by
  revert b; decide

theorem and_one {a b : BitVec 1} (h : a &&& b = 1#1) : a = 1#1 ∧ b = 1#1 := by
  revert a b; decide

/-- The sizes as numbers. -/
def sizes (g : IVec S8 32) (e : Nat) : Nat := if h : e < 8 then (g (ix1 ⟨e, h⟩)).toNat else 0

theorem sizes_at (g : IVec S8 32) (e : Fin 8) : sizes g e.val = (g (ix1 e)).toNat := dif_pos e.isLt

theorem sizes_word (g : IVec S8 32) (e : Fin 8) : g (ix1 e) = BitVec.ofNat 32 (sizes g e.val) := by
  rw [sizes_at, BitVec.ofNat_toNat, BitVec.setWidth_eq]

theorem pre_eq_sum (f : Nat → Nat) (k : Nat) : ((List.range k).map f).sum = pre f k := rfl

theorem pre_le_mul (f : Nat → Nat) (B : Nat) (h : ∀ e, f e ≤ B) : ∀ k, pre f k ≤ k * B
  | 0 => by rw [pre_zero]; omega
  | k + 1 => by rw [pre_succ, Nat.succ_mul]; exact Nat.add_le_add (pre_le_mul f B h k) (h k)

/-- The precondition at a place: the size there is between 0 and 9216, and the sizes add up to 9216 as 32-bit words. -/
def FillsAt (g : IVec S8 32) (e : Fin 8) : Prop :=
  (0#32).sle (g (ix1 e)) = true ∧ (g (ix1 e)).sle 9216#32 = true
    ∧ Host.reduce IntOp.addi g (constantI S_ 32 0#32) preFacts.reducesTo_S8_S_d0 preFacts.h_S_ ix0 = 9216#32

/-- The places together: the sizes add up to 9216 as numbers. -/
theorem fill_of_at (g : IVec S8 32) (hat : ∀ e, FillsAt g e) : pre (sizes g) 8 = 9216 := by
  have hle : ∀ e, sizes g e ≤ 9216 := fun e => by
    unfold sizes
    split
    · next he =>
      obtain ⟨h1, h2, -⟩ := hat ⟨e, he⟩
      have h3 : (g (ix1 ⟨e, he⟩)).toNat < 2 ^ 31 := Routing.toNat_lt_of_toInt_nonneg _ (by
        rw [BitVec.sle_iff_toInt_le] at h1; simpa using h1)
      have h4 : g (ix1 ⟨e, he⟩) = BitVec.ofNat 32 (g (ix1 ⟨e, he⟩)).toNat := by rw [BitVec.ofNat_toNat, BitVec.setWidth_eq]
      rw [h4, Routing.sle_ofNat32 h3 (by decide), decide_eq_true_eq] at h2
      exact h2
    · exact Nat.zero_le _
  have hs := (hat 0).2.2
  rw [Routing.reduce_sum g (sizes g) (sizes_word g), pre_eq_sum] at hs
  have hb := pre_le_mul (sizes g) 9216 hle 8
  have := congrArg BitVec.toNat hs
  rw [BitVec.toNat_ofNat, BitVec.toNat_ofNat, Nat.mod_eq_of_lt (by omega), Nat.mod_eq_of_lt (by decide)] at this
  exact this

/-- The precondition, read. -/
theorem sizes_fill {F : FTy → Type} [FloatOps F] (g : IVec S8 32) (a1 : FVec F S8 .f32) (a2 : FVec F S9216x4096 .fp8e4m3) (a3 : IVec S8x2048x6144 8)
    (a4 : FVec F S8x32x6144 .bf16) (h : @fn preFacts F _ g a1 a2 a3 a4 = fun _ => 1#1) : pre (sizes g) 8 = 9216 :=
  fill_of_at g fun e => by
    have h1 := congrFun h (ix1 e)
    obtain ⟨h2, h3⟩ := and_one h1
    obtain ⟨h4, h5⟩ := and_one h2
    exact ⟨ofBool_one h4, ofBool_one h5, eq_of_beq (ofBool_one h3)⟩

theorem upPreFacts : Cert.Pre_groups_fill_the_rows_up.Facts := ⟨by decide, by decide, by decide⟩

/-- The other call's precondition, read. -/
theorem sizes_fill_up {F : FTy → Type} [FloatOps F] (g : IVec S8 32) (a1 a2 : FVec F S8 .f32)
    (x : FVec F Cert.Pre_groups_fill_the_rows_up.S9216x6144 .fp8e4m3) (w1 : IVec Cert.Pre_groups_fill_the_rows_up.S8x3072x4096 8)
    (s1 : FVec F Cert.Pre_groups_fill_the_rows_up.S8x48x4096 .bf16) (w3 : IVec Cert.Pre_groups_fill_the_rows_up.S8x3072x4096 8)
    (s3 : FVec F Cert.Pre_groups_fill_the_rows_up.S8x48x4096 .bf16) (p : FVec F Cert.Pre_groups_fill_the_rows_up.S8x4096 .f32)
    (h : @Cert.Pre_groups_fill_the_rows_up.fn upPreFacts F _ g a1 a2 x w1 s1 w3 s3 p = fun _ => 1#1) : pre (sizes g) 8 = 9216 :=
  fill_of_at g fun e => by
    have h1 := congrFun h (ix1 e)
    obtain ⟨h2, h3⟩ := and_one h1
    obtain ⟨h4, h5⟩ := and_one h2
    exact ⟨ofBool_one h4, ofBool_one h5, eq_of_beq (ofBool_one h3)⟩

end Cert.Down
-- ==== Proof.KBody.lean ====
module

public import proofs.«01_k».proof.Proof.Gen.Kernel
public import proofs.«01_k».proof.Proof.Gen.Kernel.Launch
public import Idealize.ShloMosaic.Lib.Tactic

@[expose] public section

noncomputable section

namespace Cert.Kernel.Down

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
/-- Memref `M`'s buffer on core `c` held at half the full share, at `f`: a table. -/
abbrev ptH (c : Dev nD) {sp : Space} {S : Shape} {e : EltTy} (M : Memref sig .tc sp S e) (f : Bf (F := F) c M) : sProp 𝕄 :=
  M.view.loc (c : Thread nD τ) ↦{fullShare.right} f

/-- The word read off a 43-word table at the offset `off`. -/
abbrev w43 (c : Dev nD) {e : EltTy} (M : Memref sig .tc .smem S43 e) (f : Bf (F := F) c M) (off : Fin 1 → Nat)
    (h : ∀ a, off a + S1.size a ≤ S43.size a) : Elt F e :=
  View.readAt (Elt F) M.view (Rect.unit (s := S43) off S1.size h).toLoadRect f (Shape.Idx.first (s := S1) (by decide))

/-- The condition of the body's one region: the first step, or an expert other than the step before. -/
abbrev k0_cond (s e p : BitVec 32) : Prop :=
  Scalar.cmpi .ne (Scalar.extui (Scalar.ori (Scalar.cmpi .eq s 0#32) (Scalar.cmpi .ne e p)) : BitVec 32) 0#32 = 1#1

/-- A step that keeps the widened weight: what it leaves in the output window, with the run. -/
def keepRun (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2))
    (hn : ¬ k0_cond s (w43 c M2 f2 (k0_off2 s) hc.1) (w43 c M2 f2 (k0_off3 s) hc.2.1)) :
    { W : Bf (F := F) c M9 //
      ∀ (E : Set ℕ) (Q : PUnit → sProp 𝕄),
        iprop(ptH c M2 f2 ∗ ptH c M3 f3 ∗ ptH c M4 f4 ∗ pt c M5 f5 ∗ pt c M6 f6 ∗ pt c M7 f7 ∗ pt c M8 f8 ∗ pt c M9 f9 ∗ pt c M10 f10
          ∗ (iprop(ptH c M2 f2 ∗ ptH c M3 f3 ∗ ptH c M4 f4 ∗ pt c M5 f5 ∗ pt c M6 f6 ∗ pt c M7 f7 ∗ pt c M8 f8
                ∗ pt c M9 W ∗ pt c M10 f10) -∗ Q ⟨⟩))
        ⊢ wp frame (wpE (defs₀ (F := F)) Variants.none c none) E
            (cc0_down b i s M2 h2 M3 h3 M4 h4 M5 h5 M6 h6 M7 h7 M8 h8 M9 h9 M10 h10) Q } := by
  refine ⟨?_, fun E Q => ?run⟩
  case run =>
    iintro ⟨H2, H3, H4, H5, H6, H7, H8, H9, H10, Hk⟩
    sl_exec (disch := first | exact hc2 | exact hc3 | exact hn | exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Kernel.Down
-- ==== Proof.KWide.lean ====
module

public import proofs.«01_k».proof.Proof.Gen.Kernel
public import proofs.«01_k».proof.Proof.Gen.Kernel.Launch
public import proofs.«01_k».proof.Proof.KBody
public import Idealize.ShloMosaic.Lib.Tactic

@[expose] public section

noncomputable section

namespace Cert.Kernel.Down

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- A step that widens a new weight: what it leaves in the output window and in the scratch, with the run. -/
def wideRun (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    { W : Bf (F := F) c M9 × Bf (F := F) c M10 //
      ∀ (f10 : Bf (F := F) c M10) (E : Set ℕ) (Q : PUnit → sProp 𝕄),
        iprop(ptH c M2 f2 ∗ ptH c M3 f3 ∗ ptH c M4 f4 ∗ pt c M5 f5 ∗ pt c M6 f6 ∗ pt c M7 f7 ∗ pt c M8 f8 ∗ pt c M9 f9 ∗ pt c M10 f10
          ∗ (iprop(ptH c M2 f2 ∗ ptH c M3 f3 ∗ ptH c M4 f4 ∗ pt c M5 f5 ∗ pt c M6 f6 ∗ pt c M7 f7 ∗ pt c M8 f8
                ∗ pt c M9 W.1 ∗ pt c M10 W.2) -∗ Q ⟨⟩))
        ⊢ wp frame (wpE (defs₀ (F := F)) Variants.none c none) E
            (cc0_down b i s M2 h2 M3 h3 M4 h4 M5 h5 M6 h6 M7 h7 M8 h8 M9 h9 M10 h10) Q } := by
  refine ⟨⟨?_, ?_⟩, fun f10 E Q => ?run⟩
  case run =>
    iintro ⟨H2, H3, H4, H5, H6, H7, H8, H9, H10, Hk⟩
    sl_exec_parts! (disch := first | exact hc2 | exact hc3 | exact hn | exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Kernel.Down
-- ==== Proof.Nibble.lean ====
/-
  The packed weights byte by byte. A body reads a block of 64 rows of bytes as 16 rows of 32-bit words, masks the high
  half of every byte (after a shift by four, for the low halves) and reads the words as bytes again: each byte comes out
  as sixteen times its own four-bit half.
-/
module

public import Idealize.ShloMosaic.Lib.BitcastFour

@[expose] public section

namespace Cert.Down

open Idealize.ShloMosaic

/-- Sixteen times the half-byte `h` (0 the low one) of the byte `b`, as a byte. -/
def nib16 (h : Bool) (b : BitVec 8) : BitVec 8 := (if h then b else b <<< 4) &&& 0xF0#8

theorem mask_getLsbD : ∀ k < 4, ∀ q < 8, (4042322160#32 : BitVec 32).getLsbD (8 * k + q) = decide (4 ≤ q) := by decide

theorem mask8_getLsbD : ∀ q < 8, (0xF0#8 : BitVec 8).getLsbD q = decide (4 ≤ q) := by decide

theorem row_ix2 {m n : Nat} (a : Fin m) (b : Fin n) : (⟨2, ![m, n]⟩ : Shape).row (ValueIdx.ix2 a b) = a.val := by
  unfold Shape.row
  split
  · rfl
  · exact absurd (le_refl 2) ‹_›

/-- Words read as bytes: bit `q` of byte row `4 a + k` of a column is bit `8 k + q` of word row `a`. -/
theorem bytes_getLsbD {R r n : Nat} (y : (⟨2, ![r, n]⟩ : Shape).Idx → BitVec 32)
    (h : (⟨2, ![r, n]⟩ : Shape).Bitcasts 32 ⟨2, ![R, n]⟩ 8) (p : Fin R) (l : Fin n) (a : Fin r) (k q : Nat) (hk : k < 4) (hq : q < 8)
    (hp : p.val = 4 * a.val + k) :
    (bitcast ⟨2, ![R, n]⟩ 8 y h (ValueIdx.ix2 p l)).getLsbD q = (y (ValueIdx.ix2 a l)).getLsbD (8 * k + q) := by
  rw [bitcast_getLsbD y h _ q hq (by decide)]
  have e1 : ((⟨2, ![R, n]⟩ : Shape).row (ValueIdx.ix2 p l) * 8 + q) / 32 = a.val := by rw [row_ix2]; omega
  have e2 : ((⟨2, ![R, n]⟩ : Shape).row (ValueIdx.ix2 p l) * 8 + q) % 32 = 8 * k + q := by rw [row_ix2]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The high halves: the words masked, read as bytes. -/
theorem high_apply {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8) (hR : R = 4 * r)
    (j : (⟨2, ![R, n]⟩ : Shape).Idx) :
    bitcast ⟨2, ![R, n]⟩ 8 (andi (bitcast ⟨2, ![r, n]⟩ 32 x h) (broadcast ⟨2, ![r, n]⟩ 4042322160#32)) h' j = nib16 true (x j) := by
  obtain ⟨p, l, rfl⟩ : ∃ (p : Fin R) (l : Fin n), j = ValueIdx.ix2 p l := ⟨_, _, ValueIdx.eq_ix2 j⟩
  have hj : p.val < R := p.isLt
  apply BitVec.eq_of_getLsbD_eq
  intro q hq
  rw [bytes_getLsbD _ h' p l ⟨p.val / 4, by omega⟩ (p.val % 4) q (by omega) hq (by simp; omega)]
  simp only [andi, broadcast, IntOp.andi, BitVec.getLsbD_and, nib16, if_true]
  rw [mask_getLsbD _ (by omega) _ hq, mask8_getLsbD _ hq,
    bitcast_8_32_getLsbD_ix2 x h _ l _ (by omega) p (by simp; omega)]
  congr 2; omega

/-- The low halves: the words shifted by four and masked, read as bytes. -/
theorem low_apply {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8) (hR : R = 4 * r)
    (j : (⟨2, ![R, n]⟩ : Shape).Idx) :
    bitcast ⟨2, ![R, n]⟩ 8 (andi (shli (bitcast ⟨2, ![r, n]⟩ 32 x h) (broadcast ⟨2, ![r, n]⟩ 4#32)) (broadcast ⟨2, ![r, n]⟩ 4042322160#32)) h' j
      = nib16 false (x j) := by
  obtain ⟨p, l, rfl⟩ : ∃ (p : Fin R) (l : Fin n), j = ValueIdx.ix2 p l := ⟨_, _, ValueIdx.eq_ix2 j⟩
  have hj : p.val < R := p.isLt
  apply BitVec.eq_of_getLsbD_eq
  intro q hq
  rw [bytes_getLsbD _ h' p l ⟨p.val / 4, by omega⟩ (p.val % 4) q (by omega) hq (by simp; omega)]
  have hs : ∀ v : BitVec 32, IntOp.shli .vector v 4#32 = v <<< 4 := fun v => rfl
  simp only [andi, shli, broadcast, IntOp.andi, BitVec.getLsbD_and, nib16, hs, Bool.false_eq_true, if_false, BitVec.getLsbD_shiftLeft]
  rw [mask_getLsbD _ (by omega) _ hq, mask8_getLsbD _ hq]
  by_cases h4 : 4 ≤ q
  · rw [bitcast_8_32_getLsbD_ix2 x h _ l _ (by omega) p (by simp; omega)]
    have e : (8 * (p.val % 4) + q - 4) % 8 = q - 4 := by omega
    have d1 : decide (8 * (p.val % 4) + q < 32) = true := by simp; omega
    have d2 : decide (8 * (p.val % 4) + q < 4) = false := by simp; omega
    have d3 : decide (q < 4) = false := by simp; omega
    have d4 : decide (q < 8) = true := by simp; omega
    simp only [e, d1, d2, d3, d4]
  · simp [h4]

end Cert.Down
-- ==== Proof.KWideVal.lean ====
module

public import proofs.«01_k».proof.Proof.Gen.Kernel
public import proofs.«01_k».proof.Proof.Gen.Kernel.Launch
public import proofs.«01_k».proof.Proof.KWide
public import proofs.«01_k».proof.Proof.Nibble
public import Idealize.ShloMosaic.Lib.ValueLayout
public import Idealize.ShloMosaic.Lib.VecWindow
public import Idealize.ShloMosaic.Lib.Pipeline.Value
public import Idealize.ShloMosaic.Lib.Tactic

@[expose] public section

noncomputable section

namespace Cert.Kernel.Down

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open ValueIdx

/-- One cell of the widened weight: sixteen times the four-bit code `b`'s half `h`, as bf16, times a sixteenth of the scale `u`. -/
def wideCell (h : Bool) (b : BitVec 8) (u : F .bf16) : F .bf16 :=
  FloatOps.mulf (FloatOps.sitofp .bf16 (Cert.Down.nib16 h b)) (FloatOps.mulf u (Scalar.ofBits .bf16 0x3D80#16))

/-- The whole widened weight from the packed block `w` and its scales `u`: row `128 g + 64 h + j` is the half `h` of packed row `64 g + j`. -/
def wide (w : Vec F S1x2048x1024 .i8) (u : Vec F S1x32x1024 .bf16) : Vec F S4096x1024 .bf16 := fun y =>
  have hy : (y 0).val < 4096 := (y 0).isLt
  wideCell (decide (64 ≤ (y 0).val % 128))
    (w (ix3 (n0 := 1) (n1 := 2048) (n2 := 1024) 0 ⟨64 * ((y 0).val / 128) + (y 0).val % 64, by omega⟩ (y 1)))
    (u (ix3 (n0 := 1) (n1 := 32) (n2 := 1024) 0 ⟨(y 0).val / 128, by omega⟩ (y 1)))

/-- The 64 packed rows a group's two stores read, off the window. -/
abbrev rows7 (c : Dev nD) (M7 : Memref sig .tc .vmem S1x2048x1024 .i8) (f7 : Bf (F := F) c M7) (o : Fin 2 → Nat)
    (h : ∀ a, o a + S64x1024.size a ≤ S2048x1024.size a) : S64x1024.Idx → Elt F .i8 :=
  View.readAt (Elt F) ((M7.slice (Rect.unit (s := S1x2048x1024) ![0, 0, 0] S1x2048x1024.size inb_S1x2048x1024_S1x2048x1024_0_0_0) (fun _ => rfl)).squeeze
    S2048x1024 squeezes_S1x2048x1024_S2048x1024).view (Rect.unit (s := S2048x1024) o S64x1024.size h).toLoadRect f7

/-- A group's row of scales, off the window. -/
abbrev row8 (c : Dev nD) (M8 : Memref sig .tc .vmem S1x32x1024 .bf16) (f8 : Bf (F := F) c M8) (o : Fin 2 → Nat)
    (h : ∀ a, o a + S1x1024.size a ≤ S32x1024.size a) : S1x1024.Idx → F .bf16 :=
  View.readAt (Elt F) ((M8.slice (Rect.unit (s := S1x32x1024) ![0, 0, 0] S1x32x1024.size inb_S1x32x1024_S1x32x1024_0_0_0) (fun _ => rfl)).squeeze
    S32x1024 squeezes_S1x32x1024_S32x1024).view (Rect.unit (s := S32x1024) o S1x1024.size h).toLoadRect f8

theorem rows7_apply (c : Dev nD) (M7 : Memref sig .tc .vmem S1x2048x1024 .i8) (f7 : Bf (F := F) c M7) (o : Fin 2 → Nat)
    (h : ∀ a, o a + S64x1024.size a ≤ S2048x1024.size a) (p : Fin 64) (l : Fin 1024) (q : Fin 2048) (hq : q.val = o 0 + p.val) (h1 : o 1 = 0) :
    rows7 c M7 f7 o h (ix2 p l) = M7.view.read (Elt F) f7 (ix3 (n0 := 1) (n1 := 2048) (n2 := 1024) 0 q l) := by
  have e : (Rect.unit (s := S2048x1024) o S64x1024.size h).toLoadRect.idx (ix2 p l) = ix2 (n0 := 2048) (n1 := 1024) q l := by
    funext a
    match a with
    | ⟨0, _⟩ => exact Fin.ext (by show o 0 + 1 * p.val = q.val; omega)
    | ⟨1, _⟩ => exact Fin.ext (by show o 1 + 1 * l.val = l.val; omega)
  unfold rows7
  rw [View.readAt_apply, e, Memref.read_squeeze_full]
  exact congrArg _ (reshapeEquiv_ix2_1ab _ _ _)

theorem row8_apply (c : Dev nD) (M8 : Memref sig .tc .vmem S1x32x1024 .bf16) (f8 : Bf (F := F) c M8) (o : Fin 2 → Nat)
    (h : ∀ a, o a + S1x1024.size a ≤ S32x1024.size a) (l : Fin 1024) (q : Fin 32) (hq : q.val = o 0) (h1 : o 1 = 0) :
    row8 c M8 f8 o h (ix2 (0 : Fin 1) l) = M8.view.read (Elt F) f8 (ix3 (n0 := 1) (n1 := 32) (n2 := 1024) 0 q l) := by
  have e : (Rect.unit (s := S32x1024) o S1x1024.size h).toLoadRect.idx (ix2 (0 : Fin 1) l) = ix2 (n0 := 32) (n1 := 1024) q l := by
    funext a
    match a with
    | ⟨0, _⟩ => exact Fin.ext (by show o 0 + 1 * 0 = q.val; omega)
    | ⟨1, _⟩ => exact Fin.ext (by show o 1 + 1 * l.val = l.val; omega)
  unfold row8
  rw [View.readAt_apply, e, Memref.read_squeeze_full]
  exact congrArg _ (reshapeEquiv_ix2_1ab _ _ _)

/-- A group's scale row times a sixteenth, over 64 rows. -/
def scaleRows (u : S1x1024.Idx → F .bf16) : FVec F S64x1024 .bf16 :=
  broadcastTo S64x1024 (mulf (s := S1x1024) u (broadcast S1x1024 (Scalar.ofBits .bf16 0x3D80#16))) broadcasts_S1x1024_S64x1024

/-- What a group's first store writes: the low halves. -/
def lowPiece (v : S64x1024.Idx → BitVec 8) (u : S1x1024.Idx → F .bf16) : FVec F S64x1024 .bf16 :=
  shapeCast S64x1024 (mulf (sitofp .bf16 (bitcast S64x1024 8 (andi (shli (bitcast S16x1024 32 v bitcasts_S64x1024_w8_S16x1024_w32) (broadcast S16x1024 4#32))
    (broadcast S16x1024 4042322160#32)) bitcasts_S16x1024_w32_S64x1024_w8)) (scaleRows u)) shapeCasts_S64x1024_S64x1024

/-- What a group's second store writes: the high halves. -/
def highPiece (v : S64x1024.Idx → BitVec 8) (u : S1x1024.Idx → F .bf16) : FVec F S64x1024 .bf16 :=
  shapeCast S64x1024 (mulf (sitofp .bf16 (bitcast S64x1024 8 (andi (bitcast S16x1024 32 v bitcasts_S64x1024_w8_S16x1024_w32)
    (broadcast S16x1024 4042322160#32)) bitcasts_S16x1024_w32_S64x1024_w8)) (scaleRows u)) shapeCasts_S64x1024_S64x1024

theorem scaleRows_apply (u : S1x1024.Idx → F .bf16) (p : Fin 64) (l : Fin 1024) :
    scaleRows u (ix2 p l) = FloatOps.mulf (u (ix2 (0 : Fin 1) l)) (Scalar.ofBits .bf16 0x3D80#16) := by
  unfold scaleRows
  rw [broadcastTo_apply _ _ _ (ix2 (0 : Fin 1) l) (by
    intro a
    match a with
    | ⟨0, _⟩ => rfl
    | ⟨1, _⟩ => rfl)]
  rfl

theorem low_eq (v : S64x1024.Idx → BitVec 8) (u : S1x1024.Idx → F .bf16) (p : Fin 64) (l : Fin 1024) :
    lowPiece v u (ix2 p l) = wideCell false (v (ix2 p l)) (u (ix2 (0 : Fin 1) l)) := by
  unfold lowPiece
  rw [shapeCast_self]
  exact congrArg₂ FloatOps.mulf (congrArg _ (Cert.Down.low_apply v _ _ rfl (ix2 p l))) (scaleRows_apply u p l)

theorem high_eq (v : S64x1024.Idx → BitVec 8) (u : S1x1024.Idx → F .bf16) (p : Fin 64) (l : Fin 1024) :
    highPiece v u (ix2 p l) = wideCell true (v (ix2 p l)) (u (ix2 (0 : Fin 1) l)) := by
  unfold highPiece
  rw [shapeCast_self]
  exact congrArg₂ FloatOps.mulf (congrArg _ (Cert.Down.high_apply v _ _ rfl (ix2 p l))) (scaleRows_apply u p l)

/-- A list of stores, each agreeing with the widened weight and each 64 rows at a multiple of 64: what the rest owes. -/
theorem all_cons {α : Type} {P : α → Prop} {a : α} {L : List α} (h : P a) (hL : ∀ x ∈ L, P x) : ∀ x ∈ a :: L, P x :=
  List.forall_mem_cons.2 ⟨h, hL⟩

section Pieces
variable (c : Dev nD) (M7 : Memref sig .tc .vmem S1x2048x1024 .i8) (M8 : Memref sig .tc .vmem S1x32x1024 .bf16)
  (f7 : Bf (F := F) c M7) (f8 : Bf (F := F) c M8)

/-- A store agrees with the widened weight of the windows' contents. -/
def Good (p : View.Piece (Elt F) S4096x1024 .bf16) : Prop :=
  ∀ x : p.1.shape.Idx, p.2 x = wide (M7.view.read (Elt F) f7) (M8.view.read (Elt F) f8) (p.1.emb x)

theorem good_low (g o : Nat) (hg : g < 32) (ho : o = 128 * g) (h : ∀ a, (![o, 0] : Fin 2 → Nat) a + S64x1024.size a ≤ S4096x1024.size a)
    (h7 : ∀ a, (![64 * g, 0] : Fin 2 → Nat) a + S64x1024.size a ≤ S2048x1024.size a) (h8 : ∀ a, (![g, 0] : Fin 2 → Nat) a + S1x1024.size a ≤ S32x1024.size a)
    (w : S64x1024.Idx → F .bf16) (hw : w = lowPiece (rows7 c M7 f7 ![64 * g, 0] h7) (row8 c M8 f8 ![g, 0] h8)) :
    Good c M7 M8 f7 f8 ⟨Rect.unit (s := S4096x1024) ![o, 0] S64x1024.size h, w⟩ := by
  subst hw ho
  intro x
  obtain ⟨p, l, rfl⟩ : ∃ (p : Fin 64) (l : Fin 1024), x = ix2 p l := ⟨_, _, eq_ix2 x⟩
  show lowPiece _ _ (ix2 p l) = _
  have hp := p.isLt
  rw [low_eq, rows7_apply c M7 f7 _ h7 p l ⟨64 * g + p.val, by omega⟩ rfl rfl, row8_apply c M8 f8 _ h8 l ⟨g, hg⟩ rfl rfl]
  have e : (Rect.unit (s := S4096x1024) ![128 * g, 0] S64x1024.size h).emb (ix2 p l) = ix2 (n0 := 4096) (n1 := 1024) ⟨128 * g + p.val, by omega⟩ l := by
    funext a
    match a with
    | ⟨0, _⟩ => exact Fin.ext (by show 128 * g + 1 * p.val = 128 * g + p.val; omega)
    | ⟨1, _⟩ => exact Fin.ext (by show 0 + 1 * l.val = l.val; omega)
  rw [e]
  unfold wide
  have d : decide (64 ≤ (128 * g + p.val) % 128) = false := by simp; omega
  have e3 : (128 * g + p.val) % 64 = p.val := by omega
  have e2 : (128 * g + p.val) / 128 = g := by omega
  simp only [d, e2, e3]

theorem good_high (g o : Nat) (hg : g < 32) (ho : o = 128 * g + 64) (h : ∀ a, (![o, 0] : Fin 2 → Nat) a + S64x1024.size a ≤ S4096x1024.size a)
    (h7 : ∀ a, (![64 * g, 0] : Fin 2 → Nat) a + S64x1024.size a ≤ S2048x1024.size a) (h8 : ∀ a, (![g, 0] : Fin 2 → Nat) a + S1x1024.size a ≤ S32x1024.size a)
    (w : S64x1024.Idx → F .bf16) (hw : w = highPiece (rows7 c M7 f7 ![64 * g, 0] h7) (row8 c M8 f8 ![g, 0] h8)) :
    Good c M7 M8 f7 f8 ⟨Rect.unit (s := S4096x1024) ![o, 0] S64x1024.size h, w⟩ := by
  subst hw ho
  intro x
  obtain ⟨p, l, rfl⟩ : ∃ (p : Fin 64) (l : Fin 1024), x = ix2 p l := ⟨_, _, eq_ix2 x⟩
  show highPiece _ _ (ix2 p l) = _
  have hp := p.isLt
  rw [high_eq, rows7_apply c M7 f7 _ h7 p l ⟨64 * g + p.val, by omega⟩ rfl rfl, row8_apply c M8 f8 _ h8 l ⟨g, hg⟩ rfl rfl]
  have e : (Rect.unit (s := S4096x1024) ![128 * g + 64, 0] S64x1024.size h).emb (ix2 p l) = ix2 (n0 := 4096) (n1 := 1024) ⟨128 * g + 64 + p.val, by omega⟩ l := by
    funext a
    match a with
    | ⟨0, _⟩ => exact Fin.ext (by show 128 * g + 64 + 1 * p.val = 128 * g + 64 + p.val; omega)
    | ⟨1, _⟩ => exact Fin.ext (by show 0 + 1 * l.val = l.val; omega)
  rw [e]
  unfold wide
  have d : decide (64 ≤ (128 * g + 64 + p.val) % 128) = true := by simp; omega
  have e3 : (128 * g + 64 + p.val) % 64 = p.val := by omega
  have e2 : (128 * g + 64 + p.val) / 128 = g := by omega
  simp only [d, e2, e3]

/-- Every store of the widening agrees with the widened weight. -/
theorem good_all : ∀ p ∈ wideRun.sl.H10_64 c M7 M8 f7 f8, Good c M7 M8 f7 f8 p :=
  all_cons (good_high c M7 M8 f7 f8 31 4032 (by decide) rfl (by decide) (by decide) (by decide) _ rfl) <|
  all_cons (good_low c M7 M8 f7 f8 31 3968 (by decide) rfl (by decide) (by decide) (by decide) _ rfl) <|
  all_cons (good_high c M7 M8 f7 f8 30 3904 (by decide) rfl (by decide) (by decide) (by decide) _ rfl) <|
  all_cons (good_low c M7 M8 f7 f8 30 3840 (by decide) rfl (by decide) (by decide) (by decide) _ rfl) <|
  all_cons (good_high c M7 M8 f7 f8 29 3776 (by decide) rfl (by decide) (by decide) (by decide) _ rfl) <|
  all_cons (good_low c M7 M8 f7 f8 29 3712 (by decide) rfl (by decide) (by decide) (by decide) _ rfl) <|
  all_cons (good_high c M7 M8 f7 f8 28 3648 (by decide) rfl (by decide) (by decide) (by decide) _ rfl) <|
  all_cons (good_low c M7 M8 f7 f8 28 3584 (by decide) rfl (by decide) (by decide) (by decide) _ rfl) <|
  all_cons (good_high c M7 M8 f7 f8 27 3520 (by decide) rfl (by decide) (by decide) (by decide) _ rfl) <|
  all_cons (good_low c M7 M8 f7 f8 27 3456 (by decide) rfl (by decide) (by decide) (by decide) _ rfl) <|
  all_cons (good_high c M7 M8 f7 f8 26 3392 (by decide) rfl (by decide) (by decide) (by decide) _ rfl) <|
  all_cons (good_low c M7 M8 f7 f8 26 3328 (by decide) rfl (by decide) (by decide) (by decide) _ rfl) <|
  all_cons (good_high c M7 M8 f7 f8 25 3264 (by decide) rfl (by decide) (by decide) (by decide) _ rfl) <|
  all_cons (good_low c M7 M8 f7 f8 25 3200 (by decide) rfl (by decide) (by decide) (by decide) _ rfl) <|
  all_cons (good_high c M7 M8 f7 f8 24 3136 (by decide) rfl (by decide) (by decide) (by decide) _ rfl) <|
  all_cons (good_low c M7 M8 f7 f8 24 3072 (by decide) rfl (by decide) (by decide) (by decide) _ rfl) <|
  all_cons (good_high c M7 M8 f7 f8 23 3008 (by decide) rfl (by decide) (by decide) (by decide) _ rfl) <|
  all_cons (good_low c M7 M8 f7 f8 23 2944 (by decide) rfl (by decide) (by decide) (by decide) _ rfl) <|
  all_cons (good_high c M7 M8 f7 f8 22 2880 (by decide) rfl (by decide) (by decide) (by decide) _ rfl) <|
  all_cons (good_low c M7 M8 f7 f8 22 2816 (by decide) rfl (by decide) (by decide) (by decide) _ rfl) <|
  all_cons (good_high c M7 M8 f7 f8 21 2752 (by decide) rfl (by decide) (by decide) (by decide) _ rfl) <|
  all_cons (good_low c M7 M8 f7 f8 21 2688 (by decide) rfl (by decide) (by decide) (by decide) _ rfl) <|
  all_cons (good_high c M7 M8 f7 f8 20 2624 (by decide) rfl (by decide) (by decide) (by decide) _ rfl) <|
  all_cons (good_low c M7 M8 f7 f8 20 2560 (by decide) rfl (by decide) (by decide) (by decide) _ rfl) <|
  all_cons (good_high c M7 M8 f7 f8 19 2496 (by decide) rfl (by decide) (by decide) (by decide) _ rfl) <|
  all_cons (good_low c M7 M8 f7 f8 19 2432 (by decide) rfl (by decide) (by decide) (by decide) _ rfl) <|
  all_cons (good_high c M7 M8 f7 f8 18 2368 (by decide) rfl (by decide) (by decide) (by decide) _ rfl) <|
  all_cons (good_low c M7 M8 f7 f8 18 2304 (by decide) rfl (by decide) (by decide) (by decide) _ rfl) <|
  all_cons (good_high c M7 M8 f7 f8 17 2240 (by decide) rfl (by decide) (by decide) (by decide) _ rfl) <|
  all_cons (good_low c M7 M8 f7 f8 17 2176 (by decide) rfl (by decide) (by decide) (by decide) _ rfl) <|
  all_cons (good_high c M7 M8 f7 f8 16 2112 (by decide) rfl (by decide) (by decide) (by decide) _ rfl) <|
  all_cons (good_low c M7 M8 f7 f8 16 2048 (by decide) rfl (by decide) (by decide) (by decide) _ rfl) <|
  all_cons (good_high c M7 M8 f7 f8 15 1984 (by decide) rfl (by decide) (by decide) (by decide) _ rfl) <|
  all_cons (good_low c M7 M8 f7 f8 15 1920 (by decide) rfl (by decide) (by decide) (by decide) _ rfl) <|
  all_cons (good_high c M7 M8 f7 f8 14 1856 (by decide) rfl (by decide) (by decide) (by decide) _ rfl) <|
  all_cons (good_low c M7 M8 f7 f8 14 1792 (by decide) rfl (by decide) (by decide) (by decide) _ rfl) <|
  all_cons (good_high c M7 M8 f7 f8 13 1728 (by decide) rfl (by decide) (by decide) (by decide) _ rfl) <|
  all_cons (good_low c M7 M8 f7 f8 13 1664 (by decide) rfl (by decide) (by decide) (by decide) _ rfl) <|
  all_cons (good_high c M7 M8 f7 f8 12 1600 (by decide) rfl (by decide) (by decide) (by decide) _ rfl) <|
  all_cons (good_low c M7 M8 f7 f8 12 1536 (by decide) rfl (by decide) (by decide) (by decide) _ rfl) <|
  all_cons (good_high c M7 M8 f7 f8 11 1472 (by decide) rfl (by decide) (by decide) (by decide) _ rfl) <|
  all_cons (good_low c M7 M8 f7 f8 11 1408 (by decide) rfl (by decide) (by decide) (by decide) _ rfl) <|
  all_cons (good_high c M7 M8 f7 f8 10 1344 (by decide) rfl (by decide) (by decide) (by decide) _ rfl) <|
  all_cons (good_low c M7 M8 f7 f8 10 1280 (by decide) rfl (by decide) (by decide) (by decide) _ rfl) <|
  all_cons (good_high c M7 M8 f7 f8 9 1216 (by decide) rfl (by decide) (by decide) (by decide) _ rfl) <|
  all_cons (good_low c M7 M8 f7 f8 9 1152 (by decide) rfl (by decide) (by decide) (by decide) _ rfl) <|
  all_cons (good_high c M7 M8 f7 f8 8 1088 (by decide) rfl (by decide) (by decide) (by decide) _ rfl) <|
  all_cons (good_low c M7 M8 f7 f8 8 1024 (by decide) rfl (by decide) (by decide) (by decide) _ rfl) <|
  all_cons (good_high c M7 M8 f7 f8 7 960 (by decide) rfl (by decide) (by decide) (by decide) _ rfl) <|
  all_cons (good_low c M7 M8 f7 f8 7 896 (by decide) rfl (by decide) (by decide) (by decide) _ rfl) <|
  all_cons (good_high c M7 M8 f7 f8 6 832 (by decide) rfl (by decide) (by decide) (by decide) _ rfl) <|
  all_cons (good_low c M7 M8 f7 f8 6 768 (by decide) rfl (by decide) (by decide) (by decide) _ rfl) <|
  all_cons (good_high c M7 M8 f7 f8 5 704 (by decide) rfl (by decide) (by decide) (by decide) _ rfl) <|
  all_cons (good_low c M7 M8 f7 f8 5 640 (by decide) rfl (by decide) (by decide) (by decide) _ rfl) <|
  all_cons (good_high c M7 M8 f7 f8 4 576 (by decide) rfl (by decide) (by decide) (by decide) _ rfl) <|
  all_cons (good_low c M7 M8 f7 f8 4 512 (by decide) rfl (by decide) (by decide) (by decide) _ rfl) <|
  all_cons (good_high c M7 M8 f7 f8 3 448 (by decide) rfl (by decide) (by decide) (by decide) _ rfl) <|
  all_cons (good_low c M7 M8 f7 f8 3 384 (by decide) rfl (by decide) (by decide) (by decide) _ rfl) <|
  all_cons (good_high c M7 M8 f7 f8 2 320 (by decide) rfl (by decide) (by decide) (by decide) _ rfl) <|
  all_cons (good_low c M7 M8 f7 f8 2 256 (by decide) rfl (by decide) (by decide) (by decide) _ rfl) <|
  all_cons (good_high c M7 M8 f7 f8 1 192 (by decide) rfl (by decide) (by decide) (by decide) _ rfl) <|
  all_cons (good_low c M7 M8 f7 f8 1 128 (by decide) rfl (by decide) (by decide) (by decide) _ rfl) <|
  all_cons (good_high c M7 M8 f7 f8 0 64 (by decide) rfl (by decide) (by decide) (by decide) _ rfl) <|
  all_cons (good_low c M7 M8 f7 f8 0 0 (by decide) rfl (by decide) (by decide) (by decide) _ rfl) <|
  fun _ h => absurd h List.not_mem_nil

end Pieces

end Cert.Kernel.Down
-- ==== Proof.KOut.lean ====
module

public import proofs.«01_k».proof.Proof.Gen.Kernel
public import proofs.«01_k».proof.Proof.Gen.Kernel.Launch
public import proofs.«01_k».proof.Proof.KWideVal
public import proofs.«01_k».proof.Proof.Nibble
public import Idealize.ShloMosaic.Lib.ValueLayout
public import Idealize.ShloMosaic.Lib.VecWindow
public import Idealize.ShloMosaic.Lib.Pipeline.Value
public import Idealize.ShloMosaic.Lib.Tactic

@[expose] public section

noncomputable section

namespace Cert.Kernel.Down

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open ValueIdx

/-- The stores up to the `n`-th row of the scratch reach every row below it. -/
def Reach (n : Nat) (L : List (View.Piece (Elt F) S4096x1024 .bf16)) : Prop :=
  ∀ y : S4096x1024.Idx, (y 0).val < n → ∃ p ∈ L, y ∈ p.1.set

theorem reach_cons (n m : Nat) (hm : m = n + 64) (h : ∀ a, (![n, 0] : Fin 2 → Nat) a + S64x1024.size a ≤ S4096x1024.size a) (w : S64x1024.Idx → F .bf16)
    (L : List (View.Piece (Elt F) S4096x1024 .bf16)) (hL : Reach n L) : Reach m (⟨Rect.unit (s := S4096x1024) ![n, 0] S64x1024.size h, w⟩ :: L) := by
  subst hm
  intro y hy
  by_cases hn : (y 0).val < n
  · obtain ⟨p, hp, hyp⟩ := hL y hn
    exact ⟨p, List.mem_cons_of_mem _ hp, hyp⟩
  · refine ⟨_, List.mem_cons_self, (Rect.mem_set_unit (inb := h)).2 fun a => ?_⟩
    match a with
    | ⟨0, _⟩ => exact ⟨by show n ≤ (y 0).val; omega, by show (y 0).val < n + 64; omega⟩
    | ⟨1, _⟩ => exact ⟨Nat.zero_le _, by have h1 : (y 1).val < 1024 := (y 1).isLt; show (y 1).val < 0 + 1024; omega⟩

theorem reach_all (c : Dev nD) (M7 : Memref sig .tc .vmem S1x2048x1024 .i8) (M8 : Memref sig .tc .vmem S1x32x1024 .bf16)
    (f7 : Bf (F := F) c M7) (f8 : Bf (F := F) c M8) : Reach 4096 (wideRun.sl.H10_64 c M7 M8 f7 f8) :=
  reach_cons 4032 4096 rfl (by decide) _ _ <|
  reach_cons 3968 4032 rfl (by decide) _ _ <|
  reach_cons 3904 3968 rfl (by decide) _ _ <|
  reach_cons 3840 3904 rfl (by decide) _ _ <|
  reach_cons 3776 3840 rfl (by decide) _ _ <|
  reach_cons 3712 3776 rfl (by decide) _ _ <|
  reach_cons 3648 3712 rfl (by decide) _ _ <|
  reach_cons 3584 3648 rfl (by decide) _ _ <|
  reach_cons 3520 3584 rfl (by decide) _ _ <|
  reach_cons 3456 3520 rfl (by decide) _ _ <|
  reach_cons 3392 3456 rfl (by decide) _ _ <|
  reach_cons 3328 3392 rfl (by decide) _ _ <|
  reach_cons 3264 3328 rfl (by decide) _ _ <|
  reach_cons 3200 3264 rfl (by decide) _ _ <|
  reach_cons 3136 3200 rfl (by decide) _ _ <|
  reach_cons 3072 3136 rfl (by decide) _ _ <|
  reach_cons 3008 3072 rfl (by decide) _ _ <|
  reach_cons 2944 3008 rfl (by decide) _ _ <|
  reach_cons 2880 2944 rfl (by decide) _ _ <|
  reach_cons 2816 2880 rfl (by decide) _ _ <|
  reach_cons 2752 2816 rfl (by decide) _ _ <|
  reach_cons 2688 2752 rfl (by decide) _ _ <|
  reach_cons 2624 2688 rfl (by decide) _ _ <|
  reach_cons 2560 2624 rfl (by decide) _ _ <|
  reach_cons 2496 2560 rfl (by decide) _ _ <|
  reach_cons 2432 2496 rfl (by decide) _ _ <|
  reach_cons 2368 2432 rfl (by decide) _ _ <|
  reach_cons 2304 2368 rfl (by decide) _ _ <|
  reach_cons 2240 2304 rfl (by decide) _ _ <|
  reach_cons 2176 2240 rfl (by decide) _ _ <|
  reach_cons 2112 2176 rfl (by decide) _ _ <|
  reach_cons 2048 2112 rfl (by decide) _ _ <|
  reach_cons 1984 2048 rfl (by decide) _ _ <|
  reach_cons 1920 1984 rfl (by decide) _ _ <|
  reach_cons 1856 1920 rfl (by decide) _ _ <|
  reach_cons 1792 1856 rfl (by decide) _ _ <|
  reach_cons 1728 1792 rfl (by decide) _ _ <|
  reach_cons 1664 1728 rfl (by decide) _ _ <|
  reach_cons 1600 1664 rfl (by decide) _ _ <|
  reach_cons 1536 1600 rfl (by decide) _ _ <|
  reach_cons 1472 1536 rfl (by decide) _ _ <|
  reach_cons 1408 1472 rfl (by decide) _ _ <|
  reach_cons 1344 1408 rfl (by decide) _ _ <|
  reach_cons 1280 1344 rfl (by decide) _ _ <|
  reach_cons 1216 1280 rfl (by decide) _ _ <|
  reach_cons 1152 1216 rfl (by decide) _ _ <|
  reach_cons 1088 1152 rfl (by decide) _ _ <|
  reach_cons 1024 1088 rfl (by decide) _ _ <|
  reach_cons 960 1024 rfl (by decide) _ _ <|
  reach_cons 896 960 rfl (by decide) _ _ <|
  reach_cons 832 896 rfl (by decide) _ _ <|
  reach_cons 768 832 rfl (by decide) _ _ <|
  reach_cons 704 768 rfl (by decide) _ _ <|
  reach_cons 640 704 rfl (by decide) _ _ <|
  reach_cons 576 640 rfl (by decide) _ _ <|
  reach_cons 512 576 rfl (by decide) _ _ <|
  reach_cons 448 512 rfl (by decide) _ _ <|
  reach_cons 384 448 rfl (by decide) _ _ <|
  reach_cons 320 384 rfl (by decide) _ _ <|
  reach_cons 256 320 rfl (by decide) _ _ <|
  reach_cons 192 256 rfl (by decide) _ _ <|
  reach_cons 128 192 rfl (by decide) _ _ <|
  reach_cons 64 128 rfl (by decide) _ _ <|
  reach_cons 0 64 rfl (by decide) _ _ <|
  fun _ h => absurd h (Nat.not_lt_zero _)

/-- The scratch after the widening's stores reads the widened weight. -/
theorem read_wide (c : Dev nD) (M7 : Memref sig .tc .vmem S1x2048x1024 .i8) (M8 : Memref sig .tc .vmem S1x32x1024 .bf16)
    (M10 : Memref sig .tc .vmem S4096x1024 .bf16) (f7 : Bf (F := F) c M7) (f8 : Bf (F := F) c M8) (f10 : Bf (F := F) c M10) :
    M10.view.read (Elt F) (M10.view.writes (Elt F) f10 (wideRun.sl.H10_64 c M7 M8 f7 f8))
      = wide (M7.view.read (Elt F) f7) (M8.view.read (Elt F) f8) :=
  funext fun y => View.read_writes_apply_of_pieces _ _ _ _ (good_all c M7 M8 f7 f8) y (reach_all c M7 M8 f7 f8 y (y 0).isLt)

/-- A step's product: the codes' tile as bf16 times the widened weight, times the expert's scale. -/
def yTile (a : Vec F S256x4096 .fp8e4m3) (w : Vec F S4096x1024 .bf16) (act : F .f32) : FVec F S256x1024 .f32 :=
  mulf (matmul dot_S256x4096_S4096x1024_S256x1024_1_0_0_1_n_n none (extf .bf16 a) w (constant S256x1024 .f32 0#32)) (broadcast S256x1024 act)

/-- The rows of the tile `t` a step of expert `e` keeps: from `st` (0 for expert 0) to before `en`. -/
def keepTile (e t st en : BitVec 32) : IVec S256x1024 1 :=
  andi (cmpi .sge (addi (broadcast S256x1024 (Scalar.muli t 256#32)) (iota .tc S256x1024 32 [0]))
      (broadcast S256x1024 (Scalar.select (Scalar.cmpi .eq e 0#32) 0#32 st)))
    (cmpi .slt (addi (broadcast S256x1024 (Scalar.muli t 256#32)) (iota .tc S256x1024 32 [0])) (broadcast S256x1024 en))

/-- What a step leaves in the output window that held `old`. -/
def outTile (e t st en : BitVec 32) (a : Vec F S256x4096 .fp8e4m3) (w : Vec F S4096x1024 .bf16) (act : F .f32) (old : Vec F S256x1024 .f32) :
    Vec F S256x1024 .f32 :=
  select (keepTile e t st en) (yTile a w act) old

/-- The word read off an 8-word buffer at the offset `off`. -/
abbrev w8 (c : Dev nD) {e : EltTy} (M : Memref sig .tc .smem S8 e) (f : Bf (F := F) c M) (off : Fin 1 → Nat)
    (h : ∀ a, off a + S1.size a ≤ S8.size a) : Elt F e :=
  View.readAt (Elt F) M.view (Rect.unit (s := S8) off S1.size h).toLoadRect f (Shape.Idx.first (s := S1) (by decide))

theorem read_full {sig : RefSig} {κ : Kind} {sp : Space} {s : Shape} {e : EltTy} {Val : EltTy → Type} (v : View sig κ sp s e) (f : v.ty.Contents Val)
    {off : Fin s.rank → Nat} (inb : ∀ a, off a + s.size a ≤ s.size a) :
    v.readAt Val (Rect.unit off s.size inb).toLoadRect f = v.read Val f :=
  funext fun y => by
    rw [View.readAt_apply]
    exact congrArg _ (Rect.emb_unit_full inb y)

theorem read_writes_full {sig : RefSig} {κ : Kind} {sp : Space} {s : Shape} {e : EltTy} {Val : EltTy → Type} (v : View sig κ sp s e) (f : v.ty.Contents Val)
    {off : Fin s.rank → Nat} (inb : ∀ a, off a + s.size a ≤ s.size a) (w : s.Idx → Val e) :
    v.read Val (v.writes Val f [⟨Rect.unit off s.size inb, w⟩]) = w :=
  funext fun y => by
    have h := View.read_writes_cons_emb v f (Rect.unit off s.size inb) w [] y
    rwa [Rect.emb_unit_full inb y] at h

theorem read_cast9 (c : Dev nD) (M9 : Memref sig .tc .vmem S256x1024 .f32) (f9 : Bf (F := F) c M9) :
    shapeCast S256x1024 (View.readAt (Elt F) M9.view (Rect.unit (s := S256x1024) ![0, 0] S256x1024.size inb_S256x1024_S256x1024_0_0).toLoadRect f9)
      shapeCasts_S256x1024_S256x1024 = M9.view.read (Elt F) f9 :=
  (shapeCast_self _ _).trans (read_full M9.view f9 inb_S256x1024_S256x1024_0_0)

theorem keepRun_out (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2))
    (hn : ¬ k0_cond s (w43 c M2 f2 (k0_off2 s) hc.1) (w43 c M2 f2 (k0_off3 s) hc.2.1)) :
    (keepRun c b i s M2 h2 M3 h3 M4 h4 M5 h5 M6 h6 M7 h7 M8 h8 M9 h9 M10 h10 f2 f3 f4 f5 f6 f7 f8 f9 f10 hc hc2 hc3 hn).1 = M9.view.writes (Elt F) f9 [⟨Rect.unit (s := S256x1024) ![0, 0] S256x1024.size inb_S256x1024_S256x1024_0_0, keepRun.sl.v44 c s M2 M3 M4 M5 M6 M9 M10 f2 f3 f4 f5 f6 f9 f10 hc hc2 hc3⟩] := by
  delta keepRun
  dsimp only

theorem keep_mask (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2)) :
    keepRun.sl.v41 c s M2 M3 M4 f2 f3 f4 hc hc3
      = keepTile (w43 c M2 f2 (k0_off5 s) hc.2.2) (w43 c M3 f3 (k0_off5 s) hc.2.2) (w8 c M4 f4 (k0_off6 (w43 c M2 f2 (k0_off5 s) hc.2.2)) (k0_off6_inb _ hc3))
          (w8 c M4 f4 (k0_off7 (w43 c M2 f2 (k0_off5 s) hc.2.2)) (k0_off7_inb _ hc3)) := by
  exact rfl

theorem keep_y (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2)) :
    keepRun.sl.v20 c s M2 M5 M6 M10 f2 f5 f6 f10 hc hc2
      = yTile (M6.view.readAt (Elt F) (Rect.unit (s := S256x4096) ![0, 0] S256x4096.size inb_S256x4096_S256x4096_0_0).toLoadRect f6)
          (M10.view.readAt (Elt F) (Rect.unit (s := S4096x1024) ![0, 0] S4096x1024.size inb_S4096x1024_S4096x1024_0_0).toLoadRect f10) (w8 c M5 f5 (k0_off4 (w43 c M2 f2 (k0_off2 s) hc.1)) hc2) := by
  exact rfl

theorem keep_sel (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2)) :
    keepRun.sl.v44 c s M2 M3 M4 M5 M6 M9 M10 f2 f3 f4 f5 f6 f9 f10 hc hc2 hc3 = select (keepRun.sl.v41 c s M2 M3 M4 f2 f3 f4 hc hc3) (keepRun.sl.v20 c s M2 M5 M6 M10 f2 f5 f6 f10 hc hc2) (M9.view.read (Elt F) f9) := by
  rw [← read_cast9]
  exact rfl

theorem keep_out (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2))
    (hn : ¬ k0_cond s (w43 c M2 f2 (k0_off2 s) hc.1) (w43 c M2 f2 (k0_off3 s) hc.2.1)) :
    M9.view.read (Elt F) (keepRun c b i s M2 h2 M3 h3 M4 h4 M5 h5 M6 h6 M7 h7 M8 h8 M9 h9 M10 h10 f2 f3 f4 f5 f6 f7 f8 f9 f10 hc hc2 hc3 hn).1
      = outTile (w43 c M2 f2 (k0_off5 s) hc.2.2) (w43 c M3 f3 (k0_off5 s) hc.2.2) (w8 c M4 f4 (k0_off6 (w43 c M2 f2 (k0_off5 s) hc.2.2)) (k0_off6_inb _ hc3))
          (w8 c M4 f4 (k0_off7 (w43 c M2 f2 (k0_off5 s) hc.2.2)) (k0_off7_inb _ hc3)) (M6.view.read (Elt F) f6) (M10.view.read (Elt F) f10)
          (w8 c M5 f5 (k0_off4 (w43 c M2 f2 (k0_off2 s) hc.1)) hc2) (M9.view.read (Elt F) f9) := by
  rw [keepRun_out, read_writes_full, keep_sel c b i s M2 h2 M3 h3 M4 h4 M5 h5 M6 h6 M7 h7 M8 h8 M9 h9 M10 h10 f2 f3 f4 f5 f6 f7 f8,
    keep_mask c b i s M2 h2 M3 h3 M4 h4 M5 h5 M6 h6 M7 h7 M8 h8 M9 h9 M10 h10 f2 f3 f4 f5 f6 f7 f8 f9 f10 hc hc2 hc3,
    keep_y c b i s M2 h2 M3 h3 M4 h4 M5 h5 M6 h6 M7 h7 M8 h8 M9 h9 M10 h10 f2 f3 f4 f5 f6 f7 f8 f9 f10 hc hc2 hc3, read_full, read_full]
  rfl

theorem wideRun_out (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 f2 f3 f4 f5 f6 f7 f8 f9 hc hc2 hc3 hn).1.1 = M9.view.writes (Elt F) M9.view.junk [⟨Rect.unit (s := S256x1024) ![0, 0] S256x1024.size inb_S256x1024_S256x1024_0_0, wideRun.sl.v44 c s M2 M3 M4 M5 M6 M7 M8 M9 M10 f2 f3 f4 f5 f6 f7 f8 f9 hc hc2 hc3⟩] := by
  delta wideRun
  dsimp only
  exact rfl

theorem wide_mask (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2)) :
    wideRun.sl.v41 c s M2 M3 M4 f2 f3 f4 hc hc3
      = keepTile (w43 c M2 f2 (k0_off5 s) hc.2.2) (w43 c M3 f3 (k0_off5 s) hc.2.2) (w8 c M4 f4 (k0_off6 (w43 c M2 f2 (k0_off5 s) hc.2.2)) (k0_off6_inb _ hc3))
          (w8 c M4 f4 (k0_off7 (w43 c M2 f2 (k0_off5 s) hc.2.2)) (k0_off7_inb _ hc3)) := by
  exact rfl

theorem wide_y (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2)) :
    wideRun.sl.v20 c s M2 M5 M6 M7 M8 M10 f2 f5 f6 f7 f8 hc hc2
      = yTile (M6.view.readAt (Elt F) (Rect.unit (s := S256x4096) ![0, 0] S256x4096.size inb_S256x4096_S256x4096_0_0).toLoadRect f6)
          (M10.view.readAt (Elt F) (Rect.unit (s := S4096x1024) ![0, 0] S4096x1024.size inb_S4096x1024_S4096x1024_0_0).toLoadRect (M10.view.writes (Elt F) M10.view.junk (wideRun.sl.H10_64 c M7 M8 f7 f8))) (w8 c M5 f5 (k0_off4 (w43 c M2 f2 (k0_off2 s) hc.1)) hc2) := by
  exact rfl

theorem wide_sel (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2)) :
    wideRun.sl.v44 c s M2 M3 M4 M5 M6 M7 M8 M9 M10 f2 f3 f4 f5 f6 f7 f8 f9 hc hc2 hc3 = select (wideRun.sl.v41 c s M2 M3 M4 f2 f3 f4 hc hc3) (wideRun.sl.v20 c s M2 M5 M6 M7 M8 M10 f2 f5 f6 f7 f8 hc hc2) (M9.view.read (Elt F) f9) := by
  rw [← read_cast9]
  exact rfl

theorem wideRun_scratch (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 f2 f3 f4 f5 f6 f7 f8 f9 hc hc2 hc3 hn).1.2 = M10.view.writes (Elt F) M10.view.junk (wideRun.sl.H10_64 c M7 M8 f7 f8) := by
  delta wideRun
  dsimp only

theorem wide_scratch (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    M10.view.read (Elt F) (wideRun c b i s M2 h2 M3 h3 M4 h4 M5 h5 M6 h6 M7 h7 M8 h8 M9 h9 M10 h10 f2 f3 f4 f5 f6 f7 f8 f9 hc hc2 hc3 hn).1.2 = wide (M7.view.read (Elt F) f7) (M8.view.read (Elt F) f8) := by
  rw [wideRun_scratch]
  exact read_wide c M7 M8 M10 f7 f8 M10.view.junk

theorem wide_out (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    M9.view.read (Elt F) (wideRun c b i s M2 h2 M3 h3 M4 h4 M5 h5 M6 h6 M7 h7 M8 h8 M9 h9 M10 h10 f2 f3 f4 f5 f6 f7 f8 f9 hc hc2 hc3 hn).1.1
      = outTile (w43 c M2 f2 (k0_off5 s) hc.2.2) (w43 c M3 f3 (k0_off5 s) hc.2.2) (w8 c M4 f4 (k0_off6 (w43 c M2 f2 (k0_off5 s) hc.2.2)) (k0_off6_inb _ hc3))
          (w8 c M4 f4 (k0_off7 (w43 c M2 f2 (k0_off5 s) hc.2.2)) (k0_off7_inb _ hc3)) (M6.view.read (Elt F) f6)
          (wide (M7.view.read (Elt F) f7) (M8.view.read (Elt F) f8))
          (w8 c M5 f5 (k0_off4 (w43 c M2 f2 (k0_off2 s) hc.1)) hc2) (M9.view.read (Elt F) f9) := by
  rw [wideRun_out, read_writes_full, wide_sel c b i s M2 h2 M3 h3 M4 h4 M5 h5 M6 h6 M7 h7 M8 h8 M9 h9 M10 h10 f2 f3 f4 f5 f6 f7 f8,
    wide_mask c b i s M2 h2 M3 h3 M4 h4 M5 h5 M6 h6 M7 h7 M8 h8 M9 h9 M10 h10 f2 f3 f4 f5 f6 f7 f8 f9 hc hc2 hc3,
    wide_y c b i s M2 h2 M3 h3 M4 h4 M5 h5 M6 h6 M7 h7 M8 h8 M9 h9 M10 h10 f2 f3 f4 f5 f6 f7 f8 f9 hc hc2 hc3, read_full, read_full, read_wide]
  rfl

end Cert.Kernel.Down
-- ==== Proof.WorkWords.lean ====
/- The work list as the programs compute it, in 32-bit words: the array operations, and what they hold at an index. Both twins' host
   parts are these terms. -/
module

public import proofs.«01_k».proof.Proof.Work
public import Idealize.ShloMosaic.Lib.Routing.Words
public import Idealize.ShloMosaic.Lib.Routing.OpsSet
public import Idealize.ShloMosaic.Lib.PlanTiles.Rows

@[expose] public section

noncomputable section

namespace Cert.Down

open Idealize.ShloMosaic Idealize.ShloMosaic.ValueIdx Idealize.ShloMosaic.WordCmp
open Idealize.ShloMosaic.Routing (shape0 shape1 shape2 bc0 bcCol bcRows bcCols slice1 reduce_count cumsum1 gather_take1 pyDiv pyDiv_ap
  addi_ap subi_ap muli_ap iota1_ap ofNat32_sub)
open Idealize.ShloMosaic.PlanTiles (minsi_word)

/-- The side conditions of the work list's operations. -/
structure Sides : Prop where
  bc00 : shape0.BroadcastsInDim shape0 (![] : Fin 0 → Fin shape0.rank)
  win : (shape1 8).ReduceWindows (![8] : Fin 1 → Nat) ![1] ![7] ![0] (shape1 8)
  h0 : 0 < shape0.numel
  bc8 : shape0.BroadcastsInDim (shape1 8) (![] : Fin 0 → Fin (shape1 8).rank)
  bc43 : shape0.BroadcastsInDim (shape1 43) (![] : Fin 0 → Fin (shape1 43).rank)
  col : (shape1 43).BroadcastsInDim (shape2 43 1) (![0] : Fin 1 → Fin (shape2 43 1).rank)
  sl7 : (shape1 8).Slices ![0] (shape1 7)
  row : (shape1 7).BroadcastsInDim (shape2 1 7) (![1] : Fin 1 → Fin (shape2 1 7).rank)
  cols : (shape2 43 1).BroadcastsInDim (shape2 43 7) (![0, 1] : Fin 2 → Fin (shape2 43 7).rank)
  rows : (shape2 1 7).BroadcastsInDim (shape2 43 7) (![0, 1] : Fin 2 → Fin (shape2 43 7).rank)
  lt : 1 < 32
  red : (shape2 43 7).ReducesTo [1] (shape1 43)
  last : (shape1 8).Slices ![7] (shape1 1)
  cast : (shape1 1).ShapeCasts shape0
  wf : GatherDims.WF (shape1 8) (shape2 43 1) (shape1 43) [] [0] [] [0] [] 1 ![1]

section
variable (h : Sides) (g : IVec (shape1 8) 32)

/-- The take from a table over the groups. -/
def takeDims : GatherDims (shape1 8) (shape2 43 1) (shape1 43) where
  offsetDims := []
  collapsedSliceDims := [0]
  operandBatchingDims := []
  startIndicesBatchingDims := []
  startIndexMap := [0]
  indexVectorDim := 1
  sliceSizes := ![1]
  wf := h.wf

/-- The running sum over the groups. -/
def cumW (v : IVec (shape1 8) 32) : IVec (shape1 8) 32 :=
  Host.reduceWindow IntOp.addi ![8] ![1] ![7] ![0] v (broadcastInDim shape0 ![] h.bc00 (constantI shape0 32 0#32)) h.win h.h0
/-- A constant over the groups. -/
def c8 (v : BitVec 32) : IVec (shape1 8) 32 := broadcastInDim (shape1 8) ![] h.bc8 (constantI shape0 32 v)
/-- A constant over the steps. -/
def c43 (v : BitVec 32) : IVec (shape1 43) 32 := broadcastInDim (shape1 43) ![] h.bc43 (constantI shape0 32 v)
/-- The groups' ends. -/
def endsW : IVec (shape1 8) 32 := cumW h g
/-- The groups' first tiles. -/
def firstW : IVec (shape1 8) 32 := pyDiv h.bc8 (subi (endsW h g) g) (constantI shape0 32 256#32)
/-- The groups' numbers of tiles. -/
def tilesW : IVec (shape1 8) 32 :=
  select (cmpi .sgt g (c8 h 0#32))
    (addi (subi (pyDiv h.bc8 (subi (endsW h g) (c8 h 1#32)) (constantI shape0 32 256#32)) (firstW h g)) (c8 h 1#32)) (c8 h 0#32)
/-- The groups' last steps, exclusive. -/
def tendsW : IVec (shape1 8) 32 := cumW h (tilesW h g)
/-- The steps' experts. -/
def expertW : IVec (shape1 43) 32 :=
  Host.reduce IntOp.addi (extui 32 (cmpi .sge
      (broadcastInDim (shape2 43 7) ![0, 1] h.cols (broadcastInDim (shape2 43 1) ![0] h.col (iotaInDim (shape1 43) 32 0)))
      (broadcastInDim (shape2 43 7) ![0, 1] h.rows (broadcastInDim (shape2 1 7) ![1] h.row (extractStridedSlice (shape1 7) ![0] (tendsW h g) h.sl7)))) h.lt)
    (constantI shape0 32 0#32) h.red h.h0
/-- The steps' experts as take indices. -/
def pickW : IVec (shape2 43 1) 32 :=
  broadcastInDim (shape2 43 1) ![0] h.col (select (cmpi .slt (expertW h g) (c43 h 0#32)) (addi (expertW h g) (c43 h 8#32)) (expertW h g))
/-- The steps' tiles. -/
def tileW : IVec (shape1 43) 32 :=
  minsi (subi (addi (Host.gather (takeDims h) (firstW h g) (pickW h g)) (iotaInDim (shape1 43) 32 0))
    (Host.gather (takeDims h) (subi (tendsW h g) (tilesW h g)) (pickW h g))) (c43 h 35#32)
/-- The number of steps. -/
def stepsW : IVec shape0 32 := shapeCast shape0 (extractStridedSlice (shape1 1) ![7] (tendsW h g) h.last) h.cast

variable (γ : Nat → Nat) (hg : ∀ e : Fin 8, g (ix1 e) = BitVec.ofNat 32 (γ e.val)) (h8 : pre γ 8 = 9216)

theorem c8_ap (v : BitVec 32) (i : (shape1 8).Idx) : c8 h v i = v := by unfold c8; rw [bc0, constantI_at]
theorem c43_ap (v : BitVec 32) (i : (shape1 43).Idx) : c43 h v i = v := by unfold c43; rw [bc0, constantI_at]

theorem cumW_ap (v : IVec (shape1 8) 32) (f : Nat → Nat) (hv : ∀ i : Fin 8, v (ix1 i) = BitVec.ofNat 32 (f i.val)) (j : Fin 8) :
    cumW h v (ix1 j) = BitVec.ofNat 32 (pre f (j.val + 1)) := by
  unfold cumW
  exact cumsum1 rfl v f hv _ (by rw [bc0, constantI_at]) h.win h.h0 j

include hg in
theorem endsW_ap (e : Fin 8) : endsW h g (ix1 e) = BitVec.ofNat 32 (pre γ (e.val + 1)) := cumW_ap h g γ hg e

include h8 in
theorem pre_le {k : Nat} (hk : k ≤ 8) : pre γ k ≤ 9216 := h8 ▸ pre_mono γ hk

include hg h8 in
theorem firstW_ap (e : Fin 8) : firstW h g (ix1 e) = BitVec.ofNat 32 (firstTile γ e.val) := by
  have := pre_le γ h8 (Nat.le_of_lt e.isLt)
  unfold firstW firstTile
  refine pyDiv_ap h.bc8 _ _ _ ?_ rfl (by omega) (by decide) (by decide)
  rw [subi_ap, endsW_ap h g γ hg e, hg, ofNat32_sub (by rw [pre_succ]; omega), pre_succ, Nat.add_sub_cancel]

include hg h8 in
theorem tilesW_ap (e : Fin 8) : tilesW h g (ix1 e) = BitVec.ofNat 32 (tiles γ e.val) := by
  have h1 := pre_le γ h8 (show e.val + 1 ≤ 8 from e.isLt)
  have h2 := pre_succ γ e.val
  unfold tilesW tiles
  rw [select_at, cmpi_at, hg, c8_ap, show (0#32 : BitVec 32) = BitVec.ofNat 32 0 from rfl, cmpi_sgt_ofNat (w := 32) (by omega) (by decide), select_decide]
  by_cases hp : 0 < γ e.val
  · rw [if_pos hp, if_pos hp, addi_ap, subi_ap, firstW_ap h g γ hg h8, c8_ap,
      pyDiv_ap h.bc8 (subi (endsW h g) (c8 h 1#32)) (constantI shape0 32 256#32) (ix1 e) (a := pre γ (e.val + 1) - 1) (b := 256)
        (by rw [subi_ap, endsW_ap h g γ hg e, c8_ap]; exact ofNat32_sub (by omega)) rfl (by omega) (by decide) (by decide),
      ofNat32_sub (by unfold firstTile; omega)]
    exact BitVec.ofNat_add_ofNat _ _
  · rw [if_neg hp, if_neg hp]

include hg h8 in
theorem tendsW_ap (e : Fin 8) : tendsW h g (ix1 e) = BitVec.ofNat 32 (pre (tiles γ) (e.val + 1)) := cumW_ap h _ _ (tilesW_ap h g γ hg h8) e

include h8 in
theorem pre_tiles_lt {k : Nat} (hk : k ≤ 8) : pre (tiles γ) k ≤ 43 := le_trans (pre_mono _ hk) (steps_le γ h8)

include hg h8 in
theorem expertW_ap (s : Fin 43) : expertW h g (ix1 s) = BitVec.ofNat 32 (expertOf γ s.val) := by
  unfold expertW expertOf slot
  refine reduce_count (by decide) _ h.lt h.red h.h0 s _ fun q => ?_
  have h7 := pre_tiles_lt γ h8 (show q.val + 1 ≤ 8 by omega)
  rw [cmpi_at, bcRows, bcCols, slice1 0 _ _ _ (by omega), iota1_ap, tendsW_ap h g γ hg h8,
    cmpi_sge_ofNat (w := 32) (by omega) (by simp only [Nat.zero_add]; omega), ofBool_eq_one_iff, decide_eq_true_eq]
  simp only [Nat.zero_add]

include hg h8 in
theorem pickW_ap (s : Fin 43) : pickW h g (ix2 s (0 : Fin 1)) = BitVec.ofNat 32 (expertOf γ s.val) := by
  have := slot_lt (tiles γ) s.val
  unfold pickW
  rw [bcCol, select_at, cmpi_at, expertW_ap h g γ hg h8, c43_ap, show (0#32 : BitVec 32) = BitVec.ofNat 32 0 from rfl,
    cmpi_slt_ofNat (w := 32) (by unfold expertOf; omega) (by decide), select_decide, if_neg (Nat.not_lt_zero _)]

include hg h8 in
theorem tileW_ap (s : Fin 43) : tileW h g (ix1 s) = BitVec.ofNat 32 (tileOf γ s.val) := by
  have he := slot_lt (tiles γ) s.val
  have hle := slot_le (tiles γ) s.val
  have hp := pre_le γ h8 (Nat.le_of_lt he)
  have hs := pre_succ (tiles γ) (slot (tiles γ) s.val)
  have e1 := gather_take1 (takeDims h) rfl rfl rfl rfl (firstW h g) (pickW h g) s ⟨expertOf γ s.val, he⟩ (pickW_ap h g γ hg h8 s) (by decide)
  have e2 := gather_take1 (takeDims h) rfl rfl rfl rfl (subi (tendsW h g) (tilesW h g)) (pickW h g) s ⟨expertOf γ s.val, he⟩ (pickW_ap h g γ hg h8 s) (by decide)
  unfold tileW tileOf
  rw [minsi_apply, subi_ap, addi_ap, e1, e2, c43_ap, subi_ap, firstW_ap h g γ hg h8, tendsW_ap h g γ hg h8, tilesW_ap h g γ hg h8, iota1_ap,
    ofNat32_sub (by rw [pre_succ]; omega), BitVec.ofNat_add_ofNat]
  unfold expertOf firstTile
  rw [hs, Nat.add_sub_cancel, ofNat32_sub (by omega), show (35#32 : BitVec 32) = BitVec.ofNat 32 35 from rfl,
    minsi_word (by dsimp only; omega) (by decide), Nat.min_comm]

include hg h8 in
theorem stepsW_ap (i : shape0.Idx) : stepsW h g i = BitVec.ofNat 32 (steps γ) := by
  unfold stepsW
  rw [shapeCast_apply _ h.cast i (ix1 (0 : Fin 1)) (by rw [Shape.rowMajor_val_one]; exact (Nat.lt_one_iff.1 (shape0.rowMajor i).isLt).symm),
    slice1 7 _ _ _ (by decide), tendsW_ap h g γ hg h8]
  rfl

end

end Cert.Down
-- ==== Proof.KPlan.lean ====
/- What the tables say: the grid's points, the windows' blocks and the body's checked words, at tables that hold a work list. -/
module

public import proofs.«01_k».proof.Proof.Gen.Kernel
public import proofs.«01_k».proof.Proof.Gen.Kernel.Launch
public import proofs.«01_k».proof.Proof.WorkWords
public import Idealize.ShloMosaic.Lib.PairWhole

@[expose] public section

set_option maxRecDepth 4000

noncomputable section

namespace Cert.Kernel.Down

open Cert.Kernel Cert.Kernel.Gen
open Cert.Down
open Idealize.ShloMosaic Idealize.ShloMosaic.TcCoe Idealize.ShloMosaic.ValueIdx

variable {F : FTy → Type} [FloatOps F]

/-- The tables hold the work list of the group sizes `γ`. -/
structure Plan (pf : pre0.Contents (Elt F)) (γ : Nat → Nat) : Prop where
  h8 : pre γ 8 = 9216
  n : ∀ i, (pf 0 : IVec S_ 32) i = BitVec.ofNat 32 (steps γ)
  expert : ∀ s : Fin 43, (pf 1 : IVec S43 32) (ix1 s) = BitVec.ofNat 32 (expertOf γ s.val)
  tile : ∀ s : Fin 43, (pf 2 : IVec S43 32) (ix1 s) = BitVec.ofNat 32 (tileOf γ s.val)
  ends : ∀ e : Fin 8, (pf 3 : IVec S8 32) (ix1 e) = BitVec.ofNat 32 (pre γ (e.val + 1))

/-- A word as an index. -/
theorem cast_nat {n : Nat} (h : n < 2 ^ 32) : (Scalar.indexCast (BitVec.ofNat 32 n) : Index).toNat = n := by
  have : (Scalar.indexCast (BitVec.ofNat 32 n) : Index) = BitVec.ofNat 32 n := by
    unfold Scalar.indexCast; simp
  rw [this, BitVec.toNat_ofNat, Nat.mod_eq_of_lt h]

theorem toNat_nat {n : Nat} (h : n < 2 ^ 32) : (BitVec.ofNat 32 n).toNat = n := by
  rw [BitVec.toNat_ofNat, Nat.mod_eq_of_lt h]

section
variable {pf : pre0.Contents (Elt F)} {γ : Nat → Nat} (P : Plan pf γ)
include P

theorem steps_lt : steps γ ≤ 43 := steps_le γ P.h8

theorem dynb_one : dynb0 pf 1 = steps γ := by
  have := steps_lt P
  show ((pf 0 : IVec S_ 32) _).toNat = _
  rw [P.n, toNat_nat (by omega)]

theorem bound_zero : (grid0.at (dynb0 pf)).bound 0 = 6 := rfl
theorem bound_one : (grid0.at (dynb0 pf)).bound 1 = steps γ := by
  show grid0.boundAt (dynb0 pf) 1 = _
  rw [grid0.boundAt_of_dyn_true rfl, dynb_one P]

theorem grid_N : (grid0.at (dynb0 pf)).N = 6 * steps γ := by
  have h1 := bound_one P
  unfold Pipeline.Grid.N
  simp only [List.ofFn_succ, List.ofFn_zero, List.prod_cons, List.prod_nil]
  show (grid0.at (dynb0 pf)).bound 0 * ((grid0.at (dynb0 pf)).bound 1 * 1) = _
  rw [h1, bound_zero P, Nat.mul_one]

theorem coord_lt (i : (grid0.at (dynb0 pf)).Coords) : (i 1).val < steps γ := bound_one P ▸ (i 1).isLt
theorem coord_lt0 (i : (grid0.at (dynb0 pf)).Coords) : (i 0).val < 6 := (i 0).isLt

theorem coords_one (t : Fin (grid0.at (dynb0 pf)).N) : ((grid0.at (dynb0 pf)).coords t 1).val = t.val % steps γ := by
  rw [Pipeline.Grid.coords_val t 1 (S := 1) (B := steps γ) (by
    unfold Pipeline.Grid.stride
    simp only [List.ofFn_succ, List.ofFn_zero, List.prod_cons, List.prod_nil]; rfl) (bound_one P), Nat.div_one]

theorem coords_zero (t : Fin (grid0.at (dynb0 pf)).N) : ((grid0.at (dynb0 pf)).coords t 0).val = t.val / steps γ := by
  have ht : t.val < 6 * steps γ := t.isLt.trans_eq (grid_N P)
  rw [Pipeline.Grid.coords_val t 0 (S := steps γ) (B := 6) (by
    unfold Pipeline.Grid.stride
    simp only [List.ofFn_succ, List.ofFn_zero, List.prod_cons, List.prod_nil]
    show 1 * ((grid0.at (dynb0 pf)).bound 1 * 1) = _
    rw [bound_one P]; omega) rfl]
  exact Nat.mod_eq_of_lt (Nat.div_lt_of_lt_mul (by rw [Nat.mul_comm]; exact ht))

omit P in
theorem off_lt {n : Nat} (hn : n < 43) : ∀ a, (![n] : Fin 1 → Nat) a + 1 ≤ S43.size a := fun a => by
  obtain rfl := Fin.fin_one_eq_zero a; exact hn
omit P in
theorem off_ix {n : Nat} (hn : n < 43) : (fun a => ⟨(![n] : Fin 1 → Nat) a, off_lt hn a⟩ : S43.Idx) = ix1 ⟨n, hn⟩ := by
  funext a; obtain rfl := Fin.fin_one_eq_zero a; rfl
omit P in
theorem atD_at (f : IVec S43 32) {n : Nat} (hn : n < 43) :
    (if h : ∀ a, (![n] : Fin 1 → Nat) a + 1 ≤ S43.size a then f (fun a => ⟨(![n] : Fin 1 → Nat) a, h a⟩) else default) = f (ix1 ⟨n, hn⟩) := by
  rw [dif_pos (off_lt hn), off_ix]

theorem expert_at {n : Nat} (hn : n < steps γ) : pf.atD 1 ![n] = BitVec.ofNat 32 (expertOf γ n) :=
  (atD_at (pf 1 : IVec S43 32) (Nat.lt_of_lt_of_le hn (steps_lt P))).trans (P.expert _)
theorem tile_at {n : Nat} (hn : n < steps γ) : pf.atD 2 ![n] = BitVec.ofNat 32 (tileOf γ n) :=
  (atD_at (pf 2 : IVec S43 32) (Nat.lt_of_lt_of_le hn (steps_lt P))).trans (P.tile _)

theorem expert_lt (s : Nat) : expertOf γ s < 8 := slot_lt _ _
theorem tile_le (s : Nat) : tileOf γ s ≤ 35 := Nat.min_le_right _ _

theorem trans1 (i : (grid0.at (dynb0 pf)).Coords) : cc0_transform_1 pf (dynb0 pf) i = ![tileOf γ (i 1).val, 0] := by
  have h := coord_lt P i; have := steps_lt P; have := tile_le P (i 1).val
  unfold cc0_transform_1
  dsimp only
  rw [cast_nat (by omega), tile_at P h, toNat_nat (by omega)]; rfl
theorem trans2 (i : (grid0.at (dynb0 pf)).Coords) : cc0_transform_2 pf (dynb0 pf) i = ![expertOf γ (i 1).val, 0, (i 0).val] := by
  have h := coord_lt P i; have := steps_lt P; have := expert_lt P (i 1).val; have := coord_lt0 P i
  unfold cc0_transform_2
  dsimp only
  rw [cast_nat (by omega), expert_at P h, toNat_nat (by omega), toNat_nat (n := (i 0).val) (by omega)]; rfl
theorem trans3 (i : (grid0.at (dynb0 pf)).Coords) : cc0_transform_3 pf (dynb0 pf) i = ![expertOf γ (i 1).val, 0, (i 0).val] := by
  have h := coord_lt P i; have := steps_lt P; have := expert_lt P (i 1).val; have := coord_lt0 P i
  unfold cc0_transform_3
  dsimp only
  rw [cast_nat (by omega), expert_at P h, toNat_nat (by omega), toNat_nat (n := (i 0).val) (by omega)]; rfl
theorem trans4 (i : (grid0.at (dynb0 pf)).Coords) : cc0_transform_4 pf (dynb0 pf) i = ![tileOf γ (i 1).val, (i 0).val] := by
  have h := coord_lt P i; have := steps_lt P; have := tile_le P (i 1).val; have := coord_lt0 P i
  unfold cc0_transform_4
  dsimp only
  rw [cast_nat (by omega), tile_at P h, toNat_nat (by omega), toNat_nat (n := (i 0).val) (by omega)]

/-- The region's side condition holds of such tables. -/
theorem ok_of_plan : ok0 pf := by
  have hs := steps_lt P
  refine ⟨?_, fun i a => ?_, fun i => ⟨fun a => ?_, .inl rfl⟩, fun i => ⟨fun a => ?_, .inr ?_⟩, fun i => ⟨fun a => ?_, .inr ?_⟩,
    fun i => ⟨fun a => ?_, .inr ?_⟩, fun i => ⟨fun a => ?_, .inl rfl⟩⟩
  · unfold Pipeline.Grid.Admits; rw [grid_N P]; omega
  · have h := coord_lt P i
    obtain rfl := Fin.fin_one_eq_zero a
    show (Scalar.indexCast (BitVec.ofNat 32 (i 1).val) : Index).toNat + 1 ≤ 43
    rw [cast_nat (by omega)]; omega
  · obtain rfl := Fin.fin_one_eq_zero a; exact (show (0 + 1) * 8 ≤ 8 by decide)
  · have h := coord_lt P i; have := tile_le P (i 1).val
    rw [trans1 P i]
    fin_cases a
    · show (tileOf γ (i 1).val + 1) * 256 ≤ 9216; omega
    · exact (show (0 + 1) * 4096 ≤ 4096 by decide)
  · refine (Rect.packedRows_of_rowAxis _ _ (by decide) ?_ (show 4 ∣ 256 by decide) rfl).wholeWords
    show 4 ∣ cc0_transform_1 pf (dynb0 pf) i 0 * 256
    exact Dvd.dvd.mul_left (by decide) _
  · have h := coord_lt P i; have := expert_lt P (i 1).val; have := coord_lt0 P i
    rw [trans2 P i]
    fin_cases a
    · show (expertOf γ (i 1).val + 1) * 1 ≤ 8; omega
    · exact (show (0 + 1) * 2048 ≤ 2048 by decide)
    · show ((i 0).val + 1) * 1024 ≤ 6144; omega
  · refine (Rect.packedRows_of_rowAxis _ _ (by decide) ?_ (show 4 ∣ 2048 by decide) rfl).wholeWords
    show 4 ∣ cc0_transform_2 pf (dynb0 pf) i 1 * 2048
    exact Dvd.dvd.mul_left (by decide) _
  · have h := coord_lt P i; have := expert_lt P (i 1).val; have := coord_lt0 P i
    rw [trans3 P i]
    fin_cases a
    · show (expertOf γ (i 1).val + 1) * 1 ≤ 8; omega
    · exact (show (0 + 1) * 32 ≤ 32 by decide)
    · show ((i 0).val + 1) * 1024 ≤ 6144; omega
  · refine (Rect.packedRows_of_rowAxis _ _ (by decide) ?_ (show 2 ∣ 32 by decide) rfl).wholeWords
    show 2 ∣ cc0_transform_3 pf (dynb0 pf) i 1 * 32
    exact Dvd.dvd.mul_left (by decide) _
  · have h := coord_lt P i; have := tile_le P (i 1).val; have := coord_lt0 P i
    rw [trans4 P i]
    fin_cases a
    · show (tileOf γ (i 1).val + 1) * 256 ≤ 9216; omega
    · show ((i 0).val + 1) * 1024 ≤ 6144; omega

end

/-- A step's number passes the body's first check. -/
theorem chk1 {n : Nat} (h : n < 43) : k0_chk1 (BitVec.ofNat 32 n) := by
  refine ⟨fun a => ?_, fun a => ?_, fun a => ?_⟩ <;> obtain rfl := Fin.fin_one_eq_zero a
  · show (Scalar.indexCast (BitVec.ofNat 32 n) : Index).toNat + 1 ≤ 43
    rw [cast_nat (by omega)]; omega
  · show (Scalar.indexCast (Scalar.maxsi (Scalar.subi (BitVec.ofNat 32 n) 1#32) 0#32) : Index).toNat + 1 ≤ 43
    have : Scalar.maxsi (Scalar.subi (BitVec.ofNat 32 n) 1#32) 0#32 = BitVec.ofNat 32 (n - 1) := Routing.maxsi_pred (by omega)
    rw [this, cast_nat (by omega)]; omega
  · show (Scalar.indexCast (BitVec.ofNat 32 n) : Index).toNat + 1 ≤ 43
    rw [cast_nat (by omega)]; omega

/-- A group's number passes the body's other checks. -/
theorem chk2 {e : Nat} (h : e < 8) : k0_chk2 (BitVec.ofNat 32 e) := fun a => by
  obtain rfl := Fin.fin_one_eq_zero a
  show (Scalar.indexCast (BitVec.ofNat 32 e) : Index).toNat + 1 ≤ 8
  rw [cast_nat (by omega)]; omega
theorem chk3 {e : Nat} (h : e < 8) : k0_chk3 (BitVec.ofNat 32 e) := by
  refine ⟨fun a => ?_, fun a => ?_⟩ <;> obtain rfl := Fin.fin_one_eq_zero a
  · show (Scalar.indexCast (Scalar.maxsi (Scalar.subi (BitVec.ofNat 32 e) 1#32) 0#32) : Index).toNat + 1 ≤ 8
    have : Scalar.maxsi (Scalar.subi (BitVec.ofNat 32 e) 1#32) 0#32 = BitVec.ofNat 32 (e - 1) := Routing.maxsi_pred (by omega)
    rw [this, cast_nat (by omega)]; omega
  · show (Scalar.indexCast (BitVec.ofNat 32 e) : Index).toNat + 1 ≤ 8
    rw [cast_nat (by omega)]; omega

end Cert.Kernel.Down
-- ==== Proof.KStep.lean ====
/- One step's words and blocks by numbers: the words the body reads off the tables, the rows a step keeps, the blocks the windows
   hold. -/
module

public import proofs.«01_k».proof.Proof.KOut
public import proofs.«01_k».proof.Proof.KPlan

@[expose] public section

set_option maxRecDepth 4000

noncomputable section

namespace Cert.Kernel.Down

open Cert.Kernel Cert.Kernel.Gen
open Cert.Down
open Idealize.ShloMosaic Idealize.ShloMosaic.TcCoe Idealize.ShloMosaic.ValueIdx

variable {F : FTy → Type} [FloatOps F]

/-! ## The words -/

theorem off_step {n : Nat} (hn : n < 43) : k0_off2 (BitVec.ofNat 32 n) = ![n] := by
  show ![(Scalar.indexCast (BitVec.ofNat 32 n) : Index).toNat] = _
  rw [cast_nat (by omega)]
theorem off_step5 {n : Nat} (hn : n < 43) : k0_off5 (BitVec.ofNat 32 n) = ![n] := by
  show ![(Scalar.indexCast (BitVec.ofNat 32 n) : Index).toNat] = _
  rw [cast_nat (by omega)]
theorem off_back {n : Nat} (hn : n < 43) : k0_off3 (BitVec.ofNat 32 n) = ![n - 1] := by
  show ![(Scalar.indexCast (Scalar.maxsi (Scalar.subi (BitVec.ofNat 32 n) 1#32) 0#32) : Index).toNat] = _
  have : Scalar.maxsi (Scalar.subi (BitVec.ofNat 32 n) 1#32) 0#32 = BitVec.ofNat 32 (n - 1) := Routing.maxsi_pred (by omega)
  rw [this, cast_nat (by omega)]
theorem off_group {e : Nat} (he : e < 8) : k0_off4 (BitVec.ofNat 32 e) = ![e] := by
  show ![(Scalar.indexCast (BitVec.ofNat 32 e) : Index).toNat] = _
  rw [cast_nat (by omega)]
theorem off_group7 {e : Nat} (he : e < 8) : k0_off7 (BitVec.ofNat 32 e) = ![e] := by
  show ![(Scalar.indexCast (BitVec.ofNat 32 e) : Index).toNat] = _
  rw [cast_nat (by omega)]
theorem off_group_back {e : Nat} (he : e < 8) : k0_off6 (BitVec.ofNat 32 e) = ![e - 1] := by
  show ![(Scalar.indexCast (Scalar.maxsi (Scalar.subi (BitVec.ofNat 32 e) 1#32) 0#32) : Index).toNat] = _
  have : Scalar.maxsi (Scalar.subi (BitVec.ofNat 32 e) 1#32) 0#32 = BitVec.ofNat 32 (e - 1) := Routing.maxsi_pred (by omega)
  rw [this, cast_nat (by omega)]

/-- A word of a 43-word table at a numbered offset. -/
theorem w43_at (c : Dev nD) {e : EltTy} (M : Memref sig .tc .smem S43 e) (f : Bf (F := F) c M) (off : Fin 1 → Nat)
    (h : ∀ a, off a + S1.size a ≤ S43.size a) {n : Nat} (hn : n < 43) (ho : off = ![n]) :
    w43 c M f off h = M.view.read (Elt F) f (ix1 ⟨n, hn⟩) := by
  subst ho
  unfold w43
  rw [View.readAt_apply]
  refine congrArg _ (funext fun a => Fin.ext ?_)
  obtain rfl := Fin.fin_one_eq_zero a
  show n + 1 * 0 = n
  omega

/-- A word of an 8-word buffer at a numbered offset. -/
theorem w8_at (c : Dev nD) {e : EltTy} (M : Memref sig .tc .smem S8 e) (f : Bf (F := F) c M) (off : Fin 1 → Nat)
    (h : ∀ a, off a + S1.size a ≤ S8.size a) {n : Nat} (hn : n < 8) (ho : off = ![n]) :
    w8 c M f off h = M.view.read (Elt F) f (ix1 ⟨n, hn⟩) := by
  subst ho
  unfold w8
  rw [View.readAt_apply]
  refine congrArg _ (funext fun a => Fin.ext ?_)
  obtain rfl := Fin.fin_one_eq_zero a
  show n + 1 * 0 = n
  omega

/-- The widening runs at the first step and where the expert changes. -/
theorem cond_iff {n e p : Nat} (hn : n < 43) (he : e < 8) (hp : p < 8) :
    k0_cond (BitVec.ofNat 32 n) (BitVec.ofNat 32 e) (BitVec.ofNat 32 p) ↔ (n = 0 ∨ e ≠ p) := by
  have h1 : Scalar.cmpi .eq (BitVec.ofNat 32 n) 0#32 = if n = 0 then 1#1 else 0#1 := by
    show BitVec.ofBool (BitVec.ofNat 32 n == 0#32) = _
    by_cases h : n = 0
    · subst h; rfl
    · rw [if_neg h, show (BitVec.ofNat 32 n == 0#32) = false from by
        rw [beq_eq_false_iff_ne]; exact Routing.ofNat32_ne_zero (by omega) (by omega)]; rfl
  have h2 : Scalar.cmpi .ne (BitVec.ofNat 32 e) (BitVec.ofNat 32 p) = if e ≠ p then 1#1 else 0#1 := by
    show BitVec.ofBool (BitVec.ofNat 32 e != BitVec.ofNat 32 p) = _
    by_cases h : e = p
    · subst h; simp
    · rw [if_pos h, show (BitVec.ofNat 32 e != BitVec.ofNat 32 p) = true from by
        rw [bne_iff_ne]; intro h'; have := congrArg BitVec.toNat h'
        rw [toNat_nat (by omega), toNat_nat (by omega)] at this; exact h this]; rfl
  unfold k0_cond
  rw [h1, h2]
  by_cases ha : n = 0 <;> by_cases hb : e ≠ p <;> simp only [ha, hb, if_true, if_false, true_or, or_true, or_false, not_true, not_false_iff, ite_true, ite_false, ne_eq, iff_true, iff_false] <;> decide

/-! ## The rows a step keeps -/

theorem keep_at {e t : Nat} (lo hi : Nat) (he : e < 8) (ht : t ≤ 35) (hlo : lo ≤ 9216) (hhi : hi ≤ 9216) (h0 : e = 0 → lo = 0) (st : BitVec 32)
    (hst : e ≠ 0 → st = BitVec.ofNat 32 lo) (p : Fin 256) (q : Fin 1024) :
    keepTile (BitVec.ofNat 32 e) (BitVec.ofNat 32 t) st (BitVec.ofNat 32 hi) (ix2 p q)
      = if lo ≤ 256 * t + p.val ∧ 256 * t + p.val < hi then 1#1 else 0#1 := by
  have hp := p.isLt
  have hr : (addi (broadcast S256x1024 (Scalar.muli (BitVec.ofNat 32 t) 256#32)) (iota .tc S256x1024 32 [0]) : IVec S256x1024 32) (ix2 p q)
      = BitVec.ofNat 32 (256 * t + p.val) := by
    show BitVec.ofNat 32 t * 256#32 + BitVec.ofNat 32 (0 * 256 + p.val) = _
    apply BitVec.eq_of_toNat_eq
    simp only [BitVec.toNat_add, BitVec.toNat_mul, BitVec.toNat_ofNat]
    omega
  have hs : Scalar.select (Scalar.cmpi .eq (BitVec.ofNat 32 e) 0#32) 0#32 st = BitVec.ofNat 32 lo := by
    by_cases h : e = 0
    · rw [h0 h]; subst h; rfl
    · rw [hst h]
      show (if BitVec.ofBool (BitVec.ofNat 32 e == 0#32) = 1#1 then 0#32 else BitVec.ofNat 32 lo) = _
      rw [show (BitVec.ofNat 32 e == 0#32) = false from by rw [beq_eq_false_iff_ne]; exact Routing.ofNat32_ne_zero (by omega) (by omega)]
      rfl
  show (BitVec.ofBool ((broadcast S256x1024 (Scalar.select (Scalar.cmpi .eq (BitVec.ofNat 32 e) 0#32) 0#32 st) : IVec S256x1024 32) (ix2 p q)
      |>.sle ((addi (broadcast S256x1024 (Scalar.muli (BitVec.ofNat 32 t) 256#32)) (iota .tc S256x1024 32 [0]) : IVec S256x1024 32) (ix2 p q))))
    &&& BitVec.ofBool (((addi (broadcast S256x1024 (Scalar.muli (BitVec.ofNat 32 t) 256#32)) (iota .tc S256x1024 32 [0]) : IVec S256x1024 32) (ix2 p q)).slt (BitVec.ofNat 32 hi)) = _
  rw [hr]
  show BitVec.ofBool ((Scalar.select (Scalar.cmpi .eq (BitVec.ofNat 32 e) 0#32) 0#32 st).sle _) &&& _ = _
  rw [hs, Routing.sle_ofNat32 (by omega) (by omega), Routing.slt_ofNat32 (by omega) (by omega)]
  by_cases h1 : lo ≤ 256 * t + p.val <;> by_cases h2 : 256 * t + p.val < hi <;> simp [h1, h2]

/-! ## The blocks -/

/-- Row block `k` of the codes. -/
def aAt (X : Vec F S9216x4096 .fp8e4m3) (k : Fin 36) : Vec F S256x4096 .fp8e4m3 :=
  fun j => X (ix2 ⟨256 * k.val + (j 0).val, by have h : (j 0).val < 256 := (j 0).isLt; have := k.isLt; omega⟩ (j 1))
/-- Column block `n` of expert `e`'s weights. -/
def wAt (X : Vec F S8x2048x6144 .i8) (e : Fin 8) (n : Fin 6) : Vec F S1x2048x1024 .i8 :=
  fun j => X (ix3 e (j 1) ⟨1024 * n.val + (j 2).val, by have h : (j 2).val < 1024 := (j 2).isLt; have := n.isLt; omega⟩)
/-- Column block `n` of expert `e`'s scales. -/
def uAt (X : Vec F S8x32x6144 .bf16) (e : Fin 8) (n : Fin 6) : Vec F S1x32x1024 .bf16 :=
  fun j => X (ix3 e (j 1) ⟨1024 * n.val + (j 2).val, by have h : (j 2).val < 1024 := (j 2).isLt; have := n.isLt; omega⟩)

/-- Column block `n` of expert `e`'s widened weight. -/
def wideAt (X2 : Vec F S8x2048x6144 .i8) (X3 : Vec F S8x32x6144 .bf16) (e : Fin 8) (n : Fin 6) : Vec F S4096x1024 .bf16 :=
  wide (wAt X2 e n) (uAt X3 e n)

/-- The product of row block `k` by column block `n` of expert `e`'s weight, scaled. -/
def yAt (X0 : Vec F S8 .f32) (X1 : Vec F S9216x4096 .fp8e4m3) (X2 : Vec F S8x2048x6144 .i8) (X3 : Vec F S8x32x6144 .bf16)
    (e : Fin 8) (k : Fin 36) (n : Fin 6) : Vec F S256x1024 .f32 :=
  yTile (aAt X1 k) (wideAt X2 X3 e n) (X0 (ix1 e))

/-- What a step of expert `e` on the rows `lo` to `hi` leaves in the output window, by its cells. -/
theorem out_at {e t : Nat} (lo hi : Nat) (he : e < 8) (ht : t ≤ 35) (hlo : lo ≤ 9216) (hhi : hi ≤ 9216) (h0 : e = 0 → lo = 0) (st : BitVec 32)
    (hst : e ≠ 0 → st = BitVec.ofNat 32 lo) (a : Vec F S256x4096 .fp8e4m3) (w : Vec F S4096x1024 .bf16) (act : F .f32) (old : Vec F S256x1024 .f32)
    (p : Fin 256) (q : Fin 1024) :
    outTile (BitVec.ofNat 32 e) (BitVec.ofNat 32 t) st (BitVec.ofNat 32 hi) a w act old (ix2 p q)
      = if lo ≤ 256 * t + p.val ∧ 256 * t + p.val < hi then yTile a w act (ix2 p q) else old (ix2 p q) := by
  show (if keepTile (BitVec.ofNat 32 e) (BitVec.ofNat 32 t) st (BitVec.ofNat 32 hi) (ix2 p q) = 1#1 then _ else _) = _
  rw [keep_at lo hi he ht hlo hhi h0 st hst]
  by_cases h : lo ≤ 256 * t + p.val ∧ 256 * t + p.val < hi
  · rw [if_pos h, if_pos h, if_pos rfl]
  · rw [if_neg h, if_neg h, if_neg (by decide)]

end Cert.Kernel.Down
-- ==== Proof.KStepRun.lean ====
/- One step of the kernel's body, run: what it leaves in the output window and in the scratch. -/
module

public import proofs.«01_k».proof.Proof.KBody
public import proofs.«01_k».proof.Proof.KWide
public import proofs.«01_k».proof.Proof.KStep

@[expose] public section

set_option maxRecDepth 4000

noncomputable section

namespace Cert.Kernel.Down

open Cert.Kernel Cert.Kernel.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- The tables' memrefs and the scratch's. -/
abbrev mE : Memref sig .tc .smem S43 .i32 := Memref.whole main_v21
abbrev mT : Memref sig .tc .smem S43 .i32 := Memref.whole main_v40
abbrev mS : Memref sig .tc .smem S8 .i32 := Memref.whole main_v0
abbrev mW : Memref sig .tc .vmem S4096x1024 .bf16 := Memref.whole cc0_scratch0

variable {pf : pre0.Contents (Elt F)} {γ : Nat → Nat} (P : Plan pf γ)
include P

section
variable (c : Dev nD) {s : Nat} (hs : s < steps γ)
include hs

theorem lt43 : s < 43 := Nat.lt_of_lt_of_le hs (steps_lt P)

theorem word_expert (h) : w43 c mE (pf 1) (k0_off2 (BitVec.ofNat 32 s)) h = BitVec.ofNat 32 (expertOf γ s) := by
  exact (w43_at c mE (pf 1) _ h (lt43 P hs) (off_step (lt43 P hs))).trans (P.expert _)
theorem word_expert5 (h) : w43 c mE (pf 1) (k0_off5 (BitVec.ofNat 32 s)) h = BitVec.ofNat 32 (expertOf γ s) := by
  exact (w43_at c mE (pf 1) _ h (lt43 P hs) (off_step5 (lt43 P hs))).trans (P.expert _)
theorem word_back (h) : w43 c mE (pf 1) (k0_off3 (BitVec.ofNat 32 s)) h = BitVec.ofNat 32 (expertOf γ (s - 1)) := by
  have := lt43 P hs
  exact (w43_at c mE (pf 1) _ h (n := s - 1) (by omega) (off_back (lt43 P hs))).trans (P.expert _)
theorem word_tile (h) : w43 c mT (pf 2) (k0_off5 (BitVec.ofNat 32 s)) h = BitVec.ofNat 32 (tileOf γ s) := by
  exact (w43_at c mT (pf 2) _ h (lt43 P hs) (off_step5 (lt43 P hs))).trans (P.tile _)
omit hs in
theorem word_end {e : BitVec 32} (he : e = BitVec.ofNat 32 (expertOf γ s)) (h) :
    w8 c mS (pf 3) (k0_off7 e) h = BitVec.ofNat 32 (pre γ (expertOf γ s + 1)) := by
  subst he
  exact (w8_at c mS (pf 3) _ h (expert_lt P s) (off_group7 (expert_lt P s))).trans (P.ends _)
omit hs in
theorem word_start {e : BitVec 32} (he : e = BitVec.ofNat 32 (expertOf γ s)) (h0 : expertOf γ s ≠ 0) (h) :
    w8 c mS (pf 3) (k0_off6 e) h = BitVec.ofNat 32 (pre γ (expertOf γ s)) := by
  subst he
  have h8 := expert_lt P s
  refine ((w8_at c mS (pf 3) _ h (n := expertOf γ s - 1) (by omega) (off_group_back (expert_lt P s))).trans (P.ends _)).trans ?_
  show BitVec.ofNat 32 (pre γ (expertOf γ s - 1 + 1)) = _
  rw [Nat.sub_add_cancel (by omega)]
omit P hs in
theorem word_act (M5 : Memref sig .tc .smem S8 .f32) (f5 : Bf (F := F) c M5) {e : BitVec 32} {k : Nat} (hk : k < 8) (he : e = BitVec.ofNat 32 k) (h) :
    w8 c M5 f5 (k0_off4 e) h = M5.view.read (Elt F) f5 (ix1 ⟨k, hk⟩) := by
  subst he
  exact w8_at c M5 f5 _ h hk (off_group hk)

end

/-- What a step leaves in the output window, by its cells. -/
def Cells (s : Nat) (a : Vec F S256x4096 .fp8e4m3) (w : Vec F S4096x1024 .bf16) (act : Vec F S8 .f32) (old new : Vec F S256x1024 .f32) : Prop :=
  ∀ (p : Fin 256) (q : Fin 1024), new (ix2 p q)
    = if pre γ (expertOf γ s) ≤ 256 * tileOf γ s + p.val ∧ 256 * tileOf γ s + p.val < pre γ (expertOf γ s + 1)
      then yTile a w (act (ix1 ⟨expertOf γ s, slot_lt _ _⟩)) (ix2 p q) else old (ix2 p q)

theorem cells_of_out {s : Nat} (c : Dev nD) {x y st en : BitVec 32} (hx : x = BitVec.ofNat 32 (expertOf γ s)) (hy : y = BitVec.ofNat 32 (tileOf γ s))
    (hst : expertOf γ s ≠ 0 → st = BitVec.ofNat 32 (pre γ (expertOf γ s))) (hen : en = BitVec.ofNat 32 (pre γ (expertOf γ s + 1)))
    (a : Vec F S256x4096 .fp8e4m3) (w : Vec F S4096x1024 .bf16) (act : Vec F S8 .f32) {ac : F .f32} (ha : ac = act (ix1 ⟨expertOf γ s, slot_lt _ _⟩))
    (old : Vec F S256x1024 .f32) : Cells (γ := γ) s a w act old (outTile x y st en a w ac old) := fun p q => by
  have h8 := expert_lt P s
  subst hx hy hen ha
  exact out_at (pre γ (expertOf γ s)) (pre γ (expertOf γ s + 1)) h8 (tile_le P s) (pre_le γ P.h8 (by omega)) (pre_le γ P.h8 (by omega))
    (fun h => by rw [h]; rfl) st hst a w _ old p q

set_option maxHeartbeats 1000000 in
theorem step_run (c : Dev nD) (b : grid0.Bounds) (i : grid0.Static) {s : Nat} (hs : s < steps γ)
    (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (f5 : Bf (F := F) c M5) (f6 : Bf (F := F) c M6) (f7 : Bf (F := F) c M7) (f8 : Bf (F := F) c M8) (f9 : Bf (F := F) c M9) (f10 : Bf (F := F) c mW)
    (hw : s ≠ 0 → expertOf γ s = expertOf γ (s - 1) → mW.view.read (Elt F) f10 = wide (M7.view.read (Elt F) f7) (M8.view.read (Elt F) f8))
    (hE : mE.IsWhole) (hT : mT.IsWhole) (hS : mS.IsWhole) (hW : mW.IsWhole)
    (E : Set ℕ) (Q : PUnit → sProp 𝕄) :
    iprop(ptH c mE (pf 1) ∗ ptH c mT (pf 2) ∗ ptH c mS (pf 3) ∗ pt c M5 f5 ∗ pt c M6 f6 ∗ pt c M7 f7 ∗ pt c M8 f8 ∗ pt c M9 f9 ∗ pt c mW f10
        ∗ (iprop(ptH c mE (pf 1) ∗ ptH c mT (pf 2) ∗ ptH c mS (pf 3) ∗ pt c M5 f5 ∗ pt c M6 f6 ∗ pt c M7 f7 ∗ pt c M8 f8
              ∗ (∃ g9 : Bf (F := F) c M9, ⌜Cells (γ := γ) s (M6.view.read (Elt F) f6) (wide (M7.view.read (Elt F) f7) (M8.view.read (Elt F) f8))
                    (M5.view.read (Elt F) f5) (M9.view.read (Elt F) f9) (M9.view.read (Elt F) g9)⌝ ∗ pt c M9 g9)
              ∗ (∃ g10 : Bf (F := F) c mW, ⌜mW.view.read (Elt F) g10 = wide (M7.view.read (Elt F) f7) (M8.view.read (Elt F) f8)⌝ ∗ pt c mW g10)) -∗ Q ⟨⟩))
      ⊢ wp frame (wpE (defs₀ (F := F)) Variants.none c none) E
          (cc0_down b i (BitVec.ofNat 32 s) mE hE mT hT mS hS M5 h5 M6 h6 M7 h7 M8 h8 M9 h9 mW hW) Q := by
  have hc := chk1 (lt43 P hs)
  have e2 := word_expert P c hs hc.1
  have e3 := word_back P c hs hc.2.1
  have e5 := word_expert5 P c hs hc.2.2
  have hc2 : k0_chk2 (w43 c mE (pf 1) (k0_off2 (BitVec.ofNat 32 s)) hc.1) := e2 ▸ chk2 (expert_lt P s)
  have hc3 : k0_chk3 (w43 c mE (pf 1) (k0_off5 (BitVec.ofNat 32 s)) hc.2.2) := e5 ▸ chk3 (expert_lt P s)
  by_cases hn : k0_cond (BitVec.ofNat 32 s) (w43 c mE (pf 1) (k0_off2 (BitVec.ofNat 32 s)) hc.1) (w43 c mE (pf 1) (k0_off3 (BitVec.ofNat 32 s)) hc.2.1)
  · have ho := wide_out c b i (BitVec.ofNat 32 s) mE hE mT hT mS hS M5 h5 M6 h6 M7 h7 M8 h8 M9 h9 mW hW (pf 1) (pf 2) (pf 3) f5 f6 f7 f8 f9 hc hc2 hc3 hn
    have hsc := wide_scratch c b i (BitVec.ofNat 32 s) mE hE mT hT mS hS M5 h5 M6 h6 M7 h7 M8 h8 M9 h9 mW hW (pf 1) (pf 2) (pf 3) f5 f6 f7 f8 f9 hc hc2 hc3 hn
    have hcell := cells_of_out P c e5 (word_tile P c hs hc.2.2) (fun h => word_start P c e5 h (k0_off6_inb _ hc3)) (word_end P c e5 (k0_off7_inb _ hc3))
      (M6.view.read (Elt F) f6) (wide (M7.view.read (Elt F) f7) (M8.view.read (Elt F) f8)) (M5.view.read (Elt F) f5) (word_act c M5 f5 (expert_lt P s) e2 hc2) (M9.view.read (Elt F) f9)
    rw [← ho] at hcell
    generalize hrun : wideRun c b i (BitVec.ofNat 32 s) mE hE mT hT mS hS M5 h5 M6 h6 M7 h7 M8 h8 M9 h9 mW hW (pf 1) (pf 2) (pf 3) f5 f6 f7 f8 f9 hc hc2 hc3 hn = W at *
    iintro ⟨HE, HT, HS, H5, H6, H7, H8, H9, HW, Hk⟩
    iapply (W.2 f10 E Q)
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [HW]; · iexact HW
    iintro ⟨HE, HT, HS, H5, H6, H7, H8, H9, HW⟩
    iapply Hk
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]
    · iexists _; isplitr; swap; (· iexact H9); ipureintro; exact hcell
    · iexists _; isplitr; swap; (· iexact HW); ipureintro; exact hsc
  · have hnn := hn
    rw [e2, e3, cond_iff (lt43 P hs) (expert_lt P s) (expert_lt P (s - 1))] at hnn
    have hwd := hw (fun h => hnn (.inl h)) (Classical.byContradiction fun h => hnn (.inr h))
    have ho := keep_out c b i (BitVec.ofNat 32 s) mE hE mT hT mS hS M5 h5 M6 h6 M7 h7 M8 h8 M9 h9 mW hW (pf 1) (pf 2) (pf 3) f5 f6 f7 f8 f9 f10 hc hc2 hc3 hn
    rw [hwd] at ho
    have hcell := cells_of_out P c e5 (word_tile P c hs hc.2.2) (fun h => word_start P c e5 h (k0_off6_inb _ hc3)) (word_end P c e5 (k0_off7_inb _ hc3))
      (M6.view.read (Elt F) f6) (wide (M7.view.read (Elt F) f7) (M8.view.read (Elt F) f8)) (M5.view.read (Elt F) f5) (word_act c M5 f5 (expert_lt P s) e2 hc2) (M9.view.read (Elt F) f9)
    rw [← ho] at hcell
    generalize hrun : keepRun c b i (BitVec.ofNat 32 s) mE hE mT hT mS hS M5 h5 M6 h6 M7 h7 M8 h8 M9 h9 mW hW (pf 1) (pf 2) (pf 3) f5 f6 f7 f8 f9 f10 hc hc2 hc3 hn = W at *
    iintro ⟨HE, HT, HS, H5, H6, H7, H8, H9, HW, Hk⟩
    iapply (W.2 E Q)
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [HW]; · iexact HW
    iintro ⟨HE, HT, HS, H5, H6, H7, H8, H9, HW⟩
    iapply Hk
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]
    · iexists _; isplitr; swap; (· iexact H9); ipureintro; exact hcell
    · iexists _; isplitr; swap; (· iexact HW); ipureintro; exact hwd

end Cert.Kernel.Down
-- ==== Proof.KDat.lean ====
/- The pipeline's proof data of the down projection: what each step leaves in the output window, the scratch carried from step to
   step, and the body's obligation. -/
module

public import proofs.«01_k».proof.Proof.KStepRun
public import proofs.«01_k».proof.Proof.Gen.Kernel.Skeleton
public import Idealize.ShloMosaic.Lib.Pipeline.Frame
public import Idealize.ShloMosaic.Lib.Pipeline.FrameBody

@[expose] public section

set_option maxRecDepth 4000

noncomputable section

namespace Cert.Kernel.Down

open Cert.Kernel Cert.Kernel.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

instance : ∀ e, Nonempty (Elt F e) := fun _ => inferInstance

variable {pf : pre0.Contents (Elt F)} {γ : Nat → Nat} (P : Plan pf γ)

/-- The tables as the region's parameter. -/
def adm : (p : Fin 1) → (pcfgs (F := F) p).Adm := fun _ => ⟨pf, ok_of_plan P⟩

/-- The pipeline at such tables. -/
abbrev cfgP : Pipeline.Cfg sig Λ₀ := Pipeline.pin (pcfgs (F := F)) (adm P) 0

variable (V : (c : Dev nD) → (b : Ref sig .tc) → Buf (Elt F) ((c.tc : Thread nD τ).loc b)) (c : Dev nD)

abbrev X0 : Vec F S8 .f32 := V c main_arg1
abbrev X1 : Vec F S9216x4096 .fp8e4m3 := V c main_arg2
abbrev X2 : Vec F S8x2048x6144 .i8 := V c main_arg3
abbrev X3 : Vec F S8x32x6144 .bf16 := V c main_arg4

/-- A step's expert, row block and column block as bounded numbers. -/
def eF (γ : Nat → Nat) (s : Nat) : Fin 8 := ⟨expertOf γ s, slot_lt _ _⟩
def kF (γ : Nat → Nat) (s : Nat) : Fin 36 := ⟨tileOf γ s, Nat.lt_succ_of_le (Nat.min_le_right _ _)⟩
def nF (n : Nat) : Fin 6 := ⟨n % 6, Nat.mod_lt _ (by decide)⟩

/-- What the step at point `t` leaves in the output window it found at `Y`. -/
def Leave (γ : Nat → Nat) (t : Nat) (Y X : Vec F S256x1024 .f32) : Prop :=
  Cells (γ := γ) (t % steps γ) (aAt (X1 V c) (kF γ (t % steps γ))) (wideAt (X2 V c) (X3 V c) (eF γ (t % steps γ)) (nF (t / steps γ))) (X0 V c) Y X

/-- The step count's memref. -/
abbrev mN : Memref sig .tc .smem S_ .i32 := Memref.whole main_v42

/-- Before point `t`: the scratch holds the widened weight of the step before, except at a first step; the tables and the register. -/
def Inv (pf : pre0.Contents (Elt F)) (γ : Nat → Nat) (t : Nat) : sProp 𝕄 :=
  iprop((∃ f : Bf (F := F) c mW, ⌜t % steps γ ≠ 0 → mW.view.read (Elt F) f = wideAt (X2 V c) (X3 V c) (eF γ (t % steps γ - 1)) (nF (t / steps γ))⌝ ∗ pt c mW f)
    ∗ (∃ r, prngReg c r)
    ∗ ptH c mN (pf 0)
    ∗ ptH c mE (pf 1) ∗ ptH c mT (pf 2) ∗ ptH c mS (pf 3))

/-- The proof data on core `c`. -/
def rdat : RDat τ (Elt F) Unit ℕ (UR nD τ) ℕ (cfgP P) c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => Leave V c γ t.val Y X
  Φ t := Inv V c pf γ t.val
  q _ := fullShare
  owed _ := 0

/-- A memref that is its whole buffer, owned. -/
theorem owns_pt {sp : Space} {S : Shape} {e : EltTy} (M : Memref sig .tc sp S e) (h : M.IsWhole) (X : S.Idx → Elt F e) :
    (owns (c.tc : Thread nD τ) M fullShare X : sProp 𝕄) = iprop(∃ f : Bf (F := F) c M, ⌜M.view.read (Elt F) f = X⌝ ∗ pt c M f) := by
  unfold owns; rw [Memref.IsWhole.set_eq_univ h]

theorem point_lt (t : Fin (cfgP P).N) : t.val < 6 * steps γ := t.isLt.trans_eq (grid_N P)
include P in
theorem mod_lt (t : Nat) : t % steps γ < steps γ := Nat.mod_lt _ (steps_pos γ P.h8)
theorem div_lt (t : Fin (cfgP P).N) : t.val / steps γ < 6 := Nat.div_lt_of_lt_mul (by rw [Nat.mul_comm]; exact point_lt P t)

/-! ## What the input windows hold -/

theorem finds0 (t : Fin (cfgP P).N) (Y) (h : (rdat P V c).Finds 0 t Y) : (Y : Vec F S8 .f32) = X0 V c := by
  obtain ⟨d, rfl⟩ := (rdat P V c).finds_in_eq_fetched 0 rfl (fun _ _ _ => rfl) (fun _ _ _ h => h) t Y h
  refine funext fun (j : S8.Idx) => ?_
  show V c main_arg1 _ = V c main_arg1 _
  congr 1
  refine funext fun (a : Fin 1) => Fin.ext ?_
  obtain rfl := Fin.fin_one_eq_zero a
  show 0 * 8 + 1 * (j 0).val = (j 0).val
  omega

theorem finds1 (t : Fin (cfgP P).N) (Y) (h : (rdat P V c).Finds 1 t Y) : (Y : Vec F S256x4096 .fp8e4m3) = aAt (X1 V c) (kF γ (t.val % steps γ)) := by
  obtain ⟨d, rfl⟩ := (rdat P V c).finds_in_eq_fetched 1 rfl (fun _ _ _ => rfl) (fun _ _ _ h => h) t Y h
  have ht := trans1 P ((grid0.at (dynb0 pf)).coords t)
  have h1 := coords_one P t
  refine funext fun (j : S256x4096.Idx) => ?_
  show V c main_arg2 _ = V c main_arg2 _
  congr 1
  refine funext fun (a : Fin 2) => Fin.ext ?_
  match a with
  | ⟨0, _⟩ =>
    show cc0_transform_1 pf (dynb0 pf) ((grid0.at (dynb0 pf)).coords t) 0 * 256 + 1 * (j 0).val = 256 * tileOf γ (t.val % steps γ) + (j 0).val
    rw [ht, ← h1]; show tileOf γ _ * 256 + _ = _; omega
  | ⟨1, _⟩ =>
    show cc0_transform_1 pf (dynb0 pf) ((grid0.at (dynb0 pf)).coords t) 1 * 4096 + 1 * (j 1).val = (j 1).val
    rw [ht]; show 0 * 4096 + _ = _; omega

theorem finds2 (t : Fin (cfgP P).N) (Y) (h : (rdat P V c).Finds 2 t Y) :
    (Y : Vec F S1x2048x1024 .i8) = wAt (X2 V c) (eF γ (t.val % steps γ)) (nF (t.val / steps γ)) := by
  obtain ⟨d, rfl⟩ := (rdat P V c).finds_in_eq_fetched 2 rfl (fun _ _ _ => rfl) (fun _ _ _ h => h) t Y h
  have ht := trans2 P ((grid0.at (dynb0 pf)).coords t)
  have h1 := coords_one P t
  have h0 := coords_zero P t
  have hn := div_lt P t
  refine funext fun (j : S1x2048x1024.Idx) => ?_
  show V c main_arg3 _ = V c main_arg3 _
  congr 1
  refine funext fun (a : Fin 3) => Fin.ext ?_
  match a with
  | ⟨0, _⟩ =>
    have hj : (j 0).val < 1 := (j 0).isLt
    show cc0_transform_2 pf (dynb0 pf) ((grid0.at (dynb0 pf)).coords t) 0 * 1 + 1 * (j 0).val = expertOf γ (t.val % steps γ)
    rw [ht, ← h1]; show expertOf γ _ * 1 + _ = _; omega
  | ⟨1, _⟩ =>
    show cc0_transform_2 pf (dynb0 pf) ((grid0.at (dynb0 pf)).coords t) 1 * 2048 + 1 * (j 1).val = (j 1).val
    rw [ht]; show 0 * 2048 + _ = _; omega
  | ⟨2, _⟩ =>
    show cc0_transform_2 pf (dynb0 pf) ((grid0.at (dynb0 pf)).coords t) 2 * 1024 + 1 * (j 2).val = 1024 * ((t.val / steps γ) % 6) + (j 2).val
    rw [ht, Nat.mod_eq_of_lt hn, ← h0]; show ((grid0.at (dynb0 pf)).coords t 0).val * 1024 + _ = _; omega

theorem finds3 (t : Fin (cfgP P).N) (Y) (h : (rdat P V c).Finds 3 t Y) :
    (Y : Vec F S1x32x1024 .bf16) = uAt (X3 V c) (eF γ (t.val % steps γ)) (nF (t.val / steps γ)) := by
  obtain ⟨d, rfl⟩ := (rdat P V c).finds_in_eq_fetched 3 rfl (fun _ _ _ => rfl) (fun _ _ _ h => h) t Y h
  have ht := trans3 P ((grid0.at (dynb0 pf)).coords t)
  have h1 := coords_one P t
  have h0 := coords_zero P t
  have hn := div_lt P t
  refine funext fun (j : S1x32x1024.Idx) => ?_
  show V c main_arg4 _ = V c main_arg4 _
  congr 1
  refine funext fun (a : Fin 3) => Fin.ext ?_
  match a with
  | ⟨0, _⟩ =>
    have hj : (j 0).val < 1 := (j 0).isLt
    show cc0_transform_3 pf (dynb0 pf) ((grid0.at (dynb0 pf)).coords t) 0 * 1 + 1 * (j 0).val = expertOf γ (t.val % steps γ)
    rw [ht, ← h1]; show expertOf γ _ * 1 + _ = _; omega
  | ⟨1, _⟩ =>
    show cc0_transform_3 pf (dynb0 pf) ((grid0.at (dynb0 pf)).coords t) 1 * 32 + 1 * (j 1).val = (j 1).val
    rw [ht]; show 0 * 32 + _ = _; omega
  | ⟨2, _⟩ =>
    show cc0_transform_3 pf (dynb0 pf) ((grid0.at (dynb0 pf)).coords t) 2 * 1024 + 1 * (j 2).val = 1024 * ((t.val / steps γ) % 6) + (j 2).val
    rw [ht, Nat.mod_eq_of_lt hn, ← h0]; show ((grid0.at (dynb0 pf)).coords t 0).val * 1024 + _ = _; omega

/-! ## The body's obligation -/

theorem succ_mod {n t : Nat} (h : (t + 1) % n ≠ 0) : (t + 1) % n - 1 = t % n ∧ (t + 1) / n = t / n := by
  rcases Nat.eq_zero_or_pos n with rfl | hn
  · simp
  have h1 := Nat.div_add_mod t n
  have h2 := Nat.mod_lt t hn
  by_cases hl : t % n + 1 < n
  · have e : t + 1 = (t % n + 1) + n * (t / n) := by omega
    rw [e, Nat.add_mul_mod_self_left, Nat.add_mul_div_left _ _ hn, Nat.mod_eq_of_lt hl, Nat.div_eq_of_lt hl]
    omega
  · exfalso; apply h
    have e : t + 1 = n * (t / n + 1) := by rw [Nat.mul_add]; omega
    rw [e, Nat.mul_mod_right]

theorem prev_mod {n t : Nat} (h : t % n ≠ 0) : t % n - 1 = (t - 1) % n ∧ t / n = (t - 1) / n := by
  obtain ⟨u, rfl⟩ : ∃ u, t = u + 1 := ⟨t - 1, by have : t ≠ 0 := fun h' => h (by subst h'; exact Nat.zero_mod n); omega⟩
  exact succ_mod h

theorem defs_tc : (defs₀ (F := F)) .tc (cfgP P).body
    = fun a => cc0_down a.1 (Pipeline.Grid.Coords.static grid0 a.2.1) (BitVec.ofNat 32 (a.2.1 1).val) mE (Memref.isWhole_whole _) mT (Memref.isWhole_whole _)
        mS (Memref.isWhole_whole _) (spec0_0.stage (a.2.2 0)) (hstage0_0 ((a.2.2 0).cast nbuf0_0)) (spec0_1.stage (a.2.2 1)) (hstage0_1 ((a.2.2 1).cast nbuf0_1))
        (spec0_2.stage (a.2.2 2)) (hstage0_2 ((a.2.2 2).cast nbuf0_2)) (spec0_3.stage (a.2.2 3)) (hstage0_3 ((a.2.2 3).cast nbuf0_3))
        (spec0_4.stage (a.2.2 4)) (hstage0_4 ((a.2.2 4).cast nbuf0_4)) mW (Memref.isWhole_whole _) := rfl

end Cert.Kernel.Down
-- ==== Proof.KOblig.lean ====
/- The body's obligation: every step, at every point, does to the windows and the scratch what the proof data say. -/
module

public import proofs.«01_k».proof.Proof.KDat

@[expose] public section

set_option maxRecDepth 4000

noncomputable section

namespace Cert.Kernel.Down

open Cert.Kernel Cert.Kernel.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

variable {pf : pre0.Contents (Elt F)} {γ : Nat → Nat} (P : Plan pf γ)
variable (V : (c : Dev nD) → (b : Ref sig .tc) → Buf (Elt F) ((c.tc : Thread nD τ).loc b)) (c : Dev nD)

/-- The windows' current staging memrefs at a point. -/
abbrev s0 (t : Fin (cfgP P).N) : Memref sig .tc .smem S8 .f32 := spec0_0.stage ((cfgP P).slots t 0)
abbrev s1 (t : Fin (cfgP P).N) : Memref sig .tc .vmem S256x4096 .fp8e4m3 := spec0_1.stage ((cfgP P).slots t 1)
abbrev s2 (t : Fin (cfgP P).N) : Memref sig .tc .vmem S1x2048x1024 .i8 := spec0_2.stage ((cfgP P).slots t 2)
abbrev s3 (t : Fin (cfgP P).N) : Memref sig .tc .vmem S1x32x1024 .bf16 := spec0_3.stage ((cfgP P).slots t 3)
abbrev s4 (t : Fin (cfgP P).N) : Memref sig .tc .vmem S256x1024 .f32 := spec0_4.stage ((cfgP P).slots t 4)

theorem prog_eq (t : Fin (cfgP P).N) :
    (defs₀ (F := F)) .tc (cfgP P).body ((cfgP P).bodyArgs t ((cfgP P).slots t))
      = cc0_down (dynb0 pf) (Pipeline.Grid.Coords.static grid0 ((grid0.at (dynb0 pf)).coords t)) (BitVec.ofNat 32 (t.val % steps γ))
          mE (Memref.isWhole_whole _) mT (Memref.isWhole_whole _) mS (Memref.isWhole_whole _) (s0 P t) (hstage0_0 (((cfgP P).slots t 0).cast nbuf0_0))
          (s1 P t) (hstage0_1 (((cfgP P).slots t 1).cast nbuf0_1)) (s2 P t) (hstage0_2 (((cfgP P).slots t 2).cast nbuf0_2))
          (s3 P t) (hstage0_3 (((cfgP P).slots t 3).cast nbuf0_3)) (s4 P t) (hstage0_4 (((cfgP P).slots t 4).cast nbuf0_4)) mW (Memref.isWhole_whole _) := by
  rw [← coords_one P t]
  exact (congrFun (defs_tc P) _).trans rfl

/-- The scratch at a step that repeats the step before's expert. -/
theorem scratch_kept (t : Nat) (h : t % steps γ ≠ 0) (he : expertOf γ (t % steps γ) = expertOf γ (t % steps γ - 1)) :
    wideAt (X2 V c) (X3 V c) (eF γ (t % steps γ - 1)) (nF (t / steps γ)) = wideAt (X2 V c) (X3 V c) (eF γ (t % steps γ)) (nF (t / steps γ)) := by
  congr 1
  exact Fin.ext he.symm

set_option maxHeartbeats 1000000 in
set_option backward.isDefEq.respectTransparency.types false in
theorem body_obligation : (rdat P V c).BodyObligation (defs₀ (F := F)) Variants.none () Set.univ := fun t Y hY => by
  have y0 := finds0 P V c t (Y 0) (hY 0)
  have y1 := finds1 P V c t (Y 1) (hY 1)
  have y2 := finds2 P V c t (Y 2) (hY 2)
  have y3 := finds3 P V c t (Y 3) (hY 3)
  have hs := mod_lt P t.val
  rw [bigSep_W0, bigSep_W0]
  rw [show (rdat P V c).Φ t.castSucc = Inv V c pf γ t.val from rfl, show (rdat P V c).Φ t.succ = Inv V c pf γ (t.val + 1) from rfl]
  unfold RDat.owesAt Pipeline.owesWithin
  rw [show (rdat P V c).owed t.castSucc = 0 from rfl, show (rdat P V c).owed t.succ = 0 from rfl]
  rw [prog_eq P t]
  show iprop(_ ∗ _ ∗ owns (c.tc : Thread nD τ) (s0 P t) fullShare (Y 0 : Vec F S8 .f32) ∗ owns (c.tc : Thread nD τ) (s1 P t) fullShare (Y 1 : Vec F S256x4096 .fp8e4m3)
      ∗ owns (c.tc : Thread nD τ) (s2 P t) fullShare (Y 2 : Vec F S1x2048x1024 .i8) ∗ owns (c.tc : Thread nD τ) (s3 P t) fullShare (Y 3 : Vec F S1x32x1024 .bf16)
      ∗ owns (c.tc : Thread nD τ) (s4 P t) fullShare (Y 4 : Vec F S256x1024 .f32))
    ⊢ wp _ _ _ _ fun _ => iprop(_ ∗ _ ∗ (∃ X : Vec F S8 .f32, ⌜X = Y 0⌝ ∗ owns (c.tc : Thread nD τ) (s0 P t) fullShare X)
      ∗ (∃ X : Vec F S256x4096 .fp8e4m3, ⌜X = Y 1⌝ ∗ owns (c.tc : Thread nD τ) (s1 P t) fullShare X)
      ∗ (∃ X : Vec F S1x2048x1024 .i8, ⌜X = Y 2⌝ ∗ owns (c.tc : Thread nD τ) (s2 P t) fullShare X)
      ∗ (∃ X : Vec F S1x32x1024 .bf16, ⌜X = Y 3⌝ ∗ owns (c.tc : Thread nD τ) (s3 P t) fullShare X)
      ∗ (∃ X : Vec F S256x1024 .f32, ⌜Leave V c γ t.val (Y 4) X⌝ ∗ owns (c.tc : Thread nD τ) (s4 P t) fullShare X))
  simp only [owns_pt c (s0 P t) (hstage0_0 (((cfgP P).slots t 0).cast nbuf0_0)), owns_pt c (s1 P t) (hstage0_1 (((cfgP P).slots t 1).cast nbuf0_1)),
    owns_pt c (s2 P t) (hstage0_2 (((cfgP P).slots t 2).cast nbuf0_2)), owns_pt c (s3 P t) (hstage0_3 (((cfgP P).slots t 3).cast nbuf0_3)),
    owns_pt c (s4 P t) (hstage0_4 (((cfgP P).slots t 4).cast nbuf0_4))]
  unfold Inv
  iintro ⟨⟨⟨%f10, %h10, HW⟩, Hg, HN, HE, HT, HS⟩, ⟨%W, -, HO⟩, ⟨%f5, %e5, H0⟩, ⟨%f6, %e6, H1⟩, ⟨%f7, %e7, H2⟩, ⟨%f8, %e8, H3⟩, ⟨%f9, %e9, H4⟩⟩
  have hwide : wide ((s2 P t).view.read (Elt F) f7) ((s3 P t).view.read (Elt F) f8)
      = wideAt (X2 V c) (X3 V c) (eF γ (t.val % steps γ)) (nF (t.val / steps γ)) := by
    unfold wideAt; rw [e7, e8]; exact congrArg₂ wide y2 y3
  iapply (step_run P c (dynb0 pf) (Pipeline.Grid.Coords.static grid0 ((grid0.at (dynb0 pf)).coords t)) hs (s0 P t) _ (s1 P t) _ (s2 P t) _ (s3 P t) _ (s4 P t) _
    f5 f6 f7 f8 f9 f10 (fun h he => (h10 h).trans ((scratch_kept V c t.val h he).trans hwide.symm)) _ _ _ _ Set.univ _)
  isplitl [HE]; · iexact HE
  isplitl [HT]; · iexact HT
  isplitl [HS]; · iexact HS
  isplitl [H0]; · iexact H0
  isplitl [H1]; · iexact H1
  isplitl [H2]; · iexact H2
  isplitl [H3]; · iexact H3
  isplitl [H4]; · iexact H4
  isplitl [HW]; · iexact HW
  iintro ⟨HE, HT, HS, H0, H1, H2, H3, ⟨%g9, %k9, H4⟩, ⟨%g10, %k10, HW⟩⟩
  isplitl [HW Hg HN HE HT HS]
  · isplitl [HW]
    · iexists g10
      isplitr; swap; (· iexact HW)
      ipureintro
      intro h
      obtain ⟨a1, a2⟩ := succ_mod h
      rw [a1, a2]
      exact k10.trans hwide
    isplitl [Hg]; · iexact Hg
    isplitl [HN]; · iexact HN
    isplitl [HE]; · iexact HE
    isplitl [HT]; · iexact HT
    iexact HS
  isplitl [HO]
  · iexists W; isplitr; · ipureintro; exact fun _ _ => Or.inl trivial
    iexact HO
  isplitl [H0]
  · iexists (Y 0); isplitr; · ipureintro; rfl
    iexists f5; isplitr; (· ipureintro; exact e5); iexact H0
  isplitl [H1]
  · iexists (Y 1); isplitr; · ipureintro; rfl
    iexists f6; isplitr; (· ipureintro; exact e6); iexact H1
  isplitl [H2]
  · iexists (Y 2); isplitr; · ipureintro; rfl
    iexists f7; isplitr; (· ipureintro; exact e7); iexact H2
  isplitl [H3]
  · iexists (Y 3); isplitr; · ipureintro; rfl
    iexists f8; isplitr; (· ipureintro; exact e8); iexact H3
  · iexists ((s4 P t).view.read (Elt F) g9); isplitr
    · ipureintro
      have := k9
      rw [hwide, e6, e5, e9] at this
      show Cells (γ := γ) _ _ _ _ _ _
      rw [← y1, ← y0]
      exact this
    iexists g9; isplitr; (· ipureintro; rfl); iexact H4

end Cert.Kernel.Down
-- ==== Proof.KTables.lean ====
/- What the host part leaves before the region: the work list's words in the four tables, and the arguments as launched. -/
module

public import proofs.«01_k».proof.Proof.Gen.Kernel
public import proofs.«01_k».proof.Proof.Gen.Kernel.Launch
public import proofs.«01_k».proof.Proof.WorkWords
public import Idealize.ShloMosaic.Lib.StableHlo.RunRead
meta import proofs.«01_k».proof.Proof.Gen.Kernel.Launch

@[expose] public section

set_option maxRecDepth 4000

noncomputable section

namespace Cert.Kernel.Down

open Cert.Kernel Cert.Kernel.Gen
open Cert.Down
open Idealize.ShloMosaic Idealize.ShloMosaic.TcCoe Idealize.ShloMosaic.StableHlo
open Idealize.ShloMosaic.Routing (pyDiv)

variable {F : FTy → Type} [FloatOps F]

/-- The work list's side conditions, from the program's facts. -/
theorem sides : Sides :=
  ⟨bcast_S_S_, reduceWindows_S8_S8_w8s1p7_0, h_S_, bcast_S_S8, bcast_S_S43, bcast_S43_S43x1_0, slices_S8_S7_0, bcast_S7_S1x7_1,
    bcast_S43x1_S43x7_0_1, bcast_S1x7_S43x7_0_1, natLt_1_32, reducesTo_S43x7_S43_d1, slices_S8_S1_7, shapeCasts_S1_S_,
    gather_S8_S43x1_S43_n_0_n_n_0_1_1.wf⟩

/-- A buffer's reference on the TensorCore. -/
abbrev at_ (b : Ref sig .tc) : DevRef τ sig := Proc.devRef .tc b

variable (V : Valuation τ sig (Elt F))

theorem ops0_v0 : after hostOps0 V (Proc.devRef .tc main_v0) = cumW sides (V (Proc.devRef .tc main_arg0)) := by
  after_reads_simp; unfold cumW; congr 1
theorem ops1_v1 : after hostOps0_1 V (Proc.devRef .tc main_v1) = subi (V (Proc.devRef .tc main_v0)) (V (Proc.devRef .tc main_arg0)) := by
  after_reads_simp
theorem ops1_c : after hostOps0_1 V (Proc.devRef .tc main_c) = constantI S_ 32 256#32 := by
  after_reads_simp
theorem ops2_v2 : after hostOps0_2 V (Proc.devRef .tc main_v2) = pyDiv sides.bc8 (V (Proc.devRef .tc main_v1)) (V (Proc.devRef .tc main_c)) := by
  after_reads_simp; rfl
theorem ops3_v4 : after hostOps0_3 V (Proc.devRef .tc main_v4) = cmpi .sgt (V (Proc.devRef .tc main_arg0)) (c8 sides 0#32) := by
  after_reads_simp; rfl
theorem ops3_v6 : after hostOps0_3 V (Proc.devRef .tc main_v6) = subi (V (Proc.devRef .tc main_v0)) (c8 sides 1#32) := by
  after_reads_simp; rfl
theorem ops3_c : after hostOps0_3 V (Proc.devRef .tc main_c_2) = constantI S_ 32 256#32 := by
  after_reads_simp
theorem ops4_v7 : after hostOps0_4 V (Proc.devRef .tc main_v7) = pyDiv sides.bc8 (V (Proc.devRef .tc main_v6)) (V (Proc.devRef .tc main_c_2)) := by
  after_reads_simp; rfl
theorem ops5_v10 : after hostOps0_5 V (Proc.devRef .tc main_v10) = addi (subi (V (Proc.devRef .tc main_v7)) (V (Proc.devRef .tc main_v2))) (c8 sides 1#32) := by
  after_reads_simp; rfl
theorem ops5_c : after hostOps0_5 V (Proc.devRef .tc main_c_4) = constantI S_ 32 0#32 := by
  after_reads_simp
theorem ops6_v11 : after hostOps0_6 V (Proc.devRef .tc main_v11)
    = select (V (Proc.devRef .tc main_v4)) (V (Proc.devRef .tc main_v10)) (broadcastInDim S8 ![] bcast_S_S8 (V (Proc.devRef .tc main_c_4))) := by
  after_reads_simp; rfl
theorem ops7_v12 : after hostOps0_7 V (Proc.devRef .tc main_v12) = cumW sides (V (Proc.devRef .tc main_v11)) := by
  after_reads_simp; unfold cumW; congr 1

/-- The steps' experts from the groups' step ends. -/
def expertOn (te : IVec S8 32) : IVec S43 32 :=
  Host.reduce IntOp.addi (extui 32 (cmpi .sge
      (broadcastInDim S43x7 ![0, 1] bcast_S43x1_S43x7_0_1 (broadcastInDim S43x1 ![0] bcast_S43_S43x1_0 (iotaInDim S43 32 0)))
      (broadcastInDim S43x7 ![0, 1] bcast_S1x7_S43x7_0_1 (broadcastInDim S1x7 ![1] bcast_S7_S1x7_1 (extractStridedSlice S7 ![0] te slices_S8_S7_0)))) natLt_1_32)
    (constantI S_ 32 0#32) reducesTo_S43x7_S43_d1 h_S_
/-- Experts as take indices. -/
def pickOn (e : IVec S43 32) : IVec S43x1 32 :=
  broadcastInDim S43x1 ![0] bcast_S43_S43x1_0 (select (cmpi .slt e (c43 sides 0#32)) (addi e (c43 sides 8#32)) e)
/-- The steps' tiles from the groups' first tiles, numbers of tiles and step ends. -/
def tileOn (first num te : IVec S8 32) : IVec S43 32 :=
  minsi (subi (addi (Host.gather gather_S8_S43x1_S43_n_0_n_n_0_1_1 first (pickOn (expertOn te))) (iotaInDim S43 32 0))
    (Host.gather gather_S8_S43x1_S43_n_0_n_n_0_1_1 (subi te num) (pickOn (expertOn te)))) (c43 sides 35#32)

theorem ops8_v21 : after hostOps0_8 V (Proc.devRef .tc main_v21) = expertOn (V (Proc.devRef .tc main_v12)) := by
  after_reads_simp; rfl
theorem ops8_v40 : after hostOps0_8 V (Proc.devRef .tc main_v40) = tileOn (V (Proc.devRef .tc main_v2)) (V (Proc.devRef .tc main_v11)) (V (Proc.devRef .tc main_v12)) := by
  after_reads_simp; rfl
theorem ops8_v42 : after hostOps0_8 V (Proc.devRef .tc main_v42)
    = shapeCast S_ (extractStridedSlice S1 ![7] (V (Proc.devRef .tc main_v12)) slices_S8_S1_7) shapeCasts_S1_S_ := by
  after_reads_simp; rfl

theorem pass_1_v0 : after hostOps0_1 V (Proc.devRef .tc main_v0) = V (Proc.devRef .tc main_v0) := by after_reads_simp
theorem pass_2_v0 : after hostOps0_2 V (Proc.devRef .tc main_v0) = V (Proc.devRef .tc main_v0) := by after_reads_simp
theorem pass_3_v0 : after hostOps0_3 V (Proc.devRef .tc main_v0) = V (Proc.devRef .tc main_v0) := by after_reads_simp
theorem pass_4_v0 : after hostOps0_4 V (Proc.devRef .tc main_v0) = V (Proc.devRef .tc main_v0) := by after_reads_simp
theorem pass_5_v0 : after hostOps0_5 V (Proc.devRef .tc main_v0) = V (Proc.devRef .tc main_v0) := by after_reads_simp
theorem pass_6_v0 : after hostOps0_6 V (Proc.devRef .tc main_v0) = V (Proc.devRef .tc main_v0) := by after_reads_simp
theorem pass_7_v0 : after hostOps0_7 V (Proc.devRef .tc main_v0) = V (Proc.devRef .tc main_v0) := by after_reads_simp
theorem pass_8_v0 : after hostOps0_8 V (Proc.devRef .tc main_v0) = V (Proc.devRef .tc main_v0) := by after_reads_simp
theorem pass_3_v2 : after hostOps0_3 V (Proc.devRef .tc main_v2) = V (Proc.devRef .tc main_v2) := by after_reads_simp
theorem pass_4_v2 : after hostOps0_4 V (Proc.devRef .tc main_v2) = V (Proc.devRef .tc main_v2) := by after_reads_simp
theorem pass_5_v2 : after hostOps0_5 V (Proc.devRef .tc main_v2) = V (Proc.devRef .tc main_v2) := by after_reads_simp
theorem pass_6_v2 : after hostOps0_6 V (Proc.devRef .tc main_v2) = V (Proc.devRef .tc main_v2) := by after_reads_simp
theorem pass_7_v2 : after hostOps0_7 V (Proc.devRef .tc main_v2) = V (Proc.devRef .tc main_v2) := by after_reads_simp
theorem pass_4_v4 : after hostOps0_4 V (Proc.devRef .tc main_v4) = V (Proc.devRef .tc main_v4) := by after_reads_simp
theorem pass_5_v4 : after hostOps0_5 V (Proc.devRef .tc main_v4) = V (Proc.devRef .tc main_v4) := by after_reads_simp
theorem pass_7_v11 : after hostOps0_7 V (Proc.devRef .tc main_v11) = V (Proc.devRef .tc main_v11) := by after_reads_simp
theorem pass_arg0 : after hostOps0 V (Proc.devRef .tc main_arg0) = V (Proc.devRef .tc main_arg0) := by after_reads_simp
theorem pass_1_arg0 : after hostOps0_1 V (Proc.devRef .tc main_arg0) = V (Proc.devRef .tc main_arg0) := by after_reads_simp
theorem pass_2_arg0 : after hostOps0_2 V (Proc.devRef .tc main_arg0) = V (Proc.devRef .tc main_arg0) := by after_reads_simp

/-- The host part's stretches. -/
abbrev opss : List (List (HloOp τ sig (Elt F))) :=
  [hostOps0, hostOps0_1, hostOps0_2, hostOps0_3, hostOps0_4, hostOps0_5, hostOps0_6, hostOps0_7, hostOps0_8]

/-- The contents before the last stretch, of what it reads. -/
def mid : Valuation τ sig (Elt F) := after hostOps0_7 (after hostOps0_6 (after hostOps0_5 (after hostOps0_4
    (after hostOps0_3 (after hostOps0_2 (after hostOps0_1 (after hostOps0 V)))))))

theorem after_opss (b : DevRef τ sig) : after opss.flatten V b = after hostOps0_8 (mid V) b := by
  simp only [List.flatten_cons, List.flatten_nil, List.append_nil, after_append, mid]

theorem mid_first : mid V (Proc.devRef .tc main_v2) = firstW sides (V (Proc.devRef .tc main_arg0)) := by
  unfold mid; rw [pass_7_v2, pass_6_v2, pass_5_v2, pass_4_v2, pass_3_v2, ops2_v2, ops1_v1, ops1_c, ops0_v0, pass_arg0]; rfl
theorem mid_tiles : mid V (Proc.devRef .tc main_v11) = tilesW sides (V (Proc.devRef .tc main_arg0)) := by
  unfold mid; rw [pass_7_v11, ops6_v11, pass_5_v4, pass_4_v4, ops3_v4, ops5_v10, ops5_c, ops4_v7, ops3_v6, ops3_c, pass_4_v2, pass_3_v2, ops2_v2, ops1_v1, ops1_c,
    pass_2_v0, pass_1_v0, ops0_v0, pass_2_arg0, pass_1_arg0, pass_arg0]; rfl
theorem mid_tends : mid V (Proc.devRef .tc main_v12) = tendsW sides (V (Proc.devRef .tc main_arg0)) := by
  unfold tendsW; rw [← mid_tiles V]; unfold mid; rw [ops7_v12, pass_7_v11]

theorem table_n : after opss.flatten V (Proc.devRef .tc main_v42) = stepsW sides (V (Proc.devRef .tc main_arg0)) := by
  rw [after_opss, ops8_v42, mid_tends]; rfl
theorem table_expert : after opss.flatten V (Proc.devRef .tc main_v21) = expertW sides (V (Proc.devRef .tc main_arg0)) := by
  rw [after_opss, ops8_v21, mid_tends]; rfl
theorem table_tile : after opss.flatten V (Proc.devRef .tc main_v40) = tileW sides (V (Proc.devRef .tc main_arg0)) := by
  rw [after_opss, ops8_v40, mid_tends, mid_tiles, mid_first]; rfl
theorem table_ends : after opss.flatten V (Proc.devRef .tc main_v0) = endsW sides (V (Proc.devRef .tc main_arg0)) := by
  rw [after_opss, pass_8_v0]; unfold mid; rw [pass_7_v0, pass_6_v0, pass_5_v0, pass_4_v0, pass_3_v0, pass_2_v0, pass_1_v0, ops0_v0]; rfl

theorem kept_arg0 : after opss.flatten V (Proc.devRef .tc main_arg0) = V (Proc.devRef .tc main_arg0) := by
  rw [after_opss]; unfold mid; after_reads_simp
theorem kept_arg1 : after opss.flatten V (Proc.devRef .tc main_arg1) = V (Proc.devRef .tc main_arg1) := by
  rw [after_opss]; unfold mid; after_reads_simp
theorem kept_arg2 : after opss.flatten V (Proc.devRef .tc main_arg2) = V (Proc.devRef .tc main_arg2) := by
  rw [after_opss]; unfold mid; after_reads_simp
theorem kept_arg3 : after opss.flatten V (Proc.devRef .tc main_arg3) = V (Proc.devRef .tc main_arg3) := by
  rw [after_opss]; unfold mid; after_reads_simp
theorem kept_arg4 : after opss.flatten V (Proc.devRef .tc main_arg4) = V (Proc.devRef .tc main_arg4) := by
  rw [after_opss]; unfold mid; after_reads_simp

end Cert.Kernel.Down
-- ==== Proof.KRun.lean ====
/- The down projection's run: from group sizes that fill the rows, the program ends with its arguments kept and its result in the
   relation the steps' proof data state. -/
module

public import proofs.«01_k».proof.Proof.KOblig
public import proofs.«01_k».proof.Proof.KTables

@[expose] public section

set_option maxRecDepth 20000

noncomputable section

namespace Cert.Kernel.Down

open Cert.Kernel Cert.Kernel.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

variable (m : (ℓ : Loc nD τ sig) → Buf (Elt F) ℓ) (g : Dev nD → PrngReg)

/-- The buffers when the region is entered. -/
def VE (c : Dev nD) (b : Ref sig .tc) : Buf (Elt F) ((c.tc : Thread nD τ).loc b) := StableHlo.after opss.flatten (fun b => m (c, b)) (Proc.devRef .tc b)

/-- The tables then. -/
def tbl : pre0.Contents (Elt F) := fun k => VE m 0 (pre0.ref k)

/-- The group sizes given. -/
abbrev G : IVec S8 32 := m ((0 : Dev nD).tc.loc main_arg0)

variable {γ : Nat → Nat} (hg : ∀ e : Fin 8, G m (ix1 e) = BitVec.ofNat 32 (γ e.val)) (h8 : pre γ 8 = 9216)

include hg h8 in
theorem plan : Plan (tbl m) γ where
  h8 := h8
  n i := (congrFun (table_n (fun b => m ((0 : Dev nD), b))) i).trans (stepsW_ap sides (G m) γ hg h8 i)
  expert s := (congrFun (table_expert (fun b => m ((0 : Dev nD), b))) (ix1 s)).trans (expertW_ap sides (G m) γ hg h8 s)
  tile s := (congrFun (table_tile (fun b => m ((0 : Dev nD), b))) (ix1 s)).trans (tileW_ap sides (G m) γ hg h8 s)
  ends e := (congrFun (table_ends (fun b => m ((0 : Dev nD), b))) (ix1 e)).trans (endsW_ap sides (G m) γ hg e)

theorem tables_eq (c : Dev nD) (pf : pre0.Contents (Elt F)) :
    (Pipeline.ΦT (U := UR nD τ) pre0 pf c : sProp 𝕄) = iprop(ptH c mN (pf 0) ∗ ptH c mE (pf 1) ∗ ptH c mT (pf 2) ∗ ptH c mS (pf 3)) := by
  unfold Pipeline.ΦT Pipeline.prefHeld
  exact bigSep_univ_eq_bigSepL [(0 : Fin 4), (1 : Fin 4), (2 : Fin 4), (3 : Fin 4)] (by decide) (by decide) _

theorem hmain : Pipeline.HMainP (Ix := Unit) (Name := ℕ) (U := UR nD τ) (Lvl := ℕ) (pcfgs (F := F)) 0 defs₀ Variants.none m (main (F := F)) (VE m) :=
  Pipeline.hmainP_prefixes (pcfgs (F := F)) 0 defs₀ Variants.none m (main (F := F)) opss
    ⟨hostOps0_sub, hostOps0_1_sub, hostOps0_2_sub, hostOps0_3_sub, hostOps0_4_sub, hostOps0_5_sub, hostOps0_6_sub, hostOps0_7_sub, hostOps0_8_sub⟩
    (by repeat' first | exact rfl | constructor)
    main_chain

section
variable (P : Plan (tbl m) γ)

theorem hin (c : Dev nD) : iprop(Pipeline.ΦA (U := UR nD τ) spec0 c ∗ Pipeline.ΦT (U := UR nD τ) pre0 (tbl m) c) ⊢ (Inv (VE m) c (tbl m) γ 0 : sProp 𝕄) := by
  rw [tables_eq]
  unfold Pipeline.ΦA Inv
  rw [scopedRest0_eq]
  iintro ⟨⟨⟨%f, Hs⟩, Hg⟩, HT⟩
  isplitl [Hs]
  · iexists f
    isplitr; swap; (· iexact Hs)
    ipureintro
    intro h
    exact absurd (Nat.zero_mod _) h
  isplitl [Hg]; · iexact Hg
  iexact HT

theorem hout (c : Dev nD) (t : Nat) : (Inv (VE m) c (tbl m) γ t : sProp 𝕄) ⊢ Pipeline.ΦA (U := UR nD τ) spec0 c := by
  unfold Pipeline.ΦA Inv
  rw [scopedRest0_eq]
  iintro ⟨⟨%f, -, Hs⟩, Hg, -⟩
  isplitl [Hs]
  · iexists f; iexact Hs
  iexact Hg

theorem shares (c : Dev nD) (w) : (rdat P (VE m) c).share w = fullShare := by
  unfold RDat.share; split <;> rfl

theorem entry_array (V : (c : Dev nD) → (b : Ref sig .tc) → Buf (Elt F) ((c.tc : Thread nD τ).loc b)) (c : Dev nD) (w) :
    (rdat P V c).A w = V c (Pipeline.arrRef (cfgP P).spec w) := by exact rfl

theorem entry_inv (V : (c : Dev nD) → (b : Ref sig .tc) → Buf (Elt F) ((c.tc : Thread nD τ).loc b)) (c : Dev nD) (t) :
    (rdat P V c).Φ t = Inv V c (tbl m) γ t.val := by exact rfl

theorem held_tables (c : Dev nD) (k) : VE m c ((pcfgs (F := F) 0).pre.ref k) = (adm P 0).1 k := by
  rw [Subsingleton.elim c 0]; exact rfl

/-- The run, with what the result's array may hold. -/
theorem run_rel : θ_run (defs (F := F)) (onTc (τ := τ) (main (F := F))) ⟨m, fun _ => 0, g⟩ (fun r =>
    RDat.FramePost (cfgP P) (fun c => rdat P (VE m) c) (VE m) r ∧ r.2.sem = fun _ => 0) := by
  refine RDat.θ_run_frameP_track (pcfgs (F := F)) (adm P) 0 launch0 defs₀ Variants.none (fun c => rdat P (VE m) c) m g (main (F := F))
    ?_ ?_ ?_ (VE m) ?_ ?_ ?_ ?_ ?_ _ (fun _ h => h)
  · exact fun c => body_obligation P (VE m) c
  · exact shares m P
  · exact fun _ _ => rfl
  · exact hmain m
  · exact fun c w => entry_array m P (VE m) c w
  · exact held_tables m P
  · intro c; rw [entry_inv m P]; exact hin m c
  · intro c; rw [entry_inv m P]; exact hout m c _

end

end Cert.Kernel.Down
-- ==== Proof.KFrame.lean ====
/- The down projection leaves its arguments as it found them. -/
module

public import proofs.«01_k».proof.Proof.KRun

@[expose] public section

set_option maxRecDepth 20000

noncomputable section

namespace Cert.Kernel.Down

open Cert.Kernel Cert.Kernel.Gen
open Cert.Down
open Idealize.ShloMosaic Idealize.ShloMosaic.TcCoe Idealize.ShloMosaic.ValueIdx
open Idealize.SL Idealize.SL.Sem
open Idealize.ShloMosaic.Pipeline (RDat)

variable {F : FTy → Type} [FloatOps F]

variable (m : (ℓ : Loc nD τ sig) → Buf (Elt F) ℓ) (g : Dev nD → PrngReg) {γ : Nat → Nat}

/-- The arguments are as launched. -/
abbrev Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

variable (P : Plan (tbl m) γ)

theorem VE_arg0 (c : Dev nD) : VE m c main_arg0 = m ((c.tc : Thread nD τ).loc main_arg0) := kept_arg0 _
theorem VE_arg1 (c : Dev nD) : VE m c main_arg1 = m ((c.tc : Thread nD τ).loc main_arg1) := kept_arg1 _
theorem VE_arg2 (c : Dev nD) : VE m c main_arg2 = m ((c.tc : Thread nD τ).loc main_arg2) := kept_arg2 _
theorem VE_arg3 (c : Dev nD) : VE m c main_arg3 = m ((c.tc : Thread nD τ).loc main_arg3) := kept_arg3 _
theorem VE_arg4 (c : Dev nD) : VE m c main_arg4 = m ((c.tc : Thread nD τ).loc main_arg4) := kept_arg4 _

theorem input0 : ((cfgP P).win 0).isOut = false := by exact rfl
theorem input1 : ((cfgP P).win 1).isOut = false := by exact rfl
theorem input2 : ((cfgP P).win 2).isOut = false := by exact rfl
theorem input3 : ((cfgP P).win 3).isOut = false := by exact rfl

theorem sizes_no_window : ∀ w : Fin 5, (spec0 w).arr.view.ref ≠ main_arg0 := by decide

theorem post_kept (V : (c : Dev nD) → (b : Ref sig .tc) → Buf (Elt F) ((c.tc : Thread nD τ).loc b)) (r : PUnit × MemSt nD τ sig (Elt F))
    (h : RDat.FramePost (cfgP P) (fun c => rdat P V c) V r) (c : Dev nD) :
    r.2.mem ((c.tc : Thread nD τ).loc main_arg0) = V c main_arg0
    ∧ r.2.mem ((c.tc : Thread nD τ).loc main_arg1) = V c main_arg1
    ∧ r.2.mem ((c.tc : Thread nD τ).loc main_arg2) = V c main_arg2
    ∧ r.2.mem ((c.tc : Thread nD τ).loc main_arg3) = V c main_arg3
    ∧ r.2.mem ((c.tc : Thread nD τ).loc main_arg4) = V c main_arg4 :=
  ⟨(h c).2 main_arg0 (Pipeline.mem_restRefs_of main_arg0 (by decide) (by exact sizes_no_window)), h.arr_in c 0 (input0 m P), h.arr_in c 1 (input1 m P),
    h.arr_in c 2 (input2 m P), h.arr_in c 3 (input3 m P)⟩

/-- The run keeps its arguments and ends with every semaphore at zero. -/
theorem run_kept (hg : ∀ e : Fin 8, G m (ix1 e) = BitVec.ofNat 32 (γ e.val)) (h8 : pre γ 8 = 9216) :
    θ_run (defs (F := F)) (onTc (τ := τ) (main (F := F))) ⟨m, fun _ => 0, g⟩ (fun r => Kept m r ∧ r.2.sem = fun _ => 0) :=
  (θ_run (defs (F := F)) _ _).mono (fun r h => ⟨fun c => by
    have := post_kept m (plan m hg h8) (VE m) r h.1 c
    rwa [VE_arg0, VE_arg1, VE_arg2, VE_arg3, VE_arg4] at this, h.2⟩) (run_rel m g (plan m hg h8))

end Cert.Kernel.Down
-- ==== Proof.IBody.lean ====
module

public import proofs.«01_k».proof.Proof.Gen.KernelIdeal
public import proofs.«01_k».proof.Proof.Gen.KernelIdeal.Launch
public import Idealize.ShloMosaic.Lib.Tactic

@[expose] public section

noncomputable section

namespace Cert.KernelIdeal.Down

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
/-- Memref `M`'s buffer on core `c` held at half the full share, at `f`: a table. -/
abbrev ptH (c : Dev nD) {sp : Space} {S : Shape} {e : EltTy} (M : Memref sig .tc sp S e) (f : Bf (F := F) c M) : sProp 𝕄 :=
  M.view.loc (c : Thread nD τ) ↦{fullShare.right} f

/-- The word read off a 43-word table at the offset `off`. -/
abbrev w43 (c : Dev nD) {e : EltTy} (M : Memref sig .tc .smem S43 e) (f : Bf (F := F) c M) (off : Fin 1 → Nat)
    (h : ∀ a, off a + S1.size a ≤ S43.size a) : Elt F e :=
  View.readAt (Elt F) M.view (Rect.unit (s := S43) off S1.size h).toLoadRect f (Shape.Idx.first (s := S1) (by decide))

/-- The condition of the body's one region: the first step, or an expert other than the step before. -/
abbrev k0_cond (s e p : BitVec 32) : Prop :=
  Scalar.cmpi .ne (Scalar.extui (Scalar.ori (Scalar.cmpi .eq s 0#32) (Scalar.cmpi .ne e p)) : BitVec 32) 0#32 = 1#1

/-- A step that keeps the widened weight: what it leaves in the output window, with the run. -/
def keepRun (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2))
    (hn : ¬ k0_cond s (w43 c M2 f2 (k0_off2 s) hc.1) (w43 c M2 f2 (k0_off3 s) hc.2.1)) :
    { W : Bf (F := F) c M9 //
      ∀ (E : Set ℕ) (Q : PUnit → sProp 𝕄),
        iprop(ptH c M2 f2 ∗ ptH c M3 f3 ∗ ptH c M4 f4 ∗ pt c M5 f5 ∗ pt c M6 f6 ∗ pt c M7 f7 ∗ pt c M8 f8 ∗ pt c M9 f9 ∗ pt c M10 f10
          ∗ (iprop(ptH c M2 f2 ∗ ptH c M3 f3 ∗ ptH c M4 f4 ∗ pt c M5 f5 ∗ pt c M6 f6 ∗ pt c M7 f7 ∗ pt c M8 f8
                ∗ pt c M9 W ∗ pt c M10 f10) -∗ Q ⟨⟩))
        ⊢ wp frame (wpE (defs₀ (F := F)) Variants.none c none) E
            (cc0_down b i s M2 h2 M3 h3 M4 h4 M5 h5 M6 h6 M7 h7 M8 h8 M9 h9 M10 h10) Q } := by
  refine ⟨?_, fun E Q => ?run⟩
  case run =>
    iintro ⟨H2, H3, H4, H5, H6, H7, H8, H9, H10, Hk⟩
    sl_exec (disch := first | exact hc2 | exact hc3 | exact hn | exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Down
-- ==== Proof.IWide.lean ====
module

public import proofs.«01_k».proof.Proof.Gen.KernelIdeal
public import proofs.«01_k».proof.Proof.Gen.KernelIdeal.Launch
public import proofs.«01_k».proof.Proof.IBody
public import Idealize.ShloMosaic.Lib.Tactic

@[expose] public section

noncomputable section

namespace Cert.KernelIdeal.Down

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- A step that widens a new weight: what it leaves in the output window and in the scratch, with the run. -/
def wideRun (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    { W : Bf (F := F) c M9 × Bf (F := F) c M10 //
      ∀ (f10 : Bf (F := F) c M10) (E : Set ℕ) (Q : PUnit → sProp 𝕄),
        iprop(ptH c M2 f2 ∗ ptH c M3 f3 ∗ ptH c M4 f4 ∗ pt c M5 f5 ∗ pt c M6 f6 ∗ pt c M7 f7 ∗ pt c M8 f8 ∗ pt c M9 f9 ∗ pt c M10 f10
          ∗ (iprop(ptH c M2 f2 ∗ ptH c M3 f3 ∗ ptH c M4 f4 ∗ pt c M5 f5 ∗ pt c M6 f6 ∗ pt c M7 f7 ∗ pt c M8 f8
                ∗ pt c M9 W.1 ∗ pt c M10 W.2) -∗ Q ⟨⟩))
        ⊢ wp frame (wpE (defs₀ (F := F)) Variants.none c none) E
            (cc0_down b i s M2 h2 M3 h3 M4 h4 M5 h5 M6 h6 M7 h7 M8 h8 M9 h9 M10 h10) Q } := by
  refine ⟨⟨?_, ?_⟩, fun f10 E Q => ?run⟩
  case run =>
    iintro ⟨H2, H3, H4, H5, H6, H7, H8, H9, H10, Hk⟩
    sl_exec_parts! (disch := first | exact hc2 | exact hc3 | exact hn | exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Down
-- ==== Proof.IWideVal.lean ====
module

public import proofs.«01_k».proof.Proof.Gen.KernelIdeal
public import proofs.«01_k».proof.Proof.Gen.KernelIdeal.Launch
public import proofs.«01_k».proof.Proof.IWide
public import proofs.«01_k».proof.Proof.Nibble
public import Idealize.ShloMosaic.Lib.ValueLayout
public import Idealize.ShloMosaic.Lib.VecWindow
public import Idealize.ShloMosaic.Lib.Pipeline.Value
public import Idealize.ShloMosaic.Lib.Tactic

@[expose] public section

noncomputable section

namespace Cert.KernelIdeal.Down

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open ValueIdx

/-- One cell of the widened weight: sixteen times the four-bit code `b`'s half `h`, as bf16, times a sixteenth of the scale `u`. -/
def wideCell (h : Bool) (b : BitVec 8) (u : F .bf16) : F .bf16 :=
  FloatOps.mulf (FloatOps.sitofp .bf16 (Cert.Down.nib16 h b)) (FloatOps.mulf u (Scalar.ofBits .bf16 0x3D80#16))

/-- The whole widened weight from the packed block `w` and its scales `u`: row `128 g + 64 h + j` is the half `h` of packed row `64 g + j`. -/
def wide (w : Vec F S1x2048x1024 .i8) (u : Vec F S1x32x1024 .bf16) : Vec F S4096x1024 .bf16 := fun y =>
  have hy : (y 0).val < 4096 := (y 0).isLt
  wideCell (decide (64 ≤ (y 0).val % 128))
    (w (ix3 (n0 := 1) (n1 := 2048) (n2 := 1024) 0 ⟨64 * ((y 0).val / 128) + (y 0).val % 64, by omega⟩ (y 1)))
    (u (ix3 (n0 := 1) (n1 := 32) (n2 := 1024) 0 ⟨(y 0).val / 128, by omega⟩ (y 1)))

/-- The 64 packed rows a group's two stores read, off the window. -/
abbrev rows7 (c : Dev nD) (M7 : Memref sig .tc .vmem S1x2048x1024 .i8) (f7 : Bf (F := F) c M7) (o : Fin 2 → Nat)
    (h : ∀ a, o a + S64x1024.size a ≤ S2048x1024.size a) : S64x1024.Idx → Elt F .i8 :=
  View.readAt (Elt F) ((M7.slice (Rect.unit (s := S1x2048x1024) ![0, 0, 0] S1x2048x1024.size inb_S1x2048x1024_S1x2048x1024_0_0_0) (fun _ => rfl)).squeeze
    S2048x1024 squeezes_S1x2048x1024_S2048x1024).view (Rect.unit (s := S2048x1024) o S64x1024.size h).toLoadRect f7

/-- A group's row of scales, off the window. -/
abbrev row8 (c : Dev nD) (M8 : Memref sig .tc .vmem S1x32x1024 .bf16) (f8 : Bf (F := F) c M8) (o : Fin 2 → Nat)
    (h : ∀ a, o a + S1x1024.size a ≤ S32x1024.size a) : S1x1024.Idx → F .bf16 :=
  View.readAt (Elt F) ((M8.slice (Rect.unit (s := S1x32x1024) ![0, 0, 0] S1x32x1024.size inb_S1x32x1024_S1x32x1024_0_0_0) (fun _ => rfl)).squeeze
    S32x1024 squeezes_S1x32x1024_S32x1024).view (Rect.unit (s := S32x1024) o S1x1024.size h).toLoadRect f8

theorem rows7_apply (c : Dev nD) (M7 : Memref sig .tc .vmem S1x2048x1024 .i8) (f7 : Bf (F := F) c M7) (o : Fin 2 → Nat)
    (h : ∀ a, o a + S64x1024.size a ≤ S2048x1024.size a) (p : Fin 64) (l : Fin 1024) (q : Fin 2048) (hq : q.val = o 0 + p.val) (h1 : o 1 = 0) :
    rows7 c M7 f7 o h (ix2 p l) = M7.view.read (Elt F) f7 (ix3 (n0 := 1) (n1 := 2048) (n2 := 1024) 0 q l) := by
  have e : (Rect.unit (s := S2048x1024) o S64x1024.size h).toLoadRect.idx (ix2 p l) = ix2 (n0 := 2048) (n1 := 1024) q l := by
    funext a
    match a with
    | ⟨0, _⟩ => exact Fin.ext (by show o 0 + 1 * p.val = q.val; omega)
    | ⟨1, _⟩ => exact Fin.ext (by show o 1 + 1 * l.val = l.val; omega)
  unfold rows7
  rw [View.readAt_apply, e, Memref.read_squeeze_full]
  exact congrArg _ (reshapeEquiv_ix2_1ab _ _ _)

theorem row8_apply (c : Dev nD) (M8 : Memref sig .tc .vmem S1x32x1024 .bf16) (f8 : Bf (F := F) c M8) (o : Fin 2 → Nat)
    (h : ∀ a, o a + S1x1024.size a ≤ S32x1024.size a) (l : Fin 1024) (q : Fin 32) (hq : q.val = o 0) (h1 : o 1 = 0) :
    row8 c M8 f8 o h (ix2 (0 : Fin 1) l) = M8.view.read (Elt F) f8 (ix3 (n0 := 1) (n1 := 32) (n2 := 1024) 0 q l) := by
  have e : (Rect.unit (s := S32x1024) o S1x1024.size h).toLoadRect.idx (ix2 (0 : Fin 1) l) = ix2 (n0 := 32) (n1 := 1024) q l := by
    funext a
    match a with
    | ⟨0, _⟩ => exact Fin.ext (by show o 0 + 1 * 0 = q.val; omega)
    | ⟨1, _⟩ => exact Fin.ext (by show o 1 + 1 * l.val = l.val; omega)
  unfold row8
  rw [View.readAt_apply, e, Memref.read_squeeze_full]
  exact congrArg _ (reshapeEquiv_ix2_1ab _ _ _)

/-- A group's scale row times a sixteenth, over 64 rows. -/
def scaleRows (u : S1x1024.Idx → F .bf16) : FVec F S64x1024 .bf16 :=
  broadcastTo S64x1024 (mulf (s := S1x1024) u (broadcast S1x1024 (Scalar.ofBits .bf16 0x3D80#16))) broadcasts_S1x1024_S64x1024

/-- What a group's first store writes: the low halves. -/
def lowPiece (v : S64x1024.Idx → BitVec 8) (u : S1x1024.Idx → F .bf16) : FVec F S64x1024 .bf16 :=
  shapeCast S64x1024 (mulf (sitofp .bf16 (bitcast S64x1024 8 (andi (shli (bitcast S16x1024 32 v bitcasts_S64x1024_w8_S16x1024_w32) (broadcast S16x1024 4#32))
    (broadcast S16x1024 4042322160#32)) bitcasts_S16x1024_w32_S64x1024_w8)) (scaleRows u)) shapeCasts_S64x1024_S64x1024

/-- What a group's second store writes: the high halves. -/
def highPiece (v : S64x1024.Idx → BitVec 8) (u : S1x1024.Idx → F .bf16) : FVec F S64x1024 .bf16 :=
  shapeCast S64x1024 (mulf (sitofp .bf16 (bitcast S64x1024 8 (andi (bitcast S16x1024 32 v bitcasts_S64x1024_w8_S16x1024_w32)
    (broadcast S16x1024 4042322160#32)) bitcasts_S16x1024_w32_S64x1024_w8)) (scaleRows u)) shapeCasts_S64x1024_S64x1024

theorem scaleRows_apply (u : S1x1024.Idx → F .bf16) (p : Fin 64) (l : Fin 1024) :
    scaleRows u (ix2 p l) = FloatOps.mulf (u (ix2 (0 : Fin 1) l)) (Scalar.ofBits .bf16 0x3D80#16) := by
  unfold scaleRows
  rw [broadcastTo_apply _ _ _ (ix2 (0 : Fin 1) l) (by
    intro a
    match a with
    | ⟨0, _⟩ => rfl
    | ⟨1, _⟩ => rfl)]
  rfl

theorem low_eq (v : S64x1024.Idx → BitVec 8) (u : S1x1024.Idx → F .bf16) (p : Fin 64) (l : Fin 1024) :
    lowPiece v u (ix2 p l) = wideCell false (v (ix2 p l)) (u (ix2 (0 : Fin 1) l)) := by
  unfold lowPiece
  rw [shapeCast_self]
  exact congrArg₂ FloatOps.mulf (congrArg _ (Cert.Down.low_apply v _ _ rfl (ix2 p l))) (scaleRows_apply u p l)

theorem high_eq (v : S64x1024.Idx → BitVec 8) (u : S1x1024.Idx → F .bf16) (p : Fin 64) (l : Fin 1024) :
    highPiece v u (ix2 p l) = wideCell true (v (ix2 p l)) (u (ix2 (0 : Fin 1) l)) := by
  unfold highPiece
  rw [shapeCast_self]
  exact congrArg₂ FloatOps.mulf (congrArg _ (Cert.Down.high_apply v _ _ rfl (ix2 p l))) (scaleRows_apply u p l)

/-- A list of stores, each agreeing with the widened weight and each 64 rows at a multiple of 64: what the rest owes. -/
theorem all_cons {α : Type} {P : α → Prop} {a : α} {L : List α} (h : P a) (hL : ∀ x ∈ L, P x) : ∀ x ∈ a :: L, P x :=
  List.forall_mem_cons.2 ⟨h, hL⟩

section Pieces
variable (c : Dev nD) (M7 : Memref sig .tc .vmem S1x2048x1024 .i8) (M8 : Memref sig .tc .vmem S1x32x1024 .bf16)
  (f7 : Bf (F := F) c M7) (f8 : Bf (F := F) c M8)

/-- A store agrees with the widened weight of the windows' contents. -/
def Good (p : View.Piece (Elt F) S4096x1024 .bf16) : Prop :=
  ∀ x : p.1.shape.Idx, p.2 x = wide (M7.view.read (Elt F) f7) (M8.view.read (Elt F) f8) (p.1.emb x)

theorem good_low (g o : Nat) (hg : g < 32) (ho : o = 128 * g) (h : ∀ a, (![o, 0] : Fin 2 → Nat) a + S64x1024.size a ≤ S4096x1024.size a)
    (h7 : ∀ a, (![64 * g, 0] : Fin 2 → Nat) a + S64x1024.size a ≤ S2048x1024.size a) (h8 : ∀ a, (![g, 0] : Fin 2 → Nat) a + S1x1024.size a ≤ S32x1024.size a)
    (w : S64x1024.Idx → F .bf16) (hw : w = lowPiece (rows7 c M7 f7 ![64 * g, 0] h7) (row8 c M8 f8 ![g, 0] h8)) :
    Good c M7 M8 f7 f8 ⟨Rect.unit (s := S4096x1024) ![o, 0] S64x1024.size h, w⟩ := by
  subst hw ho
  intro x
  obtain ⟨p, l, rfl⟩ : ∃ (p : Fin 64) (l : Fin 1024), x = ix2 p l := ⟨_, _, eq_ix2 x⟩
  show lowPiece _ _ (ix2 p l) = _
  have hp := p.isLt
  rw [low_eq, rows7_apply c M7 f7 _ h7 p l ⟨64 * g + p.val, by omega⟩ rfl rfl, row8_apply c M8 f8 _ h8 l ⟨g, hg⟩ rfl rfl]
  have e : (Rect.unit (s := S4096x1024) ![128 * g, 0] S64x1024.size h).emb (ix2 p l) = ix2 (n0 := 4096) (n1 := 1024) ⟨128 * g + p.val, by omega⟩ l := by
    funext a
    match a with
    | ⟨0, _⟩ => exact Fin.ext (by show 128 * g + 1 * p.val = 128 * g + p.val; omega)
    | ⟨1, _⟩ => exact Fin.ext (by show 0 + 1 * l.val = l.val; omega)
  rw [e]
  unfold wide
  have d : decide (64 ≤ (128 * g + p.val) % 128) = false := by simp; omega
  have e3 : (128 * g + p.val) % 64 = p.val := by omega
  have e2 : (128 * g + p.val) / 128 = g := by omega
  simp only [d, e2, e3]

theorem good_high (g o : Nat) (hg : g < 32) (ho : o = 128 * g + 64) (h : ∀ a, (![o, 0] : Fin 2 → Nat) a + S64x1024.size a ≤ S4096x1024.size a)
    (h7 : ∀ a, (![64 * g, 0] : Fin 2 → Nat) a + S64x1024.size a ≤ S2048x1024.size a) (h8 : ∀ a, (![g, 0] : Fin 2 → Nat) a + S1x1024.size a ≤ S32x1024.size a)
    (w : S64x1024.Idx → F .bf16) (hw : w = highPiece (rows7 c M7 f7 ![64 * g, 0] h7) (row8 c M8 f8 ![g, 0] h8)) :
    Good c M7 M8 f7 f8 ⟨Rect.unit (s := S4096x1024) ![o, 0] S64x1024.size h, w⟩ := by
  subst hw ho
  intro x
  obtain ⟨p, l, rfl⟩ : ∃ (p : Fin 64) (l : Fin 1024), x = ix2 p l := ⟨_, _, eq_ix2 x⟩
  show highPiece _ _ (ix2 p l) = _
  have hp := p.isLt
  rw [high_eq, rows7_apply c M7 f7 _ h7 p l ⟨64 * g + p.val, by omega⟩ rfl rfl, row8_apply c M8 f8 _ h8 l ⟨g, hg⟩ rfl rfl]
  have e : (Rect.unit (s := S4096x1024) ![128 * g + 64, 0] S64x1024.size h).emb (ix2 p l) = ix2 (n0 := 4096) (n1 := 1024) ⟨128 * g + 64 + p.val, by omega⟩ l := by
    funext a
    match a with
    | ⟨0, _⟩ => exact Fin.ext (by show 128 * g + 64 + 1 * p.val = 128 * g + 64 + p.val; omega)
    | ⟨1, _⟩ => exact Fin.ext (by show 0 + 1 * l.val = l.val; omega)
  rw [e]
  unfold wide
  have d : decide (64 ≤ (128 * g + 64 + p.val) % 128) = true := by simp; omega
  have e3 : (128 * g + 64 + p.val) % 64 = p.val := by omega
  have e2 : (128 * g + 64 + p.val) / 128 = g := by omega
  simp only [d, e2, e3]

/-- Every store of the widening agrees with the widened weight. -/
theorem good_all : ∀ p ∈ wideRun.sl.H10_64 c M7 M8 f7 f8, Good c M7 M8 f7 f8 p :=
  all_cons (good_high c M7 M8 f7 f8 31 4032 (by decide) rfl (by decide) (by decide) (by decide) _ rfl) <|
  all_cons (good_low c M7 M8 f7 f8 31 3968 (by decide) rfl (by decide) (by decide) (by decide) _ rfl) <|
  all_cons (good_high c M7 M8 f7 f8 30 3904 (by decide) rfl (by decide) (by decide) (by decide) _ rfl) <|
  all_cons (good_low c M7 M8 f7 f8 30 3840 (by decide) rfl (by decide) (by decide) (by decide) _ rfl) <|
  all_cons (good_high c M7 M8 f7 f8 29 3776 (by decide) rfl (by decide) (by decide) (by decide) _ rfl) <|
  all_cons (good_low c M7 M8 f7 f8 29 3712 (by decide) rfl (by decide) (by decide) (by decide) _ rfl) <|
  all_cons (good_high c M7 M8 f7 f8 28 3648 (by decide) rfl (by decide) (by decide) (by decide) _ rfl) <|
  all_cons (good_low c M7 M8 f7 f8 28 3584 (by decide) rfl (by decide) (by decide) (by decide) _ rfl) <|
  all_cons (good_high c M7 M8 f7 f8 27 3520 (by decide) rfl (by decide) (by decide) (by decide) _ rfl) <|
  all_cons (good_low c M7 M8 f7 f8 27 3456 (by decide) rfl (by decide) (by decide) (by decide) _ rfl) <|
  all_cons (good_high c M7 M8 f7 f8 26 3392 (by decide) rfl (by decide) (by decide) (by decide) _ rfl) <|
  all_cons (good_low c M7 M8 f7 f8 26 3328 (by decide) rfl (by decide) (by decide) (by decide) _ rfl) <|
  all_cons (good_high c M7 M8 f7 f8 25 3264 (by decide) rfl (by decide) (by decide) (by decide) _ rfl) <|
  all_cons (good_low c M7 M8 f7 f8 25 3200 (by decide) rfl (by decide) (by decide) (by decide) _ rfl) <|
  all_cons (good_high c M7 M8 f7 f8 24 3136 (by decide) rfl (by decide) (by decide) (by decide) _ rfl) <|
  all_cons (good_low c M7 M8 f7 f8 24 3072 (by decide) rfl (by decide) (by decide) (by decide) _ rfl) <|
  all_cons (good_high c M7 M8 f7 f8 23 3008 (by decide) rfl (by decide) (by decide) (by decide) _ rfl) <|
  all_cons (good_low c M7 M8 f7 f8 23 2944 (by decide) rfl (by decide) (by decide) (by decide) _ rfl) <|
  all_cons (good_high c M7 M8 f7 f8 22 2880 (by decide) rfl (by decide) (by decide) (by decide) _ rfl) <|
  all_cons (good_low c M7 M8 f7 f8 22 2816 (by decide) rfl (by decide) (by decide) (by decide) _ rfl) <|
  all_cons (good_high c M7 M8 f7 f8 21 2752 (by decide) rfl (by decide) (by decide) (by decide) _ rfl) <|
  all_cons (good_low c M7 M8 f7 f8 21 2688 (by decide) rfl (by decide) (by decide) (by decide) _ rfl) <|
  all_cons (good_high c M7 M8 f7 f8 20 2624 (by decide) rfl (by decide) (by decide) (by decide) _ rfl) <|
  all_cons (good_low c M7 M8 f7 f8 20 2560 (by decide) rfl (by decide) (by decide) (by decide) _ rfl) <|
  all_cons (good_high c M7 M8 f7 f8 19 2496 (by decide) rfl (by decide) (by decide) (by decide) _ rfl) <|
  all_cons (good_low c M7 M8 f7 f8 19 2432 (by decide) rfl (by decide) (by decide) (by decide) _ rfl) <|
  all_cons (good_high c M7 M8 f7 f8 18 2368 (by decide) rfl (by decide) (by decide) (by decide) _ rfl) <|
  all_cons (good_low c M7 M8 f7 f8 18 2304 (by decide) rfl (by decide) (by decide) (by decide) _ rfl) <|
  all_cons (good_high c M7 M8 f7 f8 17 2240 (by decide) rfl (by decide) (by decide) (by decide) _ rfl) <|
  all_cons (good_low c M7 M8 f7 f8 17 2176 (by decide) rfl (by decide) (by decide) (by decide) _ rfl) <|
  all_cons (good_high c M7 M8 f7 f8 16 2112 (by decide) rfl (by decide) (by decide) (by decide) _ rfl) <|
  all_cons (good_low c M7 M8 f7 f8 16 2048 (by decide) rfl (by decide) (by decide) (by decide) _ rfl) <|
  all_cons (good_high c M7 M8 f7 f8 15 1984 (by decide) rfl (by decide) (by decide) (by decide) _ rfl) <|
  all_cons (good_low c M7 M8 f7 f8 15 1920 (by decide) rfl (by decide) (by decide) (by decide) _ rfl) <|
  all_cons (good_high c M7 M8 f7 f8 14 1856 (by decide) rfl (by decide) (by decide) (by decide) _ rfl) <|
  all_cons (good_low c M7 M8 f7 f8 14 1792 (by decide) rfl (by decide) (by decide) (by decide) _ rfl) <|
  all_cons (good_high c M7 M8 f7 f8 13 1728 (by decide) rfl (by decide) (by decide) (by decide) _ rfl) <|
  all_cons (good_low c M7 M8 f7 f8 13 1664 (by decide) rfl (by decide) (by decide) (by decide) _ rfl) <|
  all_cons (good_high c M7 M8 f7 f8 12 1600 (by decide) rfl (by decide) (by decide) (by decide) _ rfl) <|
  all_cons (good_low c M7 M8 f7 f8 12 1536 (by decide) rfl (by decide) (by decide) (by decide) _ rfl) <|
  all_cons (good_high c M7 M8 f7 f8 11 1472 (by decide) rfl (by decide) (by decide) (by decide) _ rfl) <|
  all_cons (good_low c M7 M8 f7 f8 11 1408 (by decide) rfl (by decide) (by decide) (by decide) _ rfl) <|
  all_cons (good_high c M7 M8 f7 f8 10 1344 (by decide) rfl (by decide) (by decide) (by decide) _ rfl) <|
  all_cons (good_low c M7 M8 f7 f8 10 1280 (by decide) rfl (by decide) (by decide) (by decide) _ rfl) <|
  all_cons (good_high c M7 M8 f7 f8 9 1216 (by decide) rfl (by decide) (by decide) (by decide) _ rfl) <|
  all_cons (good_low c M7 M8 f7 f8 9 1152 (by decide) rfl (by decide) (by decide) (by decide) _ rfl) <|
  all_cons (good_high c M7 M8 f7 f8 8 1088 (by decide) rfl (by decide) (by decide) (by decide) _ rfl) <|
  all_cons (good_low c M7 M8 f7 f8 8 1024 (by decide) rfl (by decide) (by decide) (by decide) _ rfl) <|
  all_cons (good_high c M7 M8 f7 f8 7 960 (by decide) rfl (by decide) (by decide) (by decide) _ rfl) <|
  all_cons (good_low c M7 M8 f7 f8 7 896 (by decide) rfl (by decide) (by decide) (by decide) _ rfl) <|
  all_cons (good_high c M7 M8 f7 f8 6 832 (by decide) rfl (by decide) (by decide) (by decide) _ rfl) <|
  all_cons (good_low c M7 M8 f7 f8 6 768 (by decide) rfl (by decide) (by decide) (by decide) _ rfl) <|
  all_cons (good_high c M7 M8 f7 f8 5 704 (by decide) rfl (by decide) (by decide) (by decide) _ rfl) <|
  all_cons (good_low c M7 M8 f7 f8 5 640 (by decide) rfl (by decide) (by decide) (by decide) _ rfl) <|
  all_cons (good_high c M7 M8 f7 f8 4 576 (by decide) rfl (by decide) (by decide) (by decide) _ rfl) <|
  all_cons (good_low c M7 M8 f7 f8 4 512 (by decide) rfl (by decide) (by decide) (by decide) _ rfl) <|
  all_cons (good_high c M7 M8 f7 f8 3 448 (by decide) rfl (by decide) (by decide) (by decide) _ rfl) <|
  all_cons (good_low c M7 M8 f7 f8 3 384 (by decide) rfl (by decide) (by decide) (by decide) _ rfl) <|
  all_cons (good_high c M7 M8 f7 f8 2 320 (by decide) rfl (by decide) (by decide) (by decide) _ rfl) <|
  all_cons (good_low c M7 M8 f7 f8 2 256 (by decide) rfl (by decide) (by decide) (by decide) _ rfl) <|
  all_cons (good_high c M7 M8 f7 f8 1 192 (by decide) rfl (by decide) (by decide) (by decide) _ rfl) <|
  all_cons (good_low c M7 M8 f7 f8 1 128 (by decide) rfl (by decide) (by decide) (by decide) _ rfl) <|
  all_cons (good_high c M7 M8 f7 f8 0 64 (by decide) rfl (by decide) (by decide) (by decide) _ rfl) <|
  all_cons (good_low c M7 M8 f7 f8 0 0 (by decide) rfl (by decide) (by decide) (by decide) _ rfl) <|
  fun _ h => absurd h List.not_mem_nil

end Pieces

end Cert.KernelIdeal.Down
-- ==== Proof.IOut.lean ====
module

public import proofs.«01_k».proof.Proof.Gen.KernelIdeal
public import proofs.«01_k».proof.Proof.Gen.KernelIdeal.Launch
public import proofs.«01_k».proof.Proof.IWideVal
public import proofs.«01_k».proof.Proof.Nibble
public import Idealize.ShloMosaic.Lib.ValueLayout
public import Idealize.ShloMosaic.Lib.VecWindow
public import Idealize.ShloMosaic.Lib.Pipeline.Value
public import Idealize.ShloMosaic.Lib.Tactic

@[expose] public section

noncomputable section

namespace Cert.KernelIdeal.Down

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open ValueIdx

/-- The stores up to the `n`-th row of the scratch reach every row below it. -/
def Reach (n : Nat) (L : List (View.Piece (Elt F) S4096x1024 .bf16)) : Prop :=
  ∀ y : S4096x1024.Idx, (y 0).val < n → ∃ p ∈ L, y ∈ p.1.set

theorem reach_cons (n m : Nat) (hm : m = n + 64) (h : ∀ a, (![n, 0] : Fin 2 → Nat) a + S64x1024.size a ≤ S4096x1024.size a) (w : S64x1024.Idx → F .bf16)
    (L : List (View.Piece (Elt F) S4096x1024 .bf16)) (hL : Reach n L) : Reach m (⟨Rect.unit (s := S4096x1024) ![n, 0] S64x1024.size h, w⟩ :: L) := by
  subst hm
  intro y hy
  by_cases hn : (y 0).val < n
  · obtain ⟨p, hp, hyp⟩ := hL y hn
    exact ⟨p, List.mem_cons_of_mem _ hp, hyp⟩
  · refine ⟨_, List.mem_cons_self, (Rect.mem_set_unit (inb := h)).2 fun a => ?_⟩
    match a with
    | ⟨0, _⟩ => exact ⟨by show n ≤ (y 0).val; omega, by show (y 0).val < n + 64; omega⟩
    | ⟨1, _⟩ => exact ⟨Nat.zero_le _, by have h1 : (y 1).val < 1024 := (y 1).isLt; show (y 1).val < 0 + 1024; omega⟩

theorem reach_all (c : Dev nD) (M7 : Memref sig .tc .vmem S1x2048x1024 .i8) (M8 : Memref sig .tc .vmem S1x32x1024 .bf16)
    (f7 : Bf (F := F) c M7) (f8 : Bf (F := F) c M8) : Reach 4096 (wideRun.sl.H10_64 c M7 M8 f7 f8) :=
  reach_cons 4032 4096 rfl (by decide) _ _ <|
  reach_cons 3968 4032 rfl (by decide) _ _ <|
  reach_cons 3904 3968 rfl (by decide) _ _ <|
  reach_cons 3840 3904 rfl (by decide) _ _ <|
  reach_cons 3776 3840 rfl (by decide) _ _ <|
  reach_cons 3712 3776 rfl (by decide) _ _ <|
  reach_cons 3648 3712 rfl (by decide) _ _ <|
  reach_cons 3584 3648 rfl (by decide) _ _ <|
  reach_cons 3520 3584 rfl (by decide) _ _ <|
  reach_cons 3456 3520 rfl (by decide) _ _ <|
  reach_cons 3392 3456 rfl (by decide) _ _ <|
  reach_cons 3328 3392 rfl (by decide) _ _ <|
  reach_cons 3264 3328 rfl (by decide) _ _ <|
  reach_cons 3200 3264 rfl (by decide) _ _ <|
  reach_cons 3136 3200 rfl (by decide) _ _ <|
  reach_cons 3072 3136 rfl (by decide) _ _ <|
  reach_cons 3008 3072 rfl (by decide) _ _ <|
  reach_cons 2944 3008 rfl (by decide) _ _ <|
  reach_cons 2880 2944 rfl (by decide) _ _ <|
  reach_cons 2816 2880 rfl (by decide) _ _ <|
  reach_cons 2752 2816 rfl (by decide) _ _ <|
  reach_cons 2688 2752 rfl (by decide) _ _ <|
  reach_cons 2624 2688 rfl (by decide) _ _ <|
  reach_cons 2560 2624 rfl (by decide) _ _ <|
  reach_cons 2496 2560 rfl (by decide) _ _ <|
  reach_cons 2432 2496 rfl (by decide) _ _ <|
  reach_cons 2368 2432 rfl (by decide) _ _ <|
  reach_cons 2304 2368 rfl (by decide) _ _ <|
  reach_cons 2240 2304 rfl (by decide) _ _ <|
  reach_cons 2176 2240 rfl (by decide) _ _ <|
  reach_cons 2112 2176 rfl (by decide) _ _ <|
  reach_cons 2048 2112 rfl (by decide) _ _ <|
  reach_cons 1984 2048 rfl (by decide) _ _ <|
  reach_cons 1920 1984 rfl (by decide) _ _ <|
  reach_cons 1856 1920 rfl (by decide) _ _ <|
  reach_cons 1792 1856 rfl (by decide) _ _ <|
  reach_cons 1728 1792 rfl (by decide) _ _ <|
  reach_cons 1664 1728 rfl (by decide) _ _ <|
  reach_cons 1600 1664 rfl (by decide) _ _ <|
  reach_cons 1536 1600 rfl (by decide) _ _ <|
  reach_cons 1472 1536 rfl (by decide) _ _ <|
  reach_cons 1408 1472 rfl (by decide) _ _ <|
  reach_cons 1344 1408 rfl (by decide) _ _ <|
  reach_cons 1280 1344 rfl (by decide) _ _ <|
  reach_cons 1216 1280 rfl (by decide) _ _ <|
  reach_cons 1152 1216 rfl (by decide) _ _ <|
  reach_cons 1088 1152 rfl (by decide) _ _ <|
  reach_cons 1024 1088 rfl (by decide) _ _ <|
  reach_cons 960 1024 rfl (by decide) _ _ <|
  reach_cons 896 960 rfl (by decide) _ _ <|
  reach_cons 832 896 rfl (by decide) _ _ <|
  reach_cons 768 832 rfl (by decide) _ _ <|
  reach_cons 704 768 rfl (by decide) _ _ <|
  reach_cons 640 704 rfl (by decide) _ _ <|
  reach_cons 576 640 rfl (by decide) _ _ <|
  reach_cons 512 576 rfl (by decide) _ _ <|
  reach_cons 448 512 rfl (by decide) _ _ <|
  reach_cons 384 448 rfl (by decide) _ _ <|
  reach_cons 320 384 rfl (by decide) _ _ <|
  reach_cons 256 320 rfl (by decide) _ _ <|
  reach_cons 192 256 rfl (by decide) _ _ <|
  reach_cons 128 192 rfl (by decide) _ _ <|
  reach_cons 64 128 rfl (by decide) _ _ <|
  reach_cons 0 64 rfl (by decide) _ _ <|
  fun _ h => absurd h (Nat.not_lt_zero _)

/-- The scratch after the widening's stores reads the widened weight. -/
theorem read_wide (c : Dev nD) (M7 : Memref sig .tc .vmem S1x2048x1024 .i8) (M8 : Memref sig .tc .vmem S1x32x1024 .bf16)
    (M10 : Memref sig .tc .vmem S4096x1024 .bf16) (f7 : Bf (F := F) c M7) (f8 : Bf (F := F) c M8) (f10 : Bf (F := F) c M10) :
    M10.view.read (Elt F) (M10.view.writes (Elt F) f10 (wideRun.sl.H10_64 c M7 M8 f7 f8))
      = wide (M7.view.read (Elt F) f7) (M8.view.read (Elt F) f8) :=
  funext fun y => View.read_writes_apply_of_pieces _ _ _ _ (good_all c M7 M8 f7 f8) y (reach_all c M7 M8 f7 f8 y (y 0).isLt)

/-- A step's product: the codes' tile as bf16 times the widened weight, times the expert's scale. -/
def yTile (a : Vec F S256x4096 .fp8e4m3) (w : Vec F S4096x1024 .bf16) (act : F .f32) : FVec F S256x1024 .f32 :=
  mulf (matmul dot_S256x4096_S4096x1024_S256x1024_1_0_0_1_n_n none (extf .bf16 a) w (constant S256x1024 .f32 0#32)) (broadcast S256x1024 act)

/-- The rows of the tile `t` a step of expert `e` keeps: from `st` (0 for expert 0) to before `en`. -/
def keepTile (e t st en : BitVec 32) : IVec S256x1024 1 :=
  andi (cmpi .sge (addi (broadcast S256x1024 (Scalar.muli t 256#32)) (iota .tc S256x1024 32 [0]))
      (broadcast S256x1024 (Scalar.select (Scalar.cmpi .eq e 0#32) 0#32 st)))
    (cmpi .slt (addi (broadcast S256x1024 (Scalar.muli t 256#32)) (iota .tc S256x1024 32 [0])) (broadcast S256x1024 en))

/-- What a step leaves in the output window that held `old`. -/
def outTile (e t st en : BitVec 32) (a : Vec F S256x4096 .fp8e4m3) (w : Vec F S4096x1024 .bf16) (act : F .f32) (old : Vec F S256x1024 .f32) :
    Vec F S256x1024 .f32 :=
  select (keepTile e t st en) (yTile a w act) old

/-- The word read off an 8-word buffer at the offset `off`. -/
abbrev w8 (c : Dev nD) {e : EltTy} (M : Memref sig .tc .smem S8 e) (f : Bf (F := F) c M) (off : Fin 1 → Nat)
    (h : ∀ a, off a + S1.size a ≤ S8.size a) : Elt F e :=
  View.readAt (Elt F) M.view (Rect.unit (s := S8) off S1.size h).toLoadRect f (Shape.Idx.first (s := S1) (by decide))

theorem read_full {sig : RefSig} {κ : Kind} {sp : Space} {s : Shape} {e : EltTy} {Val : EltTy → Type} (v : View sig κ sp s e) (f : v.ty.Contents Val)
    {off : Fin s.rank → Nat} (inb : ∀ a, off a + s.size a ≤ s.size a) :
    v.readAt Val (Rect.unit off s.size inb).toLoadRect f = v.read Val f :=
  funext fun y => by
    rw [View.readAt_apply]
    exact congrArg _ (Rect.emb_unit_full inb y)

theorem read_writes_full {sig : RefSig} {κ : Kind} {sp : Space} {s : Shape} {e : EltTy} {Val : EltTy → Type} (v : View sig κ sp s e) (f : v.ty.Contents Val)
    {off : Fin s.rank → Nat} (inb : ∀ a, off a + s.size a ≤ s.size a) (w : s.Idx → Val e) :
    v.read Val (v.writes Val f [⟨Rect.unit off s.size inb, w⟩]) = w :=
  funext fun y => by
    have h := View.read_writes_cons_emb v f (Rect.unit off s.size inb) w [] y
    rwa [Rect.emb_unit_full inb y] at h

theorem read_cast9 (c : Dev nD) (M9 : Memref sig .tc .vmem S256x1024 .f32) (f9 : Bf (F := F) c M9) :
    shapeCast S256x1024 (View.readAt (Elt F) M9.view (Rect.unit (s := S256x1024) ![0, 0] S256x1024.size inb_S256x1024_S256x1024_0_0).toLoadRect f9)
      shapeCasts_S256x1024_S256x1024 = M9.view.read (Elt F) f9 :=
  (shapeCast_self _ _).trans (read_full M9.view f9 inb_S256x1024_S256x1024_0_0)

theorem keepRun_out (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2))
    (hn : ¬ k0_cond s (w43 c M2 f2 (k0_off2 s) hc.1) (w43 c M2 f2 (k0_off3 s) hc.2.1)) :
    (keepRun c b i s M2 h2 M3 h3 M4 h4 M5 h5 M6 h6 M7 h7 M8 h8 M9 h9 M10 h10 f2 f3 f4 f5 f6 f7 f8 f9 f10 hc hc2 hc3 hn).1 = M9.view.writes (Elt F) f9 [⟨Rect.unit (s := S256x1024) ![0, 0] S256x1024.size inb_S256x1024_S256x1024_0_0, keepRun.sl.v44 c s M2 M3 M4 M5 M6 M9 M10 f2 f3 f4 f5 f6 f9 f10 hc hc2 hc3⟩] := by
  delta keepRun
  dsimp only

theorem keep_mask (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2)) :
    keepRun.sl.v41 c s M2 M3 M4 f2 f3 f4 hc hc3
      = keepTile (w43 c M2 f2 (k0_off5 s) hc.2.2) (w43 c M3 f3 (k0_off5 s) hc.2.2) (w8 c M4 f4 (k0_off6 (w43 c M2 f2 (k0_off5 s) hc.2.2)) (k0_off6_inb _ hc3))
          (w8 c M4 f4 (k0_off7 (w43 c M2 f2 (k0_off5 s) hc.2.2)) (k0_off7_inb _ hc3)) := by
  exact rfl

theorem keep_y (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2)) :
    keepRun.sl.v20 c s M2 M5 M6 M10 f2 f5 f6 f10 hc hc2
      = yTile (M6.view.readAt (Elt F) (Rect.unit (s := S256x4096) ![0, 0] S256x4096.size inb_S256x4096_S256x4096_0_0).toLoadRect f6)
          (M10.view.readAt (Elt F) (Rect.unit (s := S4096x1024) ![0, 0] S4096x1024.size inb_S4096x1024_S4096x1024_0_0).toLoadRect f10) (w8 c M5 f5 (k0_off4 (w43 c M2 f2 (k0_off2 s) hc.1)) hc2) := by
  exact rfl

theorem keep_sel (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2)) :
    keepRun.sl.v44 c s M2 M3 M4 M5 M6 M9 M10 f2 f3 f4 f5 f6 f9 f10 hc hc2 hc3 = select (keepRun.sl.v41 c s M2 M3 M4 f2 f3 f4 hc hc3) (keepRun.sl.v20 c s M2 M5 M6 M10 f2 f5 f6 f10 hc hc2) (M9.view.read (Elt F) f9) := by
  rw [← read_cast9]
  exact rfl

theorem keep_out (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10)
    (hc : k0_chk1 s) (hc2 : k0_chk2 (w43 c M2 f2 (k0_off2 s) hc.1)) (hc3 : k0_chk3 (w43 c M2 f2 (k0_off5 s) hc.2.2))
    (hn : ¬ k0_cond s (w43 c M2 f2 (k0_off2 s) hc.1) (w43 c M2 f2 (k0_off3 s) hc.2.1)) :
    M9.view.read (Elt F) (keepRun c b i s M2 h2 M3 h3 M4 h4 M5 h5 M6 h6 M7 h7 M8 h8 M9 h9 M10 h10 f2 f3 f4 f5 f6 f7 f8 f9 f10 hc hc2 hc3 hn).1
      = outTile (w43 c M2 f2 (k0_off5 s) hc.2.2) (w43 c M3 f3 (k0_off5 s) hc.2.2) (w8 c M4 f4 (k0_off6 (w43 c M2 f2 (k0_off5 s) hc.2.2)) (k0_off6_inb _ hc3))
          (w8 c M4 f4 (k0_off7 (w43 c M2 f2 (k0_off5 s) hc.2.2)) (k0_off7_inb _ hc3)) (M6.view.read (Elt F) f6) (M10.view.read (Elt F) f10)
          (w8 c M5 f5 (k0_off4 (w43 c M2 f2 (k0_off2 s) hc.1)) hc2) (M9.view.read (Elt F) f9) := by
  rw [keepRun_out, read_writes_full, keep_sel c b i s M2 h2 M3 h3 M4 h4 M5 h5 M6 h6 M7 h7 M8 h8 M9 h9 M10 h10 f2 f3 f4 f5 f6 f7 f8,
    keep_mask c b i s M2 h2 M3 h3 M4 h4 M5 h5 M6 h6 M7 h7 M8 h8 M9 h9 M10 h10 f2 f3 f4 f5 f6 f7 f8 f9 f10 hc hc2 hc3,
    keep_y c b i s M2 h2 M3 h3 M4 h4 M5 h5 M6 h6 M7 h7 M8 h8 M9 h9 M10 h10 f2 f3 f4 f5 f6 f7 f8 f9 f10 hc hc2 hc3, read_full, read_full]
  rfl

theorem wideRun_out (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 f2 f3 f4 f5 f6 f7 f8 f9 hc hc2 hc3 hn).1.1 = M9.view.writes (Elt F) M9.view.junk [⟨Rect.unit (s := S256x1024) ![0, 0] S256x1024.size inb_S256x1024_S256x1024_0_0, wideRun.sl.v44 c s M2 M3 M4 M5 M6 M7 M8 M9 M10 f2 f3 f4 f5 f6 f7 f8 f9 hc hc2 hc3⟩] := by
  delta wideRun
  dsimp only
  exact rfl

theorem wide_mask (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2)) :
    wideRun.sl.v41 c s M2 M3 M4 f2 f3 f4 hc hc3
      = keepTile (w43 c M2 f2 (k0_off5 s) hc.2.2) (w43 c M3 f3 (k0_off5 s) hc.2.2) (w8 c M4 f4 (k0_off6 (w43 c M2 f2 (k0_off5 s) hc.2.2)) (k0_off6_inb _ hc3))
          (w8 c M4 f4 (k0_off7 (w43 c M2 f2 (k0_off5 s) hc.2.2)) (k0_off7_inb _ hc3)) := by
  exact rfl

theorem wide_y (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2)) :
    wideRun.sl.v20 c s M2 M5 M6 M7 M8 M10 f2 f5 f6 f7 f8 hc hc2
      = yTile (M6.view.readAt (Elt F) (Rect.unit (s := S256x4096) ![0, 0] S256x4096.size inb_S256x4096_S256x4096_0_0).toLoadRect f6)
          (M10.view.readAt (Elt F) (Rect.unit (s := S4096x1024) ![0, 0] S4096x1024.size inb_S4096x1024_S4096x1024_0_0).toLoadRect (M10.view.writes (Elt F) M10.view.junk (wideRun.sl.H10_64 c M7 M8 f7 f8))) (w8 c M5 f5 (k0_off4 (w43 c M2 f2 (k0_off2 s) hc.1)) hc2) := by
  exact rfl

theorem wide_sel (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2)) :
    wideRun.sl.v44 c s M2 M3 M4 M5 M6 M7 M8 M9 M10 f2 f3 f4 f5 f6 f7 f8 f9 hc hc2 hc3 = select (wideRun.sl.v41 c s M2 M3 M4 f2 f3 f4 hc hc3) (wideRun.sl.v20 c s M2 M5 M6 M7 M8 M10 f2 f5 f6 f7 f8 hc hc2) (M9.view.read (Elt F) f9) := by
  rw [← read_cast9]
  exact rfl

theorem wideRun_scratch (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 f2 f3 f4 f5 f6 f7 f8 f9 hc hc2 hc3 hn).1.2 = M10.view.writes (Elt F) M10.view.junk (wideRun.sl.H10_64 c M7 M8 f7 f8) := by
  delta wideRun
  dsimp only

theorem wide_scratch (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    M10.view.read (Elt F) (wideRun c b i s M2 h2 M3 h3 M4 h4 M5 h5 M6 h6 M7 h7 M8 h8 M9 h9 M10 h10 f2 f3 f4 f5 f6 f7 f8 f9 hc hc2 hc3 hn).1.2 = wide (M7.view.read (Elt F) f7) (M8.view.read (Elt F) f8) := by
  rw [wideRun_scratch]
  exact read_wide c M7 M8 M10 f7 f8 M10.view.junk

theorem wide_out (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (M10 : Memref sig .tc .vmem S4096x1024 .bf16) (h10 : M10.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9)
    (hc : k0_chk1 s) (hc2 : k0_chk2 (w43 c M2 f2 (k0_off2 s) hc.1)) (hc3 : k0_chk3 (w43 c M2 f2 (k0_off5 s) hc.2.2))
    (hn : k0_cond s (w43 c M2 f2 (k0_off2 s) hc.1) (w43 c M2 f2 (k0_off3 s) hc.2.1)) :
    M9.view.read (Elt F) (wideRun c b i s M2 h2 M3 h3 M4 h4 M5 h5 M6 h6 M7 h7 M8 h8 M9 h9 M10 h10 f2 f3 f4 f5 f6 f7 f8 f9 hc hc2 hc3 hn).1.1
      = outTile (w43 c M2 f2 (k0_off5 s) hc.2.2) (w43 c M3 f3 (k0_off5 s) hc.2.2) (w8 c M4 f4 (k0_off6 (w43 c M2 f2 (k0_off5 s) hc.2.2)) (k0_off6_inb _ hc3))
          (w8 c M4 f4 (k0_off7 (w43 c M2 f2 (k0_off5 s) hc.2.2)) (k0_off7_inb _ hc3)) (M6.view.read (Elt F) f6)
          (wide (M7.view.read (Elt F) f7) (M8.view.read (Elt F) f8))
          (w8 c M5 f5 (k0_off4 (w43 c M2 f2 (k0_off2 s) hc.1)) hc2) (M9.view.read (Elt F) f9) := by
  rw [wideRun_out, read_writes_full, wide_sel c b i s M2 h2 M3 h3 M4 h4 M5 h5 M6 h6 M7 h7 M8 h8 M9 h9 M10 h10 f2 f3 f4 f5 f6 f7 f8,
    wide_mask c b i s M2 h2 M3 h3 M4 h4 M5 h5 M6 h6 M7 h7 M8 h8 M9 h9 M10 h10 f2 f3 f4 f5 f6 f7 f8 f9 hc hc2 hc3,
    wide_y c b i s M2 h2 M3 h3 M4 h4 M5 h5 M6 h6 M7 h7 M8 h8 M9 h9 M10 h10 f2 f3 f4 f5 f6 f7 f8 f9 hc hc2 hc3, read_full, read_full, read_wide]
  rfl

end Cert.KernelIdeal.Down
-- ==== Proof.IPlan.lean ====
/- What the tables say: the grid's points, the windows' blocks and the body's checked words, at tables that hold a work list. -/
module

public import proofs.«01_k».proof.Proof.Gen.KernelIdeal
public import proofs.«01_k».proof.Proof.Gen.KernelIdeal.Launch
public import proofs.«01_k».proof.Proof.WorkWords
public import Idealize.ShloMosaic.Lib.PairWhole

@[expose] public section

set_option maxRecDepth 4000

noncomputable section

namespace Cert.KernelIdeal.Down

open Cert.KernelIdeal Cert.KernelIdeal.Gen
open Cert.Down
open Idealize.ShloMosaic Idealize.ShloMosaic.TcCoe Idealize.ShloMosaic.ValueIdx

variable {F : FTy → Type} [FloatOps F]

/-- The tables hold the work list of the group sizes `γ`. -/
structure Plan (pf : pre0.Contents (Elt F)) (γ : Nat → Nat) : Prop where
  h8 : pre γ 8 = 9216
  n : ∀ i, (pf 0 : IVec S_ 32) i = BitVec.ofNat 32 (steps γ)
  expert : ∀ s : Fin 43, (pf 1 : IVec S43 32) (ix1 s) = BitVec.ofNat 32 (expertOf γ s.val)
  tile : ∀ s : Fin 43, (pf 2 : IVec S43 32) (ix1 s) = BitVec.ofNat 32 (tileOf γ s.val)
  ends : ∀ e : Fin 8, (pf 3 : IVec S8 32) (ix1 e) = BitVec.ofNat 32 (pre γ (e.val + 1))

/-- A word as an index. -/
theorem cast_nat {n : Nat} (h : n < 2 ^ 32) : (Scalar.indexCast (BitVec.ofNat 32 n) : Index).toNat = n := by
  have : (Scalar.indexCast (BitVec.ofNat 32 n) : Index) = BitVec.ofNat 32 n := by
    unfold Scalar.indexCast; simp
  rw [this, BitVec.toNat_ofNat, Nat.mod_eq_of_lt h]

theorem toNat_nat {n : Nat} (h : n < 2 ^ 32) : (BitVec.ofNat 32 n).toNat = n := by
  rw [BitVec.toNat_ofNat, Nat.mod_eq_of_lt h]

section
variable {pf : pre0.Contents (Elt F)} {γ : Nat → Nat} (P : Plan pf γ)
include P

theorem steps_lt : steps γ ≤ 43 := steps_le γ P.h8

theorem dynb_one : dynb0 pf 1 = steps γ := by
  have := steps_lt P
  show ((pf 0 : IVec S_ 32) _).toNat = _
  rw [P.n, toNat_nat (by omega)]

theorem bound_zero : (grid0.at (dynb0 pf)).bound 0 = 6 := rfl
theorem bound_one : (grid0.at (dynb0 pf)).bound 1 = steps γ := by
  show grid0.boundAt (dynb0 pf) 1 = _
  rw [grid0.boundAt_of_dyn_true rfl, dynb_one P]

theorem grid_N : (grid0.at (dynb0 pf)).N = 6 * steps γ := by
  have h1 := bound_one P
  unfold Pipeline.Grid.N
  simp only [List.ofFn_succ, List.ofFn_zero, List.prod_cons, List.prod_nil]
  show (grid0.at (dynb0 pf)).bound 0 * ((grid0.at (dynb0 pf)).bound 1 * 1) = _
  rw [h1, bound_zero P, Nat.mul_one]

theorem coord_lt (i : (grid0.at (dynb0 pf)).Coords) : (i 1).val < steps γ := bound_one P ▸ (i 1).isLt
theorem coord_lt0 (i : (grid0.at (dynb0 pf)).Coords) : (i 0).val < 6 := (i 0).isLt

theorem coords_one (t : Fin (grid0.at (dynb0 pf)).N) : ((grid0.at (dynb0 pf)).coords t 1).val = t.val % steps γ := by
  rw [Pipeline.Grid.coords_val t 1 (S := 1) (B := steps γ) (by
    unfold Pipeline.Grid.stride
    simp only [List.ofFn_succ, List.ofFn_zero, List.prod_cons, List.prod_nil]; rfl) (bound_one P), Nat.div_one]

theorem coords_zero (t : Fin (grid0.at (dynb0 pf)).N) : ((grid0.at (dynb0 pf)).coords t 0).val = t.val / steps γ := by
  have ht : t.val < 6 * steps γ := t.isLt.trans_eq (grid_N P)
  rw [Pipeline.Grid.coords_val t 0 (S := steps γ) (B := 6) (by
    unfold Pipeline.Grid.stride
    simp only [List.ofFn_succ, List.ofFn_zero, List.prod_cons, List.prod_nil]
    show 1 * ((grid0.at (dynb0 pf)).bound 1 * 1) = _
    rw [bound_one P]; omega) rfl]
  exact Nat.mod_eq_of_lt (Nat.div_lt_of_lt_mul (by rw [Nat.mul_comm]; exact ht))

omit P in
theorem off_lt {n : Nat} (hn : n < 43) : ∀ a, (![n] : Fin 1 → Nat) a + 1 ≤ S43.size a := fun a => by
  obtain rfl := Fin.fin_one_eq_zero a; exact hn
omit P in
theorem off_ix {n : Nat} (hn : n < 43) : (fun a => ⟨(![n] : Fin 1 → Nat) a, off_lt hn a⟩ : S43.Idx) = ix1 ⟨n, hn⟩ := by
  funext a; obtain rfl := Fin.fin_one_eq_zero a; rfl
omit P in
theorem atD_at (f : IVec S43 32) {n : Nat} (hn : n < 43) :
    (if h : ∀ a, (![n] : Fin 1 → Nat) a + 1 ≤ S43.size a then f (fun a => ⟨(![n] : Fin 1 → Nat) a, h a⟩) else default) = f (ix1 ⟨n, hn⟩) := by
  rw [dif_pos (off_lt hn), off_ix]

theorem expert_at {n : Nat} (hn : n < steps γ) : pf.atD 1 ![n] = BitVec.ofNat 32 (expertOf γ n) :=
  (atD_at (pf 1 : IVec S43 32) (Nat.lt_of_lt_of_le hn (steps_lt P))).trans (P.expert _)
theorem tile_at {n : Nat} (hn : n < steps γ) : pf.atD 2 ![n] = BitVec.ofNat 32 (tileOf γ n) :=
  (atD_at (pf 2 : IVec S43 32) (Nat.lt_of_lt_of_le hn (steps_lt P))).trans (P.tile _)

theorem expert_lt (s : Nat) : expertOf γ s < 8 := slot_lt _ _
theorem tile_le (s : Nat) : tileOf γ s ≤ 35 := Nat.min_le_right _ _

theorem trans1 (i : (grid0.at (dynb0 pf)).Coords) : cc0_transform_1 pf (dynb0 pf) i = ![tileOf γ (i 1).val, 0] := by
  have h := coord_lt P i; have := steps_lt P; have := tile_le P (i 1).val
  unfold cc0_transform_1
  dsimp only
  rw [cast_nat (by omega), tile_at P h, toNat_nat (by omega)]; rfl
theorem trans2 (i : (grid0.at (dynb0 pf)).Coords) : cc0_transform_2 pf (dynb0 pf) i = ![expertOf γ (i 1).val, 0, (i 0).val] := by
  have h := coord_lt P i; have := steps_lt P; have := expert_lt P (i 1).val; have := coord_lt0 P i
  unfold cc0_transform_2
  dsimp only
  rw [cast_nat (by omega), expert_at P h, toNat_nat (by omega), toNat_nat (n := (i 0).val) (by omega)]; rfl
theorem trans3 (i : (grid0.at (dynb0 pf)).Coords) : cc0_transform_3 pf (dynb0 pf) i = ![expertOf γ (i 1).val, 0, (i 0).val] := by
  have h := coord_lt P i; have := steps_lt P; have := expert_lt P (i 1).val; have := coord_lt0 P i
  unfold cc0_transform_3
  dsimp only
  rw [cast_nat (by omega), expert_at P h, toNat_nat (by omega), toNat_nat (n := (i 0).val) (by omega)]; rfl
theorem trans4 (i : (grid0.at (dynb0 pf)).Coords) : cc0_transform_4 pf (dynb0 pf) i = ![tileOf γ (i 1).val, (i 0).val] := by
  have h := coord_lt P i; have := steps_lt P; have := tile_le P (i 1).val; have := coord_lt0 P i
  unfold cc0_transform_4
  dsimp only
  rw [cast_nat (by omega), tile_at P h, toNat_nat (by omega), toNat_nat (n := (i 0).val) (by omega)]

/-- The region's side condition holds of such tables. -/
theorem ok_of_plan : ok0 pf := by
  have hs := steps_lt P
  refine ⟨?_, fun i a => ?_, fun i => ⟨fun a => ?_, .inl rfl⟩, fun i => ⟨fun a => ?_, .inr ?_⟩, fun i => ⟨fun a => ?_, .inr ?_⟩,
    fun i => ⟨fun a => ?_, .inr ?_⟩, fun i => ⟨fun a => ?_, .inl rfl⟩⟩
  · unfold Pipeline.Grid.Admits; rw [grid_N P]; omega
  · have h := coord_lt P i
    obtain rfl := Fin.fin_one_eq_zero a
    show (Scalar.indexCast (BitVec.ofNat 32 (i 1).val) : Index).toNat + 1 ≤ 43
    rw [cast_nat (by omega)]; omega
  · obtain rfl := Fin.fin_one_eq_zero a; exact (show (0 + 1) * 8 ≤ 8 by decide)
  · have h := coord_lt P i; have := tile_le P (i 1).val
    rw [trans1 P i]
    fin_cases a
    · show (tileOf γ (i 1).val + 1) * 256 ≤ 9216; omega
    · exact (show (0 + 1) * 4096 ≤ 4096 by decide)
  · refine (Rect.packedRows_of_rowAxis _ _ (by decide) ?_ (show 4 ∣ 256 by decide) rfl).wholeWords
    show 4 ∣ cc0_transform_1 pf (dynb0 pf) i 0 * 256
    exact Dvd.dvd.mul_left (by decide) _
  · have h := coord_lt P i; have := expert_lt P (i 1).val; have := coord_lt0 P i
    rw [trans2 P i]
    fin_cases a
    · show (expertOf γ (i 1).val + 1) * 1 ≤ 8; omega
    · exact (show (0 + 1) * 2048 ≤ 2048 by decide)
    · show ((i 0).val + 1) * 1024 ≤ 6144; omega
  · refine (Rect.packedRows_of_rowAxis _ _ (by decide) ?_ (show 4 ∣ 2048 by decide) rfl).wholeWords
    show 4 ∣ cc0_transform_2 pf (dynb0 pf) i 1 * 2048
    exact Dvd.dvd.mul_left (by decide) _
  · have h := coord_lt P i; have := expert_lt P (i 1).val; have := coord_lt0 P i
    rw [trans3 P i]
    fin_cases a
    · show (expertOf γ (i 1).val + 1) * 1 ≤ 8; omega
    · exact (show (0 + 1) * 32 ≤ 32 by decide)
    · show ((i 0).val + 1) * 1024 ≤ 6144; omega
  · refine (Rect.packedRows_of_rowAxis _ _ (by decide) ?_ (show 2 ∣ 32 by decide) rfl).wholeWords
    show 2 ∣ cc0_transform_3 pf (dynb0 pf) i 1 * 32
    exact Dvd.dvd.mul_left (by decide) _
  · have h := coord_lt P i; have := tile_le P (i 1).val; have := coord_lt0 P i
    rw [trans4 P i]
    fin_cases a
    · show (tileOf γ (i 1).val + 1) * 256 ≤ 9216; omega
    · show ((i 0).val + 1) * 1024 ≤ 6144; omega

end

/-- A step's number passes the body's first check. -/
theorem chk1 {n : Nat} (h : n < 43) : k0_chk1 (BitVec.ofNat 32 n) := by
  refine ⟨fun a => ?_, fun a => ?_, fun a => ?_⟩ <;> obtain rfl := Fin.fin_one_eq_zero a
  · show (Scalar.indexCast (BitVec.ofNat 32 n) : Index).toNat + 1 ≤ 43
    rw [cast_nat (by omega)]; omega
  · show (Scalar.indexCast (Scalar.maxsi (Scalar.subi (BitVec.ofNat 32 n) 1#32) 0#32) : Index).toNat + 1 ≤ 43
    have : Scalar.maxsi (Scalar.subi (BitVec.ofNat 32 n) 1#32) 0#32 = BitVec.ofNat 32 (n - 1) := Routing.maxsi_pred (by omega)
    rw [this, cast_nat (by omega)]; omega
  · show (Scalar.indexCast (BitVec.ofNat 32 n) : Index).toNat + 1 ≤ 43
    rw [cast_nat (by omega)]; omega

/-- A group's number passes the body's other checks. -/
theorem chk2 {e : Nat} (h : e < 8) : k0_chk2 (BitVec.ofNat 32 e) := fun a => by
  obtain rfl := Fin.fin_one_eq_zero a
  show (Scalar.indexCast (BitVec.ofNat 32 e) : Index).toNat + 1 ≤ 8
  rw [cast_nat (by omega)]; omega
theorem chk3 {e : Nat} (h : e < 8) : k0_chk3 (BitVec.ofNat 32 e) := by
  refine ⟨fun a => ?_, fun a => ?_⟩ <;> obtain rfl := Fin.fin_one_eq_zero a
  · show (Scalar.indexCast (Scalar.maxsi (Scalar.subi (BitVec.ofNat 32 e) 1#32) 0#32) : Index).toNat + 1 ≤ 8
    have : Scalar.maxsi (Scalar.subi (BitVec.ofNat 32 e) 1#32) 0#32 = BitVec.ofNat 32 (e - 1) := Routing.maxsi_pred (by omega)
    rw [this, cast_nat (by omega)]; omega
  · show (Scalar.indexCast (BitVec.ofNat 32 e) : Index).toNat + 1 ≤ 8
    rw [cast_nat (by omega)]; omega

end Cert.KernelIdeal.Down
-- ==== Proof.IStep.lean ====
/- One step's words and blocks by numbers: the words the body reads off the tables, the rows a step keeps, the blocks the windows
   hold. -/
module

public import proofs.«01_k».proof.Proof.IOut
public import proofs.«01_k».proof.Proof.IPlan

@[expose] public section

set_option maxRecDepth 4000

noncomputable section

namespace Cert.KernelIdeal.Down

open Cert.KernelIdeal Cert.KernelIdeal.Gen
open Cert.Down
open Idealize.ShloMosaic Idealize.ShloMosaic.TcCoe Idealize.ShloMosaic.ValueIdx

variable {F : FTy → Type} [FloatOps F]

/-! ## The words -/

theorem off_step {n : Nat} (hn : n < 43) : k0_off2 (BitVec.ofNat 32 n) = ![n] := by
  show ![(Scalar.indexCast (BitVec.ofNat 32 n) : Index).toNat] = _
  rw [cast_nat (by omega)]
theorem off_step5 {n : Nat} (hn : n < 43) : k0_off5 (BitVec.ofNat 32 n) = ![n] := by
  show ![(Scalar.indexCast (BitVec.ofNat 32 n) : Index).toNat] = _
  rw [cast_nat (by omega)]
theorem off_back {n : Nat} (hn : n < 43) : k0_off3 (BitVec.ofNat 32 n) = ![n - 1] := by
  show ![(Scalar.indexCast (Scalar.maxsi (Scalar.subi (BitVec.ofNat 32 n) 1#32) 0#32) : Index).toNat] = _
  have : Scalar.maxsi (Scalar.subi (BitVec.ofNat 32 n) 1#32) 0#32 = BitVec.ofNat 32 (n - 1) := Routing.maxsi_pred (by omega)
  rw [this, cast_nat (by omega)]
theorem off_group {e : Nat} (he : e < 8) : k0_off4 (BitVec.ofNat 32 e) = ![e] := by
  show ![(Scalar.indexCast (BitVec.ofNat 32 e) : Index).toNat] = _
  rw [cast_nat (by omega)]
theorem off_group7 {e : Nat} (he : e < 8) : k0_off7 (BitVec.ofNat 32 e) = ![e] := by
  show ![(Scalar.indexCast (BitVec.ofNat 32 e) : Index).toNat] = _
  rw [cast_nat (by omega)]
theorem off_group_back {e : Nat} (he : e < 8) : k0_off6 (BitVec.ofNat 32 e) = ![e - 1] := by
  show ![(Scalar.indexCast (Scalar.maxsi (Scalar.subi (BitVec.ofNat 32 e) 1#32) 0#32) : Index).toNat] = _
  have : Scalar.maxsi (Scalar.subi (BitVec.ofNat 32 e) 1#32) 0#32 = BitVec.ofNat 32 (e - 1) := Routing.maxsi_pred (by omega)
  rw [this, cast_nat (by omega)]

/-- A word of a 43-word table at a numbered offset. -/
theorem w43_at (c : Dev nD) {e : EltTy} (M : Memref sig .tc .smem S43 e) (f : Bf (F := F) c M) (off : Fin 1 → Nat)
    (h : ∀ a, off a + S1.size a ≤ S43.size a) {n : Nat} (hn : n < 43) (ho : off = ![n]) :
    w43 c M f off h = M.view.read (Elt F) f (ix1 ⟨n, hn⟩) := by
  subst ho
  unfold w43
  rw [View.readAt_apply]
  refine congrArg _ (funext fun a => Fin.ext ?_)
  obtain rfl := Fin.fin_one_eq_zero a
  show n + 1 * 0 = n
  omega

/-- A word of an 8-word buffer at a numbered offset. -/
theorem w8_at (c : Dev nD) {e : EltTy} (M : Memref sig .tc .smem S8 e) (f : Bf (F := F) c M) (off : Fin 1 → Nat)
    (h : ∀ a, off a + S1.size a ≤ S8.size a) {n : Nat} (hn : n < 8) (ho : off = ![n]) :
    w8 c M f off h = M.view.read (Elt F) f (ix1 ⟨n, hn⟩) := by
  subst ho
  unfold w8
  rw [View.readAt_apply]
  refine congrArg _ (funext fun a => Fin.ext ?_)
  obtain rfl := Fin.fin_one_eq_zero a
  show n + 1 * 0 = n
  omega

/-- The widening runs at the first step and where the expert changes. -/
theorem cond_iff {n e p : Nat} (hn : n < 43) (he : e < 8) (hp : p < 8) :
    k0_cond (BitVec.ofNat 32 n) (BitVec.ofNat 32 e) (BitVec.ofNat 32 p) ↔ (n = 0 ∨ e ≠ p) := by
  have h1 : Scalar.cmpi .eq (BitVec.ofNat 32 n) 0#32 = if n = 0 then 1#1 else 0#1 := by
    show BitVec.ofBool (BitVec.ofNat 32 n == 0#32) = _
    by_cases h : n = 0
    · subst h; rfl
    · rw [if_neg h, show (BitVec.ofNat 32 n == 0#32) = false from by
        rw [beq_eq_false_iff_ne]; exact Routing.ofNat32_ne_zero (by omega) (by omega)]; rfl
  have h2 : Scalar.cmpi .ne (BitVec.ofNat 32 e) (BitVec.ofNat 32 p) = if e ≠ p then 1#1 else 0#1 := by
    show BitVec.ofBool (BitVec.ofNat 32 e != BitVec.ofNat 32 p) = _
    by_cases h : e = p
    · subst h; simp
    · rw [if_pos h, show (BitVec.ofNat 32 e != BitVec.ofNat 32 p) = true from by
        rw [bne_iff_ne]; intro h'; have := congrArg BitVec.toNat h'
        rw [toNat_nat (by omega), toNat_nat (by omega)] at this; exact h this]; rfl
  unfold k0_cond
  rw [h1, h2]
  by_cases ha : n = 0 <;> by_cases hb : e ≠ p <;> simp only [ha, hb, if_true, if_false, true_or, or_true, or_false, not_true, not_false_iff, ite_true, ite_false, ne_eq, iff_true, iff_false] <;> decide

/-! ## The rows a step keeps -/

theorem keep_at {e t : Nat} (lo hi : Nat) (he : e < 8) (ht : t ≤ 35) (hlo : lo ≤ 9216) (hhi : hi ≤ 9216) (h0 : e = 0 → lo = 0) (st : BitVec 32)
    (hst : e ≠ 0 → st = BitVec.ofNat 32 lo) (p : Fin 256) (q : Fin 1024) :
    keepTile (BitVec.ofNat 32 e) (BitVec.ofNat 32 t) st (BitVec.ofNat 32 hi) (ix2 p q)
      = if lo ≤ 256 * t + p.val ∧ 256 * t + p.val < hi then 1#1 else 0#1 := by
  have hp := p.isLt
  have hr : (addi (broadcast S256x1024 (Scalar.muli (BitVec.ofNat 32 t) 256#32)) (iota .tc S256x1024 32 [0]) : IVec S256x1024 32) (ix2 p q)
      = BitVec.ofNat 32 (256 * t + p.val) := by
    show BitVec.ofNat 32 t * 256#32 + BitVec.ofNat 32 (0 * 256 + p.val) = _
    apply BitVec.eq_of_toNat_eq
    simp only [BitVec.toNat_add, BitVec.toNat_mul, BitVec.toNat_ofNat]
    omega
  have hs : Scalar.select (Scalar.cmpi .eq (BitVec.ofNat 32 e) 0#32) 0#32 st = BitVec.ofNat 32 lo := by
    by_cases h : e = 0
    · rw [h0 h]; subst h; rfl
    · rw [hst h]
      show (if BitVec.ofBool (BitVec.ofNat 32 e == 0#32) = 1#1 then 0#32 else BitVec.ofNat 32 lo) = _
      rw [show (BitVec.ofNat 32 e == 0#32) = false from by rw [beq_eq_false_iff_ne]; exact Routing.ofNat32_ne_zero (by omega) (by omega)]
      rfl
  show (BitVec.ofBool ((broadcast S256x1024 (Scalar.select (Scalar.cmpi .eq (BitVec.ofNat 32 e) 0#32) 0#32 st) : IVec S256x1024 32) (ix2 p q)
      |>.sle ((addi (broadcast S256x1024 (Scalar.muli (BitVec.ofNat 32 t) 256#32)) (iota .tc S256x1024 32 [0]) : IVec S256x1024 32) (ix2 p q))))
    &&& BitVec.ofBool (((addi (broadcast S256x1024 (Scalar.muli (BitVec.ofNat 32 t) 256#32)) (iota .tc S256x1024 32 [0]) : IVec S256x1024 32) (ix2 p q)).slt (BitVec.ofNat 32 hi)) = _
  rw [hr]
  show BitVec.ofBool ((Scalar.select (Scalar.cmpi .eq (BitVec.ofNat 32 e) 0#32) 0#32 st).sle _) &&& _ = _
  rw [hs, Routing.sle_ofNat32 (by omega) (by omega), Routing.slt_ofNat32 (by omega) (by omega)]
  by_cases h1 : lo ≤ 256 * t + p.val <;> by_cases h2 : 256 * t + p.val < hi <;> simp [h1, h2]

/-! ## The blocks -/

/-- Row block `k` of the codes. -/
def aAt (X : Vec F S9216x4096 .fp8e4m3) (k : Fin 36) : Vec F S256x4096 .fp8e4m3 :=
  fun j => X (ix2 ⟨256 * k.val + (j 0).val, by have h : (j 0).val < 256 := (j 0).isLt; have := k.isLt; omega⟩ (j 1))
/-- Column block `n` of expert `e`'s weights. -/
def wAt (X : Vec F S8x2048x6144 .i8) (e : Fin 8) (n : Fin 6) : Vec F S1x2048x1024 .i8 :=
  fun j => X (ix3 e (j 1) ⟨1024 * n.val + (j 2).val, by have h : (j 2).val < 1024 := (j 2).isLt; have := n.isLt; omega⟩)
/-- Column block `n` of expert `e`'s scales. -/
def uAt (X : Vec F S8x32x6144 .bf16) (e : Fin 8) (n : Fin 6) : Vec F S1x32x1024 .bf16 :=
  fun j => X (ix3 e (j 1) ⟨1024 * n.val + (j 2).val, by have h : (j 2).val < 1024 := (j 2).isLt; have := n.isLt; omega⟩)

/-- Column block `n` of expert `e`'s widened weight. -/
def wideAt (X2 : Vec F S8x2048x6144 .i8) (X3 : Vec F S8x32x6144 .bf16) (e : Fin 8) (n : Fin 6) : Vec F S4096x1024 .bf16 :=
  wide (wAt X2 e n) (uAt X3 e n)

/-- The product of row block `k` by column block `n` of expert `e`'s weight, scaled. -/
def yAt (X0 : Vec F S8 .f32) (X1 : Vec F S9216x4096 .fp8e4m3) (X2 : Vec F S8x2048x6144 .i8) (X3 : Vec F S8x32x6144 .bf16)
    (e : Fin 8) (k : Fin 36) (n : Fin 6) : Vec F S256x1024 .f32 :=
  yTile (aAt X1 k) (wideAt X2 X3 e n) (X0 (ix1 e))

/-- What a step of expert `e` on the rows `lo` to `hi` leaves in the output window, by its cells. -/
theorem out_at {e t : Nat} (lo hi : Nat) (he : e < 8) (ht : t ≤ 35) (hlo : lo ≤ 9216) (hhi : hi ≤ 9216) (h0 : e = 0 → lo = 0) (st : BitVec 32)
    (hst : e ≠ 0 → st = BitVec.ofNat 32 lo) (a : Vec F S256x4096 .fp8e4m3) (w : Vec F S4096x1024 .bf16) (act : F .f32) (old : Vec F S256x1024 .f32)
    (p : Fin 256) (q : Fin 1024) :
    outTile (BitVec.ofNat 32 e) (BitVec.ofNat 32 t) st (BitVec.ofNat 32 hi) a w act old (ix2 p q)
      = if lo ≤ 256 * t + p.val ∧ 256 * t + p.val < hi then yTile a w act (ix2 p q) else old (ix2 p q) := by
  show (if keepTile (BitVec.ofNat 32 e) (BitVec.ofNat 32 t) st (BitVec.ofNat 32 hi) (ix2 p q) = 1#1 then _ else _) = _
  rw [keep_at lo hi he ht hlo hhi h0 st hst]
  by_cases h : lo ≤ 256 * t + p.val ∧ 256 * t + p.val < hi
  · rw [if_pos h, if_pos h, if_pos rfl]
  · rw [if_neg h, if_neg h, if_neg (by decide)]

end Cert.KernelIdeal.Down
-- ==== Proof.IStepRun.lean ====
/- One step of the kernel's body, run: what it leaves in the output window and in the scratch. -/
module

public import proofs.«01_k».proof.Proof.IBody
public import proofs.«01_k».proof.Proof.IWide
public import proofs.«01_k».proof.Proof.IStep

@[expose] public section

set_option maxRecDepth 4000

noncomputable section

namespace Cert.KernelIdeal.Down

open Cert.KernelIdeal Cert.KernelIdeal.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- The tables' memrefs and the scratch's. -/
abbrev mE : Memref sig .tc .smem S43 .i32 := Memref.whole main_v21
abbrev mT : Memref sig .tc .smem S43 .i32 := Memref.whole main_v40
abbrev mS : Memref sig .tc .smem S8 .i32 := Memref.whole main_v0
abbrev mW : Memref sig .tc .vmem S4096x1024 .bf16 := Memref.whole cc0_scratch0

variable {pf : pre0.Contents (Elt F)} {γ : Nat → Nat} (P : Plan pf γ)
include P

section
variable (c : Dev nD) {s : Nat} (hs : s < steps γ)
include hs

theorem lt43 : s < 43 := Nat.lt_of_lt_of_le hs (steps_lt P)

theorem word_expert (h) : w43 c mE (pf 1) (k0_off2 (BitVec.ofNat 32 s)) h = BitVec.ofNat 32 (expertOf γ s) := by
  exact (w43_at c mE (pf 1) _ h (lt43 P hs) (off_step (lt43 P hs))).trans (P.expert _)
theorem word_expert5 (h) : w43 c mE (pf 1) (k0_off5 (BitVec.ofNat 32 s)) h = BitVec.ofNat 32 (expertOf γ s) := by
  exact (w43_at c mE (pf 1) _ h (lt43 P hs) (off_step5 (lt43 P hs))).trans (P.expert _)
theorem word_back (h) : w43 c mE (pf 1) (k0_off3 (BitVec.ofNat 32 s)) h = BitVec.ofNat 32 (expertOf γ (s - 1)) := by
  have := lt43 P hs
  exact (w43_at c mE (pf 1) _ h (n := s - 1) (by omega) (off_back (lt43 P hs))).trans (P.expert _)
theorem word_tile (h) : w43 c mT (pf 2) (k0_off5 (BitVec.ofNat 32 s)) h = BitVec.ofNat 32 (tileOf γ s) := by
  exact (w43_at c mT (pf 2) _ h (lt43 P hs) (off_step5 (lt43 P hs))).trans (P.tile _)
omit hs in
theorem word_end {e : BitVec 32} (he : e = BitVec.ofNat 32 (expertOf γ s)) (h) :
    w8 c mS (pf 3) (k0_off7 e) h = BitVec.ofNat 32 (pre γ (expertOf γ s + 1)) := by
  subst he
  exact (w8_at c mS (pf 3) _ h (expert_lt P s) (off_group7 (expert_lt P s))).trans (P.ends _)
omit hs in
theorem word_start {e : BitVec 32} (he : e = BitVec.ofNat 32 (expertOf γ s)) (h0 : expertOf γ s ≠ 0) (h) :
    w8 c mS (pf 3) (k0_off6 e) h = BitVec.ofNat 32 (pre γ (expertOf γ s)) := by
  subst he
  have h8 := expert_lt P s
  refine ((w8_at c mS (pf 3) _ h (n := expertOf γ s - 1) (by omega) (off_group_back (expert_lt P s))).trans (P.ends _)).trans ?_
  show BitVec.ofNat 32 (pre γ (expertOf γ s - 1 + 1)) = _
  rw [Nat.sub_add_cancel (by omega)]
omit P hs in
theorem word_act (M5 : Memref sig .tc .smem S8 .f32) (f5 : Bf (F := F) c M5) {e : BitVec 32} {k : Nat} (hk : k < 8) (he : e = BitVec.ofNat 32 k) (h) :
    w8 c M5 f5 (k0_off4 e) h = M5.view.read (Elt F) f5 (ix1 ⟨k, hk⟩) := by
  subst he
  exact w8_at c M5 f5 _ h hk (off_group hk)

end

/-- What a step leaves in the output window, by its cells. -/
def Cells (s : Nat) (a : Vec F S256x4096 .fp8e4m3) (w : Vec F S4096x1024 .bf16) (act : Vec F S8 .f32) (old new : Vec F S256x1024 .f32) : Prop :=
  ∀ (p : Fin 256) (q : Fin 1024), new (ix2 p q)
    = if pre γ (expertOf γ s) ≤ 256 * tileOf γ s + p.val ∧ 256 * tileOf γ s + p.val < pre γ (expertOf γ s + 1)
      then yTile a w (act (ix1 ⟨expertOf γ s, slot_lt _ _⟩)) (ix2 p q) else old (ix2 p q)

theorem cells_of_out {s : Nat} (c : Dev nD) {x y st en : BitVec 32} (hx : x = BitVec.ofNat 32 (expertOf γ s)) (hy : y = BitVec.ofNat 32 (tileOf γ s))
    (hst : expertOf γ s ≠ 0 → st = BitVec.ofNat 32 (pre γ (expertOf γ s))) (hen : en = BitVec.ofNat 32 (pre γ (expertOf γ s + 1)))
    (a : Vec F S256x4096 .fp8e4m3) (w : Vec F S4096x1024 .bf16) (act : Vec F S8 .f32) {ac : F .f32} (ha : ac = act (ix1 ⟨expertOf γ s, slot_lt _ _⟩))
    (old : Vec F S256x1024 .f32) : Cells (γ := γ) s a w act old (outTile x y st en a w ac old) := fun p q => by
  have h8 := expert_lt P s
  subst hx hy hen ha
  exact out_at (pre γ (expertOf γ s)) (pre γ (expertOf γ s + 1)) h8 (tile_le P s) (pre_le γ P.h8 (by omega)) (pre_le γ P.h8 (by omega))
    (fun h => by rw [h]; rfl) st hst a w _ old p q

set_option maxHeartbeats 1000000 in
theorem step_run (c : Dev nD) (b : grid0.Bounds) (i : grid0.Static) {s : Nat} (hs : s < steps γ)
    (M5 : Memref sig .tc .smem S8 .f32) (h5 : M5.IsWhole)
    (M6 : Memref sig .tc .vmem S256x4096 .fp8e4m3) (h6 : M6.IsWhole) (M7 : Memref sig .tc .vmem S1x2048x1024 .i8) (h7 : M7.IsWhole)
    (M8 : Memref sig .tc .vmem S1x32x1024 .bf16) (h8 : M8.IsWhole) (M9 : Memref sig .tc .vmem S256x1024 .f32) (h9 : M9.IsWhole)
    (f5 : Bf (F := F) c M5) (f6 : Bf (F := F) c M6) (f7 : Bf (F := F) c M7) (f8 : Bf (F := F) c M8) (f9 : Bf (F := F) c M9) (f10 : Bf (F := F) c mW)
    (hw : s ≠ 0 → expertOf γ s = expertOf γ (s - 1) → mW.view.read (Elt F) f10 = wide (M7.view.read (Elt F) f7) (M8.view.read (Elt F) f8))
    (hE : mE.IsWhole) (hT : mT.IsWhole) (hS : mS.IsWhole) (hW : mW.IsWhole)
    (E : Set ℕ) (Q : PUnit → sProp 𝕄) :
    iprop(ptH c mE (pf 1) ∗ ptH c mT (pf 2) ∗ ptH c mS (pf 3) ∗ pt c M5 f5 ∗ pt c M6 f6 ∗ pt c M7 f7 ∗ pt c M8 f8 ∗ pt c M9 f9 ∗ pt c mW f10
        ∗ (iprop(ptH c mE (pf 1) ∗ ptH c mT (pf 2) ∗ ptH c mS (pf 3) ∗ pt c M5 f5 ∗ pt c M6 f6 ∗ pt c M7 f7 ∗ pt c M8 f8
              ∗ (∃ g9 : Bf (F := F) c M9, ⌜Cells (γ := γ) s (M6.view.read (Elt F) f6) (wide (M7.view.read (Elt F) f7) (M8.view.read (Elt F) f8))
                    (M5.view.read (Elt F) f5) (M9.view.read (Elt F) f9) (M9.view.read (Elt F) g9)⌝ ∗ pt c M9 g9)
              ∗ (∃ g10 : Bf (F := F) c mW, ⌜mW.view.read (Elt F) g10 = wide (M7.view.read (Elt F) f7) (M8.view.read (Elt F) f8)⌝ ∗ pt c mW g10)) -∗ Q ⟨⟩))
      ⊢ wp frame (wpE (defs₀ (F := F)) Variants.none c none) E
          (cc0_down b i (BitVec.ofNat 32 s) mE hE mT hT mS hS M5 h5 M6 h6 M7 h7 M8 h8 M9 h9 mW hW) Q := by
  have hc := chk1 (lt43 P hs)
  have e2 := word_expert P c hs hc.1
  have e3 := word_back P c hs hc.2.1
  have e5 := word_expert5 P c hs hc.2.2
  have hc2 : k0_chk2 (w43 c mE (pf 1) (k0_off2 (BitVec.ofNat 32 s)) hc.1) := e2 ▸ chk2 (expert_lt P s)
  have hc3 : k0_chk3 (w43 c mE (pf 1) (k0_off5 (BitVec.ofNat 32 s)) hc.2.2) := e5 ▸ chk3 (expert_lt P s)
  by_cases hn : k0_cond (BitVec.ofNat 32 s) (w43 c mE (pf 1) (k0_off2 (BitVec.ofNat 32 s)) hc.1) (w43 c mE (pf 1) (k0_off3 (BitVec.ofNat 32 s)) hc.2.1)
  · have ho := wide_out c b i (BitVec.ofNat 32 s) mE hE mT hT mS hS M5 h5 M6 h6 M7 h7 M8 h8 M9 h9 mW hW (pf 1) (pf 2) (pf 3) f5 f6 f7 f8 f9 hc hc2 hc3 hn
    have hsc := wide_scratch c b i (BitVec.ofNat 32 s) mE hE mT hT mS hS M5 h5 M6 h6 M7 h7 M8 h8 M9 h9 mW hW (pf 1) (pf 2) (pf 3) f5 f6 f7 f8 f9 hc hc2 hc3 hn
    have hcell := cells_of_out P c e5 (word_tile P c hs hc.2.2) (fun h => word_start P c e5 h (k0_off6_inb _ hc3)) (word_end P c e5 (k0_off7_inb _ hc3))
      (M6.view.read (Elt F) f6) (wide (M7.view.read (Elt F) f7) (M8.view.read (Elt F) f8)) (M5.view.read (Elt F) f5) (word_act c M5 f5 (expert_lt P s) e2 hc2) (M9.view.read (Elt F) f9)
    rw [← ho] at hcell
    generalize hrun : wideRun c b i (BitVec.ofNat 32 s) mE hE mT hT mS hS M5 h5 M6 h6 M7 h7 M8 h8 M9 h9 mW hW (pf 1) (pf 2) (pf 3) f5 f6 f7 f8 f9 hc hc2 hc3 hn = W at *
    iintro ⟨HE, HT, HS, H5, H6, H7, H8, H9, HW, Hk⟩
    iapply (W.2 f10 E Q)
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [HW]; · iexact HW
    iintro ⟨HE, HT, HS, H5, H6, H7, H8, H9, HW⟩
    iapply Hk
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]
    · iexists _; isplitr; swap; (· iexact H9); ipureintro; exact hcell
    · iexists _; isplitr; swap; (· iexact HW); ipureintro; exact hsc
  · have hnn := hn
    rw [e2, e3, cond_iff (lt43 P hs) (expert_lt P s) (expert_lt P (s - 1))] at hnn
    have hwd := hw (fun h => hnn (.inl h)) (Classical.byContradiction fun h => hnn (.inr h))
    have ho := keep_out c b i (BitVec.ofNat 32 s) mE hE mT hT mS hS M5 h5 M6 h6 M7 h7 M8 h8 M9 h9 mW hW (pf 1) (pf 2) (pf 3) f5 f6 f7 f8 f9 f10 hc hc2 hc3 hn
    rw [hwd] at ho
    have hcell := cells_of_out P c e5 (word_tile P c hs hc.2.2) (fun h => word_start P c e5 h (k0_off6_inb _ hc3)) (word_end P c e5 (k0_off7_inb _ hc3))
      (M6.view.read (Elt F) f6) (wide (M7.view.read (Elt F) f7) (M8.view.read (Elt F) f8)) (M5.view.read (Elt F) f5) (word_act c M5 f5 (expert_lt P s) e2 hc2) (M9.view.read (Elt F) f9)
    rw [← ho] at hcell
    generalize hrun : keepRun c b i (BitVec.ofNat 32 s) mE hE mT hT mS hS M5 h5 M6 h6 M7 h7 M8 h8 M9 h9 mW hW (pf 1) (pf 2) (pf 3) f5 f6 f7 f8 f9 f10 hc hc2 hc3 hn = W at *
    iintro ⟨HE, HT, HS, H5, H6, H7, H8, H9, HW, Hk⟩
    iapply (W.2 E Q)
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [HW]; · iexact HW
    iintro ⟨HE, HT, HS, H5, H6, H7, H8, H9, HW⟩
    iapply Hk
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]
    · iexists _; isplitr; swap; (· iexact H9); ipureintro; exact hcell
    · iexists _; isplitr; swap; (· iexact HW); ipureintro; exact hwd

end Cert.KernelIdeal.Down
-- ==== Proof.IDat.lean ====
/- The pipeline's proof data of the down projection: what each step leaves in the output window, the scratch carried from step to
   step, and the body's obligation. -/
module

public import proofs.«01_k».proof.Proof.IStepRun
public import proofs.«01_k».proof.Proof.Gen.KernelIdeal.Skeleton
public import Idealize.ShloMosaic.Lib.Pipeline.Frame
public import Idealize.ShloMosaic.Lib.Pipeline.FrameBody

@[expose] public section

set_option maxRecDepth 4000

noncomputable section

namespace Cert.KernelIdeal.Down

open Cert.KernelIdeal Cert.KernelIdeal.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

instance : ∀ e, Nonempty (Elt F e) := fun _ => inferInstance

variable {pf : pre0.Contents (Elt F)} {γ : Nat → Nat} (P : Plan pf γ)

/-- The tables as the region's parameter. -/
def adm : (p : Fin 1) → (pcfgs (F := F) p).Adm := fun _ => ⟨pf, ok_of_plan P⟩

/-- The pipeline at such tables. -/
abbrev cfgP : Pipeline.Cfg sig Λ₀ := Pipeline.pin (pcfgs (F := F)) (adm P) 0

variable (V : (c : Dev nD) → (b : Ref sig .tc) → Buf (Elt F) ((c.tc : Thread nD τ).loc b)) (c : Dev nD)

abbrev X0 : Vec F S8 .f32 := V c main_arg1
abbrev X1 : Vec F S9216x4096 .fp8e4m3 := V c main_arg2
abbrev X2 : Vec F S8x2048x6144 .i8 := V c main_arg3
abbrev X3 : Vec F S8x32x6144 .bf16 := V c main_arg4

/-- A step's expert, row block and column block as bounded numbers. -/
def eF (γ : Nat → Nat) (s : Nat) : Fin 8 := ⟨expertOf γ s, slot_lt _ _⟩
def kF (γ : Nat → Nat) (s : Nat) : Fin 36 := ⟨tileOf γ s, Nat.lt_succ_of_le (Nat.min_le_right _ _)⟩
def nF (n : Nat) : Fin 6 := ⟨n % 6, Nat.mod_lt _ (by decide)⟩

/-- What the step at point `t` leaves in the output window it found at `Y`. -/
def Leave (γ : Nat → Nat) (t : Nat) (Y X : Vec F S256x1024 .f32) : Prop :=
  Cells (γ := γ) (t % steps γ) (aAt (X1 V c) (kF γ (t % steps γ))) (wideAt (X2 V c) (X3 V c) (eF γ (t % steps γ)) (nF (t / steps γ))) (X0 V c) Y X

/-- The step count's memref. -/
abbrev mN : Memref sig .tc .smem S_ .i32 := Memref.whole main_v42

/-- Before point `t`: the scratch holds the widened weight of the step before, except at a first step; the tables and the register. -/
def Inv (pf : pre0.Contents (Elt F)) (γ : Nat → Nat) (t : Nat) : sProp 𝕄 :=
  iprop((∃ f : Bf (F := F) c mW, ⌜t % steps γ ≠ 0 → mW.view.read (Elt F) f = wideAt (X2 V c) (X3 V c) (eF γ (t % steps γ - 1)) (nF (t / steps γ))⌝ ∗ pt c mW f)
    ∗ (∃ r, prngReg c r)
    ∗ ptH c mN (pf 0)
    ∗ ptH c mE (pf 1) ∗ ptH c mT (pf 2) ∗ ptH c mS (pf 3))

/-- The proof data on core `c`. -/
def rdat : RDat τ (Elt F) Unit ℕ (UR nD τ) ℕ (cfgP P) c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => Leave V c γ t.val Y X
  Φ t := Inv V c pf γ t.val
  q _ := fullShare
  owed _ := 0

/-- A memref that is its whole buffer, owned. -/
theorem owns_pt {sp : Space} {S : Shape} {e : EltTy} (M : Memref sig .tc sp S e) (h : M.IsWhole) (X : S.Idx → Elt F e) :
    (owns (c.tc : Thread nD τ) M fullShare X : sProp 𝕄) = iprop(∃ f : Bf (F := F) c M, ⌜M.view.read (Elt F) f = X⌝ ∗ pt c M f) := by
  unfold owns; rw [Memref.IsWhole.set_eq_univ h]

theorem point_lt (t : Fin (cfgP P).N) : t.val < 6 * steps γ := t.isLt.trans_eq (grid_N P)
include P in
theorem mod_lt (t : Nat) : t % steps γ < steps γ := Nat.mod_lt _ (steps_pos γ P.h8)
theorem div_lt (t : Fin (cfgP P).N) : t.val / steps γ < 6 := Nat.div_lt_of_lt_mul (by rw [Nat.mul_comm]; exact point_lt P t)

/-! ## What the input windows hold -/

theorem finds0 (t : Fin (cfgP P).N) (Y) (h : (rdat P V c).Finds 0 t Y) : (Y : Vec F S8 .f32) = X0 V c := by
  obtain ⟨d, rfl⟩ := (rdat P V c).finds_in_eq_fetched 0 rfl (fun _ _ _ => rfl) (fun _ _ _ h => h) t Y h
  refine funext fun (j : S8.Idx) => ?_
  show V c main_arg1 _ = V c main_arg1 _
  congr 1
  refine funext fun (a : Fin 1) => Fin.ext ?_
  obtain rfl := Fin.fin_one_eq_zero a
  show 0 * 8 + 1 * (j 0).val = (j 0).val
  omega

theorem finds1 (t : Fin (cfgP P).N) (Y) (h : (rdat P V c).Finds 1 t Y) : (Y : Vec F S256x4096 .fp8e4m3) = aAt (X1 V c) (kF γ (t.val % steps γ)) := by
  obtain ⟨d, rfl⟩ := (rdat P V c).finds_in_eq_fetched 1 rfl (fun _ _ _ => rfl) (fun _ _ _ h => h) t Y h
  have ht := trans1 P ((grid0.at (dynb0 pf)).coords t)
  have h1 := coords_one P t
  refine funext fun (j : S256x4096.Idx) => ?_
  show V c main_arg2 _ = V c main_arg2 _
  congr 1
  refine funext fun (a : Fin 2) => Fin.ext ?_
  match a with
  | ⟨0, _⟩ =>
    show cc0_transform_1 pf (dynb0 pf) ((grid0.at (dynb0 pf)).coords t) 0 * 256 + 1 * (j 0).val = 256 * tileOf γ (t.val % steps γ) + (j 0).val
    rw [ht, ← h1]; show tileOf γ _ * 256 + _ = _; omega
  | ⟨1, _⟩ =>
    show cc0_transform_1 pf (dynb0 pf) ((grid0.at (dynb0 pf)).coords t) 1 * 4096 + 1 * (j 1).val = (j 1).val
    rw [ht]; show 0 * 4096 + _ = _; omega

theorem finds2 (t : Fin (cfgP P).N) (Y) (h : (rdat P V c).Finds 2 t Y) :
    (Y : Vec F S1x2048x1024 .i8) = wAt (X2 V c) (eF γ (t.val % steps γ)) (nF (t.val / steps γ)) := by
  obtain ⟨d, rfl⟩ := (rdat P V c).finds_in_eq_fetched 2 rfl (fun _ _ _ => rfl) (fun _ _ _ h => h) t Y h
  have ht := trans2 P ((grid0.at (dynb0 pf)).coords t)
  have h1 := coords_one P t
  have h0 := coords_zero P t
  have hn := div_lt P t
  refine funext fun (j : S1x2048x1024.Idx) => ?_
  show V c main_arg3 _ = V c main_arg3 _
  congr 1
  refine funext fun (a : Fin 3) => Fin.ext ?_
  match a with
  | ⟨0, _⟩ =>
    have hj : (j 0).val < 1 := (j 0).isLt
    show cc0_transform_2 pf (dynb0 pf) ((grid0.at (dynb0 pf)).coords t) 0 * 1 + 1 * (j 0).val = expertOf γ (t.val % steps γ)
    rw [ht, ← h1]; show expertOf γ _ * 1 + _ = _; omega
  | ⟨1, _⟩ =>
    show cc0_transform_2 pf (dynb0 pf) ((grid0.at (dynb0 pf)).coords t) 1 * 2048 + 1 * (j 1).val = (j 1).val
    rw [ht]; show 0 * 2048 + _ = _; omega
  | ⟨2, _⟩ =>
    show cc0_transform_2 pf (dynb0 pf) ((grid0.at (dynb0 pf)).coords t) 2 * 1024 + 1 * (j 2).val = 1024 * ((t.val / steps γ) % 6) + (j 2).val
    rw [ht, Nat.mod_eq_of_lt hn, ← h0]; show ((grid0.at (dynb0 pf)).coords t 0).val * 1024 + _ = _; omega

theorem finds3 (t : Fin (cfgP P).N) (Y) (h : (rdat P V c).Finds 3 t Y) :
    (Y : Vec F S1x32x1024 .bf16) = uAt (X3 V c) (eF γ (t.val % steps γ)) (nF (t.val / steps γ)) := by
  obtain ⟨d, rfl⟩ := (rdat P V c).finds_in_eq_fetched 3 rfl (fun _ _ _ => rfl) (fun _ _ _ h => h) t Y h
  have ht := trans3 P ((grid0.at (dynb0 pf)).coords t)
  have h1 := coords_one P t
  have h0 := coords_zero P t
  have hn := div_lt P t
  refine funext fun (j : S1x32x1024.Idx) => ?_
  show V c main_arg4 _ = V c main_arg4 _
  congr 1
  refine funext fun (a : Fin 3) => Fin.ext ?_
  match a with
  | ⟨0, _⟩ =>
    have hj : (j 0).val < 1 := (j 0).isLt
    show cc0_transform_3 pf (dynb0 pf) ((grid0.at (dynb0 pf)).coords t) 0 * 1 + 1 * (j 0).val = expertOf γ (t.val % steps γ)
    rw [ht, ← h1]; show expertOf γ _ * 1 + _ = _; omega
  | ⟨1, _⟩ =>
    show cc0_transform_3 pf (dynb0 pf) ((grid0.at (dynb0 pf)).coords t) 1 * 32 + 1 * (j 1).val = (j 1).val
    rw [ht]; show 0 * 32 + _ = _; omega
  | ⟨2, _⟩ =>
    show cc0_transform_3 pf (dynb0 pf) ((grid0.at (dynb0 pf)).coords t) 2 * 1024 + 1 * (j 2).val = 1024 * ((t.val / steps γ) % 6) + (j 2).val
    rw [ht, Nat.mod_eq_of_lt hn, ← h0]; show ((grid0.at (dynb0 pf)).coords t 0).val * 1024 + _ = _; omega

/-! ## The body's obligation -/

theorem succ_mod {n t : Nat} (h : (t + 1) % n ≠ 0) : (t + 1) % n - 1 = t % n ∧ (t + 1) / n = t / n := by
  rcases Nat.eq_zero_or_pos n with rfl | hn
  · simp
  have h1 := Nat.div_add_mod t n
  have h2 := Nat.mod_lt t hn
  by_cases hl : t % n + 1 < n
  · have e : t + 1 = (t % n + 1) + n * (t / n) := by omega
    rw [e, Nat.add_mul_mod_self_left, Nat.add_mul_div_left _ _ hn, Nat.mod_eq_of_lt hl, Nat.div_eq_of_lt hl]
    omega
  · exfalso; apply h
    have e : t + 1 = n * (t / n + 1) := by rw [Nat.mul_add]; omega
    rw [e, Nat.mul_mod_right]

theorem prev_mod {n t : Nat} (h : t % n ≠ 0) : t % n - 1 = (t - 1) % n ∧ t / n = (t - 1) / n := by
  obtain ⟨u, rfl⟩ : ∃ u, t = u + 1 := ⟨t - 1, by have : t ≠ 0 := fun h' => h (by subst h'; exact Nat.zero_mod n); omega⟩
  exact succ_mod h

theorem defs_tc : (defs₀ (F := F)) .tc (cfgP P).body
    = fun a => cc0_down a.1 (Pipeline.Grid.Coords.static grid0 a.2.1) (BitVec.ofNat 32 (a.2.1 1).val) mE (Memref.isWhole_whole _) mT (Memref.isWhole_whole _)
        mS (Memref.isWhole_whole _) (spec0_0.stage (a.2.2 0)) (hstage0_0 ((a.2.2 0).cast nbuf0_0)) (spec0_1.stage (a.2.2 1)) (hstage0_1 ((a.2.2 1).cast nbuf0_1))
        (spec0_2.stage (a.2.2 2)) (hstage0_2 ((a.2.2 2).cast nbuf0_2)) (spec0_3.stage (a.2.2 3)) (hstage0_3 ((a.2.2 3).cast nbuf0_3))
        (spec0_4.stage (a.2.2 4)) (hstage0_4 ((a.2.2 4).cast nbuf0_4)) mW (Memref.isWhole_whole _) := rfl

end Cert.KernelIdeal.Down
-- ==== Proof.IOblig.lean ====
/- The body's obligation: every step, at every point, does to the windows and the scratch what the proof data say. -/
module

public import proofs.«01_k».proof.Proof.IDat

@[expose] public section

set_option maxRecDepth 4000

noncomputable section

namespace Cert.KernelIdeal.Down

open Cert.KernelIdeal Cert.KernelIdeal.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

variable {pf : pre0.Contents (Elt F)} {γ : Nat → Nat} (P : Plan pf γ)
variable (V : (c : Dev nD) → (b : Ref sig .tc) → Buf (Elt F) ((c.tc : Thread nD τ).loc b)) (c : Dev nD)

/-- The windows' current staging memrefs at a point. -/
abbrev s0 (t : Fin (cfgP P).N) : Memref sig .tc .smem S8 .f32 := spec0_0.stage ((cfgP P).slots t 0)
abbrev s1 (t : Fin (cfgP P).N) : Memref sig .tc .vmem S256x4096 .fp8e4m3 := spec0_1.stage ((cfgP P).slots t 1)
abbrev s2 (t : Fin (cfgP P).N) : Memref sig .tc .vmem S1x2048x1024 .i8 := spec0_2.stage ((cfgP P).slots t 2)
abbrev s3 (t : Fin (cfgP P).N) : Memref sig .tc .vmem S1x32x1024 .bf16 := spec0_3.stage ((cfgP P).slots t 3)
abbrev s4 (t : Fin (cfgP P).N) : Memref sig .tc .vmem S256x1024 .f32 := spec0_4.stage ((cfgP P).slots t 4)

theorem prog_eq (t : Fin (cfgP P).N) :
    (defs₀ (F := F)) .tc (cfgP P).body ((cfgP P).bodyArgs t ((cfgP P).slots t))
      = cc0_down (dynb0 pf) (Pipeline.Grid.Coords.static grid0 ((grid0.at (dynb0 pf)).coords t)) (BitVec.ofNat 32 (t.val % steps γ))
          mE (Memref.isWhole_whole _) mT (Memref.isWhole_whole _) mS (Memref.isWhole_whole _) (s0 P t) (hstage0_0 (((cfgP P).slots t 0).cast nbuf0_0))
          (s1 P t) (hstage0_1 (((cfgP P).slots t 1).cast nbuf0_1)) (s2 P t) (hstage0_2 (((cfgP P).slots t 2).cast nbuf0_2))
          (s3 P t) (hstage0_3 (((cfgP P).slots t 3).cast nbuf0_3)) (s4 P t) (hstage0_4 (((cfgP P).slots t 4).cast nbuf0_4)) mW (Memref.isWhole_whole _) := by
  rw [← coords_one P t]
  exact (congrFun (defs_tc P) _).trans rfl

/-- The scratch at a step that repeats the step before's expert. -/
theorem scratch_kept (t : Nat) (h : t % steps γ ≠ 0) (he : expertOf γ (t % steps γ) = expertOf γ (t % steps γ - 1)) :
    wideAt (X2 V c) (X3 V c) (eF γ (t % steps γ - 1)) (nF (t / steps γ)) = wideAt (X2 V c) (X3 V c) (eF γ (t % steps γ)) (nF (t / steps γ)) := by
  congr 1
  exact Fin.ext he.symm

set_option maxHeartbeats 1000000 in
set_option backward.isDefEq.respectTransparency.types false in
theorem body_obligation : (rdat P V c).BodyObligation (defs₀ (F := F)) Variants.none () Set.univ := fun t Y hY => by
  have y0 := finds0 P V c t (Y 0) (hY 0)
  have y1 := finds1 P V c t (Y 1) (hY 1)
  have y2 := finds2 P V c t (Y 2) (hY 2)
  have y3 := finds3 P V c t (Y 3) (hY 3)
  have hs := mod_lt P t.val
  rw [bigSep_W0, bigSep_W0]
  rw [show (rdat P V c).Φ t.castSucc = Inv V c pf γ t.val from rfl, show (rdat P V c).Φ t.succ = Inv V c pf γ (t.val + 1) from rfl]
  unfold RDat.owesAt Pipeline.owesWithin
  rw [show (rdat P V c).owed t.castSucc = 0 from rfl, show (rdat P V c).owed t.succ = 0 from rfl]
  rw [prog_eq P t]
  show iprop(_ ∗ _ ∗ owns (c.tc : Thread nD τ) (s0 P t) fullShare (Y 0 : Vec F S8 .f32) ∗ owns (c.tc : Thread nD τ) (s1 P t) fullShare (Y 1 : Vec F S256x4096 .fp8e4m3)
      ∗ owns (c.tc : Thread nD τ) (s2 P t) fullShare (Y 2 : Vec F S1x2048x1024 .i8) ∗ owns (c.tc : Thread nD τ) (s3 P t) fullShare (Y 3 : Vec F S1x32x1024 .bf16)
      ∗ owns (c.tc : Thread nD τ) (s4 P t) fullShare (Y 4 : Vec F S256x1024 .f32))
    ⊢ wp _ _ _ _ fun _ => iprop(_ ∗ _ ∗ (∃ X : Vec F S8 .f32, ⌜X = Y 0⌝ ∗ owns (c.tc : Thread nD τ) (s0 P t) fullShare X)
      ∗ (∃ X : Vec F S256x4096 .fp8e4m3, ⌜X = Y 1⌝ ∗ owns (c.tc : Thread nD τ) (s1 P t) fullShare X)
      ∗ (∃ X : Vec F S1x2048x1024 .i8, ⌜X = Y 2⌝ ∗ owns (c.tc : Thread nD τ) (s2 P t) fullShare X)
      ∗ (∃ X : Vec F S1x32x1024 .bf16, ⌜X = Y 3⌝ ∗ owns (c.tc : Thread nD τ) (s3 P t) fullShare X)
      ∗ (∃ X : Vec F S256x1024 .f32, ⌜Leave V c γ t.val (Y 4) X⌝ ∗ owns (c.tc : Thread nD τ) (s4 P t) fullShare X))
  simp only [owns_pt c (s0 P t) (hstage0_0 (((cfgP P).slots t 0).cast nbuf0_0)), owns_pt c (s1 P t) (hstage0_1 (((cfgP P).slots t 1).cast nbuf0_1)),
    owns_pt c (s2 P t) (hstage0_2 (((cfgP P).slots t 2).cast nbuf0_2)), owns_pt c (s3 P t) (hstage0_3 (((cfgP P).slots t 3).cast nbuf0_3)),
    owns_pt c (s4 P t) (hstage0_4 (((cfgP P).slots t 4).cast nbuf0_4))]
  unfold Inv
  iintro ⟨⟨⟨%f10, %h10, HW⟩, Hg, HN, HE, HT, HS⟩, ⟨%W, -, HO⟩, ⟨%f5, %e5, H0⟩, ⟨%f6, %e6, H1⟩, ⟨%f7, %e7, H2⟩, ⟨%f8, %e8, H3⟩, ⟨%f9, %e9, H4⟩⟩
  have hwide : wide ((s2 P t).view.read (Elt F) f7) ((s3 P t).view.read (Elt F) f8)
      = wideAt (X2 V c) (X3 V c) (eF γ (t.val % steps γ)) (nF (t.val / steps γ)) := by
    unfold wideAt; rw [e7, e8]; exact congrArg₂ wide y2 y3
  iapply (step_run P c (dynb0 pf) (Pipeline.Grid.Coords.static grid0 ((grid0.at (dynb0 pf)).coords t)) hs (s0 P t) _ (s1 P t) _ (s2 P t) _ (s3 P t) _ (s4 P t) _
    f5 f6 f7 f8 f9 f10 (fun h he => (h10 h).trans ((scratch_kept V c t.val h he).trans hwide.symm)) _ _ _ _ Set.univ _)
  isplitl [HE]; · iexact HE
  isplitl [HT]; · iexact HT
  isplitl [HS]; · iexact HS
  isplitl [H0]; · iexact H0
  isplitl [H1]; · iexact H1
  isplitl [H2]; · iexact H2
  isplitl [H3]; · iexact H3
  isplitl [H4]; · iexact H4
  isplitl [HW]; · iexact HW
  iintro ⟨HE, HT, HS, H0, H1, H2, H3, ⟨%g9, %k9, H4⟩, ⟨%g10, %k10, HW⟩⟩
  isplitl [HW Hg HN HE HT HS]
  · isplitl [HW]
    · iexists g10
      isplitr; swap; (· iexact HW)
      ipureintro
      intro h
      obtain ⟨a1, a2⟩ := succ_mod h
      rw [a1, a2]
      exact k10.trans hwide
    isplitl [Hg]; · iexact Hg
    isplitl [HN]; · iexact HN
    isplitl [HE]; · iexact HE
    isplitl [HT]; · iexact HT
    iexact HS
  isplitl [HO]
  · iexists W; isplitr; · ipureintro; exact fun _ _ => Or.inl trivial
    iexact HO
  isplitl [H0]
  · iexists (Y 0); isplitr; · ipureintro; rfl
    iexists f5; isplitr; (· ipureintro; exact e5); iexact H0
  isplitl [H1]
  · iexists (Y 1); isplitr; · ipureintro; rfl
    iexists f6; isplitr; (· ipureintro; exact e6); iexact H1
  isplitl [H2]
  · iexists (Y 2); isplitr; · ipureintro; rfl
    iexists f7; isplitr; (· ipureintro; exact e7); iexact H2
  isplitl [H3]
  · iexists (Y 3); isplitr; · ipureintro; rfl
    iexists f8; isplitr; (· ipureintro; exact e8); iexact H3
  · iexists ((s4 P t).view.read (Elt F) g9); isplitr
    · ipureintro
      have := k9
      rw [hwide, e6, e5, e9] at this
      show Cells (γ := γ) _ _ _ _ _ _
      rw [← y1, ← y0]
      exact this
    iexists g9; isplitr; (· ipureintro; rfl); iexact H4

end Cert.KernelIdeal.Down
-- ==== Proof.ITables.lean ====
/- What the host part leaves before the region: the work list's words in the four tables, and the arguments as launched. -/
module

public import proofs.«01_k».proof.Proof.Gen.KernelIdeal
public import proofs.«01_k».proof.Proof.Gen.KernelIdeal.Launch
public import proofs.«01_k».proof.Proof.WorkWords
public import Idealize.ShloMosaic.Lib.StableHlo.RunRead
meta import proofs.«01_k».proof.Proof.Gen.KernelIdeal.Launch

@[expose] public section

set_option maxRecDepth 4000

noncomputable section

namespace Cert.KernelIdeal.Down

open Cert.KernelIdeal Cert.KernelIdeal.Gen
open Cert.Down
open Idealize.ShloMosaic Idealize.ShloMosaic.TcCoe Idealize.ShloMosaic.StableHlo
open Idealize.ShloMosaic.Routing (pyDiv)

variable {F : FTy → Type} [FloatOps F]

/-- The work list's side conditions, from the program's facts. -/
theorem sides : Sides :=
  ⟨bcast_S_S_, reduceWindows_S8_S8_w8s1p7_0, h_S_, bcast_S_S8, bcast_S_S43, bcast_S43_S43x1_0, slices_S8_S7_0, bcast_S7_S1x7_1,
    bcast_S43x1_S43x7_0_1, bcast_S1x7_S43x7_0_1, natLt_1_32, reducesTo_S43x7_S43_d1, slices_S8_S1_7, shapeCasts_S1_S_,
    gather_S8_S43x1_S43_n_0_n_n_0_1_1.wf⟩

/-- A buffer's reference on the TensorCore. -/
abbrev at_ (b : Ref sig .tc) : DevRef τ sig := Proc.devRef .tc b

variable (V : Valuation τ sig (Elt F))

theorem ops0_v0 : after hostOps0 V (Proc.devRef .tc main_v0) = cumW sides (V (Proc.devRef .tc main_arg0)) := by
  after_reads_simp; unfold cumW; congr 1
theorem ops1_v1 : after hostOps0_1 V (Proc.devRef .tc main_v1) = subi (V (Proc.devRef .tc main_v0)) (V (Proc.devRef .tc main_arg0)) := by
  after_reads_simp
theorem ops1_c : after hostOps0_1 V (Proc.devRef .tc main_c) = constantI S_ 32 256#32 := by
  after_reads_simp
theorem ops2_v2 : after hostOps0_2 V (Proc.devRef .tc main_v2) = pyDiv sides.bc8 (V (Proc.devRef .tc main_v1)) (V (Proc.devRef .tc main_c)) := by
  after_reads_simp; rfl
theorem ops3_v4 : after hostOps0_3 V (Proc.devRef .tc main_v4) = cmpi .sgt (V (Proc.devRef .tc main_arg0)) (c8 sides 0#32) := by
  after_reads_simp; rfl
theorem ops3_v6 : after hostOps0_3 V (Proc.devRef .tc main_v6) = subi (V (Proc.devRef .tc main_v0)) (c8 sides 1#32) := by
  after_reads_simp; rfl
theorem ops3_c : after hostOps0_3 V (Proc.devRef .tc main_c_2) = constantI S_ 32 256#32 := by
  after_reads_simp
theorem ops4_v7 : after hostOps0_4 V (Proc.devRef .tc main_v7) = pyDiv sides.bc8 (V (Proc.devRef .tc main_v6)) (V (Proc.devRef .tc main_c_2)) := by
  after_reads_simp; rfl
theorem ops5_v10 : after hostOps0_5 V (Proc.devRef .tc main_v10) = addi (subi (V (Proc.devRef .tc main_v7)) (V (Proc.devRef .tc main_v2))) (c8 sides 1#32) := by
  after_reads_simp; rfl
theorem ops5_c : after hostOps0_5 V (Proc.devRef .tc main_c_4) = constantI S_ 32 0#32 := by
  after_reads_simp
theorem ops6_v11 : after hostOps0_6 V (Proc.devRef .tc main_v11)
    = select (V (Proc.devRef .tc main_v4)) (V (Proc.devRef .tc main_v10)) (broadcastInDim S8 ![] bcast_S_S8 (V (Proc.devRef .tc main_c_4))) := by
  after_reads_simp; rfl
theorem ops7_v12 : after hostOps0_7 V (Proc.devRef .tc main_v12) = cumW sides (V (Proc.devRef .tc main_v11)) := by
  after_reads_simp; unfold cumW; congr 1

/-- The steps' experts from the groups' step ends. -/
def expertOn (te : IVec S8 32) : IVec S43 32 :=
  Host.reduce IntOp.addi (extui 32 (cmpi .sge
      (broadcastInDim S43x7 ![0, 1] bcast_S43x1_S43x7_0_1 (broadcastInDim S43x1 ![0] bcast_S43_S43x1_0 (iotaInDim S43 32 0)))
      (broadcastInDim S43x7 ![0, 1] bcast_S1x7_S43x7_0_1 (broadcastInDim S1x7 ![1] bcast_S7_S1x7_1 (extractStridedSlice S7 ![0] te slices_S8_S7_0)))) natLt_1_32)
    (constantI S_ 32 0#32) reducesTo_S43x7_S43_d1 h_S_
/-- Experts as take indices. -/
def pickOn (e : IVec S43 32) : IVec S43x1 32 :=
  broadcastInDim S43x1 ![0] bcast_S43_S43x1_0 (select (cmpi .slt e (c43 sides 0#32)) (addi e (c43 sides 8#32)) e)
/-- The steps' tiles from the groups' first tiles, numbers of tiles and step ends. -/
def tileOn (first num te : IVec S8 32) : IVec S43 32 :=
  minsi (subi (addi (Host.gather gather_S8_S43x1_S43_n_0_n_n_0_1_1 first (pickOn (expertOn te))) (iotaInDim S43 32 0))
    (Host.gather gather_S8_S43x1_S43_n_0_n_n_0_1_1 (subi te num) (pickOn (expertOn te)))) (c43 sides 35#32)

theorem ops8_v21 : after hostOps0_8 V (Proc.devRef .tc main_v21) = expertOn (V (Proc.devRef .tc main_v12)) := by
  after_reads_simp; rfl
theorem ops8_v40 : after hostOps0_8 V (Proc.devRef .tc main_v40) = tileOn (V (Proc.devRef .tc main_v2)) (V (Proc.devRef .tc main_v11)) (V (Proc.devRef .tc main_v12)) := by
  after_reads_simp; rfl
theorem ops8_v42 : after hostOps0_8 V (Proc.devRef .tc main_v42)
    = shapeCast S_ (extractStridedSlice S1 ![7] (V (Proc.devRef .tc main_v12)) slices_S8_S1_7) shapeCasts_S1_S_ := by
  after_reads_simp; rfl

theorem pass_1_v0 : after hostOps0_1 V (Proc.devRef .tc main_v0) = V (Proc.devRef .tc main_v0) := by after_reads_simp
theorem pass_2_v0 : after hostOps0_2 V (Proc.devRef .tc main_v0) = V (Proc.devRef .tc main_v0) := by after_reads_simp
theorem pass_3_v0 : after hostOps0_3 V (Proc.devRef .tc main_v0) = V (Proc.devRef .tc main_v0) := by after_reads_simp
theorem pass_4_v0 : after hostOps0_4 V (Proc.devRef .tc main_v0) = V (Proc.devRef .tc main_v0) := by after_reads_simp
theorem pass_5_v0 : after hostOps0_5 V (Proc.devRef .tc main_v0) = V (Proc.devRef .tc main_v0) := by after_reads_simp
theorem pass_6_v0 : after hostOps0_6 V (Proc.devRef .tc main_v0) = V (Proc.devRef .tc main_v0) := by after_reads_simp
theorem pass_7_v0 : after hostOps0_7 V (Proc.devRef .tc main_v0) = V (Proc.devRef .tc main_v0) := by after_reads_simp
theorem pass_8_v0 : after hostOps0_8 V (Proc.devRef .tc main_v0) = V (Proc.devRef .tc main_v0) := by after_reads_simp
theorem pass_3_v2 : after hostOps0_3 V (Proc.devRef .tc main_v2) = V (Proc.devRef .tc main_v2) := by after_reads_simp
theorem pass_4_v2 : after hostOps0_4 V (Proc.devRef .tc main_v2) = V (Proc.devRef .tc main_v2) := by after_reads_simp
theorem pass_5_v2 : after hostOps0_5 V (Proc.devRef .tc main_v2) = V (Proc.devRef .tc main_v2) := by after_reads_simp
theorem pass_6_v2 : after hostOps0_6 V (Proc.devRef .tc main_v2) = V (Proc.devRef .tc main_v2) := by after_reads_simp
theorem pass_7_v2 : after hostOps0_7 V (Proc.devRef .tc main_v2) = V (Proc.devRef .tc main_v2) := by after_reads_simp
theorem pass_4_v4 : after hostOps0_4 V (Proc.devRef .tc main_v4) = V (Proc.devRef .tc main_v4) := by after_reads_simp
theorem pass_5_v4 : after hostOps0_5 V (Proc.devRef .tc main_v4) = V (Proc.devRef .tc main_v4) := by after_reads_simp
theorem pass_7_v11 : after hostOps0_7 V (Proc.devRef .tc main_v11) = V (Proc.devRef .tc main_v11) := by after_reads_simp
theorem pass_arg0 : after hostOps0 V (Proc.devRef .tc main_arg0) = V (Proc.devRef .tc main_arg0) := by after_reads_simp
theorem pass_1_arg0 : after hostOps0_1 V (Proc.devRef .tc main_arg0) = V (Proc.devRef .tc main_arg0) := by after_reads_simp
theorem pass_2_arg0 : after hostOps0_2 V (Proc.devRef .tc main_arg0) = V (Proc.devRef .tc main_arg0) := by after_reads_simp

/-- The host part's stretches. -/
abbrev opss : List (List (HloOp τ sig (Elt F))) :=
  [hostOps0, hostOps0_1, hostOps0_2, hostOps0_3, hostOps0_4, hostOps0_5, hostOps0_6, hostOps0_7, hostOps0_8]

/-- The contents before the last stretch, of what it reads. -/
def mid : Valuation τ sig (Elt F) := after hostOps0_7 (after hostOps0_6 (after hostOps0_5 (after hostOps0_4
    (after hostOps0_3 (after hostOps0_2 (after hostOps0_1 (after hostOps0 V)))))))

theorem after_opss (b : DevRef τ sig) : after opss.flatten V b = after hostOps0_8 (mid V) b := by
  simp only [List.flatten_cons, List.flatten_nil, List.append_nil, after_append, mid]

theorem mid_first : mid V (Proc.devRef .tc main_v2) = firstW sides (V (Proc.devRef .tc main_arg0)) := by
  unfold mid; rw [pass_7_v2, pass_6_v2, pass_5_v2, pass_4_v2, pass_3_v2, ops2_v2, ops1_v1, ops1_c, ops0_v0, pass_arg0]; rfl
theorem mid_tiles : mid V (Proc.devRef .tc main_v11) = tilesW sides (V (Proc.devRef .tc main_arg0)) := by
  unfold mid; rw [pass_7_v11, ops6_v11, pass_5_v4, pass_4_v4, ops3_v4, ops5_v10, ops5_c, ops4_v7, ops3_v6, ops3_c, pass_4_v2, pass_3_v2, ops2_v2, ops1_v1, ops1_c,
    pass_2_v0, pass_1_v0, ops0_v0, pass_2_arg0, pass_1_arg0, pass_arg0]; rfl
theorem mid_tends : mid V (Proc.devRef .tc main_v12) = tendsW sides (V (Proc.devRef .tc main_arg0)) := by
  unfold tendsW; rw [← mid_tiles V]; unfold mid; rw [ops7_v12, pass_7_v11]

theorem table_n : after opss.flatten V (Proc.devRef .tc main_v42) = stepsW sides (V (Proc.devRef .tc main_arg0)) := by
  rw [after_opss, ops8_v42, mid_tends]; rfl
theorem table_expert : after opss.flatten V (Proc.devRef .tc main_v21) = expertW sides (V (Proc.devRef .tc main_arg0)) := by
  rw [after_opss, ops8_v21, mid_tends]; rfl
theorem table_tile : after opss.flatten V (Proc.devRef .tc main_v40) = tileW sides (V (Proc.devRef .tc main_arg0)) := by
  rw [after_opss, ops8_v40, mid_tends, mid_tiles, mid_first]; rfl
theorem table_ends : after opss.flatten V (Proc.devRef .tc main_v0) = endsW sides (V (Proc.devRef .tc main_arg0)) := by
  rw [after_opss, pass_8_v0]; unfold mid; rw [pass_7_v0, pass_6_v0, pass_5_v0, pass_4_v0, pass_3_v0, pass_2_v0, pass_1_v0, ops0_v0]; rfl

theorem kept_arg0 : after opss.flatten V (Proc.devRef .tc main_arg0) = V (Proc.devRef .tc main_arg0) := by
  rw [after_opss]; unfold mid; after_reads_simp
theorem kept_arg1 : after opss.flatten V (Proc.devRef .tc main_arg1) = V (Proc.devRef .tc main_arg1) := by
  rw [after_opss]; unfold mid; after_reads_simp
theorem kept_arg2 : after opss.flatten V (Proc.devRef .tc main_arg2) = V (Proc.devRef .tc main_arg2) := by
  rw [after_opss]; unfold mid; after_reads_simp
theorem kept_arg3 : after opss.flatten V (Proc.devRef .tc main_arg3) = V (Proc.devRef .tc main_arg3) := by
  rw [after_opss]; unfold mid; after_reads_simp
theorem kept_arg4 : after opss.flatten V (Proc.devRef .tc main_arg4) = V (Proc.devRef .tc main_arg4) := by
  rw [after_opss]; unfold mid; after_reads_simp

end Cert.KernelIdeal.Down
-- ==== Proof.IRun.lean ====
/- The down projection's run: from group sizes that fill the rows, the program ends with its arguments kept and its result in the
   relation the steps' proof data state. -/
module

public import proofs.«01_k».proof.Proof.IOblig
public import proofs.«01_k».proof.Proof.ITables

@[expose] public section

set_option maxRecDepth 20000

noncomputable section

namespace Cert.KernelIdeal.Down

open Cert.KernelIdeal Cert.KernelIdeal.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

variable (m : (ℓ : Loc nD τ sig) → Buf (Elt F) ℓ) (g : Dev nD → PrngReg)

/-- The buffers when the region is entered. -/
def VE (c : Dev nD) (b : Ref sig .tc) : Buf (Elt F) ((c.tc : Thread nD τ).loc b) := StableHlo.after opss.flatten (fun b => m (c, b)) (Proc.devRef .tc b)

/-- The tables then. -/
def tbl : pre0.Contents (Elt F) := fun k => VE m 0 (pre0.ref k)

/-- The group sizes given. -/
abbrev G : IVec S8 32 := m ((0 : Dev nD).tc.loc main_arg0)

variable {γ : Nat → Nat} (hg : ∀ e : Fin 8, G m (ix1 e) = BitVec.ofNat 32 (γ e.val)) (h8 : pre γ 8 = 9216)

include hg h8 in
theorem plan : Plan (tbl m) γ where
  h8 := h8
  n i := (congrFun (table_n (fun b => m ((0 : Dev nD), b))) i).trans (stepsW_ap sides (G m) γ hg h8 i)
  expert s := (congrFun (table_expert (fun b => m ((0 : Dev nD), b))) (ix1 s)).trans (expertW_ap sides (G m) γ hg h8 s)
  tile s := (congrFun (table_tile (fun b => m ((0 : Dev nD), b))) (ix1 s)).trans (tileW_ap sides (G m) γ hg h8 s)
  ends e := (congrFun (table_ends (fun b => m ((0 : Dev nD), b))) (ix1 e)).trans (endsW_ap sides (G m) γ hg e)

theorem tables_eq (c : Dev nD) (pf : pre0.Contents (Elt F)) :
    (Pipeline.ΦT (U := UR nD τ) pre0 pf c : sProp 𝕄) = iprop(ptH c mN (pf 0) ∗ ptH c mE (pf 1) ∗ ptH c mT (pf 2) ∗ ptH c mS (pf 3)) := by
  unfold Pipeline.ΦT Pipeline.prefHeld
  exact bigSep_univ_eq_bigSepL [(0 : Fin 4), (1 : Fin 4), (2 : Fin 4), (3 : Fin 4)] (by decide) (by decide) _

theorem hmain : Pipeline.HMainP (Ix := Unit) (Name := ℕ) (U := UR nD τ) (Lvl := ℕ) (pcfgs (F := F)) 0 defs₀ Variants.none m (main (F := F)) (VE m) :=
  Pipeline.hmainP_prefixes (pcfgs (F := F)) 0 defs₀ Variants.none m (main (F := F)) opss
    ⟨hostOps0_sub, hostOps0_1_sub, hostOps0_2_sub, hostOps0_3_sub, hostOps0_4_sub, hostOps0_5_sub, hostOps0_6_sub, hostOps0_7_sub, hostOps0_8_sub⟩
    (by repeat' first | exact rfl | constructor)
    main_chain

section
variable (P : Plan (tbl m) γ)

theorem hin (c : Dev nD) : iprop(Pipeline.ΦA (U := UR nD τ) spec0 c ∗ Pipeline.ΦT (U := UR nD τ) pre0 (tbl m) c) ⊢ (Inv (VE m) c (tbl m) γ 0 : sProp 𝕄) := by
  rw [tables_eq]
  unfold Pipeline.ΦA Inv
  rw [scopedRest0_eq]
  iintro ⟨⟨⟨%f, Hs⟩, Hg⟩, HT⟩
  isplitl [Hs]
  · iexists f
    isplitr; swap; (· iexact Hs)
    ipureintro
    intro h
    exact absurd (Nat.zero_mod _) h
  isplitl [Hg]; · iexact Hg
  iexact HT

theorem hout (c : Dev nD) (t : Nat) : (Inv (VE m) c (tbl m) γ t : sProp 𝕄) ⊢ Pipeline.ΦA (U := UR nD τ) spec0 c := by
  unfold Pipeline.ΦA Inv
  rw [scopedRest0_eq]
  iintro ⟨⟨%f, -, Hs⟩, Hg, -⟩
  isplitl [Hs]
  · iexists f; iexact Hs
  iexact Hg

theorem shares (c : Dev nD) (w) : (rdat P (VE m) c).share w = fullShare := by
  unfold RDat.share; split <;> rfl

theorem entry_array (V : (c : Dev nD) → (b : Ref sig .tc) → Buf (Elt F) ((c.tc : Thread nD τ).loc b)) (c : Dev nD) (w) :
    (rdat P V c).A w = V c (Pipeline.arrRef (cfgP P).spec w) := by exact rfl

theorem entry_inv (V : (c : Dev nD) → (b : Ref sig .tc) → Buf (Elt F) ((c.tc : Thread nD τ).loc b)) (c : Dev nD) (t) :
    (rdat P V c).Φ t = Inv V c (tbl m) γ t.val := by exact rfl

theorem held_tables (c : Dev nD) (k) : VE m c ((pcfgs (F := F) 0).pre.ref k) = (adm P 0).1 k := by
  rw [Subsingleton.elim c 0]; exact rfl

/-- The run, with what the result's array may hold. -/
theorem run_rel : θ_run (defs (F := F)) (onTc (τ := τ) (main (F := F))) ⟨m, fun _ => 0, g⟩ (fun r =>
    RDat.FramePost (cfgP P) (fun c => rdat P (VE m) c) (VE m) r ∧ r.2.sem = fun _ => 0) := by
  refine RDat.θ_run_frameP_track (pcfgs (F := F)) (adm P) 0 launch0 defs₀ Variants.none (fun c => rdat P (VE m) c) m g (main (F := F))
    ?_ ?_ ?_ (VE m) ?_ ?_ ?_ ?_ ?_ _ (fun _ h => h)
  · exact fun c => body_obligation P (VE m) c
  · exact shares m P
  · exact fun _ _ => rfl
  · exact hmain m
  · exact fun c w => entry_array m P (VE m) c w
  · exact held_tables m P
  · intro c; rw [entry_inv m P]; exact hin m c
  · intro c; rw [entry_inv m P]; exact hout m c _

end

end Cert.KernelIdeal.Down
-- ==== Proof.IFrame.lean ====
/- The down projection leaves its arguments as it found them. -/
module

public import proofs.«01_k».proof.Proof.IRun

@[expose] public section

set_option maxRecDepth 20000

noncomputable section

namespace Cert.KernelIdeal.Down

open Cert.KernelIdeal Cert.KernelIdeal.Gen
open Cert.Down
open Idealize.ShloMosaic Idealize.ShloMosaic.TcCoe Idealize.ShloMosaic.ValueIdx
open Idealize.SL Idealize.SL.Sem
open Idealize.ShloMosaic.Pipeline (RDat)

variable {F : FTy → Type} [FloatOps F]

variable (m : (ℓ : Loc nD τ sig) → Buf (Elt F) ℓ) (g : Dev nD → PrngReg) {γ : Nat → Nat}

/-- The arguments are as launched. -/
abbrev Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

variable (P : Plan (tbl m) γ)

theorem VE_arg0 (c : Dev nD) : VE m c main_arg0 = m ((c.tc : Thread nD τ).loc main_arg0) := kept_arg0 _
theorem VE_arg1 (c : Dev nD) : VE m c main_arg1 = m ((c.tc : Thread nD τ).loc main_arg1) := kept_arg1 _
theorem VE_arg2 (c : Dev nD) : VE m c main_arg2 = m ((c.tc : Thread nD τ).loc main_arg2) := kept_arg2 _
theorem VE_arg3 (c : Dev nD) : VE m c main_arg3 = m ((c.tc : Thread nD τ).loc main_arg3) := kept_arg3 _
theorem VE_arg4 (c : Dev nD) : VE m c main_arg4 = m ((c.tc : Thread nD τ).loc main_arg4) := kept_arg4 _

theorem input0 : ((cfgP P).win 0).isOut = false := by exact rfl
theorem input1 : ((cfgP P).win 1).isOut = false := by exact rfl
theorem input2 : ((cfgP P).win 2).isOut = false := by exact rfl
theorem input3 : ((cfgP P).win 3).isOut = false := by exact rfl

theorem sizes_no_window : ∀ w : Fin 5, (spec0 w).arr.view.ref ≠ main_arg0 := by decide

theorem post_kept (V : (c : Dev nD) → (b : Ref sig .tc) → Buf (Elt F) ((c.tc : Thread nD τ).loc b)) (r : PUnit × MemSt nD τ sig (Elt F))
    (h : RDat.FramePost (cfgP P) (fun c => rdat P V c) V r) (c : Dev nD) :
    r.2.mem ((c.tc : Thread nD τ).loc main_arg0) = V c main_arg0
    ∧ r.2.mem ((c.tc : Thread nD τ).loc main_arg1) = V c main_arg1
    ∧ r.2.mem ((c.tc : Thread nD τ).loc main_arg2) = V c main_arg2
    ∧ r.2.mem ((c.tc : Thread nD τ).loc main_arg3) = V c main_arg3
    ∧ r.2.mem ((c.tc : Thread nD τ).loc main_arg4) = V c main_arg4 :=
  ⟨(h c).2 main_arg0 (Pipeline.mem_restRefs_of main_arg0 (by decide) (by exact sizes_no_window)), h.arr_in c 0 (input0 m P), h.arr_in c 1 (input1 m P),
    h.arr_in c 2 (input2 m P), h.arr_in c 3 (input3 m P)⟩

/-- The run keeps its arguments and ends with every semaphore at zero. -/
theorem run_kept (hg : ∀ e : Fin 8, G m (ix1 e) = BitVec.ofNat 32 (γ e.val)) (h8 : pre γ 8 = 9216) :
    θ_run (defs (F := F)) (onTc (τ := τ) (main (F := F))) ⟨m, fun _ => 0, g⟩ (fun r => Kept m r ∧ r.2.sem = fun _ => 0) :=
  (θ_run (defs (F := F)) _ _).mono (fun r h => ⟨fun c => by
    have := post_kept m (plan m hg h8) (VE m) r h.1 c
    rwa [VE_arg0, VE_arg1, VE_arg2, VE_arg3, VE_arg4] at this, h.2⟩) (run_rel m g (plan m hg h8))

end Cert.KernelIdeal.Down
-- ==== Proof.IValue.lean ====
/- What the down projection's result array holds: every block is written back when its last step has filled the last of its rows, so
   every element is its row's expert's tile element. -/
module

public import proofs.«01_k».proof.Proof.IFrame
public import Idealize.ShloMosaic.Lib.Pipeline.ArrRel
public import Idealize.ShloMosaic.Lib.Pipeline.Value

@[expose] public section

set_option maxRecDepth 20000

noncomputable section

namespace Cert.KernelIdeal.Down

open Cert.KernelIdeal Cert.KernelIdeal.Gen
open Cert.Down
open Idealize.ShloMosaic Idealize.ShloMosaic.TcCoe Idealize.ShloMosaic.ValueIdx
open Idealize.SL Idealize.SL.Sem
open Idealize.ShloMosaic.Pipeline (RDat)

variable {F : FTy → Type} [FloatOps F]

variable {pf : pre0.Contents (Elt F)} {γ : Nat → Nat} (P : Plan pf γ)
variable (V : (c : Dev nD) → (b : Ref sig .tc) → Buf (Elt F) ((c.tc : Thread nD τ).loc b)) (c : Dev nD)

/-- The expert of a row. -/
def rowE (γ : Nat → Nat) (r : Nat) : Fin 8 := ⟨slot γ r, slot_lt γ r⟩

/-- The block the result ends with at tile `k` and column block `n`. -/
def target (γ : Nat → Nat) (k : Fin 36) (n : Fin 6) (p : Fin 256) (q : Fin 1024) : F .f32 :=
  yAt (X0 V c) (X1 V c) (X2 V c) (X3 V c) (rowE γ (256 * k.val + p.val)) k n (ix2 p q)

theorem index4 (t : Fin (cfgP P).N) : (((cfgP P).win 4).index t : Fin 2 → Nat) = ![tileOf γ (t.val % steps γ), t.val / steps γ] := by
  have h1 := coords_one P t
  have h0 := coords_zero P t
  rw [← h1, ← h0]
  exact trans4 P ((grid0.at (dynb0 pf)).coords t)

theorem no_fetch (t : Fin (cfgP P).N) : ((cfgP P).win 4).fetch t = false := by exact rfl

theorem flush_iff (t : Fin (cfgP P).N) :
    ((cfgP P).win 4).flush t = true ↔ t.val + 1 = (cfgP P).N ∨ ∃ h : t.val + 1 < (cfgP P).N, ((cfgP P).win 4).index ⟨t.val + 1, h⟩ ≠ ((cfgP P).win 4).index t := by
  unfold Pipeline.Window.flush
  rw [Bool.and_eq_true, Bool.or_eq_true, decide_eq_true_eq, decide_eq_true_eq]
  exact ⟨fun h => h.2, fun h => ⟨rfl, h⟩⟩

/-- The output's block is kept between two steps on one tile, and written back after a tile's last step. -/
theorem index4_next (t : Fin (cfgP P).N) (h : t.val + 1 < (cfgP P).N) :
    ((cfgP P).win 4).index ⟨t.val + 1, h⟩ ≠ ((cfgP P).win 4).index t
      ↔ ((t.val + 1) % steps γ = 0 ∨ tileOf γ (t.val % steps γ) ≠ tileOf γ ((t.val + 1) % steps γ)) := by
  have e1 := index4 P ⟨t.val + 1, h⟩
  have e2 := index4 P t
  have hs := steps_pos γ P.h8
  constructor
  · intro hne
    by_contra hc
    push Not at hc
    obtain ⟨h1, h2⟩ := succ_mod hc.1
    have e3 : (![tileOf γ ((t.val + 1) % steps γ), (t.val + 1) / steps γ] : Fin 2 → Nat) = ![tileOf γ (t.val % steps γ), t.val / steps γ] := by
      rw [h2, hc.2]
    exact hne (e1.trans (e3.trans e2.symm))
  · rintro hor heq
    have e3 : (![tileOf γ ((t.val + 1) % steps γ), (t.val + 1) / steps γ] : Fin 2 → Nat) = ![tileOf γ (t.val % steps γ), t.val / steps γ] :=
      e1.symm.trans (Eq.trans heq e2)
    have e4 := congrFun e3 0
    have e5 := congrFun e3 1
    simp only [Matrix.cons_val_zero, Matrix.cons_val_one] at e4 e5
    rcases hor with h0 | h0
    · have h1 := Nat.div_add_mod (t.val + 1) (steps γ)
      have h2 := Nat.div_add_mod t.val (steps γ)
      rw [h0, e5] at h1
      omega
    · exact h0 e4.symm

/-- A step's rows up to its expert's end are final. -/
theorem leaves_rows : ∀ (u : Nat) (t : Fin (cfgP P).N), t.val = u → ∀ X, (rdat P V c).Leaves 4 t X → ∀ (p : Fin 256) (q : Fin 1024),
    256 * tileOf γ (t.val % steps γ) + p.val < pre γ (expertOf γ (t.val % steps γ) + 1) →
    (X : Vec F S256x1024 .f32) (ix2 p q) = target V c γ (kF γ (t.val % steps γ)) (nF (t.val / steps γ)) p q := by
  intro u
  induction u using Nat.strong_induction_on with
  | _ u ih =>
  intro t htu X hX p q hpq
  obtain ⟨Y, hY, hA⟩ := hX
  have hA' : Leave V c γ t.val Y X := hA
  have hc := hA' p q
  have hs := mod_lt P t.val
  by_cases hge : pre γ (expertOf γ (t.val % steps γ)) ≤ 256 * tileOf γ (t.val % steps γ) + p.val
  · have he : rowE γ (256 * (kF γ (t.val % steps γ)).val + p.val) = eF γ (t.val % steps γ) := Fin.ext (slot_row γ P.h8 hs hge hpq)
    refine hc.trans ((if_pos ⟨hge, hpq⟩).trans ?_)
    unfold target
    rw [he]; rfl
  · refine hc.trans ((if_neg fun h => hge h.1).trans ?_)
    have h0 : t.val % steps γ ≠ 0 := fun h => hge (by rw [h, (step_zero γ P.h8).1]; exact Nat.zero_le _)
    obtain ⟨h1, h2⟩ := prev_mod h0
    have hs1 : t.val % steps γ - 1 + 1 = t.val % steps γ := by omega
    have htile : tileOf γ (t.val % steps γ - 1) = tileOf γ (t.val % steps γ) := by
      by_contra hne
      have := tile_first γ P.h8 (s := t.val % steps γ - 1) (by omega) (by rw [hs1]; exact hne)
      rw [hs1] at this
      omega
    have hag := tile_again γ P.h8 (s := t.val % steps γ - 1) (by omega) (by rw [hs1]; exact htile)
    rw [hs1] at hag
    have ht0 : t.val ≠ 0 := fun h => h0 (by rw [h]; exact Nat.zero_mod _)
    have ht1 : t.val - 1 + 1 = t.val := by omega
    have hlt : t.val - 1 < (cfgP P).N := by have := t.isLt; omega
    rcases ((rdat P V c).finds_of_pos (no_fetch P t) ht0 Y).1 hY with hf | hL
    · exfalso
      rcases (flush_iff P _).1 hf with hl | ⟨h, hne⟩
      · have := t.isLt; simp only at hl; omega
      · rcases (index4_next P ⟨t.val - 1, hlt⟩ h).1 hne with h' | h'
        · simp only [ht1] at h'; exact h0 h'
        · simp only [ht1] at h'; rw [← h1] at h'; exact h' htile
    · have := ih (t.val - 1) (by omega) ⟨t.val - 1, hlt⟩ rfl Y hL p q (by
        simp only
        rw [← h1, htile, ← hag]; omega)
      simp only at this
      rw [← h1, ← h2] at this
      refine this.trans ?_
      rw [show kF γ (t.val % steps γ - 1) = kF γ (t.val % steps γ) from Fin.ext htile]

/-- A block written back is final. -/
theorem leaves_block (t : Fin (cfgP P).N) (hf : ((cfgP P).win 4).flush t = true) (X) (hX : (rdat P V c).Leaves 4 t X) (p : Fin 256) (q : Fin 1024) :
    (X : Vec F S256x1024 .f32) (ix2 p q) = target V c γ (kF γ (t.val % steps γ)) (nF (t.val / steps γ)) p q := by
  refine leaves_rows P V c t.val t rfl X hX p q ?_
  have hs := mod_lt P t.val
  have hd : 256 * (tileOf γ (t.val % steps γ) + 1) ≤ pre γ (expertOf γ (t.val % steps γ) + 1) := by
    refine tile_done γ P.h8 hs ?_
    rw [or_iff_not_imp_left]
    intro hne
    have hmod : (t.val + 1) % steps γ = t.val % steps γ + 1 := by
      rw [Nat.add_mod, Nat.mod_eq_of_lt (a := t.val % steps γ + 1 % steps γ)] <;>
      · have : 1 % steps γ = 1 := Nat.mod_eq_of_lt (by omega)
        omega
    rcases (flush_iff P t).1 hf with hl | ⟨h, hn⟩
    · exfalso
      have hN : t.val + 1 = 6 * steps γ := hl.trans (grid_N P)
      rw [hN, Nat.mul_mod_left] at hmod
      omega
    · rcases (index4_next P t h).1 hn with h' | h'
      · omega
      · rwa [hmod] at h'
  have := p.isLt
  omega

/-- The result. -/
def result (γ : Nat → Nat) : Vec F S9216x6144 .f32 := fun i =>
  target V c γ ⟨(i 0).val / 256, by have h : (i 0).val < 9216 := (i 0).isLt; omega⟩ ⟨(i 1).val / 1024, by have h : (i 1).val < 6144 := (i 1).isLt; omega⟩
    ⟨(i 0).val % 256, Nat.mod_lt _ (by decide)⟩ ⟨(i 1).val % 1024, Nat.mod_lt _ (by decide)⟩

theorem result_at (k : Fin 36) (n : Fin 6) (p : Fin 256) (q : Fin 1024) (i : S9216x6144.Idx) (h0 : (i 0).val = k.val * 256 + p.val)
    (h1 : (i 1).val = n.val * 1024 + q.val) : result V c γ i = target V c γ k n p q := by
  unfold result
  congr 1 <;> exact Fin.ext (by simp only [h0, h1]; omega)

/-- Row and column of an element of the output's block. -/
theorem emb4 (t : Fin (cfgP P).N) (y : (((cfgP P).win 4).xblock ((cfgP P).grid.coords t)).Idx) (i : S9216x6144.Idx)
    (hi : i = (((cfgP P).win 4).rect t).emb y) :
    (i 0).val = tileOf γ (t.val % steps γ) * 256 + (y (0 : Fin 2)).val ∧ (i 1).val = t.val / steps γ * 1024 + (y (1 : Fin 2)).val := by
  have e := index4 P t
  subst hi
  constructor
  · refine (Pipeline.Window.rect_emb_val _ t y ⟨0, (by decide : 0 < 2)⟩ rfl).trans ?_
    exact congrArg (fun x => x * 256 + (y (0 : Fin 2)).val) (congrFun e ⟨0, Nat.zero_lt_two⟩)
  · refine (Pipeline.Window.rect_emb_val _ t y ⟨1, (by decide : 1 < 2)⟩ rfl).trans ?_
    exact congrArg (fun x => x * 1024 + (y (1 : Fin 2)).val) (congrFun e ⟨1, Nat.one_lt_two⟩)

theorem result_of_exact (after : (w' : Fin (cfgP P).W) → Fin (cfgP P).N → ((cfgP P).win w').block.Idx → Elt F ((cfgP P).win w').elt)
    (hL : ∀ u : Fin (cfgP P).N, ((cfgP P).win 4).flush u = true → (rdat P V c).Leaves 4 u (after 4 u)) :
    ((rdat P V c).withAfter after).arrAt 4 (cfgP P).N = (result V c γ : Vec F S9216x6144 .f32) := by
  refine funext fun (i : S9216x6144.Idx) => ?_
  refine Pipeline.Dat.arrAt_forall_of_cover ((rdat P V c).withAfter after) 4 (fun i v => v = (result V c γ : Vec F S9216x6144 .f32) i) ?_ ?_ i
  · intro t hf y
    have hy0 : (y (0 : Fin 2)).val < 256 := (y (0 : Fin 2)).isLt
    have hy1 : (y (1 : Fin 2)).val < 1024 := (y (1 : Fin 2)).isLt
    obtain ⟨h0, h1⟩ := emb4 P t y _ rfl
    refine Eq.trans ?_ ((leaves_block P V c t hf _ (hL t hf) ⟨_, hy0⟩ ⟨_, hy1⟩).trans (result_at V c (kF γ (t.val % steps γ)) (nF (t.val / steps γ))
      ⟨_, hy0⟩ ⟨_, hy1⟩ _ h0 (h1.trans ?_)).symm)
    · show after 4 t _ = after 4 t _
      congr 1
      refine funext fun (a : Fin 2) => Fin.ext ?_
      match a with
      | ⟨0, _⟩ => rfl
      | ⟨1, _⟩ => rfl
    · have := div_lt P t
      show _ = (t.val / steps γ) % 6 * 1024 + _
      rw [Nat.mod_eq_of_lt this]
  · intro (i : S9216x6144.Idx)
    have hi0 : (i 0).val < 9216 := (i 0).isLt
    have hi1 : (i 1).val < 6144 := (i 1).isLt
    obtain ⟨s, hs, hk, hlast⟩ := tile_met γ P.h8 (k := (i 0).val / 256) (by omega)
    have hmod : (s + steps γ * ((i 1).val / 1024)) % steps γ = s := by rw [Nat.add_mul_mod_self_left, Nat.mod_eq_of_lt hs]
    have hdiv : (s + steps γ * ((i 1).val / 1024)) / steps γ = (i 1).val / 1024 := by
      rw [Nat.add_mul_div_left _ _ (steps_pos γ P.h8), Nat.div_eq_of_lt hs, Nat.zero_add]
    have hlt : s + steps γ * ((i 1).val / 1024) < (cfgP P).N := by
      refine lt_of_lt_of_eq ?_ (grid_N P).symm
      have : steps γ * ((i 1).val / 1024) ≤ steps γ * 5 := Nat.mul_le_mul_left _ (by omega)
      omega
    refine ⟨⟨_, hlt⟩, ?_, ?_⟩
    · rw [flush_iff]
      by_cases hl : s + steps γ * ((i 1).val / 1024) + 1 = (cfgP P).N
      · exact Or.inl hl
      · refine Or.inr ⟨by show s + steps γ * ((i 1).val / 1024) + 1 < (cfgP P).N; omega, (index4_next P ⟨_, hlt⟩ _).2 ?_⟩
        show (s + steps γ * ((i 1).val / 1024) + 1) % steps γ = 0
          ∨ tileOf γ ((s + steps γ * ((i 1).val / 1024)) % steps γ) ≠ tileOf γ ((s + steps γ * ((i 1).val / 1024) + 1) % steps γ)
        by_cases hz : s + 1 = steps γ
        · left
          rw [show s + steps γ * ((i 1).val / 1024) + 1 = steps γ * ((i 1).val / 1024 + 1) by rw [Nat.mul_add]; omega, Nat.mul_mod_right]
        · right
          rw [hmod, show s + steps γ * ((i 1).val / 1024) + 1 = (s + 1) + steps γ * ((i 1).val / 1024) by omega, Nat.add_mul_mod_self_left,
            Nat.mod_eq_of_lt (by omega)]
          exact hlast.resolve_left hz
    · refine Finset.mem_map.mpr ⟨(fun (a : Fin 2) => match a with
        | ⟨0, _⟩ => (⟨(i 0).val % 256, Nat.mod_lt _ (by decide)⟩ : Fin 256)
        | ⟨1, _⟩ => (⟨(i 1).val % 1024, Nat.mod_lt _ (by decide)⟩ : Fin 1024)), Finset.mem_univ _, ?_⟩
      obtain ⟨h0, h1⟩ := emb4 P ⟨_, hlt⟩ (fun (a : Fin 2) => match a with
        | ⟨0, _⟩ => (⟨(i 0).val % 256, Nat.mod_lt _ (by decide)⟩ : Fin 256)
        | ⟨1, _⟩ => (⟨(i 1).val % 1024, Nat.mod_lt _ (by decide)⟩ : Fin 1024)) _ rfl
      refine funext fun (a : Fin 2) => Fin.ext ?_
      match a with
      | ⟨0, _⟩ =>
        refine h0.trans ?_
        show tileOf γ ((s + steps γ * ((i 1).val / 1024)) % steps γ) * 256 + (i 0).val % 256 = (i 0).val
        rw [hmod, hk]; omega
      | ⟨1, _⟩ =>
        refine h1.trans ?_
        show (s + steps γ * ((i 1).val / 1024)) / steps γ * 1024 + (i 1).val % 1024 = (i 1).val
        rw [hdiv]; omega

section
variable (m : (ℓ : Loc nD τ sig) → Buf (Elt F) ℓ) (g : Dev nD → PrngReg)

theorem result_of_post (r : PUnit × MemSt nD τ sig (Elt F)) (h : RDat.FramePost (cfgP P) (fun c => rdat P V c) V r) :
    (r.2.mem ((c.tc : Thread nD τ).loc main_v43) : Vec F S9216x6144 .f32) = result V c γ := by
  obtain ⟨after, hL, hA⟩ := h.exists_exact c
  exact (hA 4).trans (result_of_exact P V c after (fun u hf => hL 4 u hf))

/-- The run ends with the result and the arguments kept. -/
theorem run_result (hg : ∀ e : Fin 8, G m (ix1 e) = BitVec.ofNat 32 (γ e.val)) (h8 : pre γ 8 = 9216) :
    θ_run (defs (F := F)) (onTc (τ := τ) (main (F := F))) ⟨m, fun _ => 0, g⟩ (fun r =>
      (∀ c : Dev nD, (r.2.mem ((c.tc : Thread nD τ).loc main_v43) : Vec F S9216x6144 .f32) = result (VE m) c γ) ∧ Kept m r) :=
  (θ_run (defs (F := F)) _ _).mono (fun r h => ⟨fun c => result_of_post (plan m hg h8) (VE m) c r h.1, fun c => by
    have := post_kept m (plan m hg h8) (VE m) r h.1 c
    rwa [VE_arg0, VE_arg1, VE_arg2, VE_arg3, VE_arg4] at this⟩) (run_rel m g (plan m hg h8))

end

end Cert.KernelIdeal.Down
-- ==== Proof.Spec.lean ====
/- The down projection over the extended reals: four-bit codes times their group's scale, a product over 4096 columns, and the expert's
   scale. Nothing here names a program. -/
module

public import proofs.«01_k».proof.Proof.Nibble
public import Idealize.ShloMosaic.Lib.ValueIdx
public import Idealize.ShloMosaic.PureOps.Ideal.Laws

@[expose] public section

noncomputable section

namespace Cert.Down

open Idealize.ShloMosaic Idealize.ShloMosaic.ValueIdx

/-- The four-bit code in the half `h` of a byte, as a signed 32-bit word: shifted to the top and back. -/
def half (h : Bool) (b : BitVec 8) : BitVec 32 := ((b.signExtend 32) <<< (if h then 24 else 28)).sshiftRight 28

/-- Masked in place, the code reads sixteen times itself. -/
theorem nib16_toInt (h : Bool) (b : BitVec 8) : (nib16 h b).toInt = 16 * (half h b).toInt := by
  revert b h; decide +kernel

/-- One weight: row `k` of the product's columns is the half `k % 128 / 64` of packed row `64 (k / 128) + k % 64`, times the scale of
    its 128 rows. -/
def weight (w : IVec ⟨3, ![8, 2048, 6144]⟩ 8) (s : (⟨3, ![8, 32, 6144]⟩ : Shape).Idx → EReal) (e : Fin 8) (k : Fin 4096) (c : Fin 6144) : EReal :=
  (((half (decide (64 ≤ k.val % 128)) (w (ix3 e ⟨64 * (k.val / 128) + k.val % 64, by omega⟩ c))).toInt : ℝ) : EReal)
    * s (ix3 e ⟨k.val / 128, by omega⟩ c)

/-- Row `r`, column `c` of the product by expert `e`'s weights. -/
def outAt (a : (⟨1, ![8]⟩ : Shape).Idx → EReal) (x : (⟨2, ![9216, 4096]⟩ : Shape).Idx → EReal) (w : IVec ⟨3, ![8, 2048, 6144]⟩ 8)
    (s : (⟨3, ![8, 32, 6144]⟩ : Shape).Idx → EReal) (e : Fin 8) (r : Fin 9216) (c : Fin 6144) : EReal :=
  (∑ k : Fin 4096, x (ix2 r k) * weight w s e k c) * a (ix1 e)

/-- Sixteen times a code, times a sixteenth of its scale. -/
theorem weight_cell (h : Bool) (b : BitVec 8) (u d : EReal) (hd : d = (((1 / 16 : ℝ)) : EReal)) :
    (((nib16 h b).toInt : ℝ) : EReal) * (u * d) = (((half h b).toInt : ℝ) : EReal) * u := by
  rw [hd, mul_comm u, ← mul_assoc, ← EReal.coe_mul, nib16_toInt]
  congr 2
  push_cast; ring

/-- The bf16 constant a sixteenth. -/
theorem ofBits_sixteenth : Ideal.ofBits .bf16 0x3D80#16 = (((1 / 16 : ℝ)) : EReal) := by
  simp [Ideal.ofBits, Ideal.ieee]
  norm_num
  rw [← EReal.coe_mul]
  norm_num

end Cert.Down
-- ==== Proof.IMath.lean ====
/- The down projection's result over the extended reals: every element is the specification's, at its row's expert. -/
module

public import proofs.«01_k».proof.Proof.IValue
public import proofs.«01_k».proof.Proof.Spec
public import Idealize.ShloMosaic.Lib.Pointwise.Contract

@[expose] public section

set_option maxRecDepth 20000

noncomputable section

namespace Cert.KernelIdeal.Down

open Cert.KernelIdeal Cert.KernelIdeal.Gen
open Cert.Down
open Idealize.ShloMosaic hiding ix1 ix2 ix3 mulf_apply extf_apply
open Idealize.ShloMosaic.TcCoe Idealize.ShloMosaic.ValueIdx

theorem wideAt_cell (X2 : Vec Ideal S8x2048x6144 .i8) (X3 : Vec Ideal S8x32x6144 .bf16) (e : Fin 8) (n : Fin 6) (k : Fin 4096) (q : Fin 1024)
    (c : Fin 6144) (hc : c.val = 1024 * n.val + q.val) : wideAt X2 X3 e n (ix2 k q) = weight X2 X3 e k c := by
  have e1 : (⟨1024 * n.val + q.val, by omega⟩ : Fin 6144) = c := Fin.ext hc.symm
  unfold weight
  rw [← weight_cell _ _ _ _ ofBits_sixteenth, ← e1]
  rfl

theorem tile_cell (a : Vec Ideal S256x4096 .fp8e4m3) (w : Vec Ideal S4096x1024 .bf16) (act : Ideal .f32) (p : Fin 256) (q : Fin 1024) :
    yTile a w act (ix2 p q) = (∑ k : Fin 4096, (a (ix2 p k) : EReal) * w (ix2 k q)) * act := by
  unfold yTile
  rw [mulf_apply]
  congr 1
  refine (Ideal.matmul_constant_zero_apply (φ₁ := .bf16) (φ₂ := .bf16) _ none _ _ _).trans ?_
  refine (DotDims.sum_contr₁ _ (a := 1) rfl (K := 4096) rfl _).trans (Finset.sum_congr rfl fun k _ => ?_)
  rw [extf_apply]
  congr 2 <;> funext d <;> match d with | ⟨0, _⟩ => exact Fin.ext rfl | ⟨1, _⟩ => exact Fin.ext rfl

variable (V : (c : Dev nD) → (b : Ref sig .tc) → Buf (Elt Ideal) ((c.tc : Thread nD τ).loc b)) (c : Dev nD) (γ : Nat → Nat)

theorem result_out (r : Fin 9216) (q : Fin 6144) :
    result V c γ (ix2 r q) = outAt (X0 V c) (X1 V c) (X2 V c) (X3 V c) (rowE γ r.val) r q := by
  have er : 256 * (r.val / 256) + r.val % 256 = r.val := by omega
  rw [result_at V c ⟨r.val / 256, by omega⟩ ⟨q.val / 1024, by omega⟩ ⟨r.val % 256, by omega⟩ ⟨q.val % 1024, by omega⟩ _
    (by show r.val = _; simp only; omega) (by show q.val = _; simp only; omega)]
  unfold target yAt outAt
  rw [tile_cell]
  simp only [er]
  congr 1
  refine Finset.sum_congr rfl fun k _ => ?_
  rw [wideAt_cell _ _ _ _ _ _ q (by simp; omega)]
  congr 1
  unfold aAt
  congr 2
  exact Fin.ext er

end Cert.KernelIdeal.Down
-- ==== Proof.RefVal.lean ====
/- The reference's result over the extended reals: each row's expert is the interval of the groups' ends it lies in, and the row's
   element is the specification's at that expert. -/
module

public import proofs.«01_k».proof.Proof.Gen.ReferenceIdeal.Read
public import proofs.«01_k».proof.Proof.Spec
public import proofs.«01_k».proof.Proof.Work
public import Idealize.ShloMosaic.Lib.Routing.Words
public import Idealize.ShloMosaic.Lib.Routing.OpsSet
public import Idealize.ShloMosaic.Lib.Pointwise.Contract

@[expose] public section

set_option maxRecDepth 20000

noncomputable section

namespace Cert.ReferenceIdeal.Down

open Cert.ReferenceIdeal Cert.ReferenceIdeal.Gen Cert.ReferenceIdeal.Read
open Cert.Down
open Idealize.ShloMosaic hiding ix1 ix2 ix3 mulf_apply extf_apply
open Idealize.ShloMosaic.TcCoe Idealize.ShloMosaic.ValueIdx Idealize.ShloMosaic.WordCmp
open Idealize.ShloMosaic.Routing (bc0 bcRows bcCols slice1 reduce_count cumsum1 iota1_ap)

section expert
variable (x0 : (⟨S8, .i32⟩ : BufTy).Contents (Elt Ideal)) (γ : Nat → Nat) (hg : ∀ e : Fin 8, x0 (ix1 e) = BitVec.ofNat 32 (γ e.val))
  (h8 : pre γ 8 = 9216)
include hg

theorem ends_ap (e : Fin 8) : val_main_v1 x0 (ix1 e) = BitVec.ofNat 32 (pre γ (e.val + 1)) := by
  unfold val_main_v1
  exact cumsum1 rfl x0 γ hg _ (by rw [val_main_call0_call0_v0_apply]; rfl) reduceWindows_S8_S8_w8s1p7_0 h_S_ e

include h8

theorem row_ap (r : Fin 9216) : val_main_v10 x0 (ix1 r) = BitVec.ofNat 32 (slot γ r.val) := by
  unfold val_main_v10 val_main_v9 slot
  refine reduce_count (by decide) _ natLt_1_32 reducesTo_S9216x7_S9216_d1 h_S_ r _ fun q => ?_
  have h7 : pre γ (q.val + 1) ≤ 9216 := h8 ▸ pre_mono γ (by omega)
  unfold val_main_v8 val_main_v6 val_main_v7 val_main_v3 val_main_v5 val_main_v4 val_main_v2
  rw [cmpi_at]
  refine (iff_of_eq (congrArg (· = 1#1) (congrArg₂ (IntOp.cmpi .sge) (bcRows _ _ _ r q) (bcCols _ _ _ r q)))).trans ?_
  rw [slice1 0 _ _ _ (by omega), iota1_ap, ends_ap x0 γ hg,
    cmpi_sge_ofNat (w := 32) (by omega) (by simp only [Nat.zero_add]; omega), ofBool_eq_one_iff, decide_eq_true_eq]
  simp only [Nat.zero_add]

end expert

section weight
variable (x3 : (⟨S8x2048x6144, .i8⟩ : BufTy).Contents (Elt Ideal)) (x4 : (⟨S8x32x6144, .bf16⟩ : BufTy).Contents (Elt Ideal))

/-- An index of the packed weights as the reference groups them. -/
def packIx (e : Fin 8) (g : Fin 32) (j : Fin 64) (c : Fin 6144) : S8x32x1x64x6144.Idx := fun a => match a with
  | ⟨0, _⟩ => e | ⟨1, _⟩ => g | ⟨2, _⟩ => (0 : Fin 1) | ⟨3, _⟩ => j | ⟨4, _⟩ => c
/-- An index of the unpacked weights as the reference groups them. -/
def wideIx (e : Fin 8) (g : Fin 32) (h : Fin 2) (j : Fin 64) (c : Fin 6144) : S8x32x2x64x6144.Idx := fun a => match a with
  | ⟨0, _⟩ => e | ⟨1, _⟩ => g | ⟨2, _⟩ => h | ⟨3, _⟩ => j | ⟨4, _⟩ => c

theorem byte_ap (e : Fin 8) (g : Fin 32) (j : Fin 64) (c : Fin 6144) :
    val_main_v11 x3 (packIx e g j c) = x3 (ix3 e ⟨64 * g.val + j.val, by omega⟩ c) := by
  rw [val_main_v11_apply]
  congr 1
  funext a
  match a with
  | ⟨0, _⟩ => exact Fin.ext (by show ((((e.val * 32 + g.val) * 1 + 0) * 64 + j.val) * 6144 + c.val) / 12582912 = e.val; omega)
  | ⟨1, _⟩ => exact Fin.ext (by show ((((e.val * 32 + g.val) * 1 + 0) * 64 + j.val) * 6144 + c.val) / 6144 % 2048 = 64 * g.val + j.val; omega)
  | ⟨2, _⟩ => exact Fin.ext (by show ((((e.val * 32 + g.val) * 1 + 0) * 64 + j.val) * 6144 + c.val) % 6144 = c.val; omega)

theorem low_ap (i : S8x32x1x64x6144.Idx) : val_main_v16 x3 i = half false (val_main_v11 x3 i) := by
  rw [val_main_v16_apply, val_main_v14_apply, val_main_v15_apply, val_main_v13_apply, val_main_v12_apply]
  rfl

theorem high_ap (i : S8x32x1x64x6144.Idx) : val_main_v20 x3 i = half true (val_main_v11 x3 i) := by
  rw [val_main_v20_apply, val_main_v18_apply, val_main_v19_apply, val_main_v17_apply, val_main_v12_apply]
  rfl

theorem nibble_ap (e : Fin 8) (g : Fin 32) (h : Fin 2) (j : Fin 64) (c : Fin 6144) :
    val_main_v21 x3 (wideIx e g h j c) = half (decide (h.val = 1)) (x3 (ix3 e ⟨64 * g.val + j.val, by omega⟩ c)) := by
  unfold val_main_v21
  rw [← byte_ap x3 e g j c]
  match h with
  | ⟨0, _⟩ =>
    refine (concatenate_pair_apply_left (2 : Fin S8x32x2x64x6144.rank) (val_main_v16 x3) (val_main_v20 x3)
      concatenates_S8x32x1x64x6144_S8x32x1x64x6144_S8x32x2x64x6144_d2 _ rfl (packIx e g j c) fun b => ?_).trans (low_ap x3 _)
    match b with | ⟨0, _⟩ => rfl | ⟨1, _⟩ => rfl | ⟨2, _⟩ => rfl | ⟨3, _⟩ => rfl | ⟨4, _⟩ => rfl
  | ⟨1, h1⟩ =>
    refine (concatenate_pair_apply_right (2 : Fin S8x32x2x64x6144.rank) (val_main_v16 x3) (val_main_v20 x3)
      concatenates_S8x32x1x64x6144_S8x32x1x64x6144_S8x32x2x64x6144_d2 (wideIx e g ⟨1, h1⟩ j c) rfl rfl (packIx e g j c) (fun b hb => ?_) ?_).trans
      (high_ap x3 _)
    · match b with | ⟨0, _⟩ => rfl | ⟨1, _⟩ => rfl | ⟨2, _⟩ => exact absurd rfl hb | ⟨3, _⟩ => rfl | ⟨4, _⟩ => rfl
    · show 0 + 1 = 1
      rfl

theorem weight_ap (e : Fin 8) (k : Fin 4096) (c : Fin 6144) : val_main_v26 x3 x4 (ix3 e k c) = weight x3 x4 e k c := by
  rw [val_main_v26_apply]
  have hi : idx_main_v26 (ix3 e k c) = wideIx e ⟨k.val / 128, by omega⟩ ⟨k.val / 64 % 2, by omega⟩ ⟨k.val % 64, by omega⟩ c := by
    funext a
    match a with
    | ⟨0, _⟩ => exact Fin.ext (by show ((e.val * 4096 + k.val) * 6144 + c.val) / 25165824 = e.val; omega)
    | ⟨1, _⟩ => exact Fin.ext (by show ((e.val * 4096 + k.val) * 6144 + c.val) / 786432 % 32 = k.val / 128; omega)
    | ⟨2, _⟩ => exact Fin.ext (by show ((e.val * 4096 + k.val) * 6144 + c.val) / 393216 % 2 = k.val / 64 % 2; omega)
    | ⟨3, _⟩ => exact Fin.ext (by show ((e.val * 4096 + k.val) * 6144 + c.val) / 6144 % 64 = k.val % 64; omega)
    | ⟨4, _⟩ => exact Fin.ext (by show ((e.val * 4096 + k.val) * 6144 + c.val) % 6144 = c.val; omega)
  rw [hi, val_main_v25_apply, val_main_v22_apply, nibble_ap, val_main_v24_apply, val_main_v23_apply]
  have hd : decide (k.val / 64 % 2 = 1) = decide (64 ≤ k.val % 128) := by
    rw [decide_eq_decide]; omega
  unfold weight
  simp only [hd]
  refine congrArg₂ (· * ·) rfl (congrArg x4 ?_)
  funext a
  match a with
  | ⟨0, _⟩ => rfl
  | ⟨1, _⟩ => rfl
  | ⟨2, _⟩ => rfl

end weight

section layers
variable (x0 : (⟨S8, .i32⟩ : BufTy).Contents (Elt Ideal)) (x1 : (⟨S8, .f32⟩ : BufTy).Contents (Elt Ideal))
  (x3 : (⟨S8x2048x6144, .i8⟩ : BufTy).Contents (Elt Ideal)) (x4 : (⟨S8x32x6144, .bf16⟩ : BufTy).Contents (Elt Ideal))
  (r0 : (⟨S9216x4096, .bf16⟩ : BufTy).Contents (Elt Ideal))
  (γ : Nat → Nat) (hg : ∀ e : Fin 8, x0 (ix1 e) = BitVec.ofNat 32 (γ e.val)) (h8 : pre γ 8 = 9216)

/-- Expert `n`'s rows of the product, over all rows. -/
def scaled (n : Nat) (hs : S8x4096x6144.Slices ![n, 0, 0] S1x4096x6144) (h1 : S8.Slices ![n] S1) : (⟨S9216x6144, .f32⟩ : BufTy).Contents (Elt Ideal) :=
  mulf (Host.dotGeneral (φ₁ := .bf16) (φ₂ := .bf16) dot_S9216x4096_S4096x6144_S9216x6144_1_0_0_1_n_n none r0
      (shapeCast S4096x6144 (extractStridedSlice S1x4096x6144 ![n, 0, 0] (val_main_v26 x3 x4) hs) shapeCasts_S1x4096x6144_S4096x6144))
    (broadcastInDim S9216x6144 ![] bcast_S_S9216x6144 (shapeCast S_ (extractStridedSlice S1 ![n] x1 h1) shapeCasts_S1_S_))

theorem scaled_ap (e : Fin 8) (hs : S8x4096x6144.Slices ![e.val, 0, 0] S1x4096x6144) (h1 : S8.Slices ![e.val] S1) (r : Fin 9216) (c : Fin 6144) :
    scaled x1 x3 x4 r0 e.val hs h1 (ix2 r c) = outAt x1 r0 x3 x4 e r c := by
  unfold scaled outAt
  rw [mulf_apply]
  refine congrArg₂ (· * ·) ?_ ?_
  · refine (Ideal.dotGeneral_apply (φ₁ := .bf16) (φ₂ := .bf16) _ none _ _ _ _).trans ?_
    refine (DotDims.sum_contr₁ _ (a := (1 : Fin 2)) rfl (K := 4096) rfl _).trans (Finset.sum_congr rfl fun k _ => ?_)
    rw [← weight_ap]
    refine congrArg₂ (· * ·) (congrArg r0 ?_) ?_
    · funext d; match d with | ⟨0, _⟩ => exact Fin.ext rfl | ⟨1, _⟩ => exact Fin.ext rfl
    · refine (shapeCast_apply _ _ _ (ix3 (0 : Fin 1) k c) ?_).trans ?_
      · rw [Shape.rowMajor_val_three, Shape.rowMajor_val_two]
        show (0 * 4096 + k.val) * 6144 + c.val = k.val * 6144 + c.val
        omega
      · exact extractStridedSlice_apply _ _ _ _ _ (fun a => match a with
          | ⟨0, _⟩ => rfl | ⟨1, _⟩ => (Nat.zero_add _).symm | ⟨2, _⟩ => (Nat.zero_add _).symm)
  · rw [bc0]
    refine (shapeCast_apply _ _ _ (ix1 (0 : Fin 1)) rfl).trans ?_
    exact extractStridedSlice_apply _ _ _ _ _ (fun a => match a with | ⟨0, _⟩ => rfl)

/-- One expert's layer: its rows replaced, the others kept. -/
def layer (n : Nat) (hs : S8x4096x6144.Slices ![n, 0, 0] S1x4096x6144) (h1 : S8.Slices ![n] S1)
    (old : (⟨S9216x6144, .f32⟩ : BufTy).Contents (Elt Ideal)) : (⟨S9216x6144, .f32⟩ : BufTy).Contents (Elt Ideal) :=
  select (broadcastInDim S9216x6144 ![0, 1] bcast_S9216x1_S9216x6144_0_1 (broadcastInDim S9216x1 ![0] bcast_S9216_S9216x1_0
    (cmpi .eq (val_main_v10 x0) (broadcastInDim S9216 ![] bcast_S_S9216 (constantI S_ 32 (BitVec.ofNat 32 n)))))) (scaled x1 x3 x4 r0 n hs h1) old

include hg h8 in
theorem layer_ap (e : Fin 8) (hs : S8x4096x6144.Slices ![e.val, 0, 0] S1x4096x6144) (h1 : S8.Slices ![e.val] S1)
    (old : (⟨S9216x6144, .f32⟩ : BufTy).Contents (Elt Ideal)) (r : Fin 9216) (c : Fin 6144) :
    layer x0 x1 x3 x4 r0 e.val hs h1 old (ix2 r c) = if slot γ r.val = e.val then outAt x1 r0 x3 x4 e r c else old (ix2 r c) := by
  have hl := slot_lt γ r.val
  have hm := (bcRows bcast_S9216_S9216x1_0 bcast_S9216x1_S9216x6144_0_1
    (cmpi .eq (val_main_v10 x0) (broadcastInDim S9216 ![] bcast_S_S9216 (constantI S_ 32 (BitVec.ofNat 32 e.val)))) r c)
  rw [cmpi_at, bc0, constantI_at, row_ap x0 γ hg h8, cmpi_eq_ofNat (w := 32) (by omega) (by omega)] at hm
  rw [← scaled_ap x1 x3 x4 r0 e hs h1, ← select_decide]
  unfold layer
  exact congrArg (fun b => Scalar.select b (scaled x1 x3 x4 r0 e.val hs h1 (ix2 r c)) (old (ix2 r c))) hm

theorem layer_7 : val_main_v115 x0 x1 x3 x4 r0 = layer x0 x1 x3 x4 r0 7 slices_S8x4096x6144_S1x4096x6144_7_0_0 slices_S8_S1_7 (val_main_v104 x0 x1 x3 x4 r0) := by exact rfl
theorem layer_6 : val_main_v104 x0 x1 x3 x4 r0 = layer x0 x1 x3 x4 r0 6 slices_S8x4096x6144_S1x4096x6144_6_0_0 slices_S8_S1_6 (val_main_v93 x0 x1 x3 x4 r0) := by exact rfl
theorem layer_5 : val_main_v93 x0 x1 x3 x4 r0 = layer x0 x1 x3 x4 r0 5 slices_S8x4096x6144_S1x4096x6144_5_0_0 slices_S8_S1_5 (val_main_v82 x0 x1 x3 x4 r0) := by exact rfl
theorem layer_4 : val_main_v82 x0 x1 x3 x4 r0 = layer x0 x1 x3 x4 r0 4 slices_S8x4096x6144_S1x4096x6144_4_0_0 slices_S8_S1_4 (val_main_v71 x0 x1 x3 x4 r0) := by exact rfl
theorem layer_3 : val_main_v71 x0 x1 x3 x4 r0 = layer x0 x1 x3 x4 r0 3 slices_S8x4096x6144_S1x4096x6144_3_0_0 slices_S8_S1_3 (val_main_v60 x0 x1 x3 x4 r0) := by exact rfl
theorem layer_2 : val_main_v60 x0 x1 x3 x4 r0 = layer x0 x1 x3 x4 r0 2 slices_S8x4096x6144_S1x4096x6144_2_0_0 slices_S8_S1_2 (val_main_v49 x0 x1 x3 x4 r0) := by exact rfl
theorem layer_1 : val_main_v49 x0 x1 x3 x4 r0 = layer x0 x1 x3 x4 r0 1 slices_S8x4096x6144_S1x4096x6144_1_0_0 slices_S8_S1_1 (val_main_v38 x0 x1 x3 x4 r0) := by exact rfl
theorem layer_0 : val_main_v38 x0 x1 x3 x4 r0 = layer x0 x1 x3 x4 r0 0 slices_S8x4096x6144_S1x4096x6144_0_0_0 slices_S8_S1_0 (val_main_v27 (F := Ideal)) := by exact rfl

include hg h8 in
theorem value_out (r : Fin 9216) (c : Fin 6144) :
    val_main_v115 x0 x1 x3 x4 r0 (ix2 r c) = outAt x1 r0 x3 x4 ⟨slot γ r.val, slot_lt γ r.val⟩ r c := by
  have L := fun (n : Nat) (hn : n < 8) hs h1 old => layer_ap x0 x1 x3 x4 r0 γ hg h8 ⟨n, hn⟩ hs h1 old r c
  simp only at L
  rw [layer_7, L 7 (by decide), layer_6, L 6 (by decide), layer_5, L 5 (by decide), layer_4, L 4 (by decide), layer_3, L 3 (by decide),
    layer_2, L 2 (by decide), layer_1, L 1 (by decide), layer_0, L 0 (by decide)]
  generalize slot_lt γ r.val = hl
  revert hl
  generalize slot γ r.val = s
  intro hl
  interval_cases s <;> simp only [Nat.reduceEqDiff, if_true, if_false]

end layers

end Cert.ReferenceIdeal.Down
-- ==== Proof.RefRun.lean ====
/- The reference's run over the extended reals: the cast region leaves the codes as they are, and the result is the specification's. -/
module

public import proofs.«01_k».proof.Proof.RefVal
public import proofs.«01_k».proof.Proof.Gen.ReferenceIdeal.Frame
public import proofs.«01_k».proof.Proof.Gen.ReferenceIdeal.Points
public import proofs.«01_k».proof.Proof.Gen.ReferenceIdeal.Run

@[expose] public section

set_option maxRecDepth 20000

noncomputable section

namespace Cert.ReferenceIdeal.Down

open Cert.ReferenceIdeal Cert.ReferenceIdeal.Gen
open Cert.Down
open Idealize.ShloMosaic hiding ix1 ix2 ix3 mulf_apply extf_apply
open Idealize.ShloMosaic.TcCoe Idealize.ShloMosaic.ValueIdx
open Idealize.SL Idealize.SL.Sem

variable (m : (ℓ : Loc nD τ sig) → Buf (Elt Ideal) ℓ)

/-- The cast changes nothing. -/
theorem cast_id (x : Vec Ideal S9216x4096 .fp8e4m3) : (out0_1 (F := Ideal) x : S9216x4096.Idx → EReal) = x := by
  have hz : (![0, 0] : Fin 2 → Nat) = fun _ => 0 := funext fun a => by fin_cases a <;> rfl
  unfold out0_1
  refine (View.canon_unit_zero hz inb_S9216x4096_S9216x4096_0_0 _).trans ?_
  rw [View.ld_unit_zero hz]
  rfl

/-- The codes, as the cast region's result. -/
def codes (c : Dev nD) : Buf (Elt Ideal) ((c.tc : Thread nD τ).loc main_v0) :=
  fun i : S9216x4096.Idx => ((m ((c.tc : Thread nD τ).loc main_arg2) : S9216x4096.Idx → EReal) i : EReal)

theorem flushed_eq (c : Dev nD) (t : Fin cfg0.N) : (dats m 0 c).flushed 1 t = (win0_1.blk t).view.read (Elt Ideal) (codes m c) := by
  show (cfg0.win 1).cut (grid0.coords t) ((dats m 0 c).after 1 t) = _
  have h : (dats m 0 c).after 1 t = (iblk m c 0 t : S9216x4096.Idx → EReal) := (after0_1 m c t).trans (cast_id _)
  rw [h]
  unfold iblk
  have hV : V m c (Pipeline.arrRef spec0 0) = m ((c.tc : Thread nD τ).loc main_arg2) := V_main_arg2 m c
  rw [hV]
  rfl

/-- The region's one point. -/
abbrev t0 : Fin cfg0.N := ⟨0, Nat.one_pos⟩

theorem cover (i : S9216x4096.Idx) : ∃ t : Fin cfg0.N, (cfg0.win 1).flush t = true ∧ i ∈ ((cfg0.win 1).blk t).view.set := by
  refine ⟨t0, flush0_1 _, ?_⟩
  show i ∈ ((View.whole main_v0).slice (win0_1.rect t0)).set
  rw [View.set_slice_whole, Rect.mem_set_unit]
  intro a
  match a with
  | ⟨0, _⟩ => exact ⟨Nat.zero_le _, by have h : (i 0).val < 9216 := (i 0).isLt; exact h⟩
  | ⟨1, _⟩ => exact ⟨Nat.zero_le _, by have h : (i 1).val < 4096 := (i 1).isLt; exact h⟩

theorem region (c : Dev nD) : Value.reg_main_v0 m c = codes m c := by
  unfold Value.reg_main_v0
  exact (dats m 0 c).arrAt_eq_of_cover 1 (codes m c) (fun t _ => flushed_eq m c t) cover

/-- The reference runs, its result is the specification's at every row's expert, and its arguments are kept. -/
theorem run_out (ρ : Dev nD → PrngReg) (γ : Nat → Nat)
    (hg : ∀ (c : Dev nD) (e : Fin 8), (m ((c.tc : Thread nD τ).loc main_arg0) : IVec S8 32) (ix1 e) = BitVec.ofNat 32 (γ e.val)) (h8 : pre γ 8 = 9216) :
    θ_run (defs (F := Ideal)) (onTc (τ := τ) (main (F := Ideal))) ⟨m, fun _ => 0, ρ⟩ fun r => ∀ c : Dev nD,
      (∀ (p : Fin 9216) (q : Fin 6144), (r.2.mem ((c.tc : Thread nD τ).loc main_v115) : S9216x6144.Idx → EReal) (ix2 p q)
        = outAt (m ((c.tc : Thread nD τ).loc main_arg1)) (m ((c.tc : Thread nD τ).loc main_arg2)) (m ((c.tc : Thread nD τ).loc main_arg3))
            (m ((c.tc : Thread nD τ).loc main_arg4)) ⟨slot γ p.val, slot_lt γ p.val⟩ p q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨fun p q => ?_, (h c).2⟩) (Value.run m ρ)
  have e := (h c).1.trans (Read.val_main_v115_eq (Value.exitV m c))
  rw [Value.exit_main_arg0, Value.exit_main_arg1, Value.exit_main_arg3, Value.exit_main_arg4, Value.exit_main_v0, region] at e
  rw [e]
  exact value_out _ _ _ _ _ γ (hg c) h8 p q

end Cert.ReferenceIdeal.Down
-- ==== Proof.UBody.lean ====
module

public import proofs.«01_k».proof.Proof.Gen.Up
public import proofs.«01_k».proof.Proof.Gen.Up.Launch
public import Idealize.ShloMosaic.Lib.Tactic

@[expose] public section

noncomputable section

namespace Cert.Up.Gate

open Cert.Up Cert.Up.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
/-- Memref `M`'s buffer on core `c` held at half the full share, at `f`: a table. -/
abbrev ptH (c : Dev nD) {sp : Space} {S : Shape} {e : EltTy} (M : Memref sig .tc sp S e) (f : Bf (F := F) c M) : sProp 𝕄 :=
  M.view.loc (c : Thread nD τ) ↦{fullShare.right} f

/-- The word read off a 43-word table at the offset `off`. -/
abbrev w43 (c : Dev nD) {e : EltTy} (M : Memref sig .tc .smem S43 e) (f : Bf (F := F) c M) (off : Fin 1 → Nat)
    (h : ∀ a, off a + S1.size a ≤ S43.size a) : Elt F e :=
  View.readAt (Elt F) M.view (Rect.unit (s := S43) off S1.size h).toLoadRect f (Shape.Idx.first (s := S1) (by decide))

/-- The condition of the body's one region: the first step, or an expert other than the step before. -/
abbrev k0_cond (s e p : BitVec 32) : Prop :=
  Scalar.cmpi .ne (Scalar.extui (Scalar.ori (Scalar.cmpi .eq s 0#32) (Scalar.cmpi .ne e p)) : BitVec 32) 0#32 = 1#1

/-- A step that keeps the widened weight: what it leaves in the output window, with the run. -/
def keepRun (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .smem S8 .f32) (h6 : M6.IsWhole) (M7 : Memref sig .tc .vmem S256x6144 .fp8e4m3) (h7 : M7.IsWhole)
    (M8 : Memref sig .tc .vmem S1x3072x512 .i8) (h8 : M8.IsWhole) (M9 : Memref sig .tc .vmem S1x48x512 .bf16) (h9 : M9.IsWhole)
    (M10 : Memref sig .tc .vmem S1x3072x512 .i8) (h10 : M10.IsWhole) (M11 : Memref sig .tc .vmem S1x48x512 .bf16) (h11 : M11.IsWhole)
    (M12 : Memref sig .tc .vmem S8x512 .f32) (h12 : M12.IsWhole) (M13 : Memref sig .tc .vmem S256x512 .fp8e4m3) (h13 : M13.IsWhole)
    (M14 : Memref sig .tc .vmem S6144x512 .bf16) (h14 : M14.IsWhole) (M15 : Memref sig .tc .vmem S6144x512 .bf16) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c M9) (f10 : Bf (F := F) c M10) (f11 : Bf (F := F) c M11) (f12 : Bf (F := F) c M12) (f13 : Bf (F := F) c M13) (f14 : Bf (F := F) c M14) (f15 : Bf (F := F) c M15)
    (hc : k0_chk1 s) (hc2 : k0_chk2 (w43 c M2 f2 (k0_off2 s) hc.1)) (hc3 : k0_chk3 (w43 c M2 f2 (k0_off6 s) hc.2.2))
    (hn : ¬ k0_cond s (w43 c M2 f2 (k0_off2 s) hc.1) (w43 c M2 f2 (k0_off3 s) hc.2.1)) :
    { W : Bf (F := F) c M13 //
      ∀ (E : Set ℕ) (Q : PUnit → sProp 𝕄),
        iprop(ptH c M2 f2 ∗ ptH c M3 f3 ∗ ptH c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(ptH c M2 f2 ∗ ptH c M3 f3 ∗ ptH c M4 f4 ∗ pt c M5 f5 ∗ pt c M6 f6 ∗ pt c M7 f7 ∗ pt c M8 f8 ∗ pt c M9 f9 ∗ pt c M10 f10 ∗ pt c M11 f11 ∗ pt c M12 f12 ∗ pt c M13 W ∗ pt c M14 f14 ∗ pt c M15 f15) -∗ Q ⟨⟩))
        ⊢ wp frame (wpE (defs₀ (F := F)) Variants.none c none) E
            (cc0_gate_up b i s M2 h2 M3 h3 M4 h4 M5 h5 M6 h6 M7 h7 M8 h8 M9 h9 M10 h10 M11 h11 M12 h12 M13 h13 M14 h14 M15 h15) Q } := by
  refine ⟨?_, fun E Q => ?run⟩
  case run =>
    iintro ⟨H2, H3, H4, H5, H6, H7, H8, H9, H10, H11, H12, H13, H14, H15, Hk⟩
    sl_exec (disch := first | exact hc2 | exact hc3 | exact hn | exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Up.Gate
-- ==== Proof.UWide.lean ====
module

public import proofs.«01_k».proof.Proof.Gen.Up
public import proofs.«01_k».proof.Proof.Gen.Up.Launch
public import proofs.«01_k».proof.Proof.UBody
public import Idealize.ShloMosaic.Lib.Tactic

@[expose] public section

noncomputable section

namespace Cert.Up.Gate

open Cert.Up Cert.Up.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- A step that widens a new weight: what it leaves in the output window and in the scratch, with the run. -/
def wideRun (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .smem S8 .f32) (h6 : M6.IsWhole) (M7 : Memref sig .tc .vmem S256x6144 .fp8e4m3) (h7 : M7.IsWhole)
    (M8 : Memref sig .tc .vmem S1x3072x512 .i8) (h8 : M8.IsWhole) (M9 : Memref sig .tc .vmem S1x48x512 .bf16) (h9 : M9.IsWhole)
    (M10 : Memref sig .tc .vmem S1x3072x512 .i8) (h10 : M10.IsWhole) (M11 : Memref sig .tc .vmem S1x48x512 .bf16) (h11 : M11.IsWhole)
    (M12 : Memref sig .tc .vmem S8x512 .f32) (h12 : M12.IsWhole) (M13 : Memref sig .tc .vmem S256x512 .fp8e4m3) (h13 : M13.IsWhole)
    (M14 : Memref sig .tc .vmem S6144x512 .bf16) (h14 : M14.IsWhole) (M15 : Memref sig .tc .vmem S6144x512 .bf16) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c M9) (f10 : Bf (F := F) c M10) (f11 : Bf (F := F) c M11) (f12 : Bf (F := F) c M12) (f13 : Bf (F := F) c M13)
    (hc : k0_chk1 s) (hc2 : k0_chk2 (w43 c M2 f2 (k0_off2 s) hc.1)) (hc3 : k0_chk3 (w43 c M2 f2 (k0_off6 s) hc.2.2))
    (hn : k0_cond s (w43 c M2 f2 (k0_off2 s) hc.1) (w43 c M2 f2 (k0_off3 s) hc.2.1)) :
    { W : Bf (F := F) c M13 × Bf (F := F) c M14 × Bf (F := F) c M15 //
      ∀ (f14 : Bf (F := F) c M14) (f15 : Bf (F := F) c M15) (E : Set ℕ) (Q : PUnit → sProp 𝕄),
        iprop(ptH c M2 f2 ∗ ptH c M3 f3 ∗ ptH c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(ptH c M2 f2 ∗ ptH c M3 f3 ∗ ptH c M4 f4 ∗ pt c M5 f5 ∗ pt c M6 f6 ∗ pt c M7 f7 ∗ pt c M8 f8 ∗ pt c M9 f9 ∗ pt c M10 f10 ∗ pt c M11 f11 ∗ pt c M12 f12 ∗ pt c M13 W.1 ∗ pt c M14 W.2.1 ∗ pt c M15 W.2.2) -∗ Q ⟨⟩))
        ⊢ wp frame (wpE (defs₀ (F := F)) Variants.none c none) E
            (cc0_gate_up b i s M2 h2 M3 h3 M4 h4 M5 h5 M6 h6 M7 h7 M8 h8 M9 h9 M10 h10 M11 h11 M12 h12 M13 h13 M14 h14 M15 h15) Q } := by
  refine ⟨⟨?_, ?_, ?_⟩, fun f14 f15 E Q => ?run⟩
  case run =>
    iintro ⟨H2, H3, H4, H5, H6, H7, H8, H9, H10, H11, H12, H13, H14, H15, Hk⟩
    sl_exec_parts! (disch := first | exact hc2 | exact hc3 | exact hn | exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Up.Gate
-- ==== Proof.UWideVal.lean ====
module

public import proofs.«01_k».proof.Proof.Gen.Up
public import proofs.«01_k».proof.Proof.Gen.Up.Launch
public import proofs.«01_k».proof.Proof.UWide
public import proofs.«01_k».proof.Proof.Nibble
public import Idealize.ShloMosaic.Lib.ValueLayout
public import Idealize.ShloMosaic.Lib.VecWindow
public import Idealize.ShloMosaic.Lib.Pipeline.Value
public import Idealize.ShloMosaic.Lib.Tactic

@[expose] public section

noncomputable section

namespace Cert.Up.Gate

open Cert.Up Cert.Up.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open ValueIdx

/-- One cell of the widened weight: sixteen times the four-bit code `b`'s half `h`, as bf16, times a sixteenth of the scale `u`. -/
def wideCell (h : Bool) (b : BitVec 8) (u : F .bf16) : F .bf16 :=
  FloatOps.mulf (FloatOps.sitofp .bf16 (Cert.Down.nib16 h b)) (FloatOps.mulf u (Scalar.ofBits .bf16 0x3D80#16))

/-- The whole widened weight from the packed block `w` and its scales `u`: row `128 g + 64 h + j` is the half `h` of packed row `64 g + j`. -/
def wide (w : Vec F S1x3072x512 .i8) (u : Vec F S1x48x512 .bf16) : Vec F S6144x512 .bf16 := fun y =>
  have hy : (y 0).val < 6144 := (y 0).isLt
  wideCell (decide (64 ≤ (y 0).val % 128))
    (w (ix3 (n0 := 1) (n1 := 3072) (n2 := 512) 0 ⟨64 * ((y 0).val / 128) + (y 0).val % 64, by omega⟩ (y 1)))
    (u (ix3 (n0 := 1) (n1 := 48) (n2 := 512) 0 ⟨(y 0).val / 128, by omega⟩ (y 1)))

/-- The 64 packed rows a group's two stores read, off the window. -/
abbrev packRows (c : Dev nD) (Mw : Memref sig .tc .vmem S1x3072x512 .i8) (fw : Bf (F := F) c Mw) (o : Fin 2 → Nat)
    (h : ∀ a, o a + S64x512.size a ≤ S3072x512.size a) : S64x512.Idx → Elt F .i8 :=
  View.readAt (Elt F) ((Mw.slice (Rect.unit (s := S1x3072x512) ![0, 0, 0] S1x3072x512.size inb_S1x3072x512_S1x3072x512_0_0_0) (fun _ => rfl)).squeeze
    S3072x512 squeezes_S1x3072x512_S3072x512).view (Rect.unit (s := S3072x512) o S64x512.size h).toLoadRect fw

/-- A group's row of scales, off the window. -/
abbrev scaleRow (c : Dev nD) (Ms : Memref sig .tc .vmem S1x48x512 .bf16) (fs : Bf (F := F) c Ms) (o : Fin 2 → Nat)
    (h : ∀ a, o a + S1x512.size a ≤ S48x512.size a) : S1x512.Idx → F .bf16 :=
  View.readAt (Elt F) ((Ms.slice (Rect.unit (s := S1x48x512) ![0, 0, 0] S1x48x512.size inb_S1x48x512_S1x48x512_0_0_0) (fun _ => rfl)).squeeze
    S48x512 squeezes_S1x48x512_S48x512).view (Rect.unit (s := S48x512) o S1x512.size h).toLoadRect fs

theorem packRows_apply (c : Dev nD) (Mw : Memref sig .tc .vmem S1x3072x512 .i8) (fw : Bf (F := F) c Mw) (o : Fin 2 → Nat)
    (h : ∀ a, o a + S64x512.size a ≤ S3072x512.size a) (p : Fin 64) (l : Fin 512) (q : Fin 3072) (hq : q.val = o 0 + p.val) (h1 : o 1 = 0) :
    packRows c Mw fw o h (ix2 p l) = Mw.view.read (Elt F) fw (ix3 (n0 := 1) (n1 := 3072) (n2 := 512) 0 q l) := by
  have e : (Rect.unit (s := S3072x512) o S64x512.size h).toLoadRect.idx (ix2 p l) = ix2 (n0 := 3072) (n1 := 512) q l := by
    funext a
    match a with
    | ⟨0, _⟩ => exact Fin.ext (by show o 0 + 1 * p.val = q.val; omega)
    | ⟨1, _⟩ => exact Fin.ext (by show o 1 + 1 * l.val = l.val; omega)
  unfold packRows
  rw [View.readAt_apply, e, Memref.read_squeeze_full]
  exact congrArg _ (reshapeEquiv_ix2_1ab _ _ _)

theorem scaleRow_apply (c : Dev nD) (Ms : Memref sig .tc .vmem S1x48x512 .bf16) (fs : Bf (F := F) c Ms) (o : Fin 2 → Nat)
    (h : ∀ a, o a + S1x512.size a ≤ S48x512.size a) (l : Fin 512) (q : Fin 48) (hq : q.val = o 0) (h1 : o 1 = 0) :
    scaleRow c Ms fs o h (ix2 (0 : Fin 1) l) = Ms.view.read (Elt F) fs (ix3 (n0 := 1) (n1 := 48) (n2 := 512) 0 q l) := by
  have e : (Rect.unit (s := S48x512) o S1x512.size h).toLoadRect.idx (ix2 (0 : Fin 1) l) = ix2 (n0 := 48) (n1 := 512) q l := by
    funext a
    match a with
    | ⟨0, _⟩ => exact Fin.ext (by show o 0 + 1 * 0 = q.val; omega)
    | ⟨1, _⟩ => exact Fin.ext (by show o 1 + 1 * l.val = l.val; omega)
  unfold scaleRow
  rw [View.readAt_apply, e, Memref.read_squeeze_full]
  exact congrArg _ (reshapeEquiv_ix2_1ab _ _ _)

/-- A group's scale row times a sixteenth, over 64 rows. -/
def scaleRows (u : S1x512.Idx → F .bf16) : FVec F S64x512 .bf16 :=
  broadcastTo S64x512 (mulf (s := S1x512) u (broadcast S1x512 (Scalar.ofBits .bf16 0x3D80#16))) broadcasts_S1x512_S64x512

/-- What a group's first store writes: the low halves. -/
def lowPiece (v : S64x512.Idx → BitVec 8) (u : S1x512.Idx → F .bf16) : FVec F S64x512 .bf16 :=
  shapeCast S64x512 (mulf (sitofp .bf16 (bitcast S64x512 8 (andi (shli (bitcast S16x512 32 v bitcasts_S64x512_w8_S16x512_w32) (broadcast S16x512 4#32))
    (broadcast S16x512 4042322160#32)) bitcasts_S16x512_w32_S64x512_w8)) (scaleRows u)) shapeCasts_S64x512_S64x512

/-- What a group's second store writes: the high halves. -/
def highPiece (v : S64x512.Idx → BitVec 8) (u : S1x512.Idx → F .bf16) : FVec F S64x512 .bf16 :=
  shapeCast S64x512 (mulf (sitofp .bf16 (bitcast S64x512 8 (andi (bitcast S16x512 32 v bitcasts_S64x512_w8_S16x512_w32)
    (broadcast S16x512 4042322160#32)) bitcasts_S16x512_w32_S64x512_w8)) (scaleRows u)) shapeCasts_S64x512_S64x512

theorem scaleRows_apply (u : S1x512.Idx → F .bf16) (p : Fin 64) (l : Fin 512) :
    scaleRows u (ix2 p l) = FloatOps.mulf (u (ix2 (0 : Fin 1) l)) (Scalar.ofBits .bf16 0x3D80#16) := by
  unfold scaleRows
  rw [broadcastTo_apply _ _ _ (ix2 (0 : Fin 1) l) (by
    intro a
    match a with
    | ⟨0, _⟩ => rfl
    | ⟨1, _⟩ => rfl)]
  rfl

theorem low_eq (v : S64x512.Idx → BitVec 8) (u : S1x512.Idx → F .bf16) (p : Fin 64) (l : Fin 512) :
    lowPiece v u (ix2 p l) = wideCell false (v (ix2 p l)) (u (ix2 (0 : Fin 1) l)) := by
  unfold lowPiece
  rw [shapeCast_self]
  exact congrArg₂ FloatOps.mulf (congrArg _ (Cert.Down.low_apply v _ _ rfl (ix2 p l))) (scaleRows_apply u p l)

theorem high_eq (v : S64x512.Idx → BitVec 8) (u : S1x512.Idx → F .bf16) (p : Fin 64) (l : Fin 512) :
    highPiece v u (ix2 p l) = wideCell true (v (ix2 p l)) (u (ix2 (0 : Fin 1) l)) := by
  unfold highPiece
  rw [shapeCast_self]
  exact congrArg₂ FloatOps.mulf (congrArg _ (Cert.Down.high_apply v _ _ rfl (ix2 p l))) (scaleRows_apply u p l)

section Pieces
variable (c : Dev nD) (Mw : Memref sig .tc .vmem S1x3072x512 .i8) (Ms : Memref sig .tc .vmem S1x48x512 .bf16)
  (fw : Bf (F := F) c Mw) (fs : Bf (F := F) c Ms)

/-- A store agrees with the widened weight of the windows' contents. -/
def Good (p : View.Piece (Elt F) S6144x512 .bf16) : Prop :=
  ∀ x : p.1.shape.Idx, p.2 x = wide (Mw.view.read (Elt F) fw) (Ms.view.read (Elt F) fs) (p.1.emb x)

theorem good_low (g o : Nat) (hg : g < 48) (ho : o = 128 * g) (h : ∀ a, (![o, 0] : Fin 2 → Nat) a + S64x512.size a ≤ S6144x512.size a)
    (hr : ∀ a, (![64 * g, 0] : Fin 2 → Nat) a + S64x512.size a ≤ S3072x512.size a) (hu : ∀ a, (![g, 0] : Fin 2 → Nat) a + S1x512.size a ≤ S48x512.size a)
    (w : S64x512.Idx → F .bf16) (hw : w = lowPiece (packRows c Mw fw ![64 * g, 0] hr) (scaleRow c Ms fs ![g, 0] hu)) :
    Good c Mw Ms fw fs ⟨Rect.unit (s := S6144x512) ![o, 0] S64x512.size h, w⟩ := by
  subst hw ho
  intro x
  obtain ⟨p, l, rfl⟩ : ∃ (p : Fin 64) (l : Fin 512), x = ix2 p l := ⟨_, _, eq_ix2 x⟩
  show lowPiece _ _ (ix2 p l) = _
  have hp := p.isLt
  rw [low_eq, packRows_apply c Mw fw _ hr p l ⟨64 * g + p.val, by omega⟩ rfl rfl, scaleRow_apply c Ms fs _ hu l ⟨g, hg⟩ rfl rfl]
  have e : (Rect.unit (s := S6144x512) ![128 * g, 0] S64x512.size h).emb (ix2 p l) = ix2 (n0 := 6144) (n1 := 512) ⟨128 * g + p.val, by omega⟩ l := by
    funext a
    match a with
    | ⟨0, _⟩ => exact Fin.ext (by show 128 * g + 1 * p.val = 128 * g + p.val; omega)
    | ⟨1, _⟩ => exact Fin.ext (by show 0 + 1 * l.val = l.val; omega)
  rw [e]
  unfold wide
  have d : decide (64 ≤ (128 * g + p.val) % 128) = false := by simp; omega
  have e3 : (128 * g + p.val) % 64 = p.val := by omega
  have e2 : (128 * g + p.val) / 128 = g := by omega
  simp only [d, e2, e3]

theorem good_high (g o : Nat) (hg : g < 48) (ho : o = 128 * g + 64) (h : ∀ a, (![o, 0] : Fin 2 → Nat) a + S64x512.size a ≤ S6144x512.size a)
    (hr : ∀ a, (![64 * g, 0] : Fin 2 → Nat) a + S64x512.size a ≤ S3072x512.size a) (hu : ∀ a, (![g, 0] : Fin 2 → Nat) a + S1x512.size a ≤ S48x512.size a)
    (w : S64x512.Idx → F .bf16) (hw : w = highPiece (packRows c Mw fw ![64 * g, 0] hr) (scaleRow c Ms fs ![g, 0] hu)) :
    Good c Mw Ms fw fs ⟨Rect.unit (s := S6144x512) ![o, 0] S64x512.size h, w⟩ := by
  subst hw ho
  intro x
  obtain ⟨p, l, rfl⟩ : ∃ (p : Fin 64) (l : Fin 512), x = ix2 p l := ⟨_, _, eq_ix2 x⟩
  show highPiece _ _ (ix2 p l) = _
  have hp := p.isLt
  rw [high_eq, packRows_apply c Mw fw _ hr p l ⟨64 * g + p.val, by omega⟩ rfl rfl, scaleRow_apply c Ms fs _ hu l ⟨g, hg⟩ rfl rfl]
  have e : (Rect.unit (s := S6144x512) ![128 * g + 64, 0] S64x512.size h).emb (ix2 p l) = ix2 (n0 := 6144) (n1 := 512) ⟨128 * g + 64 + p.val, by omega⟩ l := by
    funext a
    match a with
    | ⟨0, _⟩ => exact Fin.ext (by show 128 * g + 64 + 1 * p.val = 128 * g + 64 + p.val; omega)
    | ⟨1, _⟩ => exact Fin.ext (by show 0 + 1 * l.val = l.val; omega)
  rw [e]
  unfold wide
  have d : decide (64 ≤ (128 * g + 64 + p.val) % 128) = true := by simp; omega
  have e3 : (128 * g + 64 + p.val) % 64 = p.val := by omega
  have e2 : (128 * g + 64 + p.val) / 128 = g := by omega
  simp only [d, e2, e3]

theorem stores_inb {n : Nat} (r : Nat) (hr : r = 0 ∨ r = 64) (h : n + 1 ≤ 48) : ∀ a, (![128 * n + r, 0] : Fin 2 → Nat) a + S64x512.size a ≤ S6144x512.size a
  | ⟨0, _⟩ => by show 128 * n + r + 64 ≤ 6144; omega
  | ⟨1, _⟩ => by show 0 + 512 ≤ 512; omega

theorem pack_inb {n : Nat} (h : n + 1 ≤ 48) : ∀ a, (![64 * n, 0] : Fin 2 → Nat) a + S64x512.size a ≤ S3072x512.size a
  | ⟨0, _⟩ => by show 64 * n + 64 ≤ 3072; omega
  | ⟨1, _⟩ => by show 0 + 512 ≤ 512; omega

theorem scale_inb {n : Nat} (h : n + 1 ≤ 48) : ∀ a, (![n, 0] : Fin 2 → Nat) a + S1x512.size a ≤ S48x512.size a
  | ⟨0, _⟩ => by show n + 1 ≤ 48; omega
  | ⟨1, _⟩ => by show 0 + 512 ≤ 512; omega

/-- The stores of the first `n` groups, the last one first. -/
def stores : (n : Nat) → n ≤ 48 → List (View.Piece (Elt F) S6144x512 .bf16)
  | 0, _ => []
  | n + 1, h =>
    ⟨Rect.unit (s := S6144x512) ![128 * n + 64, 0] S64x512.size (stores_inb 64 (.inr rfl) h),
      highPiece (packRows c Mw fw ![64 * n, 0] (pack_inb h)) (scaleRow c Ms fs ![n, 0] (scale_inb h))⟩ ::
    ⟨Rect.unit (s := S6144x512) ![128 * n, 0] S64x512.size (stores_inb 0 (.inl rfl) h),
      lowPiece (packRows c Mw fw ![64 * n, 0] (pack_inb h)) (scaleRow c Ms fs ![n, 0] (scale_inb h))⟩ ::
    stores n (by omega)

/-- Every store agrees with the widened weight. -/
theorem good_stores : ∀ (n : Nat) (h : n ≤ 48), ∀ p ∈ stores c Mw Ms fw fs n h, Good c Mw Ms fw fs p
  | 0, _ => fun _ h => absurd h List.not_mem_nil
  | n + 1, h =>
    List.forall_mem_cons.2 ⟨good_high c Mw Ms fw fs n _ (by omega) rfl _ _ _ _ rfl,
      List.forall_mem_cons.2 ⟨good_low c Mw Ms fw fs n _ (by omega) rfl _ _ _ _ rfl, good_stores n (by omega)⟩⟩

/-- The stores up to the `n`-th row of the scratch reach every row below it. -/
def Reach (n : Nat) (L : List (View.Piece (Elt F) S6144x512 .bf16)) : Prop :=
  ∀ y : S6144x512.Idx, (y 0).val < n → ∃ p ∈ L, y ∈ p.1.set

theorem reach_cons (n m : Nat) (hm : m = n + 64) (h : ∀ a, (![n, 0] : Fin 2 → Nat) a + S64x512.size a ≤ S6144x512.size a) (w : S64x512.Idx → F .bf16)
    (L : List (View.Piece (Elt F) S6144x512 .bf16)) (hL : Reach n L) : Reach m (⟨Rect.unit (s := S6144x512) ![n, 0] S64x512.size h, w⟩ :: L) := by
  subst hm
  intro y hy
  by_cases hn : (y 0).val < n
  · obtain ⟨p, hp, hyp⟩ := hL y hn
    exact ⟨p, List.mem_cons_of_mem _ hp, hyp⟩
  · refine ⟨_, List.mem_cons_self, (Rect.mem_set_unit (inb := h)).2 fun a => ?_⟩
    match a with
    | ⟨0, _⟩ => exact ⟨by show n ≤ (y 0).val; omega, by show (y 0).val < n + 64; omega⟩
    | ⟨1, _⟩ => exact ⟨Nat.zero_le _, by have h1 : (y 1).val < 512 := (y 1).isLt; show (y 1).val < 0 + 512; omega⟩

theorem reach_stores : ∀ (n : Nat) (h : n ≤ 48), Reach (128 * n) (stores c Mw Ms fw fs n h)
  | 0, _ => fun _ h => absurd h (Nat.not_lt_zero _)
  | n + 1, h => reach_cons (128 * n + 64) _ rfl _ _ _ (reach_cons (128 * n) _ rfl _ _ _ (reach_stores n (by omega)))

/-- A scratch after the widening's stores reads the widened weight. -/
theorem read_stores (M : Memref sig .tc .vmem S6144x512 .bf16) (f : Bf (F := F) c M) :
    M.view.read (Elt F) (M.view.writes (Elt F) f (stores c Mw Ms fw fs 48 le_rfl)) = wide (Mw.view.read (Elt F) fw) (Ms.view.read (Elt F) fs) :=
  funext fun y => View.read_writes_apply_of_pieces _ _ _ _ (good_stores c Mw Ms fw fs 48 le_rfl) y (reach_stores c Mw Ms fw fs 48 le_rfl y (y 0).isLt)

/-- The stores the run makes into the first scratch are those. -/
theorem stores_first : wideRun.sl.H14_96 c Mw Ms fw fs = stores c Mw Ms fw fs 48 le_rfl := by exact rfl

/-- The stores the run makes into the second scratch are those of the other weight. -/
theorem stores_second : wideRun.sl.H15_96 c Mw Ms fw fs = stores c Mw Ms fw fs 48 le_rfl := by exact rfl

end Pieces

end Cert.Up.Gate
-- ==== Proof.UOut.lean ====
module

public import proofs.«01_k».proof.Proof.Gen.Up
public import proofs.«01_k».proof.Proof.Gen.Up.Launch
public import proofs.«01_k».proof.Proof.UWideVal
public import proofs.«01_k».proof.Proof.Nibble
public import Idealize.ShloMosaic.Lib.ValueLayout
public import Idealize.ShloMosaic.Lib.VecWindow
public import Idealize.ShloMosaic.Lib.Pipeline.Value
public import Idealize.ShloMosaic.Lib.Tactic

@[expose] public section

noncomputable section

namespace Cert.Up.Gate

open Cert.Up Cert.Up.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open ValueIdx

/-- A tile's product: the codes as bf16 times a widened weight, times the expert's scale. -/
def prodTile (a : Vec F S256x6144 .fp8e4m3) (w : Vec F S6144x512 .bf16) (act : F .f32) : FVec F S256x512 .f32 :=
  mulf (matmul dot_S256x6144_S6144x512_S256x512_1_0_0_1_n_n none (extf .bf16 a bitsLt_fp8e4m3_bf16) w (constant S256x512 .f32 0#32)) (broadcast S256x512 act)

/-- A step's result before the cast: the gated product, scaled by the column scales over the expert's second scale, clipped. -/
def hTile (a : Vec F S256x6144 .fp8e4m3) (w1 w3 : Vec F S6144x512 .bf16) (act1 act2 : F .f32) (p : S1x512.Idx → F .f32) : FVec F S256x512 .f32 :=
  minimumf (broadcast S256x512 (Scalar.ofBits .f32 0x43E00000#32)) (maximumf (broadcast S256x512 (Scalar.ofBits .f32 0xC3E00000#32))
    (divf (mulf (mulf (mulf (prodTile a w1 act1) (logistic (prodTile a w1 act1))) (prodTile a w3 act1))
      (broadcastTo S256x512 (s := S1x512) p broadcasts_S1x512_S256x512)) (broadcast S256x512 act2)))

/-- The rows of the tile `t` a step of expert `e` keeps: from `st` (0 for expert 0) to before `en`. -/
def keepTile (e t st en : BitVec 32) : IVec S256x512 1 :=
  andi (cmpi .sge (addi (broadcast S256x512 (Scalar.muli t 256#32)) (iota .tc S256x512 32 [0]))
      (broadcast S256x512 (Scalar.select (Scalar.cmpi .eq e 0#32) 0#32 st)))
    (cmpi .slt (addi (broadcast S256x512 (Scalar.muli t 256#32)) (iota .tc S256x512 32 [0])) (broadcast S256x512 en))

/-- What a step leaves in the output window that held `old`. -/
def outTile (e t st en : BitVec 32) (h : FVec F S256x512 .f32) (old : Vec F S256x512 .fp8e4m3) : Vec F S256x512 .fp8e4m3 :=
  truncf .fp8e4m3 (select (keepTile e t st en) h (extf .f32 old bitsLt_fp8e4m3_f32)) bitsLt_fp8e4m3_f32

/-- The word read off an 8-word buffer at the offset `off`. -/
abbrev w8 (c : Dev nD) {e : EltTy} (M : Memref sig .tc .smem S8 e) (f : Bf (F := F) c M) (off : Fin 1 → Nat)
    (h : ∀ a, off a + S1.size a ≤ S8.size a) : Elt F e :=
  View.readAt (Elt F) M.view (Rect.unit (s := S8) off S1.size h).toLoadRect f (Shape.Idx.first (s := S1) (by decide))

theorem read_full {sig : RefSig} {κ : Kind} {sp : Space} {s : Shape} {e : EltTy} {Val : EltTy → Type} (v : View sig κ sp s e) (f : v.ty.Contents Val)
    {off : Fin s.rank → Nat} (inb : ∀ a, off a + s.size a ≤ s.size a) :
    v.readAt Val (Rect.unit off s.size inb).toLoadRect f = v.read Val f :=
  funext fun y => by
    rw [View.readAt_apply]
    exact congrArg _ (Rect.emb_unit_full inb y)

theorem read_writes_full {sig : RefSig} {κ : Kind} {sp : Space} {s : Shape} {e : EltTy} {Val : EltTy → Type} (v : View sig κ sp s e) (f : v.ty.Contents Val)
    {off : Fin s.rank → Nat} (inb : ∀ a, off a + s.size a ≤ s.size a) (w : s.Idx → Val e) :
    v.read Val (v.writes Val f [⟨Rect.unit off s.size inb, w⟩]) = w :=
  funext fun y => by
    have h := View.read_writes_cons_emb v f (Rect.unit off s.size inb) w [] y
    rwa [Rect.emb_unit_full inb y] at h

/-- A row of the column scales, off the window. -/
abbrev pqRow (c : Dev nD) (M : Memref sig .tc .vmem S8x512 .f32) (f : Bf (F := F) c M) (off : Fin 2 → Nat)
    (h : ∀ a, off a + S1x512.size a ≤ S8x512.size a) : S1x512.Idx → F .f32 :=
  View.readAt (Elt F) M.view (Rect.unit (s := S8x512) off S1x512.size h).toLoadRect f

theorem read_cast13 (c : Dev nD) (M13 : Memref sig .tc .vmem S256x512 .fp8e4m3) (f13 : Bf (F := F) c M13) :
    shapeCast S256x512 (M13.view.readAt (Elt F) (Rect.unit (s := S256x512) ![0, 0] S256x512.size inb_S256x512_S256x512_0_0).toLoadRect f13)
      shapeCasts_S256x512_S256x512 = M13.view.read (Elt F) f13 :=
  (shapeCast_self _ _).trans (read_full M13.view f13 inb_S256x512_S256x512_0_0)

section
variable (c : Dev nD) (b : grid0.Bounds) (i : grid0.Static) (s : BitVec 32)
  (M2 : Memref sig .tc .smem S43 .i32) (h2 : M2.IsWhole)
  (M3 : Memref sig .tc .smem S43 .i32) (h3 : M3.IsWhole)
  (M4 : Memref sig .tc .smem S8 .i32) (h4 : M4.IsWhole)
  (M5 : Memref sig .tc .smem S8 .f32) (h5 : M5.IsWhole)
  (M6 : Memref sig .tc .smem S8 .f32) (h6 : M6.IsWhole)
  (M7 : Memref sig .tc .vmem S256x6144 .fp8e4m3) (h7 : M7.IsWhole)
  (M8 : Memref sig .tc .vmem S1x3072x512 .i8) (h8 : M8.IsWhole)
  (M9 : Memref sig .tc .vmem S1x48x512 .bf16) (h9 : M9.IsWhole)
  (M10 : Memref sig .tc .vmem S1x3072x512 .i8) (h10 : M10.IsWhole)
  (M11 : Memref sig .tc .vmem S1x48x512 .bf16) (h11 : M11.IsWhole)
  (M12 : Memref sig .tc .vmem S8x512 .f32) (h12 : M12.IsWhole)
  (M13 : Memref sig .tc .vmem S256x512 .fp8e4m3) (h13 : M13.IsWhole)
  (M14 : Memref sig .tc .vmem S6144x512 .bf16) (h14 : M14.IsWhole)
  (M15 : Memref sig .tc .vmem S6144x512 .bf16) (h15 : M15.IsWhole)
  (f2 : Bf (F := F) c M2)
  (f3 : Bf (F := F) c M3)
  (f4 : Bf (F := F) c M4)
  (f5 : Bf (F := F) c M5)
  (f6 : Bf (F := F) c M6)
  (f7 : Bf (F := F) c M7)
  (f8 : Bf (F := F) c M8)
  (f9 : Bf (F := F) c M9)
  (f10 : Bf (F := F) c M10)
  (f11 : Bf (F := F) c M11)
  (f12 : Bf (F := F) c M12)
  (f13 : Bf (F := F) c M13)
  (f14 : Bf (F := F) c M14)
  (f15 : Bf (F := F) c M15)
  (hc : k0_chk1 s) (hc2 : k0_chk2 (w43 c M2 f2 (k0_off2 s) hc.1)) (hc3 : k0_chk3 (w43 c M2 f2 (k0_off6 s) hc.2.2))

theorem keep_val : keepRun.sl.v67 c s M2 M3 M4 M5 M6 M7 M12 M13 M14 M15 f2 f3 f4 f5 f6 f7 f12 f13 f14 f15 hc hc2 hc3
      = outTile (w43 c M2 f2 (k0_off6 s) hc.2.2) (w43 c M3 f3 (k0_off6 s) hc.2.2) (w8 c M4 f4 (k0_off7 (w43 c M2 f2 (k0_off6 s) hc.2.2)) (k0_off7_inb _ hc3))
          (w8 c M4 f4 (k0_off8 (w43 c M2 f2 (k0_off6 s) hc.2.2)) (k0_off8_inb _ hc3))
          (hTile (M7.view.readAt (Elt F) (Rect.unit (s := S256x6144) ![0, 0] S256x6144.size inb_S256x6144_S256x6144_0_0).toLoadRect f7) (M14.view.readAt (Elt F) (Rect.unit (s := S6144x512) ![0, 0] S6144x512.size inb_S6144x512_S6144x512_0_0).toLoadRect f14) (M15.view.readAt (Elt F) (Rect.unit (s := S6144x512) ![0, 0] S6144x512.size inb_S6144x512_S6144x512_0_0).toLoadRect f15)
            (w8 c M5 f5 (k0_off4 (w43 c M2 f2 (k0_off2 s) hc.1)) (k0_off4_inb _ hc2)) (w8 c M6 f6 (k0_off4 (w43 c M2 f2 (k0_off2 s) hc.1)) (k0_off4_inb _ hc2))
            (pqRow c M12 f12 (k0_off5 (w43 c M2 f2 (k0_off2 s) hc.1)) (k0_off5_inb _ hc2)))
          (shapeCast S256x512 (M13.view.readAt (Elt F) (Rect.unit (s := S256x512) ![0, 0] S256x512.size inb_S256x512_S256x512_0_0).toLoadRect f13)
            shapeCasts_S256x512_S256x512) := by
  exact rfl

theorem wide_val : wideRun.sl.v67 c s M2 M3 M4 M5 M6 M7 M8 M9 M10 M11 M12 M13 M14 M15 f2 f3 f4 f5 f6 f7 f8 f9 f10 f11 f12 f13 hc hc2 hc3
      = outTile (w43 c M2 f2 (k0_off6 s) hc.2.2) (w43 c M3 f3 (k0_off6 s) hc.2.2) (w8 c M4 f4 (k0_off7 (w43 c M2 f2 (k0_off6 s) hc.2.2)) (k0_off7_inb _ hc3))
          (w8 c M4 f4 (k0_off8 (w43 c M2 f2 (k0_off6 s) hc.2.2)) (k0_off8_inb _ hc3))
          (hTile (M7.view.readAt (Elt F) (Rect.unit (s := S256x6144) ![0, 0] S256x6144.size inb_S256x6144_S256x6144_0_0).toLoadRect f7) (M14.view.readAt (Elt F) (Rect.unit (s := S6144x512) ![0, 0] S6144x512.size inb_S6144x512_S6144x512_0_0).toLoadRect (M14.view.writes (Elt F) M14.view.junk (wideRun.sl.H14_96 c M8 M9 f8 f9))) (M15.view.readAt (Elt F) (Rect.unit (s := S6144x512) ![0, 0] S6144x512.size inb_S6144x512_S6144x512_0_0).toLoadRect (M15.view.writes (Elt F) M15.view.junk (wideRun.sl.H15_96 c M10 M11 f10 f11)))
            (w8 c M5 f5 (k0_off4 (w43 c M2 f2 (k0_off2 s) hc.1)) (k0_off4_inb _ hc2)) (w8 c M6 f6 (k0_off4 (w43 c M2 f2 (k0_off2 s) hc.1)) (k0_off4_inb _ hc2))
            (pqRow c M12 f12 (k0_off5 (w43 c M2 f2 (k0_off2 s) hc.1)) (k0_off5_inb _ hc2)))
          (shapeCast S256x512 (M13.view.readAt (Elt F) (Rect.unit (s := S256x512) ![0, 0] S256x512.size inb_S256x512_S256x512_0_0).toLoadRect f13)
            shapeCasts_S256x512_S256x512) := by
  exact rfl

theorem keepRun_out (hn : ¬ k0_cond s (w43 c M2 f2 (k0_off2 s) hc.1) (w43 c M2 f2 (k0_off3 s) hc.2.1)) :
    (keepRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc hc2 hc3 hn).1 = M13.view.writes (Elt F) f13 [⟨Rect.unit (s := S256x512) ![0, 0] S256x512.size inb_S256x512_S256x512_0_0, keepRun.sl.v67 c s M2 M3 M4 M5 M6 M7 M12 M13 M14 M15 f2 f3 f4 f5 f6 f7 f12 f13 f14 f15 hc hc2 hc3⟩] := by
  delta keepRun
  dsimp only

theorem wideRun_out (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.1 = M13.view.writes (Elt F) M13.view.junk [⟨Rect.unit (s := S256x512) ![0, 0] S256x512.size inb_S256x512_S256x512_0_0, wideRun.sl.v67 c s M2 M3 M4 M5 M6 M7 M8 M9 M10 M11 M12 M13 M14 M15 f2 f3 f4 f5 f6 f7 f8 f9 f10 f11 f12 f13 hc hc2 hc3⟩] := by
  delta wideRun
  dsimp only
  exact rfl

theorem wideRun_first (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.2.1 = M14.view.writes (Elt F) M14.view.junk (wideRun.sl.H14_96 c M8 M9 f8 f9) := by
  delta wideRun
  dsimp only

theorem wideRun_second (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.2.2 = M15.view.writes (Elt F) M15.view.junk (wideRun.sl.H15_96 c M10 M11 f10 f11) := by
  delta wideRun
  dsimp only

/-- A step on the weights already widened leaves this in its output window. -/
theorem keep_out (hn : ¬ k0_cond s (w43 c M2 f2 (k0_off2 s) hc.1) (w43 c M2 f2 (k0_off3 s) hc.2.1)) :
    M13.view.read (Elt F) (keepRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc hc2 hc3 hn).1
      = outTile (w43 c M2 f2 (k0_off6 s) hc.2.2) (w43 c M3 f3 (k0_off6 s) hc.2.2) (w8 c M4 f4 (k0_off7 (w43 c M2 f2 (k0_off6 s) hc.2.2)) (k0_off7_inb _ hc3))
          (w8 c M4 f4 (k0_off8 (w43 c M2 f2 (k0_off6 s) hc.2.2)) (k0_off8_inb _ hc3))
          (hTile (M7.view.read (Elt F) f7) (M14.view.read (Elt F) f14) (M15.view.read (Elt F) f15)
            (w8 c M5 f5 (k0_off4 (w43 c M2 f2 (k0_off2 s) hc.1)) (k0_off4_inb _ hc2)) (w8 c M6 f6 (k0_off4 (w43 c M2 f2 (k0_off2 s) hc.1)) (k0_off4_inb _ hc2))
            (pqRow c M12 f12 (k0_off5 (w43 c M2 f2 (k0_off2 s) hc.1)) (k0_off5_inb _ hc2)))
          (M13.view.read (Elt F) f13) := by
  rw [keepRun_out, read_writes_full, keep_val, read_cast13, read_full, read_full, read_full]

/-- A step that widens new weights leaves them in the two scratches. -/
theorem wide_first (hn : k0_cond s (w43 c M2 f2 (k0_off2 s) hc.1) (w43 c M2 f2 (k0_off3 s) hc.2.1)) :
    M14.view.read (Elt F) (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.2.1 = wide (M8.view.read (Elt F) f8) (M9.view.read (Elt F) f9) := by
  rw [wideRun_first, stores_first]
  exact read_stores c M8 M9 f8 f9 M14 M14.view.junk

theorem wide_second (hn : k0_cond s (w43 c M2 f2 (k0_off2 s) hc.1) (w43 c M2 f2 (k0_off3 s) hc.2.1)) :
    M15.view.read (Elt F) (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.2.2 = wide (M10.view.read (Elt F) f10) (M11.view.read (Elt F) f11) := by
  rw [wideRun_second, stores_second]
  exact read_stores c M10 M11 f10 f11 M15 M15.view.junk

/-- A step that widens new weights leaves this in its output window. -/
theorem wide_out (hn : k0_cond s (w43 c M2 f2 (k0_off2 s) hc.1) (w43 c M2 f2 (k0_off3 s) hc.2.1)) :
    M13.view.read (Elt F) (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.1
      = outTile (w43 c M2 f2 (k0_off6 s) hc.2.2) (w43 c M3 f3 (k0_off6 s) hc.2.2) (w8 c M4 f4 (k0_off7 (w43 c M2 f2 (k0_off6 s) hc.2.2)) (k0_off7_inb _ hc3))
          (w8 c M4 f4 (k0_off8 (w43 c M2 f2 (k0_off6 s) hc.2.2)) (k0_off8_inb _ hc3))
          (hTile (M7.view.read (Elt F) f7) (wide (M8.view.read (Elt F) f8) (M9.view.read (Elt F) f9)) (wide (M10.view.read (Elt F) f10) (M11.view.read (Elt F) f11))
            (w8 c M5 f5 (k0_off4 (w43 c M2 f2 (k0_off2 s) hc.1)) (k0_off4_inb _ hc2)) (w8 c M6 f6 (k0_off4 (w43 c M2 f2 (k0_off2 s) hc.1)) (k0_off4_inb _ hc2))
            (pqRow c M12 f12 (k0_off5 (w43 c M2 f2 (k0_off2 s) hc.1)) (k0_off5_inb _ hc2)))
          (M13.view.read (Elt F) f13) := by
  rw [wideRun_out, read_writes_full, wide_val, read_cast13, read_full, read_full, read_full, stores_first, stores_second, read_stores, read_stores]

end

end Cert.Up.Gate
-- ==== Proof.UPlan.lean ====
/- What the tables say: the grid's points, the windows' blocks and the body's checked words, at tables that hold a work list. -/
module

public import proofs.«01_k».proof.Proof.Gen.Up
public import proofs.«01_k».proof.Proof.Gen.Up.Launch
public import proofs.«01_k».proof.Proof.WorkWords
public import Idealize.ShloMosaic.Lib.PairWhole

@[expose] public section

set_option maxRecDepth 4000

noncomputable section

namespace Cert.Up.Gate

open Cert.Up Cert.Up.Gen
open Cert.Down
open Idealize.ShloMosaic Idealize.ShloMosaic.TcCoe Idealize.ShloMosaic.ValueIdx

variable {F : FTy → Type} [FloatOps F]

/-- The tables hold the work list of the group sizes `γ`. -/
structure Plan (pf : pre0.Contents (Elt F)) (γ : Nat → Nat) : Prop where
  h8 : pre γ 8 = 9216
  n : ∀ i, (pf 0 : IVec S_ 32) i = BitVec.ofNat 32 (steps γ)
  expert : ∀ s : Fin 43, (pf 1 : IVec S43 32) (ix1 s) = BitVec.ofNat 32 (expertOf γ s.val)
  tile : ∀ s : Fin 43, (pf 2 : IVec S43 32) (ix1 s) = BitVec.ofNat 32 (tileOf γ s.val)
  ends : ∀ e : Fin 8, (pf 3 : IVec S8 32) (ix1 e) = BitVec.ofNat 32 (pre γ (e.val + 1))

/-- A word as an index. -/
theorem cast_nat {n : Nat} (h : n < 2 ^ 32) : (Scalar.indexCast (BitVec.ofNat 32 n) : Index).toNat = n := by
  have : (Scalar.indexCast (BitVec.ofNat 32 n) : Index) = BitVec.ofNat 32 n := by
    unfold Scalar.indexCast; simp
  rw [this, BitVec.toNat_ofNat, Nat.mod_eq_of_lt h]

theorem toNat_nat {n : Nat} (h : n < 2 ^ 32) : (BitVec.ofNat 32 n).toNat = n := by
  rw [BitVec.toNat_ofNat, Nat.mod_eq_of_lt h]

section
variable {pf : pre0.Contents (Elt F)} {γ : Nat → Nat} (P : Plan pf γ)
include P

theorem steps_lt : steps γ ≤ 43 := steps_le γ P.h8

theorem dynb_one : dynb0 pf 1 = steps γ := by
  have := steps_lt P
  show ((pf 0 : IVec S_ 32) _).toNat = _
  rw [P.n, toNat_nat (by omega)]

theorem bound_zero : (grid0.at (dynb0 pf)).bound 0 = 8 := rfl
theorem bound_one : (grid0.at (dynb0 pf)).bound 1 = steps γ := by
  show grid0.boundAt (dynb0 pf) 1 = _
  rw [grid0.boundAt_of_dyn_true rfl, dynb_one P]

theorem grid_N : (grid0.at (dynb0 pf)).N = 8 * steps γ := by
  have h1 := bound_one P
  unfold Pipeline.Grid.N
  simp only [List.ofFn_succ, List.ofFn_zero, List.prod_cons, List.prod_nil]
  show (grid0.at (dynb0 pf)).bound 0 * ((grid0.at (dynb0 pf)).bound 1 * 1) = _
  rw [h1, bound_zero P, Nat.mul_one]

theorem coord_lt (i : (grid0.at (dynb0 pf)).Coords) : (i 1).val < steps γ := bound_one P ▸ (i 1).isLt
theorem coord_lt0 (i : (grid0.at (dynb0 pf)).Coords) : (i 0).val < 8 := (i 0).isLt

theorem coords_one (t : Fin (grid0.at (dynb0 pf)).N) : ((grid0.at (dynb0 pf)).coords t 1).val = t.val % steps γ := by
  rw [Pipeline.Grid.coords_val t 1 (S := 1) (B := steps γ) (by
    unfold Pipeline.Grid.stride
    simp only [List.ofFn_succ, List.ofFn_zero, List.prod_cons, List.prod_nil]; rfl) (bound_one P), Nat.div_one]

theorem coords_zero (t : Fin (grid0.at (dynb0 pf)).N) : ((grid0.at (dynb0 pf)).coords t 0).val = t.val / steps γ := by
  have ht : t.val < 8 * steps γ := t.isLt.trans_eq (grid_N P)
  rw [Pipeline.Grid.coords_val t 0 (S := steps γ) (B := 8) (by
    unfold Pipeline.Grid.stride
    simp only [List.ofFn_succ, List.ofFn_zero, List.prod_cons, List.prod_nil]
    show 1 * ((grid0.at (dynb0 pf)).bound 1 * 1) = _
    rw [bound_one P]; omega) rfl]
  exact Nat.mod_eq_of_lt (Nat.div_lt_of_lt_mul (by rw [Nat.mul_comm]; exact ht))

omit P in
theorem off_lt {n : Nat} (hn : n < 43) : ∀ a, (![n] : Fin 1 → Nat) a + 1 ≤ S43.size a := fun a => by
  obtain rfl := Fin.fin_one_eq_zero a; exact hn
omit P in
theorem off_ix {n : Nat} (hn : n < 43) : (fun a => ⟨(![n] : Fin 1 → Nat) a, off_lt hn a⟩ : S43.Idx) = ix1 ⟨n, hn⟩ := by
  funext a; obtain rfl := Fin.fin_one_eq_zero a; rfl
omit P in
theorem atD_at (f : IVec S43 32) {n : Nat} (hn : n < 43) :
    (if h : ∀ a, (![n] : Fin 1 → Nat) a + 1 ≤ S43.size a then f (fun a => ⟨(![n] : Fin 1 → Nat) a, h a⟩) else default) = f (ix1 ⟨n, hn⟩) := by
  rw [dif_pos (off_lt hn), off_ix]

theorem expert_at {n : Nat} (hn : n < steps γ) : pf.atD 1 ![n] = BitVec.ofNat 32 (expertOf γ n) :=
  (atD_at (pf 1 : IVec S43 32) (Nat.lt_of_lt_of_le hn (steps_lt P))).trans (P.expert _)
theorem tile_at {n : Nat} (hn : n < steps γ) : pf.atD 2 ![n] = BitVec.ofNat 32 (tileOf γ n) :=
  (atD_at (pf 2 : IVec S43 32) (Nat.lt_of_lt_of_le hn (steps_lt P))).trans (P.tile _)

theorem expert_lt (s : Nat) : expertOf γ s < 8 := slot_lt _ _
theorem tile_le (s : Nat) : tileOf γ s ≤ 35 := Nat.min_le_right _ _

theorem trans2 (i : (grid0.at (dynb0 pf)).Coords) : cc0_transform_2 pf (dynb0 pf) i = ![tileOf γ (i 1).val, 0] := by
  have h := coord_lt P i; have := steps_lt P; have := tile_le P (i 1).val
  unfold cc0_transform_2
  dsimp only
  rw [cast_nat (by omega), tile_at P h, toNat_nat (by omega)]; rfl
theorem trans3 (i : (grid0.at (dynb0 pf)).Coords) : cc0_transform_3 pf (dynb0 pf) i = ![expertOf γ (i 1).val, 0, (i 0).val] := by
  have h := coord_lt P i; have := steps_lt P; have := expert_lt P (i 1).val; have := coord_lt0 P i
  unfold cc0_transform_3
  dsimp only
  rw [cast_nat (by omega), expert_at P h, toNat_nat (by omega), toNat_nat (n := (i 0).val) (by omega)]; rfl
theorem trans4 (i : (grid0.at (dynb0 pf)).Coords) : cc0_transform_4 pf (dynb0 pf) i = ![expertOf γ (i 1).val, 0, (i 0).val] := by
  have h := coord_lt P i; have := steps_lt P; have := expert_lt P (i 1).val; have := coord_lt0 P i
  unfold cc0_transform_4
  dsimp only
  rw [cast_nat (by omega), expert_at P h, toNat_nat (by omega), toNat_nat (n := (i 0).val) (by omega)]; rfl
theorem trans5 (i : (grid0.at (dynb0 pf)).Coords) : cc0_transform_5 pf (dynb0 pf) i = ![expertOf γ (i 1).val, 0, (i 0).val] := by
  exact trans3 P i
theorem trans6 (i : (grid0.at (dynb0 pf)).Coords) : cc0_transform_6 pf (dynb0 pf) i = ![expertOf γ (i 1).val, 0, (i 0).val] := by
  exact trans4 P i
theorem trans7 (i : (grid0.at (dynb0 pf)).Coords) : cc0_transform_7 (dynb0 pf) i = ![0, (i 0).val] := by
  have := coord_lt0 P i
  unfold cc0_transform_7
  dsimp only
  rw [toNat_nat (n := (i 0).val) (by omega)]; rfl
theorem trans8 (i : (grid0.at (dynb0 pf)).Coords) : cc0_transform_8 pf (dynb0 pf) i = ![tileOf γ (i 1).val, (i 0).val] := by
  have h := coord_lt P i; have := steps_lt P; have := tile_le P (i 1).val; have := coord_lt0 P i
  unfold cc0_transform_8
  dsimp only
  rw [cast_nat (by omega), tile_at P h, toNat_nat (by omega), toNat_nat (n := (i 0).val) (by omega)]

/-- A block of packed weights lies in its array, on whole words. -/
theorem packed_ok (i : (grid0.at (dynb0 pf)).Coords) (x : Fin 3 → Nat) (hx : x = ![expertOf γ (i 1).val, 0, (i 0).val]) :
    ∃ h : (∀ a, (x a + 1) * S1x3072x512.size a ≤ S8x3072x4096.size a), EltTy.bits .i8 = 32 ∨ (Rect.block (s := S8x3072x4096) S1x3072x512.size x h).WholeWords (EltTy.packing .i8) := by
  have := expert_lt P (i 1).val; have := coord_lt0 P i
  subst hx
  refine ⟨fun a => ?_, .inr ((Rect.packedRows_of_rowAxis _ _ (by decide) ?_ (show 4 ∣ 3072 by decide) rfl).wholeWords)⟩
  · fin_cases a
    · show (expertOf γ (i 1).val + 1) * 1 ≤ 8; omega
    · exact (show (0 + 1) * 3072 ≤ 3072 by decide)
    · show ((i 0).val + 1) * 512 ≤ 4096; omega
  · exact (show 4 ∣ 0 * 3072 by decide)

/-- A block of weight scales lies in its array, on whole words. -/
theorem scales_ok (i : (grid0.at (dynb0 pf)).Coords) (x : Fin 3 → Nat) (hx : x = ![expertOf γ (i 1).val, 0, (i 0).val]) :
    ∃ h : (∀ a, (x a + 1) * S1x48x512.size a ≤ S8x48x4096.size a), EltTy.bits .bf16 = 32 ∨ (Rect.block (s := S8x48x4096) S1x48x512.size x h).WholeWords (EltTy.packing .bf16) := by
  have := expert_lt P (i 1).val; have := coord_lt0 P i
  subst hx
  refine ⟨fun a => ?_, .inr ((Rect.packedRows_of_rowAxis _ _ (by decide) ?_ (show 2 ∣ 48 by decide) rfl).wholeWords)⟩
  · fin_cases a
    · show (expertOf γ (i 1).val + 1) * 1 ≤ 8; omega
    · exact (show (0 + 1) * 48 ≤ 48 by decide)
    · show ((i 0).val + 1) * 512 ≤ 4096; omega
  · exact (show 2 ∣ 0 * 48 by decide)

/-- The region's side condition holds of such tables. -/
theorem ok_of_plan : ok0 pf := by
  have hs := steps_lt P
  refine ⟨?_, fun i a => ?_, fun i => ⟨fun a => ?_, .inl rfl⟩, fun i => ⟨fun a => ?_, .inl rfl⟩, fun i => ⟨fun a => ?_, .inr ?_⟩,
    fun i => packed_ok P i _ (trans3 P i), fun i => scales_ok P i _ (trans4 P i), fun i => packed_ok P i _ (trans5 P i), fun i => scales_ok P i _ (trans6 P i),
    fun i => ⟨fun a => ?_, .inl rfl⟩, fun i => ⟨fun a => ?_, .inr ?_⟩⟩
  · unfold Pipeline.Grid.Admits; rw [grid_N P]; omega
  · have h := coord_lt P i
    obtain rfl := Fin.fin_one_eq_zero a
    show (Scalar.indexCast (BitVec.ofNat 32 (i 1).val) : Index).toNat + 1 ≤ 43
    rw [cast_nat (by omega)]; omega
  · obtain rfl := Fin.fin_one_eq_zero a; exact (show (0 + 1) * 8 ≤ 8 by decide)
  · obtain rfl := Fin.fin_one_eq_zero a; exact (show (0 + 1) * 8 ≤ 8 by decide)
  · have h := coord_lt P i; have := tile_le P (i 1).val
    rw [trans2 P i]
    fin_cases a
    · show (tileOf γ (i 1).val + 1) * 256 ≤ 9216; omega
    · exact (show (0 + 1) * 6144 ≤ 6144 by decide)
  · refine (Rect.packedRows_of_rowAxis _ _ (by decide) ?_ (show 4 ∣ 256 by decide) rfl).wholeWords
    show 4 ∣ cc0_transform_2 pf (dynb0 pf) i 0 * 256
    exact Dvd.dvd.mul_left (by decide) _
  · have := coord_lt0 P i
    rw [trans7 P i]
    fin_cases a
    · exact (show (0 + 1) * 8 ≤ 8 by decide)
    · show ((i 0).val + 1) * 512 ≤ 4096; omega
  · have h := coord_lt P i; have := tile_le P (i 1).val; have := coord_lt0 P i
    rw [trans8 P i]
    fin_cases a
    · show (tileOf γ (i 1).val + 1) * 256 ≤ 9216; omega
    · show ((i 0).val + 1) * 512 ≤ 4096; omega
  · refine (Rect.packedRows_of_rowAxis _ _ (by decide) ?_ (show 4 ∣ 256 by decide) rfl).wholeWords
    show 4 ∣ cc0_transform_8 pf (dynb0 pf) i 0 * 256
    exact Dvd.dvd.mul_left (by decide) _

end

/-- A step's number passes the body's first check. -/
theorem chk1 {n : Nat} (h : n < 43) : k0_chk1 (BitVec.ofNat 32 n) := by
  refine ⟨fun a => ?_, fun a => ?_, fun a => ?_⟩ <;> obtain rfl := Fin.fin_one_eq_zero a
  · show (Scalar.indexCast (BitVec.ofNat 32 n) : Index).toNat + 1 ≤ 43
    rw [cast_nat (by omega)]; omega
  · show (Scalar.indexCast (Scalar.maxsi (Scalar.subi (BitVec.ofNat 32 n) 1#32) 0#32) : Index).toNat + 1 ≤ 43
    have : Scalar.maxsi (Scalar.subi (BitVec.ofNat 32 n) 1#32) 0#32 = BitVec.ofNat 32 (n - 1) := Routing.maxsi_pred (by omega)
    rw [this, cast_nat (by omega)]; omega
  · show (Scalar.indexCast (BitVec.ofNat 32 n) : Index).toNat + 1 ≤ 43
    rw [cast_nat (by omega)]; omega

/-- A group's number passes the body's other checks. -/
theorem chk2 {e : Nat} (h : e < 8) : k0_chk2 (BitVec.ofNat 32 e) := by
  refine ⟨fun a => ?_, fun a => ?_⟩
  · obtain rfl := Fin.fin_one_eq_zero a
    show (Scalar.indexCast (BitVec.ofNat 32 e) : Index).toNat + 1 ≤ 8
    rw [cast_nat (by omega)]; omega
  · fin_cases a
    · show (Scalar.indexCast (BitVec.ofNat 32 e) : Index).toNat + 1 ≤ 8
      rw [cast_nat (by omega)]; omega
    · exact (show 0 + 512 ≤ 512 by decide)
theorem chk3 {e : Nat} (h : e < 8) : k0_chk3 (BitVec.ofNat 32 e) := by
  refine ⟨fun a => ?_, fun a => ?_⟩ <;> obtain rfl := Fin.fin_one_eq_zero a
  · show (Scalar.indexCast (Scalar.maxsi (Scalar.subi (BitVec.ofNat 32 e) 1#32) 0#32) : Index).toNat + 1 ≤ 8
    have : Scalar.maxsi (Scalar.subi (BitVec.ofNat 32 e) 1#32) 0#32 = BitVec.ofNat 32 (e - 1) := Routing.maxsi_pred (by omega)
    rw [this, cast_nat (by omega)]; omega
  · show (Scalar.indexCast (BitVec.ofNat 32 e) : Index).toNat + 1 ≤ 8
    rw [cast_nat (by omega)]; omega

end Cert.Up.Gate
-- ==== Proof.UStep.lean ====
/- One step's words and blocks by numbers: the words the body reads off the tables, the rows a step keeps, the blocks the windows
   hold. -/
module

public import proofs.«01_k».proof.Proof.UOut
public import proofs.«01_k».proof.Proof.UPlan

@[expose] public section

set_option maxRecDepth 4000

noncomputable section

namespace Cert.Up.Gate

open Cert.Up Cert.Up.Gen
open Cert.Down
open Idealize.ShloMosaic Idealize.ShloMosaic.TcCoe Idealize.ShloMosaic.ValueIdx

variable {F : FTy → Type} [FloatOps F]

/-! ## The words -/

theorem off_step {n : Nat} (hn : n < 43) : k0_off2 (BitVec.ofNat 32 n) = ![n] := by
  show ![(Scalar.indexCast (BitVec.ofNat 32 n) : Index).toNat] = _
  rw [cast_nat (by omega)]
theorem off_step6 {n : Nat} (hn : n < 43) : k0_off6 (BitVec.ofNat 32 n) = ![n] := by
  show ![(Scalar.indexCast (BitVec.ofNat 32 n) : Index).toNat] = _
  rw [cast_nat (by omega)]
theorem off_back {n : Nat} (hn : n < 43) : k0_off3 (BitVec.ofNat 32 n) = ![n - 1] := by
  show ![(Scalar.indexCast (Scalar.maxsi (Scalar.subi (BitVec.ofNat 32 n) 1#32) 0#32) : Index).toNat] = _
  have : Scalar.maxsi (Scalar.subi (BitVec.ofNat 32 n) 1#32) 0#32 = BitVec.ofNat 32 (n - 1) := Routing.maxsi_pred (by omega)
  rw [this, cast_nat (by omega)]
theorem off_group {e : Nat} (he : e < 8) : k0_off4 (BitVec.ofNat 32 e) = ![e] := by
  show ![(Scalar.indexCast (BitVec.ofNat 32 e) : Index).toNat] = _
  rw [cast_nat (by omega)]
theorem off_group8 {e : Nat} (he : e < 8) : k0_off8 (BitVec.ofNat 32 e) = ![e] := by
  show ![(Scalar.indexCast (BitVec.ofNat 32 e) : Index).toNat] = _
  rw [cast_nat (by omega)]
theorem off_group_back {e : Nat} (he : e < 8) : k0_off7 (BitVec.ofNat 32 e) = ![e - 1] := by
  show ![(Scalar.indexCast (Scalar.maxsi (Scalar.subi (BitVec.ofNat 32 e) 1#32) 0#32) : Index).toNat] = _
  have : Scalar.maxsi (Scalar.subi (BitVec.ofNat 32 e) 1#32) 0#32 = BitVec.ofNat 32 (e - 1) := Routing.maxsi_pred (by omega)
  rw [this, cast_nat (by omega)]

/-- A word of a 43-word table at a numbered offset. -/
theorem w43_at (c : Dev nD) {e : EltTy} (M : Memref sig .tc .smem S43 e) (f : Bf (F := F) c M) (off : Fin 1 → Nat)
    (h : ∀ a, off a + S1.size a ≤ S43.size a) {n : Nat} (hn : n < 43) (ho : off = ![n]) :
    w43 c M f off h = M.view.read (Elt F) f (ix1 ⟨n, hn⟩) := by
  subst ho
  unfold w43
  rw [View.readAt_apply]
  refine congrArg _ (funext fun a => Fin.ext ?_)
  obtain rfl := Fin.fin_one_eq_zero a
  show n + 1 * 0 = n
  omega

/-- A word of an 8-word buffer at a numbered offset. -/
theorem w8_at (c : Dev nD) {e : EltTy} (M : Memref sig .tc .smem S8 e) (f : Bf (F := F) c M) (off : Fin 1 → Nat)
    (h : ∀ a, off a + S1.size a ≤ S8.size a) {n : Nat} (hn : n < 8) (ho : off = ![n]) :
    w8 c M f off h = M.view.read (Elt F) f (ix1 ⟨n, hn⟩) := by
  subst ho
  unfold w8
  rw [View.readAt_apply]
  refine congrArg _ (funext fun a => Fin.ext ?_)
  obtain rfl := Fin.fin_one_eq_zero a
  show n + 1 * 0 = n
  omega

/-- The widening runs at the first step and where the expert changes. -/
theorem cond_iff {n e p : Nat} (hn : n < 43) (he : e < 8) (hp : p < 8) :
    k0_cond (BitVec.ofNat 32 n) (BitVec.ofNat 32 e) (BitVec.ofNat 32 p) ↔ (n = 0 ∨ e ≠ p) := by
  have h1 : Scalar.cmpi .eq (BitVec.ofNat 32 n) 0#32 = if n = 0 then 1#1 else 0#1 := by
    show BitVec.ofBool (BitVec.ofNat 32 n == 0#32) = _
    by_cases h : n = 0
    · subst h; rfl
    · rw [if_neg h, show (BitVec.ofNat 32 n == 0#32) = false from by
        rw [beq_eq_false_iff_ne]; exact Routing.ofNat32_ne_zero (by omega) (by omega)]; rfl
  have h2 : Scalar.cmpi .ne (BitVec.ofNat 32 e) (BitVec.ofNat 32 p) = if e ≠ p then 1#1 else 0#1 := by
    show BitVec.ofBool (BitVec.ofNat 32 e != BitVec.ofNat 32 p) = _
    by_cases h : e = p
    · subst h; simp
    · rw [if_pos h, show (BitVec.ofNat 32 e != BitVec.ofNat 32 p) = true from by
        rw [bne_iff_ne]; intro h'; have := congrArg BitVec.toNat h'
        rw [toNat_nat (by omega), toNat_nat (by omega)] at this; exact h this]; rfl
  unfold k0_cond
  rw [h1, h2]
  by_cases ha : n = 0 <;> by_cases hb : e ≠ p <;> simp only [ha, hb, if_true, if_false, true_or, or_true, or_false, not_true, not_false_iff, ite_true, ite_false, ne_eq, iff_true, iff_false] <;> decide

/-! ## The rows a step keeps -/

theorem keep_at {e t : Nat} (lo hi : Nat) (he : e < 8) (ht : t ≤ 35) (hlo : lo ≤ 9216) (hhi : hi ≤ 9216) (h0 : e = 0 → lo = 0) (st : BitVec 32)
    (hst : e ≠ 0 → st = BitVec.ofNat 32 lo) (p : Fin 256) (q : Fin 512) :
    keepTile (BitVec.ofNat 32 e) (BitVec.ofNat 32 t) st (BitVec.ofNat 32 hi) (ix2 p q)
      = if lo ≤ 256 * t + p.val ∧ 256 * t + p.val < hi then 1#1 else 0#1 := by
  have hp := p.isLt
  have hr : (addi (broadcast S256x512 (Scalar.muli (BitVec.ofNat 32 t) 256#32)) (iota .tc S256x512 32 [0]) : IVec S256x512 32) (ix2 p q)
      = BitVec.ofNat 32 (256 * t + p.val) := by
    show BitVec.ofNat 32 t * 256#32 + BitVec.ofNat 32 (0 * 256 + p.val) = _
    apply BitVec.eq_of_toNat_eq
    simp only [BitVec.toNat_add, BitVec.toNat_mul, BitVec.toNat_ofNat]
    omega
  have hs : Scalar.select (Scalar.cmpi .eq (BitVec.ofNat 32 e) 0#32) 0#32 st = BitVec.ofNat 32 lo := by
    by_cases h : e = 0
    · rw [h0 h]; subst h; rfl
    · rw [hst h]
      show (if BitVec.ofBool (BitVec.ofNat 32 e == 0#32) = 1#1 then 0#32 else BitVec.ofNat 32 lo) = _
      rw [show (BitVec.ofNat 32 e == 0#32) = false from by rw [beq_eq_false_iff_ne]; exact Routing.ofNat32_ne_zero (by omega) (by omega)]
      rfl
  show (BitVec.ofBool ((broadcast S256x512 (Scalar.select (Scalar.cmpi .eq (BitVec.ofNat 32 e) 0#32) 0#32 st) : IVec S256x512 32) (ix2 p q)
      |>.sle ((addi (broadcast S256x512 (Scalar.muli (BitVec.ofNat 32 t) 256#32)) (iota .tc S256x512 32 [0]) : IVec S256x512 32) (ix2 p q))))
    &&& BitVec.ofBool (((addi (broadcast S256x512 (Scalar.muli (BitVec.ofNat 32 t) 256#32)) (iota .tc S256x512 32 [0]) : IVec S256x512 32) (ix2 p q)).slt (BitVec.ofNat 32 hi)) = _
  rw [hr]
  show BitVec.ofBool ((Scalar.select (Scalar.cmpi .eq (BitVec.ofNat 32 e) 0#32) 0#32 st).sle _) &&& _ = _
  rw [hs, Routing.sle_ofNat32 (by omega) (by omega), Routing.slt_ofNat32 (by omega) (by omega)]
  by_cases h1 : lo ≤ 256 * t + p.val <;> by_cases h2 : 256 * t + p.val < hi <;> simp [h1, h2]

/-! ## The blocks -/

/-- Row block `k` of the codes. -/
def aAt (X : Vec F S9216x6144 .fp8e4m3) (k : Fin 36) : Vec F S256x6144 .fp8e4m3 :=
  fun j => X (ix2 ⟨256 * k.val + (j 0).val, by have h : (j 0).val < 256 := (j 0).isLt; have := k.isLt; omega⟩ (j 1))
/-- Column block `n` of expert `e`'s weights. -/
def wAt (X : Vec F S8x3072x4096 .i8) (e : Fin 8) (n : Fin 8) : Vec F S1x3072x512 .i8 :=
  fun j => X (ix3 e (j 1) ⟨512 * n.val + (j 2).val, by have h : (j 2).val < 512 := (j 2).isLt; have := n.isLt; omega⟩)
/-- Column block `n` of expert `e`'s weight scales. -/
def uAt (X : Vec F S8x48x4096 .bf16) (e : Fin 8) (n : Fin 8) : Vec F S1x48x512 .bf16 :=
  fun j => X (ix3 e (j 1) ⟨512 * n.val + (j 2).val, by have h : (j 2).val < 512 := (j 2).isLt; have := n.isLt; omega⟩)
/-- Column block `n` of the column scales. -/
def pAt (X : Vec F S8x4096 .f32) (n : Fin 8) : Vec F S8x512 .f32 :=
  fun j => X (ix2 (j 0) ⟨512 * n.val + (j 1).val, by have h : (j 1).val < 512 := (j 1).isLt; have := n.isLt; omega⟩)
/-- Expert `e`'s row of a block of column scales. -/
def rowOf (X : Vec F S8x512 .f32) (e : Fin 8) : S1x512.Idx → F .f32 := fun j => X (ix2 e (j 1))

/-- The row read off the window of column scales. -/
theorem pqRow_at (c : Dev nD) (M : Memref sig .tc .vmem S8x512 .f32) (f : Bf (F := F) c M) {w : BitVec 32}
    (h : ∀ a, k0_off5 w a + S1x512.size a ≤ S8x512.size a) {e : Nat} (he : e < 8) (hw : w = BitVec.ofNat 32 e) :
    pqRow c M f (k0_off5 w) h = rowOf (M.view.read (Elt F) f) ⟨e, he⟩ := by
  subst hw
  refine funext fun j => ?_
  unfold pqRow
  rw [View.readAt_apply]
  refine congrArg (M.view.read (Elt F) f) (funext fun a => Fin.ext ?_)
  match a with
  | ⟨0, _⟩ =>
    have hj : (j 0).val < 1 := (j 0).isLt
    show (Scalar.indexCast (BitVec.ofNat 32 e) : Index).toNat + 1 * (j 0).val = e
    rw [cast_nat (by omega)]; omega
  | ⟨1, _⟩ => show 0 + 1 * (j 1).val = (j 1).val; omega

/-- Column block `n` of expert `e`'s widened weight. -/
def wideAt (X : Vec F S8x3072x4096 .i8) (Z : Vec F S8x48x4096 .bf16) (e : Fin 8) (n : Fin 8) : Vec F S6144x512 .bf16 :=
  wide (wAt X e n) (uAt Z e n)

/-- Before the cast, the result of row block `k` and column block `n` at expert `e`. -/
def hAt (X0 X1 : Vec F S8 .f32) (X2 : Vec F S9216x6144 .fp8e4m3) (X3 : Vec F S8x3072x4096 .i8) (X4 : Vec F S8x48x4096 .bf16)
    (X5 : Vec F S8x3072x4096 .i8) (X6 : Vec F S8x48x4096 .bf16) (X7 : Vec F S8x4096 .f32) (e : Fin 8) (k : Fin 36) (n : Fin 8) : Vec F S256x512 .f32 :=
  hTile (aAt X2 k) (wideAt X3 X4 e n) (wideAt X5 X6 e n) (X0 (ix1 e)) (X1 (ix1 e)) (rowOf (pAt X7 n) e)

/-- What a step of expert `e` on the rows `lo` to `hi` leaves in the output window, by its cells. -/
theorem out_at {e t : Nat} (lo hi : Nat) (he : e < 8) (ht : t ≤ 35) (hlo : lo ≤ 9216) (hhi : hi ≤ 9216) (h0 : e = 0 → lo = 0) (st : BitVec 32)
    (hst : e ≠ 0 → st = BitVec.ofNat 32 lo) (h : FVec F S256x512 .f32) (old : Vec F S256x512 .fp8e4m3)
    (p : Fin 256) (q : Fin 512) :
    outTile (BitVec.ofNat 32 e) (BitVec.ofNat 32 t) st (BitVec.ofNat 32 hi) h old (ix2 p q)
      = FloatOps.truncf .fp8e4m3 bitsLt_fp8e4m3_f32 (if lo ≤ 256 * t + p.val ∧ 256 * t + p.val < hi then h (ix2 p q)
          else FloatOps.extf .f32 bitsLt_fp8e4m3_f32 (old (ix2 p q))) := by
  show FloatOps.truncf .fp8e4m3 bitsLt_fp8e4m3_f32 (if keepTile (BitVec.ofNat 32 e) (BitVec.ofNat 32 t) st (BitVec.ofNat 32 hi) (ix2 p q) = 1#1 then _ else _) = _
  congr 1
  rw [keep_at lo hi he ht hlo hhi h0 st hst]
  by_cases hc : lo ≤ 256 * t + p.val ∧ 256 * t + p.val < hi
  · rw [if_pos hc, if_pos hc, if_pos rfl]
  · rw [if_neg hc, if_neg hc, if_neg (by decide)]
    rfl

end Cert.Up.Gate
-- ==== Proof.UStepRun.lean ====
/- One step of the kernel's body, run: what it leaves in the output window and in the scratch. -/
module

public import proofs.«01_k».proof.Proof.UBody
public import proofs.«01_k».proof.Proof.UWide
public import proofs.«01_k».proof.Proof.UStep

@[expose] public section

set_option maxRecDepth 4000

noncomputable section

namespace Cert.Up.Gate

open Cert.Up Cert.Up.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- The tables' memrefs and the two scratches'. -/
abbrev mE : Memref sig .tc .smem S43 .i32 := Memref.whole main_v21
abbrev mT : Memref sig .tc .smem S43 .i32 := Memref.whole main_v40
abbrev mS : Memref sig .tc .smem S8 .i32 := Memref.whole main_v0
abbrev mW : Memref sig .tc .vmem S6144x512 .bf16 := Memref.whole cc0_scratch0
abbrev mU : Memref sig .tc .vmem S6144x512 .bf16 := Memref.whole cc0_scratch1

variable {pf : pre0.Contents (Elt F)} {γ : Nat → Nat} (P : Plan pf γ)
include P

section
variable (c : Dev nD) {s : Nat} (hs : s < steps γ)
include hs

theorem lt43 : s < 43 := Nat.lt_of_lt_of_le hs (steps_lt P)

theorem word_expert (h) : w43 c mE (pf 1) (k0_off2 (BitVec.ofNat 32 s)) h = BitVec.ofNat 32 (expertOf γ s) := by
  exact (w43_at c mE (pf 1) _ h (lt43 P hs) (off_step (lt43 P hs))).trans (P.expert _)
theorem word_expert6 (h) : w43 c mE (pf 1) (k0_off6 (BitVec.ofNat 32 s)) h = BitVec.ofNat 32 (expertOf γ s) := by
  exact (w43_at c mE (pf 1) _ h (lt43 P hs) (off_step6 (lt43 P hs))).trans (P.expert _)
theorem word_back (h) : w43 c mE (pf 1) (k0_off3 (BitVec.ofNat 32 s)) h = BitVec.ofNat 32 (expertOf γ (s - 1)) := by
  have := lt43 P hs
  exact (w43_at c mE (pf 1) _ h (n := s - 1) (by omega) (off_back (lt43 P hs))).trans (P.expert _)
theorem word_tile (h) : w43 c mT (pf 2) (k0_off6 (BitVec.ofNat 32 s)) h = BitVec.ofNat 32 (tileOf γ s) := by
  exact (w43_at c mT (pf 2) _ h (lt43 P hs) (off_step6 (lt43 P hs))).trans (P.tile _)
omit hs in
theorem word_end {e : BitVec 32} (he : e = BitVec.ofNat 32 (expertOf γ s)) (h) :
    w8 c mS (pf 3) (k0_off8 e) h = BitVec.ofNat 32 (pre γ (expertOf γ s + 1)) := by
  subst he
  exact (w8_at c mS (pf 3) _ h (expert_lt P s) (off_group8 (expert_lt P s))).trans (P.ends _)
omit hs in
theorem word_start {e : BitVec 32} (he : e = BitVec.ofNat 32 (expertOf γ s)) (h0 : expertOf γ s ≠ 0) (h) :
    w8 c mS (pf 3) (k0_off7 e) h = BitVec.ofNat 32 (pre γ (expertOf γ s)) := by
  subst he
  have h8 := expert_lt P s
  refine ((w8_at c mS (pf 3) _ h (n := expertOf γ s - 1) (by omega) (off_group_back (expert_lt P s))).trans (P.ends _)).trans ?_
  show BitVec.ofNat 32 (pre γ (expertOf γ s - 1 + 1)) = _
  rw [Nat.sub_add_cancel (by omega)]
omit P hs in
theorem word_act (M5 : Memref sig .tc .smem S8 .f32) (f5 : Bf (F := F) c M5) {e : BitVec 32} {k : Nat} (hk : k < 8) (he : e = BitVec.ofNat 32 k) (h) :
    w8 c M5 f5 (k0_off4 e) h = M5.view.read (Elt F) f5 (ix1 ⟨k, hk⟩) := by
  subst he
  exact w8_at c M5 f5 _ h hk (off_group hk)

end

/-- What a step leaves in the output window, by its cells. -/
def Cells (s : Nat) (a : Vec F S256x6144 .fp8e4m3) (w1 w3 : Vec F S6144x512 .bf16) (act1 act2 : Vec F S8 .f32) (pq : Vec F S8x512 .f32)
    (old new : Vec F S256x512 .fp8e4m3) : Prop :=
  ∀ (p : Fin 256) (q : Fin 512), new (ix2 p q)
    = FloatOps.truncf .fp8e4m3 bitsLt_fp8e4m3_f32
        (if pre γ (expertOf γ s) ≤ 256 * tileOf γ s + p.val ∧ 256 * tileOf γ s + p.val < pre γ (expertOf γ s + 1)
          then hTile a w1 w3 (act1 (ix1 ⟨expertOf γ s, slot_lt _ _⟩)) (act2 (ix1 ⟨expertOf γ s, slot_lt _ _⟩)) (rowOf pq ⟨expertOf γ s, slot_lt _ _⟩) (ix2 p q)
          else FloatOps.extf .f32 bitsLt_fp8e4m3_f32 (old (ix2 p q)))

theorem cells_of_out {s : Nat} (c : Dev nD) {x y st en : BitVec 32} (hx : x = BitVec.ofNat 32 (expertOf γ s)) (hy : y = BitVec.ofNat 32 (tileOf γ s))
    (hst : expertOf γ s ≠ 0 → st = BitVec.ofNat 32 (pre γ (expertOf γ s))) (hen : en = BitVec.ofNat 32 (pre γ (expertOf γ s + 1)))
    (a : Vec F S256x6144 .fp8e4m3) (w1 w3 : Vec F S6144x512 .bf16) (act1 act2 : Vec F S8 .f32) (pq : Vec F S8x512 .f32)
    {ac1 ac2 : F .f32} {pr : S1x512.Idx → F .f32} (ha1 : ac1 = act1 (ix1 ⟨expertOf γ s, slot_lt _ _⟩)) (ha2 : ac2 = act2 (ix1 ⟨expertOf γ s, slot_lt _ _⟩))
    (hp : pr = rowOf pq ⟨expertOf γ s, slot_lt _ _⟩) (old : Vec F S256x512 .fp8e4m3) :
    Cells (γ := γ) s a w1 w3 act1 act2 pq old (outTile x y st en (hTile a w1 w3 ac1 ac2 pr) old) := fun p q => by
  have h8 := expert_lt P s
  subst hx hy hen ha1 ha2 hp
  exact out_at (pre γ (expertOf γ s)) (pre γ (expertOf γ s + 1)) h8 (tile_le P s) (pre_le γ P.h8 (by omega)) (pre_le γ P.h8 (by omega))
    (fun h => by rw [h]; rfl) st hst _ old p q

set_option maxHeartbeats 1000000 in
/-- One step, from windows that hold these and scratches that hold the step's weights unless it widens them. -/
theorem step_run (c : Dev nD) (b : grid0.Bounds) (i : grid0.Static) {s : Nat} (hs : s < steps γ)
    (M5 : Memref sig .tc .smem S8 .f32) (h5 : M5.IsWhole)
    (M6 : Memref sig .tc .smem S8 .f32) (h6 : M6.IsWhole)
    (M7 : Memref sig .tc .vmem S256x6144 .fp8e4m3) (h7 : M7.IsWhole)
    (M8 : Memref sig .tc .vmem S1x3072x512 .i8) (h8 : M8.IsWhole)
    (M9 : Memref sig .tc .vmem S1x48x512 .bf16) (h9 : M9.IsWhole)
    (M10 : Memref sig .tc .vmem S1x3072x512 .i8) (h10 : M10.IsWhole)
    (M11 : Memref sig .tc .vmem S1x48x512 .bf16) (h11 : M11.IsWhole)
    (M12 : Memref sig .tc .vmem S8x512 .f32) (h12 : M12.IsWhole)
    (M13 : Memref sig .tc .vmem S256x512 .fp8e4m3) (h13 : M13.IsWhole)
    (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13)
    (f14 : Bf (F := F) c mW) (f15 : Bf (F := F) c mU)
    (hw : s ≠ 0 → expertOf γ s = expertOf γ (s - 1) → mW.view.read (Elt F) f14 = wide (M8.view.read (Elt F) f8) (M9.view.read (Elt F) f9))
    (hu : s ≠ 0 → expertOf γ s = expertOf γ (s - 1) → mU.view.read (Elt F) f15 = wide (M10.view.read (Elt F) f10) (M11.view.read (Elt F) f11))
    (hE : mE.IsWhole) (hT : mT.IsWhole) (hS : mS.IsWhole) (hW : mW.IsWhole) (hU : mU.IsWhole)
    (E : Set ℕ) (Q : PUnit → sProp 𝕄) :
    iprop(ptH c mE (pf 1) ∗ ptH c mT (pf 2) ∗ ptH c mS (pf 3) ∗ pt c M5 f5 ∗ pt c M6 f6 ∗ pt c M7 f7 ∗ pt c M8 f8 ∗ pt c M9 f9 ∗ pt c M10 f10 ∗ pt c M11 f11 ∗ pt c M12 f12 ∗ pt c M13 f13 ∗ pt c mW f14 ∗ pt c mU f15
        ∗ (iprop(ptH c mE (pf 1) ∗ ptH c mT (pf 2) ∗ ptH c mS (pf 3) ∗ pt c M5 f5 ∗ pt c M6 f6 ∗ pt c M7 f7 ∗ pt c M8 f8 ∗ pt c M9 f9 ∗ pt c M10 f10 ∗ pt c M11 f11 ∗ pt c M12 f12
              ∗ (∃ g13 : Bf (F := F) c M13, ⌜Cells (γ := γ) s (M7.view.read (Elt F) f7) (wide (M8.view.read (Elt F) f8) (M9.view.read (Elt F) f9)) (wide (M10.view.read (Elt F) f10) (M11.view.read (Elt F) f11)) (M5.view.read (Elt F) f5) (M6.view.read (Elt F) f6) (M12.view.read (Elt F) f12)
                    (M13.view.read (Elt F) f13) (M13.view.read (Elt F) g13)⌝ ∗ pt c M13 g13)
              ∗ (∃ g14 : Bf (F := F) c mW, ⌜mW.view.read (Elt F) g14 = wide (M8.view.read (Elt F) f8) (M9.view.read (Elt F) f9)⌝ ∗ pt c mW g14)
              ∗ (∃ g15 : Bf (F := F) c mU, ⌜mU.view.read (Elt F) g15 = wide (M10.view.read (Elt F) f10) (M11.view.read (Elt F) f11)⌝ ∗ pt c mU g15)) -∗ Q ⟨⟩))
      ⊢ wp frame (wpE (defs₀ (F := F)) Variants.none c none) E
          (cc0_gate_up b i (BitVec.ofNat 32 s) mE hE mT hT mS hS M5 h5 M6 h6 M7 h7 M8 h8 M9 h9 M10 h10 M11 h11 M12 h12 M13 h13 mW hW mU hU) Q := by
  have hc := chk1 (lt43 P hs)
  have e2 := word_expert P c hs hc.1
  have e3 := word_back P c hs hc.2.1
  have e6 := word_expert6 P c hs hc.2.2
  have hc2 : k0_chk2 (w43 c mE (pf 1) (k0_off2 (BitVec.ofNat 32 s)) hc.1) := e2 ▸ chk2 (expert_lt P s)
  have hc3 : k0_chk3 (w43 c mE (pf 1) (k0_off6 (BitVec.ofNat 32 s)) hc.2.2) := e6 ▸ chk3 (expert_lt P s)
  by_cases hn : k0_cond (BitVec.ofNat 32 s) (w43 c mE (pf 1) (k0_off2 (BitVec.ofNat 32 s)) hc.1) (w43 c mE (pf 1) (k0_off3 (BitVec.ofNat 32 s)) hc.2.1)
  · have ho := wide_out c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 hc hc2 hc3 hn
    have hs1 := wide_first c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 hc hc2 hc3 hn
    have hs3 := wide_second c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 hc hc2 hc3 hn
    have hcell := cells_of_out P c e6 (word_tile P c hs hc.2.2) (fun h => word_start P c e6 h (k0_off7_inb _ hc3)) (word_end P c e6 (k0_off8_inb _ hc3))
      (M7.view.read (Elt F) f7) (wide (M8.view.read (Elt F) f8) (M9.view.read (Elt F) f9)) (wide (M10.view.read (Elt F) f10) (M11.view.read (Elt F) f11)) (M5.view.read (Elt F) f5) (M6.view.read (Elt F) f6) (M12.view.read (Elt F) f12)
      (word_act c M5 f5 (expert_lt P s) e2 (k0_off4_inb _ hc2)) (word_act c M6 f6 (expert_lt P s) e2 (k0_off4_inb _ hc2))
      (pqRow_at c M12 f12 (k0_off5_inb _ hc2) (expert_lt P s) e2) (M13.view.read (Elt F) f13)
    rw [← ho] at hcell
    generalize hrun : wideRun c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 hc hc2 hc3 hn = W at *
    iintro ⟨HE, HT, HS, H5, H6, H7, H8, H9, H10, H11, H12, H13, HW, HU, Hk⟩
    iapply (W.2 f14 f15 E Q)
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HW]; · iexact HW
    isplitl [HU]; · iexact HU
    iintro ⟨HE, HT, HS, H5, H6, H7, H8, H9, H10, H11, H12, H13, HW, HU⟩
    iapply Hk
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; (· iexact H13); ipureintro; exact hcell
    isplitl [HW]
    · iexists _; isplitr; swap; (· iexact HW); ipureintro; exact hs1
    · iexists _; isplitr; swap; (· iexact HU); ipureintro; exact hs3
  · have hnn := hn
    rw [e2, e3, cond_iff (lt43 P hs) (expert_lt P s) (expert_lt P (s - 1))] at hnn
    have hw1 := hw (fun h => hnn (.inl h)) (Classical.byContradiction fun h => hnn (.inr h))
    have hw3 := hu (fun h => hnn (.inl h)) (Classical.byContradiction fun h => hnn (.inr h))
    have ho := keep_out c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 f14 f15 hc hc2 hc3 hn
    rw [hw1, hw3] at ho
    have hcell := cells_of_out P c e6 (word_tile P c hs hc.2.2) (fun h => word_start P c e6 h (k0_off7_inb _ hc3)) (word_end P c e6 (k0_off8_inb _ hc3))
      (M7.view.read (Elt F) f7) (wide (M8.view.read (Elt F) f8) (M9.view.read (Elt F) f9)) (wide (M10.view.read (Elt F) f10) (M11.view.read (Elt F) f11)) (M5.view.read (Elt F) f5) (M6.view.read (Elt F) f6) (M12.view.read (Elt F) f12)
      (word_act c M5 f5 (expert_lt P s) e2 (k0_off4_inb _ hc2)) (word_act c M6 f6 (expert_lt P s) e2 (k0_off4_inb _ hc2))
      (pqRow_at c M12 f12 (k0_off5_inb _ hc2) (expert_lt P s) e2) (M13.view.read (Elt F) f13)
    rw [← ho] at hcell
    generalize hrun : keepRun c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 f14 f15 hc hc2 hc3 hn = W at *
    iintro ⟨HE, HT, HS, H5, H6, H7, H8, H9, H10, H11, H12, H13, HW, HU, Hk⟩
    iapply (W.2 E Q)
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HW]; · iexact HW
    isplitl [HU]; · iexact HU
    iintro ⟨HE, HT, HS, H5, H6, H7, H8, H9, H10, H11, H12, H13, HW, HU⟩
    iapply Hk
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; (· iexact H13); ipureintro; exact hcell
    isplitl [HW]
    · iexists _; isplitr; swap; (· iexact HW); ipureintro; exact hw1
    · iexists _; isplitr; swap; (· iexact HU); ipureintro; exact hw3

end Cert.Up.Gate
-- ==== Proof.UDat.lean ====
/- The pipeline's proof data of the gated projection: what each step leaves in the output window, the scratch carried from step to
   step, and the body's obligation. -/
module

public import proofs.«01_k».proof.Proof.UStepRun
public import proofs.«01_k».proof.Proof.Gen.Up.Skeleton
public import Idealize.ShloMosaic.Lib.Pipeline.Frame
public import Idealize.ShloMosaic.Lib.Pipeline.FrameBody

@[expose] public section

set_option maxRecDepth 4000

noncomputable section

namespace Cert.Up.Gate

open Cert.Up Cert.Up.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

instance : ∀ e, Nonempty (Elt F e) := fun _ => inferInstance

variable {pf : pre0.Contents (Elt F)} {γ : Nat → Nat} (P : Plan pf γ)

/-- The tables as the region's parameter. -/
def adm : (p : Fin 1) → (pcfgs (F := F) p).Adm := fun _ => ⟨pf, ok_of_plan P⟩

/-- The pipeline at such tables. -/
abbrev cfgP : Pipeline.Cfg sig Λ₀ := Pipeline.pin (pcfgs (F := F)) (adm P) 0

variable (V : (c : Dev nD) → (b : Ref sig .tc) → Buf (Elt F) ((c.tc : Thread nD τ).loc b)) (c : Dev nD)

abbrev X0 : Vec F S8 .f32 := V c main_arg1
abbrev X1 : Vec F S8 .f32 := V c main_arg2
abbrev X2 : Vec F S9216x6144 .fp8e4m3 := V c main_arg3
abbrev X3 : Vec F S8x3072x4096 .i8 := V c main_arg4
abbrev X4 : Vec F S8x48x4096 .bf16 := V c main_arg5
abbrev X5 : Vec F S8x3072x4096 .i8 := V c main_arg6
abbrev X6 : Vec F S8x48x4096 .bf16 := V c main_arg7
abbrev X7 : Vec F S8x4096 .f32 := V c main_arg8

/-- A step's expert, row block and column block as bounded numbers. -/
def eF (γ : Nat → Nat) (s : Nat) : Fin 8 := ⟨expertOf γ s, slot_lt _ _⟩
def kF (γ : Nat → Nat) (s : Nat) : Fin 36 := ⟨tileOf γ s, Nat.lt_succ_of_le (Nat.min_le_right _ _)⟩
def nF (n : Nat) : Fin 8 := ⟨n % 8, Nat.mod_lt _ (by decide)⟩

/-- What the step at point `t` leaves in the output window it found at `Y`. -/
def Leave (γ : Nat → Nat) (t : Nat) (Y X : Vec F S256x512 .fp8e4m3) : Prop :=
  Cells (γ := γ) (t % steps γ) (aAt (X2 V c) (kF γ (t % steps γ))) (wideAt (X3 V c) (X4 V c) (eF γ (t % steps γ)) (nF (t / steps γ)))
    (wideAt (X5 V c) (X6 V c) (eF γ (t % steps γ)) (nF (t / steps γ))) (X0 V c) (X1 V c) (pAt (X7 V c) (nF (t / steps γ))) Y X

/-- The step count's memref. -/
abbrev mN : Memref sig .tc .smem S_ .i32 := Memref.whole main_v42

/-- Before point `t`: the scratches hold the widened weights of the step before, except at a first step; the tables and the register. -/
def Inv (pf : pre0.Contents (Elt F)) (γ : Nat → Nat) (t : Nat) : sProp 𝕄 :=
  iprop((∃ f : Bf (F := F) c mW, ⌜t % steps γ ≠ 0 → mW.view.read (Elt F) f = wideAt (X3 V c) (X4 V c) (eF γ (t % steps γ - 1)) (nF (t / steps γ))⌝ ∗ pt c mW f)
    ∗ (∃ f : Bf (F := F) c mU, ⌜t % steps γ ≠ 0 → mU.view.read (Elt F) f = wideAt (X5 V c) (X6 V c) (eF γ (t % steps γ - 1)) (nF (t / steps γ))⌝ ∗ pt c mU f)
    ∗ (∃ r, prngReg c r)
    ∗ ptH c mN (pf 0)
    ∗ ptH c mE (pf 1) ∗ ptH c mT (pf 2) ∗ ptH c mS (pf 3))

/-- The proof data on core `c`. -/
def rdat : RDat τ (Elt F) Unit ℕ (UR nD τ) ℕ (cfgP P) c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => Leave V c γ t.val Y X
  Φ t := Inv V c pf γ t.val
  q _ := fullShare
  owed _ := 0

/-- A memref that is its whole buffer, owned. -/
theorem owns_pt {sp : Space} {S : Shape} {e : EltTy} (M : Memref sig .tc sp S e) (h : M.IsWhole) (X : S.Idx → Elt F e) :
    (owns (c.tc : Thread nD τ) M fullShare X : sProp 𝕄) = iprop(∃ f : Bf (F := F) c M, ⌜M.view.read (Elt F) f = X⌝ ∗ pt c M f) := by
  unfold owns; rw [Memref.IsWhole.set_eq_univ h]

theorem point_lt (t : Fin (cfgP P).N) : t.val < 8 * steps γ := t.isLt.trans_eq (grid_N P)
include P in
theorem mod_lt (t : Nat) : t % steps γ < steps γ := Nat.mod_lt _ (steps_pos γ P.h8)
theorem div_lt (t : Fin (cfgP P).N) : t.val / steps γ < 8 := Nat.div_lt_of_lt_mul (by rw [Nat.mul_comm]; exact point_lt P t)

/-! ## What the input windows hold -/

/-- A whole array as its one block. -/
theorem block1 (j i : S8.Idx) (h : (i 0).val = 0 * 8 + 1 * (j 0).val) : i = j := by
  refine funext fun (a : Fin 1) => Fin.ext ?_
  obtain rfl := Fin.fin_one_eq_zero a
  omega

/-- The position within an array of weights or scales of an element of a block. -/
theorem block3 {K : Nat} {x : Fin 3 → Nat} {e n : Fin 8} (hx : x = ![e.val, 0, n.val]) (j : (⟨3, ![1, K, 512]⟩ : Shape).Idx)
    (i : (⟨3, ![8, K, 4096]⟩ : Shape).Idx) (h : ∀ a, (i a).val = x a * (⟨3, ![1, K, 512]⟩ : Shape).size a + 1 * (j a).val) :
    i = ix3 e (j 1) ⟨512 * n.val + (j 2).val, by have h : (j 2).val < 512 := (j 2).isLt; have := n.isLt; omega⟩ := by
  subst hx
  refine funext fun a => Fin.ext ((h a).trans ?_)
  match a with
  | ⟨0, _⟩ => have hj : (j 0).val < 1 := (j 0).isLt; show e.val * 1 + 1 * (j 0).val = e.val; omega
  | ⟨1, _⟩ => show 0 * K + 1 * (j 1).val = (j 1).val; omega
  | ⟨2, _⟩ => show n.val * 512 + 1 * (j 2).val = 512 * n.val + (j 2).val; omega

theorem at_point (t : Fin (cfgP P).N) :
    (![expertOf γ (((grid0.at (dynb0 pf)).coords t) 1).val, 0, (((grid0.at (dynb0 pf)).coords t) 0).val] : Fin 3 → Nat)
      = ![(eF γ (t.val % steps γ)).val, 0, (nF (t.val / steps γ)).val] := by
  rw [coords_one P t, coords_zero P t]
  show _ = ![expertOf γ (t.val % steps γ), 0, (t.val / steps γ) % 8]
  rw [Nat.mod_eq_of_lt (div_lt P t)]

theorem finds0 (t : Fin (cfgP P).N) (Y) (h : (rdat P V c).Finds 0 t Y) : (Y : Vec F S8 .f32) = X0 V c := by
  obtain ⟨d, rfl⟩ := (rdat P V c).finds_in_eq_fetched 0 rfl (fun _ _ _ => rfl) (fun _ _ _ h => h) t Y h
  exact funext fun (j : S8.Idx) => congrArg (V c main_arg1) (block1 j _ rfl)

theorem finds1 (t : Fin (cfgP P).N) (Y) (h : (rdat P V c).Finds 1 t Y) : (Y : Vec F S8 .f32) = X1 V c := by
  obtain ⟨d, rfl⟩ := (rdat P V c).finds_in_eq_fetched 1 rfl (fun _ _ _ => rfl) (fun _ _ _ h => h) t Y h
  exact funext fun (j : S8.Idx) => congrArg (V c main_arg2) (block1 j _ rfl)

theorem finds2 (t : Fin (cfgP P).N) (Y) (h : (rdat P V c).Finds 2 t Y) : (Y : Vec F S256x6144 .fp8e4m3) = aAt (X2 V c) (kF γ (t.val % steps γ)) := by
  obtain ⟨d, rfl⟩ := (rdat P V c).finds_in_eq_fetched 2 rfl (fun _ _ _ => rfl) (fun _ _ _ h => h) t Y h
  have ht := trans2 P ((grid0.at (dynb0 pf)).coords t)
  have h1 := coords_one P t
  refine funext fun (j : S256x6144.Idx) => ?_
  show V c main_arg3 _ = V c main_arg3 _
  congr 1
  refine funext fun (a : Fin 2) => Fin.ext ?_
  match a with
  | ⟨0, _⟩ =>
    show cc0_transform_2 pf (dynb0 pf) ((grid0.at (dynb0 pf)).coords t) 0 * 256 + 1 * (j 0).val = 256 * tileOf γ (t.val % steps γ) + (j 0).val
    rw [ht, ← h1]; show tileOf γ _ * 256 + _ = _; omega
  | ⟨1, _⟩ =>
    show cc0_transform_2 pf (dynb0 pf) ((grid0.at (dynb0 pf)).coords t) 1 * 6144 + 1 * (j 1).val = (j 1).val
    rw [ht]; show 0 * 6144 + _ = _; omega

theorem finds3 (t : Fin (cfgP P).N) (Y) (h : (rdat P V c).Finds 3 t Y) :
    (Y : Vec F S1x3072x512 .i8) = wAt (X3 V c) (eF γ (t.val % steps γ)) (nF (t.val / steps γ)) := by
  obtain ⟨d, rfl⟩ := (rdat P V c).finds_in_eq_fetched 3 rfl (fun _ _ _ => rfl) (fun _ _ _ h => h) t Y h
  exact funext fun j => congrArg (V c main_arg4) (block3 ((trans3 P _).trans (at_point P t)) j _ (fun _ => rfl))

theorem finds4 (t : Fin (cfgP P).N) (Y) (h : (rdat P V c).Finds 4 t Y) :
    (Y : Vec F S1x48x512 .bf16) = uAt (X4 V c) (eF γ (t.val % steps γ)) (nF (t.val / steps γ)) := by
  obtain ⟨d, rfl⟩ := (rdat P V c).finds_in_eq_fetched 4 rfl (fun _ _ _ => rfl) (fun _ _ _ h => h) t Y h
  exact funext fun j => congrArg (V c main_arg5) (block3 ((trans4 P _).trans (at_point P t)) j _ (fun _ => rfl))

theorem finds5 (t : Fin (cfgP P).N) (Y) (h : (rdat P V c).Finds 5 t Y) :
    (Y : Vec F S1x3072x512 .i8) = wAt (X5 V c) (eF γ (t.val % steps γ)) (nF (t.val / steps γ)) := by
  obtain ⟨d, rfl⟩ := (rdat P V c).finds_in_eq_fetched 5 rfl (fun _ _ _ => rfl) (fun _ _ _ h => h) t Y h
  exact funext fun j => congrArg (V c main_arg6) (block3 ((trans5 P _).trans (at_point P t)) j _ (fun _ => rfl))

theorem finds6 (t : Fin (cfgP P).N) (Y) (h : (rdat P V c).Finds 6 t Y) :
    (Y : Vec F S1x48x512 .bf16) = uAt (X6 V c) (eF γ (t.val % steps γ)) (nF (t.val / steps γ)) := by
  obtain ⟨d, rfl⟩ := (rdat P V c).finds_in_eq_fetched 6 rfl (fun _ _ _ => rfl) (fun _ _ _ h => h) t Y h
  exact funext fun j => congrArg (V c main_arg7) (block3 ((trans6 P _).trans (at_point P t)) j _ (fun _ => rfl))

theorem finds7 (t : Fin (cfgP P).N) (Y) (h : (rdat P V c).Finds 7 t Y) : (Y : Vec F S8x512 .f32) = pAt (X7 V c) (nF (t.val / steps γ)) := by
  obtain ⟨d, rfl⟩ := (rdat P V c).finds_in_eq_fetched 7 rfl (fun _ _ _ => rfl) (fun _ _ _ h => h) t Y h
  have ht := trans7 P ((grid0.at (dynb0 pf)).coords t)
  have h0 := coords_zero P t
  have hn := div_lt P t
  refine funext fun (j : S8x512.Idx) => ?_
  show V c main_arg8 _ = V c main_arg8 _
  congr 1
  refine funext fun (a : Fin 2) => Fin.ext ?_
  match a with
  | ⟨0, _⟩ =>
    show cc0_transform_7 (dynb0 pf) ((grid0.at (dynb0 pf)).coords t) 0 * 8 + 1 * (j 0).val = (j 0).val
    rw [ht]; show 0 * 8 + _ = _; omega
  | ⟨1, _⟩ =>
    show cc0_transform_7 (dynb0 pf) ((grid0.at (dynb0 pf)).coords t) 1 * 512 + 1 * (j 1).val = 512 * ((t.val / steps γ) % 8) + (j 1).val
    rw [ht, Nat.mod_eq_of_lt hn, ← h0]; show ((grid0.at (dynb0 pf)).coords t 0).val * 512 + _ = _; omega

/-! ## The body's obligation -/

theorem succ_mod {n t : Nat} (h : (t + 1) % n ≠ 0) : (t + 1) % n - 1 = t % n ∧ (t + 1) / n = t / n := by
  rcases Nat.eq_zero_or_pos n with rfl | hn
  · simp
  have h1 := Nat.div_add_mod t n
  have h2 := Nat.mod_lt t hn
  by_cases hl : t % n + 1 < n
  · have e : t + 1 = (t % n + 1) + n * (t / n) := by omega
    rw [e, Nat.add_mul_mod_self_left, Nat.add_mul_div_left _ _ hn, Nat.mod_eq_of_lt hl, Nat.div_eq_of_lt hl]
    omega
  · exfalso; apply h
    have e : t + 1 = n * (t / n + 1) := by rw [Nat.mul_add]; omega
    rw [e, Nat.mul_mod_right]

theorem prev_mod {n t : Nat} (h : t % n ≠ 0) : t % n - 1 = (t - 1) % n ∧ t / n = (t - 1) / n := by
  obtain ⟨u, rfl⟩ : ∃ u, t = u + 1 := ⟨t - 1, by have : t ≠ 0 := fun h' => h (by subst h'; exact Nat.zero_mod n); omega⟩
  exact succ_mod h

theorem defs_tc : (defs₀ (F := F)) .tc (cfgP P).body
    = fun a => cc0_gate_up a.1 (Pipeline.Grid.Coords.static grid0 a.2.1) (BitVec.ofNat 32 (a.2.1 1).val) mE (Memref.isWhole_whole _) mT (Memref.isWhole_whole _)
        mS (Memref.isWhole_whole _) (spec0_0.stage (a.2.2 0)) (hstage0_0 ((a.2.2 0).cast nbuf0_0)) (spec0_1.stage (a.2.2 1)) (hstage0_1 ((a.2.2 1).cast nbuf0_1)) (spec0_2.stage (a.2.2 2)) (hstage0_2 ((a.2.2 2).cast nbuf0_2)) (spec0_3.stage (a.2.2 3)) (hstage0_3 ((a.2.2 3).cast nbuf0_3)) (spec0_4.stage (a.2.2 4)) (hstage0_4 ((a.2.2 4).cast nbuf0_4)) (spec0_5.stage (a.2.2 5)) (hstage0_5 ((a.2.2 5).cast nbuf0_5)) (spec0_6.stage (a.2.2 6)) (hstage0_6 ((a.2.2 6).cast nbuf0_6)) (spec0_7.stage (a.2.2 7)) (hstage0_7 ((a.2.2 7).cast nbuf0_7)) (spec0_8.stage (a.2.2 8)) (hstage0_8 ((a.2.2 8).cast nbuf0_8))
        mW (Memref.isWhole_whole _) mU (Memref.isWhole_whole _) := rfl

end Cert.Up.Gate
-- ==== Proof.UOblig.lean ====
/- The body's obligation: every step, at every point, does to the windows and the scratch what the proof data say. -/
module

public import proofs.«01_k».proof.Proof.UDat

@[expose] public section

set_option maxRecDepth 4000

noncomputable section

namespace Cert.Up.Gate

open Cert.Up Cert.Up.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

variable {pf : pre0.Contents (Elt F)} {γ : Nat → Nat} (P : Plan pf γ)
variable (V : (c : Dev nD) → (b : Ref sig .tc) → Buf (Elt F) ((c.tc : Thread nD τ).loc b)) (c : Dev nD)

/-- The windows' current staging memrefs at a point. -/
abbrev s0 (t : Fin (cfgP P).N) : Memref sig .tc .smem S8 .f32 := spec0_0.stage ((cfgP P).slots t 0)
abbrev s1 (t : Fin (cfgP P).N) : Memref sig .tc .smem S8 .f32 := spec0_1.stage ((cfgP P).slots t 1)
abbrev s2 (t : Fin (cfgP P).N) : Memref sig .tc .vmem S256x6144 .fp8e4m3 := spec0_2.stage ((cfgP P).slots t 2)
abbrev s3 (t : Fin (cfgP P).N) : Memref sig .tc .vmem S1x3072x512 .i8 := spec0_3.stage ((cfgP P).slots t 3)
abbrev s4 (t : Fin (cfgP P).N) : Memref sig .tc .vmem S1x48x512 .bf16 := spec0_4.stage ((cfgP P).slots t 4)
abbrev s5 (t : Fin (cfgP P).N) : Memref sig .tc .vmem S1x3072x512 .i8 := spec0_5.stage ((cfgP P).slots t 5)
abbrev s6 (t : Fin (cfgP P).N) : Memref sig .tc .vmem S1x48x512 .bf16 := spec0_6.stage ((cfgP P).slots t 6)
abbrev s7 (t : Fin (cfgP P).N) : Memref sig .tc .vmem S8x512 .f32 := spec0_7.stage ((cfgP P).slots t 7)
abbrev s8 (t : Fin (cfgP P).N) : Memref sig .tc .vmem S256x512 .fp8e4m3 := spec0_8.stage ((cfgP P).slots t 8)

theorem prog_eq (t : Fin (cfgP P).N) :
    (defs₀ (F := F)) .tc (cfgP P).body ((cfgP P).bodyArgs t ((cfgP P).slots t))
      = cc0_gate_up (dynb0 pf) (Pipeline.Grid.Coords.static grid0 ((grid0.at (dynb0 pf)).coords t)) (BitVec.ofNat 32 (t.val % steps γ))
          mE (Memref.isWhole_whole _) mT (Memref.isWhole_whole _) mS (Memref.isWhole_whole _)
          (s0 P t) (hstage0_0 (((cfgP P).slots t 0).cast nbuf0_0))
          (s1 P t) (hstage0_1 (((cfgP P).slots t 1).cast nbuf0_1))
          (s2 P t) (hstage0_2 (((cfgP P).slots t 2).cast nbuf0_2))
          (s3 P t) (hstage0_3 (((cfgP P).slots t 3).cast nbuf0_3))
          (s4 P t) (hstage0_4 (((cfgP P).slots t 4).cast nbuf0_4))
          (s5 P t) (hstage0_5 (((cfgP P).slots t 5).cast nbuf0_5))
          (s6 P t) (hstage0_6 (((cfgP P).slots t 6).cast nbuf0_6))
          (s7 P t) (hstage0_7 (((cfgP P).slots t 7).cast nbuf0_7))
          (s8 P t) (hstage0_8 (((cfgP P).slots t 8).cast nbuf0_8))
          mW (Memref.isWhole_whole _) mU (Memref.isWhole_whole _) := by
  rw [← coords_one P t]
  exact (congrFun (defs_tc P) _).trans rfl

/-- A scratch at a step that repeats the step before's expert. -/
theorem scratch_kept (X : Vec F S8x3072x4096 .i8) (Z : Vec F S8x48x4096 .bf16) (t : Nat) (he : expertOf γ (t % steps γ) = expertOf γ (t % steps γ - 1)) :
    wideAt X Z (eF γ (t % steps γ - 1)) (nF (t / steps γ)) = wideAt X Z (eF γ (t % steps γ)) (nF (t / steps γ)) := by
  congr 1
  exact Fin.ext he.symm

set_option maxHeartbeats 2000000 in
set_option backward.isDefEq.respectTransparency.types false in
theorem body_obligation : (rdat P V c).BodyObligation (defs₀ (F := F)) Variants.none () Set.univ := fun t Y hY => by
  have y0 := finds0 P V c t (Y 0) (hY 0)
  have y1 := finds1 P V c t (Y 1) (hY 1)
  have y2 := finds2 P V c t (Y 2) (hY 2)
  have y3 := finds3 P V c t (Y 3) (hY 3)
  have y4 := finds4 P V c t (Y 4) (hY 4)
  have y5 := finds5 P V c t (Y 5) (hY 5)
  have y6 := finds6 P V c t (Y 6) (hY 6)
  have y7 := finds7 P V c t (Y 7) (hY 7)
  have hs := mod_lt P t.val
  rw [bigSep_W0, bigSep_W0]
  rw [show (rdat P V c).Φ t.castSucc = Inv V c pf γ t.val from rfl, show (rdat P V c).Φ t.succ = Inv V c pf γ (t.val + 1) from rfl]
  unfold RDat.owesAt Pipeline.owesWithin
  rw [show (rdat P V c).owed t.castSucc = 0 from rfl, show (rdat P V c).owed t.succ = 0 from rfl]
  rw [prog_eq P t]
  show iprop(_ ∗ _ ∗ owns (c.tc : Thread nD τ) (s0 P t) fullShare (Y 0 : Vec F S8 .f32)
      ∗ owns (c.tc : Thread nD τ) (s1 P t) fullShare (Y 1 : Vec F S8 .f32)
      ∗ owns (c.tc : Thread nD τ) (s2 P t) fullShare (Y 2 : Vec F S256x6144 .fp8e4m3)
      ∗ owns (c.tc : Thread nD τ) (s3 P t) fullShare (Y 3 : Vec F S1x3072x512 .i8)
      ∗ owns (c.tc : Thread nD τ) (s4 P t) fullShare (Y 4 : Vec F S1x48x512 .bf16)
      ∗ owns (c.tc : Thread nD τ) (s5 P t) fullShare (Y 5 : Vec F S1x3072x512 .i8)
      ∗ owns (c.tc : Thread nD τ) (s6 P t) fullShare (Y 6 : Vec F S1x48x512 .bf16)
      ∗ owns (c.tc : Thread nD τ) (s7 P t) fullShare (Y 7 : Vec F S8x512 .f32)
      ∗ owns (c.tc : Thread nD τ) (s8 P t) fullShare (Y 8 : Vec F S256x512 .fp8e4m3))
    ⊢ wp _ _ _ _ fun _ => iprop(_ ∗ _ ∗ (∃ X : Vec F S8 .f32, ⌜X = Y 0⌝ ∗ owns (c.tc : Thread nD τ) (s0 P t) fullShare X)
      ∗ (∃ X : Vec F S8 .f32, ⌜X = Y 1⌝ ∗ owns (c.tc : Thread nD τ) (s1 P t) fullShare X)
      ∗ (∃ X : Vec F S256x6144 .fp8e4m3, ⌜X = Y 2⌝ ∗ owns (c.tc : Thread nD τ) (s2 P t) fullShare X)
      ∗ (∃ X : Vec F S1x3072x512 .i8, ⌜X = Y 3⌝ ∗ owns (c.tc : Thread nD τ) (s3 P t) fullShare X)
      ∗ (∃ X : Vec F S1x48x512 .bf16, ⌜X = Y 4⌝ ∗ owns (c.tc : Thread nD τ) (s4 P t) fullShare X)
      ∗ (∃ X : Vec F S1x3072x512 .i8, ⌜X = Y 5⌝ ∗ owns (c.tc : Thread nD τ) (s5 P t) fullShare X)
      ∗ (∃ X : Vec F S1x48x512 .bf16, ⌜X = Y 6⌝ ∗ owns (c.tc : Thread nD τ) (s6 P t) fullShare X)
      ∗ (∃ X : Vec F S8x512 .f32, ⌜X = Y 7⌝ ∗ owns (c.tc : Thread nD τ) (s7 P t) fullShare X)
      ∗ (∃ X : Vec F S256x512 .fp8e4m3, ⌜Leave V c γ t.val (Y 8) X⌝ ∗ owns (c.tc : Thread nD τ) (s8 P t) fullShare X))
  simp only [owns_pt c (s0 P t) (hstage0_0 (((cfgP P).slots t 0).cast nbuf0_0)),
    owns_pt c (s1 P t) (hstage0_1 (((cfgP P).slots t 1).cast nbuf0_1)),
    owns_pt c (s2 P t) (hstage0_2 (((cfgP P).slots t 2).cast nbuf0_2)),
    owns_pt c (s3 P t) (hstage0_3 (((cfgP P).slots t 3).cast nbuf0_3)),
    owns_pt c (s4 P t) (hstage0_4 (((cfgP P).slots t 4).cast nbuf0_4)),
    owns_pt c (s5 P t) (hstage0_5 (((cfgP P).slots t 5).cast nbuf0_5)),
    owns_pt c (s6 P t) (hstage0_6 (((cfgP P).slots t 6).cast nbuf0_6)),
    owns_pt c (s7 P t) (hstage0_7 (((cfgP P).slots t 7).cast nbuf0_7)),
    owns_pt c (s8 P t) (hstage0_8 (((cfgP P).slots t 8).cast nbuf0_8))]
  unfold Inv
  iintro ⟨⟨⟨%f14, %h14, HW⟩, ⟨%f15, %h15, HU⟩, Hg, HN, HE, HT, HS⟩, ⟨%W, -, HO⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
  have hw1 : wide ((s3 P t).view.read (Elt F) f3) ((s4 P t).view.read (Elt F) f4) = wideAt (X3 V c) (X4 V c) (eF γ (t.val % steps γ)) (nF (t.val / steps γ)) := by
    unfold wideAt; rw [e3, e4]; exact congrArg₂ wide y3 y4
  have hw3 : wide ((s5 P t).view.read (Elt F) f5) ((s6 P t).view.read (Elt F) f6) = wideAt (X5 V c) (X6 V c) (eF γ (t.val % steps γ)) (nF (t.val / steps γ)) := by
    unfold wideAt; rw [e5, e6]; exact congrArg₂ wide y5 y6
  iapply (step_run P c (dynb0 pf) (Pipeline.Grid.Coords.static grid0 ((grid0.at (dynb0 pf)).coords t)) hs (s0 P t) _ (s1 P t) _ (s2 P t) _ (s3 P t) _ (s4 P t) _ (s5 P t) _ (s6 P t) _ (s7 P t) _ (s8 P t) _
    f0 f1 f2 f3 f4 f5 f6 f7 f8 f14 f15
    (fun h he => (h14 h).trans ((scratch_kept (X3 V c) (X4 V c) t.val he).trans hw1.symm))
    (fun h he => (h15 h).trans ((scratch_kept (X5 V c) (X6 V c) t.val he).trans hw3.symm)) _ _ _ _ _ Set.univ _)
  isplitl [HE]; · iexact HE
  isplitl [HT]; · iexact HT
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  isplitl [HU]; · iexact HU
  iintro ⟨HE, HT, HS, H0, H1, H2, H3, H4, H5, H6, H7, ⟨%g8, %k8, H8⟩, ⟨%g14, %k14, HW⟩, ⟨%g15, %k15, HU⟩⟩
  isplitl [HW HU Hg HN HE HT HS]
  · isplitl [HW]
    · iexists g14
      isplitr; swap; (· iexact HW)
      ipureintro
      intro h
      obtain ⟨a1, a2⟩ := succ_mod h
      rw [a1, a2]
      exact k14.trans hw1
    isplitl [HU]
    · iexists g15
      isplitr; swap; (· iexact HU)
      ipureintro
      intro h
      obtain ⟨a1, a2⟩ := succ_mod h
      rw [a1, a2]
      exact k15.trans hw3
    isplitl [Hg]; · iexact Hg
    isplitl [HN]; · iexact HN
    isplitl [HE]; · iexact HE
    isplitl [HT]; · iexact HT
    iexact HS
  isplitl [HO]
  · iexists W; isplitr; · ipureintro; exact fun _ _ => Or.inl trivial
    iexact HO
  isplitl [H0]
  · iexists (Y 0); isplitr; · ipureintro; rfl
    iexists f0; isplitr; (· ipureintro; exact e0); iexact H0
  isplitl [H1]
  · iexists (Y 1); isplitr; · ipureintro; rfl
    iexists f1; isplitr; (· ipureintro; exact e1); iexact H1
  isplitl [H2]
  · iexists (Y 2); isplitr; · ipureintro; rfl
    iexists f2; isplitr; (· ipureintro; exact e2); iexact H2
  isplitl [H3]
  · iexists (Y 3); isplitr; · ipureintro; rfl
    iexists f3; isplitr; (· ipureintro; exact e3); iexact H3
  isplitl [H4]
  · iexists (Y 4); isplitr; · ipureintro; rfl
    iexists f4; isplitr; (· ipureintro; exact e4); iexact H4
  isplitl [H5]
  · iexists (Y 5); isplitr; · ipureintro; rfl
    iexists f5; isplitr; (· ipureintro; exact e5); iexact H5
  isplitl [H6]
  · iexists (Y 6); isplitr; · ipureintro; rfl
    iexists f6; isplitr; (· ipureintro; exact e6); iexact H6
  isplitl [H7]
  · iexists (Y 7); isplitr; · ipureintro; rfl
    iexists f7; isplitr; (· ipureintro; exact e7); iexact H7
  · iexists ((s8 P t).view.read (Elt F) g8); isplitr
    · ipureintro
      have := k8
      rw [hw1, hw3, e2, e0, e1, e7, e8] at this
      show Cells (γ := γ) _ _ _ _ _ _ _ _ _
      rw [← y2, ← y0, ← y1, ← y7]
      exact this
    iexists g8; isplitr; (· ipureintro; rfl); iexact H8

end Cert.Up.Gate
-- ==== Proof.UTables.lean ====
/- What the host part leaves before the region: the work list's words in the four tables, and the arguments as launched. -/
module

public import proofs.«01_k».proof.Proof.Gen.Up
public import proofs.«01_k».proof.Proof.Gen.Up.Launch
public import proofs.«01_k».proof.Proof.WorkWords
public import Idealize.ShloMosaic.Lib.StableHlo.RunRead
meta import proofs.«01_k».proof.Proof.Gen.Up.Launch

@[expose] public section

set_option maxRecDepth 4000

noncomputable section

namespace Cert.Up.Gate

open Cert.Up Cert.Up.Gen
open Cert.Down
open Idealize.ShloMosaic Idealize.ShloMosaic.TcCoe Idealize.ShloMosaic.StableHlo
open Idealize.ShloMosaic.Routing (pyDiv)

variable {F : FTy → Type} [FloatOps F]

/-- The work list's side conditions, from the program's facts. -/
theorem sides : Sides :=
  ⟨bcast_S_S_, reduceWindows_S8_S8_w8s1p7_0, h_S_, bcast_S_S8, bcast_S_S43, bcast_S43_S43x1_0, slices_S8_S7_0, bcast_S7_S1x7_1,
    bcast_S43x1_S43x7_0_1, bcast_S1x7_S43x7_0_1, natLt_1_32, reducesTo_S43x7_S43_d1, slices_S8_S1_7, shapeCasts_S1_S_,
    gather_S8_S43x1_S43_n_0_n_n_0_1_1.wf⟩

/-- A buffer's reference on the TensorCore. -/
abbrev at_ (b : Ref sig .tc) : DevRef τ sig := Proc.devRef .tc b

variable (V : Valuation τ sig (Elt F))

theorem ops0_v0 : after hostOps0 V (Proc.devRef .tc main_v0) = cumW sides (V (Proc.devRef .tc main_arg0)) := by
  after_reads_simp; unfold cumW; congr 1
theorem ops1_v1 : after hostOps0_1 V (Proc.devRef .tc main_v1) = subi (V (Proc.devRef .tc main_v0)) (V (Proc.devRef .tc main_arg0)) := by
  after_reads_simp
theorem ops1_c : after hostOps0_1 V (Proc.devRef .tc main_c) = constantI S_ 32 256#32 := by
  after_reads_simp
theorem ops2_v2 : after hostOps0_2 V (Proc.devRef .tc main_v2) = pyDiv sides.bc8 (V (Proc.devRef .tc main_v1)) (V (Proc.devRef .tc main_c)) := by
  after_reads_simp; rfl
theorem ops3_v4 : after hostOps0_3 V (Proc.devRef .tc main_v4) = cmpi .sgt (V (Proc.devRef .tc main_arg0)) (c8 sides 0#32) := by
  after_reads_simp; rfl
theorem ops3_v6 : after hostOps0_3 V (Proc.devRef .tc main_v6) = subi (V (Proc.devRef .tc main_v0)) (c8 sides 1#32) := by
  after_reads_simp; rfl
theorem ops3_c : after hostOps0_3 V (Proc.devRef .tc main_c_2) = constantI S_ 32 256#32 := by
  after_reads_simp
theorem ops4_v7 : after hostOps0_4 V (Proc.devRef .tc main_v7) = pyDiv sides.bc8 (V (Proc.devRef .tc main_v6)) (V (Proc.devRef .tc main_c_2)) := by
  after_reads_simp; rfl
theorem ops5_v10 : after hostOps0_5 V (Proc.devRef .tc main_v10) = addi (subi (V (Proc.devRef .tc main_v7)) (V (Proc.devRef .tc main_v2))) (c8 sides 1#32) := by
  after_reads_simp; rfl
theorem ops5_c : after hostOps0_5 V (Proc.devRef .tc main_c_4) = constantI S_ 32 0#32 := by
  after_reads_simp
theorem ops6_v11 : after hostOps0_6 V (Proc.devRef .tc main_v11)
    = select (V (Proc.devRef .tc main_v4)) (V (Proc.devRef .tc main_v10)) (broadcastInDim S8 ![] bcast_S_S8 (V (Proc.devRef .tc main_c_4))) := by
  after_reads_simp; rfl
theorem ops7_v12 : after hostOps0_7 V (Proc.devRef .tc main_v12) = cumW sides (V (Proc.devRef .tc main_v11)) := by
  after_reads_simp; unfold cumW; congr 1

/-- The steps' experts from the groups' step ends. -/
def expertOn (te : IVec S8 32) : IVec S43 32 :=
  Host.reduce IntOp.addi (extui 32 (cmpi .sge
      (broadcastInDim S43x7 ![0, 1] bcast_S43x1_S43x7_0_1 (broadcastInDim S43x1 ![0] bcast_S43_S43x1_0 (iotaInDim S43 32 0)))
      (broadcastInDim S43x7 ![0, 1] bcast_S1x7_S43x7_0_1 (broadcastInDim S1x7 ![1] bcast_S7_S1x7_1 (extractStridedSlice S7 ![0] te slices_S8_S7_0)))) natLt_1_32)
    (constantI S_ 32 0#32) reducesTo_S43x7_S43_d1 h_S_
/-- Experts as take indices. -/
def pickOn (e : IVec S43 32) : IVec S43x1 32 :=
  broadcastInDim S43x1 ![0] bcast_S43_S43x1_0 (select (cmpi .slt e (c43 sides 0#32)) (addi e (c43 sides 8#32)) e)
/-- The steps' tiles from the groups' first tiles, numbers of tiles and step ends. -/
def tileOn (first num te : IVec S8 32) : IVec S43 32 :=
  minsi (subi (addi (Host.gather gather_S8_S43x1_S43_n_0_n_n_0_1_1 first (pickOn (expertOn te))) (iotaInDim S43 32 0))
    (Host.gather gather_S8_S43x1_S43_n_0_n_n_0_1_1 (subi te num) (pickOn (expertOn te)))) (c43 sides 35#32)

theorem ops8_v21 : after hostOps0_8 V (Proc.devRef .tc main_v21) = expertOn (V (Proc.devRef .tc main_v12)) := by
  after_reads_simp; rfl
theorem ops8_v40 : after hostOps0_8 V (Proc.devRef .tc main_v40) = tileOn (V (Proc.devRef .tc main_v2)) (V (Proc.devRef .tc main_v11)) (V (Proc.devRef .tc main_v12)) := by
  after_reads_simp; rfl
theorem ops8_v42 : after hostOps0_8 V (Proc.devRef .tc main_v42)
    = shapeCast S_ (extractStridedSlice S1 ![7] (V (Proc.devRef .tc main_v12)) slices_S8_S1_7) shapeCasts_S1_S_ := by
  after_reads_simp; rfl

theorem pass_1_v0 : after hostOps0_1 V (Proc.devRef .tc main_v0) = V (Proc.devRef .tc main_v0) := by after_reads_simp
theorem pass_2_v0 : after hostOps0_2 V (Proc.devRef .tc main_v0) = V (Proc.devRef .tc main_v0) := by after_reads_simp
theorem pass_3_v0 : after hostOps0_3 V (Proc.devRef .tc main_v0) = V (Proc.devRef .tc main_v0) := by after_reads_simp
theorem pass_4_v0 : after hostOps0_4 V (Proc.devRef .tc main_v0) = V (Proc.devRef .tc main_v0) := by after_reads_simp
theorem pass_5_v0 : after hostOps0_5 V (Proc.devRef .tc main_v0) = V (Proc.devRef .tc main_v0) := by after_reads_simp
theorem pass_6_v0 : after hostOps0_6 V (Proc.devRef .tc main_v0) = V (Proc.devRef .tc main_v0) := by after_reads_simp
theorem pass_7_v0 : after hostOps0_7 V (Proc.devRef .tc main_v0) = V (Proc.devRef .tc main_v0) := by after_reads_simp
theorem pass_8_v0 : after hostOps0_8 V (Proc.devRef .tc main_v0) = V (Proc.devRef .tc main_v0) := by after_reads_simp
theorem pass_3_v2 : after hostOps0_3 V (Proc.devRef .tc main_v2) = V (Proc.devRef .tc main_v2) := by after_reads_simp
theorem pass_4_v2 : after hostOps0_4 V (Proc.devRef .tc main_v2) = V (Proc.devRef .tc main_v2) := by after_reads_simp
theorem pass_5_v2 : after hostOps0_5 V (Proc.devRef .tc main_v2) = V (Proc.devRef .tc main_v2) := by after_reads_simp
theorem pass_6_v2 : after hostOps0_6 V (Proc.devRef .tc main_v2) = V (Proc.devRef .tc main_v2) := by after_reads_simp
theorem pass_7_v2 : after hostOps0_7 V (Proc.devRef .tc main_v2) = V (Proc.devRef .tc main_v2) := by after_reads_simp
theorem pass_4_v4 : after hostOps0_4 V (Proc.devRef .tc main_v4) = V (Proc.devRef .tc main_v4) := by after_reads_simp
theorem pass_5_v4 : after hostOps0_5 V (Proc.devRef .tc main_v4) = V (Proc.devRef .tc main_v4) := by after_reads_simp
theorem pass_7_v11 : after hostOps0_7 V (Proc.devRef .tc main_v11) = V (Proc.devRef .tc main_v11) := by after_reads_simp
theorem pass_arg0 : after hostOps0 V (Proc.devRef .tc main_arg0) = V (Proc.devRef .tc main_arg0) := by after_reads_simp
theorem pass_1_arg0 : after hostOps0_1 V (Proc.devRef .tc main_arg0) = V (Proc.devRef .tc main_arg0) := by after_reads_simp
theorem pass_2_arg0 : after hostOps0_2 V (Proc.devRef .tc main_arg0) = V (Proc.devRef .tc main_arg0) := by after_reads_simp

/-- The host part's stretches. -/
abbrev opss : List (List (HloOp τ sig (Elt F))) :=
  [hostOps0, hostOps0_1, hostOps0_2, hostOps0_3, hostOps0_4, hostOps0_5, hostOps0_6, hostOps0_7, hostOps0_8]

/-- The contents before the last stretch, of what it reads. -/
def mid : Valuation τ sig (Elt F) := after hostOps0_7 (after hostOps0_6 (after hostOps0_5 (after hostOps0_4
    (after hostOps0_3 (after hostOps0_2 (after hostOps0_1 (after hostOps0 V)))))))

theorem after_opss (b : DevRef τ sig) : after opss.flatten V b = after hostOps0_8 (mid V) b := by
  simp only [List.flatten_cons, List.flatten_nil, List.append_nil, after_append, mid]

theorem mid_first : mid V (Proc.devRef .tc main_v2) = firstW sides (V (Proc.devRef .tc main_arg0)) := by
  unfold mid; rw [pass_7_v2, pass_6_v2, pass_5_v2, pass_4_v2, pass_3_v2, ops2_v2, ops1_v1, ops1_c, ops0_v0, pass_arg0]; rfl
theorem mid_tiles : mid V (Proc.devRef .tc main_v11) = tilesW sides (V (Proc.devRef .tc main_arg0)) := by
  unfold mid; rw [pass_7_v11, ops6_v11, pass_5_v4, pass_4_v4, ops3_v4, ops5_v10, ops5_c, ops4_v7, ops3_v6, ops3_c, pass_4_v2, pass_3_v2, ops2_v2, ops1_v1, ops1_c,
    pass_2_v0, pass_1_v0, ops0_v0, pass_2_arg0, pass_1_arg0, pass_arg0]; rfl
theorem mid_tends : mid V (Proc.devRef .tc main_v12) = tendsW sides (V (Proc.devRef .tc main_arg0)) := by
  unfold tendsW; rw [← mid_tiles V]; unfold mid; rw [ops7_v12, pass_7_v11]

theorem table_n : after opss.flatten V (Proc.devRef .tc main_v42) = stepsW sides (V (Proc.devRef .tc main_arg0)) := by
  rw [after_opss, ops8_v42, mid_tends]; rfl
theorem table_expert : after opss.flatten V (Proc.devRef .tc main_v21) = expertW sides (V (Proc.devRef .tc main_arg0)) := by
  rw [after_opss, ops8_v21, mid_tends]; rfl
theorem table_tile : after opss.flatten V (Proc.devRef .tc main_v40) = tileW sides (V (Proc.devRef .tc main_arg0)) := by
  rw [after_opss, ops8_v40, mid_tends, mid_tiles, mid_first]; rfl
theorem table_ends : after opss.flatten V (Proc.devRef .tc main_v0) = endsW sides (V (Proc.devRef .tc main_arg0)) := by
  rw [after_opss, pass_8_v0]; unfold mid; rw [pass_7_v0, pass_6_v0, pass_5_v0, pass_4_v0, pass_3_v0, pass_2_v0, pass_1_v0, ops0_v0]; rfl

theorem kept_arg0 : after opss.flatten V (Proc.devRef .tc main_arg0) = V (Proc.devRef .tc main_arg0) := by
  rw [after_opss]; unfold mid; after_reads_simp
theorem kept_arg1 : after opss.flatten V (Proc.devRef .tc main_arg1) = V (Proc.devRef .tc main_arg1) := by
  rw [after_opss]; unfold mid; after_reads_simp
theorem kept_arg2 : after opss.flatten V (Proc.devRef .tc main_arg2) = V (Proc.devRef .tc main_arg2) := by
  rw [after_opss]; unfold mid; after_reads_simp
theorem kept_arg3 : after opss.flatten V (Proc.devRef .tc main_arg3) = V (Proc.devRef .tc main_arg3) := by
  rw [after_opss]; unfold mid; after_reads_simp
theorem kept_arg4 : after opss.flatten V (Proc.devRef .tc main_arg4) = V (Proc.devRef .tc main_arg4) := by
  rw [after_opss]; unfold mid; after_reads_simp
theorem kept_arg5 : after opss.flatten V (Proc.devRef .tc main_arg5) = V (Proc.devRef .tc main_arg5) := by
  rw [after_opss]; unfold mid; after_reads_simp
theorem kept_arg6 : after opss.flatten V (Proc.devRef .tc main_arg6) = V (Proc.devRef .tc main_arg6) := by
  rw [after_opss]; unfold mid; after_reads_simp
theorem kept_arg7 : after opss.flatten V (Proc.devRef .tc main_arg7) = V (Proc.devRef .tc main_arg7) := by
  rw [after_opss]; unfold mid; after_reads_simp
theorem kept_arg8 : after opss.flatten V (Proc.devRef .tc main_arg8) = V (Proc.devRef .tc main_arg8) := by
  rw [after_opss]; unfold mid; after_reads_simp

end Cert.Up.Gate
-- ==== Proof.URun.lean ====
/- The gated projection's run: from group sizes that fill the rows, the program ends with its arguments kept and its result in the
   relation the steps' proof data state. -/
module

public import proofs.«01_k».proof.Proof.UOblig
public import proofs.«01_k».proof.Proof.UTables

@[expose] public section

set_option maxRecDepth 20000

noncomputable section

namespace Cert.Up.Gate

open Cert.Up Cert.Up.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

variable (m : (ℓ : Loc nD τ sig) → Buf (Elt F) ℓ) (g : Dev nD → PrngReg)

/-- The buffers when the region is entered. -/
def VE (c : Dev nD) (b : Ref sig .tc) : Buf (Elt F) ((c.tc : Thread nD τ).loc b) := StableHlo.after opss.flatten (fun b => m (c, b)) (Proc.devRef .tc b)

/-- The tables then. -/
def tbl : pre0.Contents (Elt F) := fun k => VE m 0 (pre0.ref k)

/-- The group sizes given. -/
abbrev G : IVec S8 32 := m ((0 : Dev nD).tc.loc main_arg0)

variable {γ : Nat → Nat} (hg : ∀ e : Fin 8, G m (ix1 e) = BitVec.ofNat 32 (γ e.val)) (h8 : pre γ 8 = 9216)

include hg h8 in
theorem plan : Plan (tbl m) γ where
  h8 := h8
  n i := (congrFun (table_n (fun b => m ((0 : Dev nD), b))) i).trans (stepsW_ap sides (G m) γ hg h8 i)
  expert s := (congrFun (table_expert (fun b => m ((0 : Dev nD), b))) (ix1 s)).trans (expertW_ap sides (G m) γ hg h8 s)
  tile s := (congrFun (table_tile (fun b => m ((0 : Dev nD), b))) (ix1 s)).trans (tileW_ap sides (G m) γ hg h8 s)
  ends e := (congrFun (table_ends (fun b => m ((0 : Dev nD), b))) (ix1 e)).trans (endsW_ap sides (G m) γ hg e)

theorem tables_eq (c : Dev nD) (pf : pre0.Contents (Elt F)) :
    (Pipeline.ΦT (U := UR nD τ) pre0 pf c : sProp 𝕄) = iprop(ptH c mN (pf 0) ∗ ptH c mE (pf 1) ∗ ptH c mT (pf 2) ∗ ptH c mS (pf 3)) := by
  unfold Pipeline.ΦT Pipeline.prefHeld
  exact bigSep_univ_eq_bigSepL [(0 : Fin 4), (1 : Fin 4), (2 : Fin 4), (3 : Fin 4)] (by decide) (by decide) _

theorem hmain : Pipeline.HMainP (Ix := Unit) (Name := ℕ) (U := UR nD τ) (Lvl := ℕ) (pcfgs (F := F)) 0 defs₀ Variants.none m (main (F := F)) (VE m) :=
  Pipeline.hmainP_prefixes (pcfgs (F := F)) 0 defs₀ Variants.none m (main (F := F)) opss
    ⟨hostOps0_sub, hostOps0_1_sub, hostOps0_2_sub, hostOps0_3_sub, hostOps0_4_sub, hostOps0_5_sub, hostOps0_6_sub, hostOps0_7_sub, hostOps0_8_sub⟩
    (by repeat' first | exact rfl | constructor)
    main_chain

section
variable (P : Plan (tbl m) γ)

theorem hin (c : Dev nD) : iprop(Pipeline.ΦA (U := UR nD τ) spec0 c ∗ Pipeline.ΦT (U := UR nD τ) pre0 (tbl m) c) ⊢ (Inv (VE m) c (tbl m) γ 0 : sProp 𝕄) := by
  rw [tables_eq]
  unfold Pipeline.ΦA Inv
  rw [scopedRest0_eq]
  iintro ⟨⟨⟨⟨%f, Hs⟩, ⟨%f', Hu⟩⟩, Hg⟩, HT⟩
  isplitl [Hs]
  · iexists f
    isplitr; swap; (· iexact Hs)
    ipureintro
    intro h
    exact absurd (Nat.zero_mod _) h
  isplitl [Hu]
  · iexists f'
    isplitr; swap; (· iexact Hu)
    ipureintro
    intro h
    exact absurd (Nat.zero_mod _) h
  isplitl [Hg]; · iexact Hg
  iexact HT

theorem hout (c : Dev nD) (t : Nat) : (Inv (VE m) c (tbl m) γ t : sProp 𝕄) ⊢ Pipeline.ΦA (U := UR nD τ) spec0 c := by
  unfold Pipeline.ΦA Inv
  rw [scopedRest0_eq]
  iintro ⟨⟨%f, -, Hs⟩, ⟨%f', -, Hu⟩, Hg, -⟩
  isplitl [Hs Hu]
  · isplitl [Hs]
    · iexists f; iexact Hs
    iexists f'; iexact Hu
  iexact Hg

theorem shares (c : Dev nD) (w) : (rdat P (VE m) c).share w = fullShare := by
  unfold RDat.share; split <;> rfl

theorem entry_array (V : (c : Dev nD) → (b : Ref sig .tc) → Buf (Elt F) ((c.tc : Thread nD τ).loc b)) (c : Dev nD) (w) :
    (rdat P V c).A w = V c (Pipeline.arrRef (cfgP P).spec w) := by exact rfl

theorem entry_inv (V : (c : Dev nD) → (b : Ref sig .tc) → Buf (Elt F) ((c.tc : Thread nD τ).loc b)) (c : Dev nD) (t) :
    (rdat P V c).Φ t = Inv V c (tbl m) γ t.val := by exact rfl

theorem held_tables (c : Dev nD) (k) : VE m c ((pcfgs (F := F) 0).pre.ref k) = (adm P 0).1 k := by
  rw [Subsingleton.elim c 0]; exact rfl

/-- The run, with what the result's array may hold. -/
theorem run_rel : θ_run (defs (F := F)) (onTc (τ := τ) (main (F := F))) ⟨m, fun _ => 0, g⟩ (fun r =>
    RDat.FramePost (cfgP P) (fun c => rdat P (VE m) c) (VE m) r ∧ r.2.sem = fun _ => 0) := by
  refine RDat.θ_run_frameP_track (pcfgs (F := F)) (adm P) 0 launch0 defs₀ Variants.none (fun c => rdat P (VE m) c) m g (main (F := F))
    ?_ ?_ ?_ (VE m) ?_ ?_ ?_ ?_ ?_ _ (fun _ h => h)
  · exact fun c => body_obligation P (VE m) c
  · exact shares m P
  · exact fun _ _ => rfl
  · exact hmain m
  · exact fun c w => entry_array m P (VE m) c w
  · exact held_tables m P
  · intro c; rw [entry_inv m P]; exact hin m c
  · intro c; rw [entry_inv m P]; exact hout m c _

end

end Cert.Up.Gate
-- ==== Proof.UFrame.lean ====
/- The gated projection leaves its arguments as it found them. -/
module

public import proofs.«01_k».proof.Proof.URun

@[expose] public section

set_option maxRecDepth 20000

noncomputable section

namespace Cert.Up.Gate

open Cert.Up Cert.Up.Gen
open Cert.Down
open Idealize.ShloMosaic Idealize.ShloMosaic.TcCoe Idealize.ShloMosaic.ValueIdx
open Idealize.SL Idealize.SL.Sem
open Idealize.ShloMosaic.Pipeline (RDat)

variable {F : FTy → Type} [FloatOps F]

variable (m : (ℓ : Loc nD τ sig) → Buf (Elt F) ℓ) (g : Dev nD → PrngReg) {γ : Nat → Nat}

/-- The arguments are as launched. -/
abbrev Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

variable (P : Plan (tbl m) γ)

theorem VE_arg0 (c : Dev nD) : VE m c main_arg0 = m ((c.tc : Thread nD τ).loc main_arg0) := kept_arg0 _
theorem VE_arg1 (c : Dev nD) : VE m c main_arg1 = m ((c.tc : Thread nD τ).loc main_arg1) := kept_arg1 _
theorem VE_arg2 (c : Dev nD) : VE m c main_arg2 = m ((c.tc : Thread nD τ).loc main_arg2) := kept_arg2 _
theorem VE_arg3 (c : Dev nD) : VE m c main_arg3 = m ((c.tc : Thread nD τ).loc main_arg3) := kept_arg3 _
theorem VE_arg4 (c : Dev nD) : VE m c main_arg4 = m ((c.tc : Thread nD τ).loc main_arg4) := kept_arg4 _
theorem VE_arg5 (c : Dev nD) : VE m c main_arg5 = m ((c.tc : Thread nD τ).loc main_arg5) := kept_arg5 _
theorem VE_arg6 (c : Dev nD) : VE m c main_arg6 = m ((c.tc : Thread nD τ).loc main_arg6) := kept_arg6 _
theorem VE_arg7 (c : Dev nD) : VE m c main_arg7 = m ((c.tc : Thread nD τ).loc main_arg7) := kept_arg7 _
theorem VE_arg8 (c : Dev nD) : VE m c main_arg8 = m ((c.tc : Thread nD τ).loc main_arg8) := kept_arg8 _

theorem input0 : ((cfgP P).win 0).isOut = false := by exact rfl
theorem input1 : ((cfgP P).win 1).isOut = false := by exact rfl
theorem input2 : ((cfgP P).win 2).isOut = false := by exact rfl
theorem input3 : ((cfgP P).win 3).isOut = false := by exact rfl
theorem input4 : ((cfgP P).win 4).isOut = false := by exact rfl
theorem input5 : ((cfgP P).win 5).isOut = false := by exact rfl
theorem input6 : ((cfgP P).win 6).isOut = false := by exact rfl
theorem input7 : ((cfgP P).win 7).isOut = false := by exact rfl

theorem sizes_no_window : ∀ w : Fin 9, (spec0 w).arr.view.ref ≠ main_arg0 := by decide

theorem post_kept (V : (c : Dev nD) → (b : Ref sig .tc) → Buf (Elt F) ((c.tc : Thread nD τ).loc b)) (r : PUnit × MemSt nD τ sig (Elt F))
    (h : RDat.FramePost (cfgP P) (fun c => rdat P V c) V r) (c : Dev nD) :
    r.2.mem ((c.tc : Thread nD τ).loc main_arg0) = V c main_arg0
    ∧ r.2.mem ((c.tc : Thread nD τ).loc main_arg1) = V c main_arg1
    ∧ r.2.mem ((c.tc : Thread nD τ).loc main_arg2) = V c main_arg2
    ∧ r.2.mem ((c.tc : Thread nD τ).loc main_arg3) = V c main_arg3
    ∧ r.2.mem ((c.tc : Thread nD τ).loc main_arg4) = V c main_arg4
    ∧ r.2.mem ((c.tc : Thread nD τ).loc main_arg5) = V c main_arg5
    ∧ r.2.mem ((c.tc : Thread nD τ).loc main_arg6) = V c main_arg6
    ∧ r.2.mem ((c.tc : Thread nD τ).loc main_arg7) = V c main_arg7
    ∧ r.2.mem ((c.tc : Thread nD τ).loc main_arg8) = V c main_arg8 :=
  ⟨(h c).2 main_arg0 (Pipeline.mem_restRefs_of main_arg0 (by decide) (by exact sizes_no_window)), h.arr_in c 0 (input0 m P), h.arr_in c 1 (input1 m P), h.arr_in c 2 (input2 m P), h.arr_in c 3 (input3 m P), h.arr_in c 4 (input4 m P), h.arr_in c 5 (input5 m P), h.arr_in c 6 (input6 m P), h.arr_in c 7 (input7 m P)⟩

/-- The run keeps its arguments and ends with every semaphore at zero. -/
theorem run_kept (hg : ∀ e : Fin 8, G m (ix1 e) = BitVec.ofNat 32 (γ e.val)) (h8 : pre γ 8 = 9216) :
    θ_run (defs (F := F)) (onTc (τ := τ) (main (F := F))) ⟨m, fun _ => 0, g⟩ (fun r => Kept m r ∧ r.2.sem = fun _ => 0) :=
  (θ_run (defs (F := F)) _ _).mono (fun r h => ⟨fun c => by
    have := post_kept m (plan m hg h8) (VE m) r h.1 c
    rwa [VE_arg0, VE_arg1, VE_arg2, VE_arg3, VE_arg4, VE_arg5, VE_arg6, VE_arg7, VE_arg8] at this, h.2⟩) (run_rel m g (plan m hg h8))

end Cert.Up.Gate
-- ==== Proof.VBody.lean ====
module

public import proofs.«01_k».proof.Proof.Gen.UpIdeal
public import proofs.«01_k».proof.Proof.Gen.UpIdeal.Launch
public import Idealize.ShloMosaic.Lib.Tactic

@[expose] public section

noncomputable section

namespace Cert.UpIdeal.Gate

open Cert.UpIdeal Cert.UpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
/-- Memref `M`'s buffer on core `c` held at half the full share, at `f`: a table. -/
abbrev ptH (c : Dev nD) {sp : Space} {S : Shape} {e : EltTy} (M : Memref sig .tc sp S e) (f : Bf (F := F) c M) : sProp 𝕄 :=
  M.view.loc (c : Thread nD τ) ↦{fullShare.right} f

/-- The word read off a 43-word table at the offset `off`. -/
abbrev w43 (c : Dev nD) {e : EltTy} (M : Memref sig .tc .smem S43 e) (f : Bf (F := F) c M) (off : Fin 1 → Nat)
    (h : ∀ a, off a + S1.size a ≤ S43.size a) : Elt F e :=
  View.readAt (Elt F) M.view (Rect.unit (s := S43) off S1.size h).toLoadRect f (Shape.Idx.first (s := S1) (by decide))

/-- The condition of the body's one region: the first step, or an expert other than the step before. -/
abbrev k0_cond (s e p : BitVec 32) : Prop :=
  Scalar.cmpi .ne (Scalar.extui (Scalar.ori (Scalar.cmpi .eq s 0#32) (Scalar.cmpi .ne e p)) : BitVec 32) 0#32 = 1#1

/-- A step that keeps the widened weight: what it leaves in the output window, with the run. -/
def keepRun (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .smem S8 .f32) (h6 : M6.IsWhole) (M7 : Memref sig .tc .vmem S256x6144 .fp8e4m3) (h7 : M7.IsWhole)
    (M8 : Memref sig .tc .vmem S1x3072x512 .i8) (h8 : M8.IsWhole) (M9 : Memref sig .tc .vmem S1x48x512 .bf16) (h9 : M9.IsWhole)
    (M10 : Memref sig .tc .vmem S1x3072x512 .i8) (h10 : M10.IsWhole) (M11 : Memref sig .tc .vmem S1x48x512 .bf16) (h11 : M11.IsWhole)
    (M12 : Memref sig .tc .vmem S8x512 .f32) (h12 : M12.IsWhole) (M13 : Memref sig .tc .vmem S256x512 .fp8e4m3) (h13 : M13.IsWhole)
    (M14 : Memref sig .tc .vmem S6144x512 .bf16) (h14 : M14.IsWhole) (M15 : Memref sig .tc .vmem S6144x512 .bf16) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c M9) (f10 : Bf (F := F) c M10) (f11 : Bf (F := F) c M11) (f12 : Bf (F := F) c M12) (f13 : Bf (F := F) c M13) (f14 : Bf (F := F) c M14) (f15 : Bf (F := F) c M15)
    (hc : k0_chk1 s) (hc2 : k0_chk2 (w43 c M2 f2 (k0_off2 s) hc.1)) (hc3 : k0_chk3 (w43 c M2 f2 (k0_off6 s) hc.2.2))
    (hn : ¬ k0_cond s (w43 c M2 f2 (k0_off2 s) hc.1) (w43 c M2 f2 (k0_off3 s) hc.2.1)) :
    { W : Bf (F := F) c M13 //
      ∀ (E : Set ℕ) (Q : PUnit → sProp 𝕄),
        iprop(ptH c M2 f2 ∗ ptH c M3 f3 ∗ ptH c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(ptH c M2 f2 ∗ ptH c M3 f3 ∗ ptH c M4 f4 ∗ pt c M5 f5 ∗ pt c M6 f6 ∗ pt c M7 f7 ∗ pt c M8 f8 ∗ pt c M9 f9 ∗ pt c M10 f10 ∗ pt c M11 f11 ∗ pt c M12 f12 ∗ pt c M13 W ∗ pt c M14 f14 ∗ pt c M15 f15) -∗ Q ⟨⟩))
        ⊢ wp frame (wpE (defs₀ (F := F)) Variants.none c none) E
            (cc0_gate_up b i s M2 h2 M3 h3 M4 h4 M5 h5 M6 h6 M7 h7 M8 h8 M9 h9 M10 h10 M11 h11 M12 h12 M13 h13 M14 h14 M15 h15) Q } := by
  refine ⟨?_, fun E Q => ?run⟩
  case run =>
    iintro ⟨H2, H3, H4, H5, H6, H7, H8, H9, H10, H11, H12, H13, H14, H15, Hk⟩
    sl_exec (disch := first | exact hc2 | exact hc3 | exact hn | exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.UpIdeal.Gate
-- ==== Proof.VWide.lean ====
module

public import proofs.«01_k».proof.Proof.Gen.UpIdeal
public import proofs.«01_k».proof.Proof.Gen.UpIdeal.Launch
public import proofs.«01_k».proof.Proof.VBody
public import Idealize.ShloMosaic.Lib.Tactic

@[expose] public section

noncomputable section

namespace Cert.UpIdeal.Gate

open Cert.UpIdeal Cert.UpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- A step that widens a new weight: what it leaves in the output window and in the scratch, with the run. -/
def wideRun (c : Dev nD) (b : grid0.Bounds) (i : grid0.Static) (s : BitVec 32)
    (M2 : Memref sig .tc .smem S43 .i32) (h2 : M2.IsWhole) (M3 : Memref sig .tc .smem S43 .i32) (h3 : M3.IsWhole)
    (M4 : Memref sig .tc .smem S8 .i32) (h4 : M4.IsWhole) (M5 : Memref sig .tc .smem S8 .f32) (h5 : M5.IsWhole)
    (M6 : Memref sig .tc .smem S8 .f32) (h6 : M6.IsWhole) (M7 : Memref sig .tc .vmem S256x6144 .fp8e4m3) (h7 : M7.IsWhole)
    (M8 : Memref sig .tc .vmem S1x3072x512 .i8) (h8 : M8.IsWhole) (M9 : Memref sig .tc .vmem S1x48x512 .bf16) (h9 : M9.IsWhole)
    (M10 : Memref sig .tc .vmem S1x3072x512 .i8) (h10 : M10.IsWhole) (M11 : Memref sig .tc .vmem S1x48x512 .bf16) (h11 : M11.IsWhole)
    (M12 : Memref sig .tc .vmem S8x512 .f32) (h12 : M12.IsWhole) (M13 : Memref sig .tc .vmem S256x512 .fp8e4m3) (h13 : M13.IsWhole)
    (M14 : Memref sig .tc .vmem S6144x512 .bf16) (h14 : M14.IsWhole) (M15 : Memref sig .tc .vmem S6144x512 .bf16) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c M9) (f10 : Bf (F := F) c M10) (f11 : Bf (F := F) c M11) (f12 : Bf (F := F) c M12) (f13 : Bf (F := F) c M13)
    (hc : k0_chk1 s) (hc2 : k0_chk2 (w43 c M2 f2 (k0_off2 s) hc.1)) (hc3 : k0_chk3 (w43 c M2 f2 (k0_off6 s) hc.2.2))
    (hn : k0_cond s (w43 c M2 f2 (k0_off2 s) hc.1) (w43 c M2 f2 (k0_off3 s) hc.2.1)) :
    { W : Bf (F := F) c M13 × Bf (F := F) c M14 × Bf (F := F) c M15 //
      ∀ (f14 : Bf (F := F) c M14) (f15 : Bf (F := F) c M15) (E : Set ℕ) (Q : PUnit → sProp 𝕄),
        iprop(ptH c M2 f2 ∗ ptH c M3 f3 ∗ ptH c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(ptH c M2 f2 ∗ ptH c M3 f3 ∗ ptH c M4 f4 ∗ pt c M5 f5 ∗ pt c M6 f6 ∗ pt c M7 f7 ∗ pt c M8 f8 ∗ pt c M9 f9 ∗ pt c M10 f10 ∗ pt c M11 f11 ∗ pt c M12 f12 ∗ pt c M13 W.1 ∗ pt c M14 W.2.1 ∗ pt c M15 W.2.2) -∗ Q ⟨⟩))
        ⊢ wp frame (wpE (defs₀ (F := F)) Variants.none c none) E
            (cc0_gate_up b i s M2 h2 M3 h3 M4 h4 M5 h5 M6 h6 M7 h7 M8 h8 M9 h9 M10 h10 M11 h11 M12 h12 M13 h13 M14 h14 M15 h15) Q } := by
  refine ⟨⟨?_, ?_, ?_⟩, fun f14 f15 E Q => ?run⟩
  case run =>
    iintro ⟨H2, H3, H4, H5, H6, H7, H8, H9, H10, H11, H12, H13, H14, H15, Hk⟩
    sl_exec_parts! (disch := first | exact hc2 | exact hc3 | exact hn | exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.UpIdeal.Gate
-- ==== Proof.VWideVal.lean ====
module

public import proofs.«01_k».proof.Proof.Gen.UpIdeal
public import proofs.«01_k».proof.Proof.Gen.UpIdeal.Launch
public import proofs.«01_k».proof.Proof.VWide
public import proofs.«01_k».proof.Proof.Nibble
public import Idealize.ShloMosaic.Lib.ValueLayout
public import Idealize.ShloMosaic.Lib.VecWindow
public import Idealize.ShloMosaic.Lib.Pipeline.Value
public import Idealize.ShloMosaic.Lib.Tactic

@[expose] public section

noncomputable section

namespace Cert.UpIdeal.Gate

open Cert.UpIdeal Cert.UpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open ValueIdx

/-- One cell of the widened weight: sixteen times the four-bit code `b`'s half `h`, as bf16, times a sixteenth of the scale `u`. -/
def wideCell (h : Bool) (b : BitVec 8) (u : F .bf16) : F .bf16 :=
  FloatOps.mulf (FloatOps.sitofp .bf16 (Cert.Down.nib16 h b)) (FloatOps.mulf u (Scalar.ofBits .bf16 0x3D80#16))

/-- The whole widened weight from the packed block `w` and its scales `u`: row `128 g + 64 h + j` is the half `h` of packed row `64 g + j`. -/
def wide (w : Vec F S1x3072x512 .i8) (u : Vec F S1x48x512 .bf16) : Vec F S6144x512 .bf16 := fun y =>
  have hy : (y 0).val < 6144 := (y 0).isLt
  wideCell (decide (64 ≤ (y 0).val % 128))
    (w (ix3 (n0 := 1) (n1 := 3072) (n2 := 512) 0 ⟨64 * ((y 0).val / 128) + (y 0).val % 64, by omega⟩ (y 1)))
    (u (ix3 (n0 := 1) (n1 := 48) (n2 := 512) 0 ⟨(y 0).val / 128, by omega⟩ (y 1)))

/-- The 64 packed rows a group's two stores read, off the window. -/
abbrev packRows (c : Dev nD) (Mw : Memref sig .tc .vmem S1x3072x512 .i8) (fw : Bf (F := F) c Mw) (o : Fin 2 → Nat)
    (h : ∀ a, o a + S64x512.size a ≤ S3072x512.size a) : S64x512.Idx → Elt F .i8 :=
  View.readAt (Elt F) ((Mw.slice (Rect.unit (s := S1x3072x512) ![0, 0, 0] S1x3072x512.size inb_S1x3072x512_S1x3072x512_0_0_0) (fun _ => rfl)).squeeze
    S3072x512 squeezes_S1x3072x512_S3072x512).view (Rect.unit (s := S3072x512) o S64x512.size h).toLoadRect fw

/-- A group's row of scales, off the window. -/
abbrev scaleRow (c : Dev nD) (Ms : Memref sig .tc .vmem S1x48x512 .bf16) (fs : Bf (F := F) c Ms) (o : Fin 2 → Nat)
    (h : ∀ a, o a + S1x512.size a ≤ S48x512.size a) : S1x512.Idx → F .bf16 :=
  View.readAt (Elt F) ((Ms.slice (Rect.unit (s := S1x48x512) ![0, 0, 0] S1x48x512.size inb_S1x48x512_S1x48x512_0_0_0) (fun _ => rfl)).squeeze
    S48x512 squeezes_S1x48x512_S48x512).view (Rect.unit (s := S48x512) o S1x512.size h).toLoadRect fs

theorem packRows_apply (c : Dev nD) (Mw : Memref sig .tc .vmem S1x3072x512 .i8) (fw : Bf (F := F) c Mw) (o : Fin 2 → Nat)
    (h : ∀ a, o a + S64x512.size a ≤ S3072x512.size a) (p : Fin 64) (l : Fin 512) (q : Fin 3072) (hq : q.val = o 0 + p.val) (h1 : o 1 = 0) :
    packRows c Mw fw o h (ix2 p l) = Mw.view.read (Elt F) fw (ix3 (n0 := 1) (n1 := 3072) (n2 := 512) 0 q l) := by
  have e : (Rect.unit (s := S3072x512) o S64x512.size h).toLoadRect.idx (ix2 p l) = ix2 (n0 := 3072) (n1 := 512) q l := by
    funext a
    match a with
    | ⟨0, _⟩ => exact Fin.ext (by show o 0 + 1 * p.val = q.val; omega)
    | ⟨1, _⟩ => exact Fin.ext (by show o 1 + 1 * l.val = l.val; omega)
  unfold packRows
  rw [View.readAt_apply, e, Memref.read_squeeze_full]
  exact congrArg _ (reshapeEquiv_ix2_1ab _ _ _)

theorem scaleRow_apply (c : Dev nD) (Ms : Memref sig .tc .vmem S1x48x512 .bf16) (fs : Bf (F := F) c Ms) (o : Fin 2 → Nat)
    (h : ∀ a, o a + S1x512.size a ≤ S48x512.size a) (l : Fin 512) (q : Fin 48) (hq : q.val = o 0) (h1 : o 1 = 0) :
    scaleRow c Ms fs o h (ix2 (0 : Fin 1) l) = Ms.view.read (Elt F) fs (ix3 (n0 := 1) (n1 := 48) (n2 := 512) 0 q l) := by
  have e : (Rect.unit (s := S48x512) o S1x512.size h).toLoadRect.idx (ix2 (0 : Fin 1) l) = ix2 (n0 := 48) (n1 := 512) q l := by
    funext a
    match a with
    | ⟨0, _⟩ => exact Fin.ext (by show o 0 + 1 * 0 = q.val; omega)
    | ⟨1, _⟩ => exact Fin.ext (by show o 1 + 1 * l.val = l.val; omega)
  unfold scaleRow
  rw [View.readAt_apply, e, Memref.read_squeeze_full]
  exact congrArg _ (reshapeEquiv_ix2_1ab _ _ _)

/-- A group's scale row times a sixteenth, over 64 rows. -/
def scaleRows (u : S1x512.Idx → F .bf16) : FVec F S64x512 .bf16 :=
  broadcastTo S64x512 (mulf (s := S1x512) u (broadcast S1x512 (Scalar.ofBits .bf16 0x3D80#16))) broadcasts_S1x512_S64x512

/-- What a group's first store writes: the low halves. -/
def lowPiece (v : S64x512.Idx → BitVec 8) (u : S1x512.Idx → F .bf16) : FVec F S64x512 .bf16 :=
  shapeCast S64x512 (mulf (sitofp .bf16 (bitcast S64x512 8 (andi (shli (bitcast S16x512 32 v bitcasts_S64x512_w8_S16x512_w32) (broadcast S16x512 4#32))
    (broadcast S16x512 4042322160#32)) bitcasts_S16x512_w32_S64x512_w8)) (scaleRows u)) shapeCasts_S64x512_S64x512

/-- What a group's second store writes: the high halves. -/
def highPiece (v : S64x512.Idx → BitVec 8) (u : S1x512.Idx → F .bf16) : FVec F S64x512 .bf16 :=
  shapeCast S64x512 (mulf (sitofp .bf16 (bitcast S64x512 8 (andi (bitcast S16x512 32 v bitcasts_S64x512_w8_S16x512_w32)
    (broadcast S16x512 4042322160#32)) bitcasts_S16x512_w32_S64x512_w8)) (scaleRows u)) shapeCasts_S64x512_S64x512

theorem scaleRows_apply (u : S1x512.Idx → F .bf16) (p : Fin 64) (l : Fin 512) :
    scaleRows u (ix2 p l) = FloatOps.mulf (u (ix2 (0 : Fin 1) l)) (Scalar.ofBits .bf16 0x3D80#16) := by
  unfold scaleRows
  rw [broadcastTo_apply _ _ _ (ix2 (0 : Fin 1) l) (by
    intro a
    match a with
    | ⟨0, _⟩ => rfl
    | ⟨1, _⟩ => rfl)]
  rfl

theorem low_eq (v : S64x512.Idx → BitVec 8) (u : S1x512.Idx → F .bf16) (p : Fin 64) (l : Fin 512) :
    lowPiece v u (ix2 p l) = wideCell false (v (ix2 p l)) (u (ix2 (0 : Fin 1) l)) := by
  unfold lowPiece
  rw [shapeCast_self]
  exact congrArg₂ FloatOps.mulf (congrArg _ (Cert.Down.low_apply v _ _ rfl (ix2 p l))) (scaleRows_apply u p l)

theorem high_eq (v : S64x512.Idx → BitVec 8) (u : S1x512.Idx → F .bf16) (p : Fin 64) (l : Fin 512) :
    highPiece v u (ix2 p l) = wideCell true (v (ix2 p l)) (u (ix2 (0 : Fin 1) l)) := by
  unfold highPiece
  rw [shapeCast_self]
  exact congrArg₂ FloatOps.mulf (congrArg _ (Cert.Down.high_apply v _ _ rfl (ix2 p l))) (scaleRows_apply u p l)

section Pieces
variable (c : Dev nD) (Mw : Memref sig .tc .vmem S1x3072x512 .i8) (Ms : Memref sig .tc .vmem S1x48x512 .bf16)
  (fw : Bf (F := F) c Mw) (fs : Bf (F := F) c Ms)

/-- A store agrees with the widened weight of the windows' contents. -/
def Good (p : View.Piece (Elt F) S6144x512 .bf16) : Prop :=
  ∀ x : p.1.shape.Idx, p.2 x = wide (Mw.view.read (Elt F) fw) (Ms.view.read (Elt F) fs) (p.1.emb x)

theorem good_low (g o : Nat) (hg : g < 48) (ho : o = 128 * g) (h : ∀ a, (![o, 0] : Fin 2 → Nat) a + S64x512.size a ≤ S6144x512.size a)
    (hr : ∀ a, (![64 * g, 0] : Fin 2 → Nat) a + S64x512.size a ≤ S3072x512.size a) (hu : ∀ a, (![g, 0] : Fin 2 → Nat) a + S1x512.size a ≤ S48x512.size a)
    (w : S64x512.Idx → F .bf16) (hw : w = lowPiece (packRows c Mw fw ![64 * g, 0] hr) (scaleRow c Ms fs ![g, 0] hu)) :
    Good c Mw Ms fw fs ⟨Rect.unit (s := S6144x512) ![o, 0] S64x512.size h, w⟩ := by
  subst hw ho
  intro x
  obtain ⟨p, l, rfl⟩ : ∃ (p : Fin 64) (l : Fin 512), x = ix2 p l := ⟨_, _, eq_ix2 x⟩
  show lowPiece _ _ (ix2 p l) = _
  have hp := p.isLt
  rw [low_eq, packRows_apply c Mw fw _ hr p l ⟨64 * g + p.val, by omega⟩ rfl rfl, scaleRow_apply c Ms fs _ hu l ⟨g, hg⟩ rfl rfl]
  have e : (Rect.unit (s := S6144x512) ![128 * g, 0] S64x512.size h).emb (ix2 p l) = ix2 (n0 := 6144) (n1 := 512) ⟨128 * g + p.val, by omega⟩ l := by
    funext a
    match a with
    | ⟨0, _⟩ => exact Fin.ext (by show 128 * g + 1 * p.val = 128 * g + p.val; omega)
    | ⟨1, _⟩ => exact Fin.ext (by show 0 + 1 * l.val = l.val; omega)
  rw [e]
  unfold wide
  have d : decide (64 ≤ (128 * g + p.val) % 128) = false := by simp; omega
  have e3 : (128 * g + p.val) % 64 = p.val := by omega
  have e2 : (128 * g + p.val) / 128 = g := by omega
  simp only [d, e2, e3]

theorem good_high (g o : Nat) (hg : g < 48) (ho : o = 128 * g + 64) (h : ∀ a, (![o, 0] : Fin 2 → Nat) a + S64x512.size a ≤ S6144x512.size a)
    (hr : ∀ a, (![64 * g, 0] : Fin 2 → Nat) a + S64x512.size a ≤ S3072x512.size a) (hu : ∀ a, (![g, 0] : Fin 2 → Nat) a + S1x512.size a ≤ S48x512.size a)
    (w : S64x512.Idx → F .bf16) (hw : w = highPiece (packRows c Mw fw ![64 * g, 0] hr) (scaleRow c Ms fs ![g, 0] hu)) :
    Good c Mw Ms fw fs ⟨Rect.unit (s := S6144x512) ![o, 0] S64x512.size h, w⟩ := by
  subst hw ho
  intro x
  obtain ⟨p, l, rfl⟩ : ∃ (p : Fin 64) (l : Fin 512), x = ix2 p l := ⟨_, _, eq_ix2 x⟩
  show highPiece _ _ (ix2 p l) = _
  have hp := p.isLt
  rw [high_eq, packRows_apply c Mw fw _ hr p l ⟨64 * g + p.val, by omega⟩ rfl rfl, scaleRow_apply c Ms fs _ hu l ⟨g, hg⟩ rfl rfl]
  have e : (Rect.unit (s := S6144x512) ![128 * g + 64, 0] S64x512.size h).emb (ix2 p l) = ix2 (n0 := 6144) (n1 := 512) ⟨128 * g + 64 + p.val, by omega⟩ l := by
    funext a
    match a with
    | ⟨0, _⟩ => exact Fin.ext (by show 128 * g + 64 + 1 * p.val = 128 * g + 64 + p.val; omega)
    | ⟨1, _⟩ => exact Fin.ext (by show 0 + 1 * l.val = l.val; omega)
  rw [e]
  unfold wide
  have d : decide (64 ≤ (128 * g + 64 + p.val) % 128) = true := by simp; omega
  have e3 : (128 * g + 64 + p.val) % 64 = p.val := by omega
  have e2 : (128 * g + 64 + p.val) / 128 = g := by omega
  simp only [d, e2, e3]

theorem stores_inb {n : Nat} (r : Nat) (hr : r = 0 ∨ r = 64) (h : n + 1 ≤ 48) : ∀ a, (![128 * n + r, 0] : Fin 2 → Nat) a + S64x512.size a ≤ S6144x512.size a
  | ⟨0, _⟩ => by show 128 * n + r + 64 ≤ 6144; omega
  | ⟨1, _⟩ => by show 0 + 512 ≤ 512; omega

theorem pack_inb {n : Nat} (h : n + 1 ≤ 48) : ∀ a, (![64 * n, 0] : Fin 2 → Nat) a + S64x512.size a ≤ S3072x512.size a
  | ⟨0, _⟩ => by show 64 * n + 64 ≤ 3072; omega
  | ⟨1, _⟩ => by show 0 + 512 ≤ 512; omega

theorem scale_inb {n : Nat} (h : n + 1 ≤ 48) : ∀ a, (![n, 0] : Fin 2 → Nat) a + S1x512.size a ≤ S48x512.size a
  | ⟨0, _⟩ => by show n + 1 ≤ 48; omega
  | ⟨1, _⟩ => by show 0 + 512 ≤ 512; omega

/-- The stores of the first `n` groups, the last one first. -/
def stores : (n : Nat) → n ≤ 48 → List (View.Piece (Elt F) S6144x512 .bf16)
  | 0, _ => []
  | n + 1, h =>
    ⟨Rect.unit (s := S6144x512) ![128 * n + 64, 0] S64x512.size (stores_inb 64 (.inr rfl) h),
      highPiece (packRows c Mw fw ![64 * n, 0] (pack_inb h)) (scaleRow c Ms fs ![n, 0] (scale_inb h))⟩ ::
    ⟨Rect.unit (s := S6144x512) ![128 * n, 0] S64x512.size (stores_inb 0 (.inl rfl) h),
      lowPiece (packRows c Mw fw ![64 * n, 0] (pack_inb h)) (scaleRow c Ms fs ![n, 0] (scale_inb h))⟩ ::
    stores n (by omega)

/-- Every store agrees with the widened weight. -/
theorem good_stores : ∀ (n : Nat) (h : n ≤ 48), ∀ p ∈ stores c Mw Ms fw fs n h, Good c Mw Ms fw fs p
  | 0, _ => fun _ h => absurd h List.not_mem_nil
  | n + 1, h =>
    List.forall_mem_cons.2 ⟨good_high c Mw Ms fw fs n _ (by omega) rfl _ _ _ _ rfl,
      List.forall_mem_cons.2 ⟨good_low c Mw Ms fw fs n _ (by omega) rfl _ _ _ _ rfl, good_stores n (by omega)⟩⟩

/-- The stores up to the `n`-th row of the scratch reach every row below it. -/
def Reach (n : Nat) (L : List (View.Piece (Elt F) S6144x512 .bf16)) : Prop :=
  ∀ y : S6144x512.Idx, (y 0).val < n → ∃ p ∈ L, y ∈ p.1.set

theorem reach_cons (n m : Nat) (hm : m = n + 64) (h : ∀ a, (![n, 0] : Fin 2 → Nat) a + S64x512.size a ≤ S6144x512.size a) (w : S64x512.Idx → F .bf16)
    (L : List (View.Piece (Elt F) S6144x512 .bf16)) (hL : Reach n L) : Reach m (⟨Rect.unit (s := S6144x512) ![n, 0] S64x512.size h, w⟩ :: L) := by
  subst hm
  intro y hy
  by_cases hn : (y 0).val < n
  · obtain ⟨p, hp, hyp⟩ := hL y hn
    exact ⟨p, List.mem_cons_of_mem _ hp, hyp⟩
  · refine ⟨_, List.mem_cons_self, (Rect.mem_set_unit (inb := h)).2 fun a => ?_⟩
    match a with
    | ⟨0, _⟩ => exact ⟨by show n ≤ (y 0).val; omega, by show (y 0).val < n + 64; omega⟩
    | ⟨1, _⟩ => exact ⟨Nat.zero_le _, by have h1 : (y 1).val < 512 := (y 1).isLt; show (y 1).val < 0 + 512; omega⟩

theorem reach_stores : ∀ (n : Nat) (h : n ≤ 48), Reach (128 * n) (stores c Mw Ms fw fs n h)
  | 0, _ => fun _ h => absurd h (Nat.not_lt_zero _)
  | n + 1, h => reach_cons (128 * n + 64) _ rfl _ _ _ (reach_cons (128 * n) _ rfl _ _ _ (reach_stores n (by omega)))

/-- A scratch after the widening's stores reads the widened weight. -/
theorem read_stores (M : Memref sig .tc .vmem S6144x512 .bf16) (f : Bf (F := F) c M) :
    M.view.read (Elt F) (M.view.writes (Elt F) f (stores c Mw Ms fw fs 48 le_rfl)) = wide (Mw.view.read (Elt F) fw) (Ms.view.read (Elt F) fs) :=
  funext fun y => View.read_writes_apply_of_pieces _ _ _ _ (good_stores c Mw Ms fw fs 48 le_rfl) y (reach_stores c Mw Ms fw fs 48 le_rfl y (y 0).isLt)

/-- The stores the run makes into the first scratch are those. -/
theorem stores_first : wideRun.sl.H14_96 c Mw Ms fw fs = stores c Mw Ms fw fs 48 le_rfl := by exact rfl

/-- The stores the run makes into the second scratch are those of the other weight. -/
theorem stores_second : wideRun.sl.H15_96 c Mw Ms fw fs = stores c Mw Ms fw fs 48 le_rfl := by exact rfl

end Pieces

end Cert.UpIdeal.Gate
-- ==== Proof.VOut.lean ====
module

public import proofs.«01_k».proof.Proof.Gen.UpIdeal
public import proofs.«01_k».proof.Proof.Gen.UpIdeal.Launch
public import proofs.«01_k».proof.Proof.VWideVal
public import proofs.«01_k».proof.Proof.Nibble
public import Idealize.ShloMosaic.Lib.ValueLayout
public import Idealize.ShloMosaic.Lib.VecWindow
public import Idealize.ShloMosaic.Lib.Pipeline.Value
public import Idealize.ShloMosaic.Lib.Tactic

@[expose] public section

noncomputable section

namespace Cert.UpIdeal.Gate

open Cert.UpIdeal Cert.UpIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open ValueIdx

/-- A tile's product: the codes as bf16 times a widened weight, times the expert's scale. -/
def prodTile (a : Vec F S256x6144 .fp8e4m3) (w : Vec F S6144x512 .bf16) (act : F .f32) : FVec F S256x512 .f32 :=
  mulf (matmul dot_S256x6144_S6144x512_S256x512_1_0_0_1_n_n none (extf .bf16 a bitsLt_fp8e4m3_bf16) w (constant S256x512 .f32 0#32)) (broadcast S256x512 act)

/-- A step's result before the cast: the gated product, scaled by the column scales over the expert's second scale, clipped. -/
def hTile (a : Vec F S256x6144 .fp8e4m3) (w1 w3 : Vec F S6144x512 .bf16) (act1 act2 : F .f32) (p : S1x512.Idx → F .f32) : FVec F S256x512 .f32 :=
  minimumf (broadcast S256x512 (Scalar.ofBits .f32 0x43E00000#32)) (maximumf (broadcast S256x512 (Scalar.ofBits .f32 0xC3E00000#32))
    (divf (mulf (mulf (mulf (prodTile a w1 act1) (logistic (prodTile a w1 act1))) (prodTile a w3 act1))
      (broadcastTo S256x512 (s := S1x512) p broadcasts_S1x512_S256x512)) (broadcast S256x512 act2)))

/-- The rows of the tile `t` a step of expert `e` keeps: from `st` (0 for expert 0) to before `en`. -/
def keepTile (e t st en : BitVec 32) : IVec S256x512 1 :=
  andi (cmpi .sge (addi (broadcast S256x512 (Scalar.muli t 256#32)) (iota .tc S256x512 32 [0]))
      (broadcast S256x512 (Scalar.select (Scalar.cmpi .eq e 0#32) 0#32 st)))
    (cmpi .slt (addi (broadcast S256x512 (Scalar.muli t 256#32)) (iota .tc S256x512 32 [0])) (broadcast S256x512 en))

/-- What a step leaves in the output window that held `old`. -/
def outTile (e t st en : BitVec 32) (h : FVec F S256x512 .f32) (old : Vec F S256x512 .fp8e4m3) : Vec F S256x512 .fp8e4m3 :=
  truncf .fp8e4m3 (select (keepTile e t st en) h (extf .f32 old bitsLt_fp8e4m3_f32)) bitsLt_fp8e4m3_f32

/-- The word read off an 8-word buffer at the offset `off`. -/
abbrev w8 (c : Dev nD) {e : EltTy} (M : Memref sig .tc .smem S8 e) (f : Bf (F := F) c M) (off : Fin 1 → Nat)
    (h : ∀ a, off a + S1.size a ≤ S8.size a) : Elt F e :=
  View.readAt (Elt F) M.view (Rect.unit (s := S8) off S1.size h).toLoadRect f (Shape.Idx.first (s := S1) (by decide))

theorem read_full {sig : RefSig} {κ : Kind} {sp : Space} {s : Shape} {e : EltTy} {Val : EltTy → Type} (v : View sig κ sp s e) (f : v.ty.Contents Val)
    {off : Fin s.rank → Nat} (inb : ∀ a, off a + s.size a ≤ s.size a) :
    v.readAt Val (Rect.unit off s.size inb).toLoadRect f = v.read Val f :=
  funext fun y => by
    rw [View.readAt_apply]
    exact congrArg _ (Rect.emb_unit_full inb y)

theorem read_writes_full {sig : RefSig} {κ : Kind} {sp : Space} {s : Shape} {e : EltTy} {Val : EltTy → Type} (v : View sig κ sp s e) (f : v.ty.Contents Val)
    {off : Fin s.rank → Nat} (inb : ∀ a, off a + s.size a ≤ s.size a) (w : s.Idx → Val e) :
    v.read Val (v.writes Val f [⟨Rect.unit off s.size inb, w⟩]) = w :=
  funext fun y => by
    have h := View.read_writes_cons_emb v f (Rect.unit off s.size inb) w [] y
    rwa [Rect.emb_unit_full inb y] at h

/-- A row of the column scales, off the window. -/
abbrev pqRow (c : Dev nD) (M : Memref sig .tc .vmem S8x512 .f32) (f : Bf (F := F) c M) (off : Fin 2 → Nat)
    (h : ∀ a, off a + S1x512.size a ≤ S8x512.size a) : S1x512.Idx → F .f32 :=
  View.readAt (Elt F) M.view (Rect.unit (s := S8x512) off S1x512.size h).toLoadRect f

theorem read_cast13 (c : Dev nD) (M13 : Memref sig .tc .vmem S256x512 .fp8e4m3) (f13 : Bf (F := F) c M13) :
    shapeCast S256x512 (M13.view.readAt (Elt F) (Rect.unit (s := S256x512) ![0, 0] S256x512.size inb_S256x512_S256x512_0_0).toLoadRect f13)
      shapeCasts_S256x512_S256x512 = M13.view.read (Elt F) f13 :=
  (shapeCast_self _ _).trans (read_full M13.view f13 inb_S256x512_S256x512_0_0)

section
variable (c : Dev nD) (b : grid0.Bounds) (i : grid0.Static) (s : BitVec 32)
  (M2 : Memref sig .tc .smem S43 .i32) (h2 : M2.IsWhole)
  (M3 : Memref sig .tc .smem S43 .i32) (h3 : M3.IsWhole)
  (M4 : Memref sig .tc .smem S8 .i32) (h4 : M4.IsWhole)
  (M5 : Memref sig .tc .smem S8 .f32) (h5 : M5.IsWhole)
  (M6 : Memref sig .tc .smem S8 .f32) (h6 : M6.IsWhole)
  (M7 : Memref sig .tc .vmem S256x6144 .fp8e4m3) (h7 : M7.IsWhole)
  (M8 : Memref sig .tc .vmem S1x3072x512 .i8) (h8 : M8.IsWhole)
  (M9 : Memref sig .tc .vmem S1x48x512 .bf16) (h9 : M9.IsWhole)
  (M10 : Memref sig .tc .vmem S1x3072x512 .i8) (h10 : M10.IsWhole)
  (M11 : Memref sig .tc .vmem S1x48x512 .bf16) (h11 : M11.IsWhole)
  (M12 : Memref sig .tc .vmem S8x512 .f32) (h12 : M12.IsWhole)
  (M13 : Memref sig .tc .vmem S256x512 .fp8e4m3) (h13 : M13.IsWhole)
  (M14 : Memref sig .tc .vmem S6144x512 .bf16) (h14 : M14.IsWhole)
  (M15 : Memref sig .tc .vmem S6144x512 .bf16) (h15 : M15.IsWhole)
  (f2 : Bf (F := F) c M2)
  (f3 : Bf (F := F) c M3)
  (f4 : Bf (F := F) c M4)
  (f5 : Bf (F := F) c M5)
  (f6 : Bf (F := F) c M6)
  (f7 : Bf (F := F) c M7)
  (f8 : Bf (F := F) c M8)
  (f9 : Bf (F := F) c M9)
  (f10 : Bf (F := F) c M10)
  (f11 : Bf (F := F) c M11)
  (f12 : Bf (F := F) c M12)
  (f13 : Bf (F := F) c M13)
  (f14 : Bf (F := F) c M14)
  (f15 : Bf (F := F) c M15)
  (hc : k0_chk1 s) (hc2 : k0_chk2 (w43 c M2 f2 (k0_off2 s) hc.1)) (hc3 : k0_chk3 (w43 c M2 f2 (k0_off6 s) hc.2.2))

theorem keep_val : keepRun.sl.v67 c s M2 M3 M4 M5 M6 M7 M12 M13 M14 M15 f2 f3 f4 f5 f6 f7 f12 f13 f14 f15 hc hc2 hc3
      = outTile (w43 c M2 f2 (k0_off6 s) hc.2.2) (w43 c M3 f3 (k0_off6 s) hc.2.2) (w8 c M4 f4 (k0_off7 (w43 c M2 f2 (k0_off6 s) hc.2.2)) (k0_off7_inb _ hc3))
          (w8 c M4 f4 (k0_off8 (w43 c M2 f2 (k0_off6 s) hc.2.2)) (k0_off8_inb _ hc3))
          (hTile (M7.view.readAt (Elt F) (Rect.unit (s := S256x6144) ![0, 0] S256x6144.size inb_S256x6144_S256x6144_0_0).toLoadRect f7) (M14.view.readAt (Elt F) (Rect.unit (s := S6144x512) ![0, 0] S6144x512.size inb_S6144x512_S6144x512_0_0).toLoadRect f14) (M15.view.readAt (Elt F) (Rect.unit (s := S6144x512) ![0, 0] S6144x512.size inb_S6144x512_S6144x512_0_0).toLoadRect f15)
            (w8 c M5 f5 (k0_off4 (w43 c M2 f2 (k0_off2 s) hc.1)) (k0_off4_inb _ hc2)) (w8 c M6 f6 (k0_off4 (w43 c M2 f2 (k0_off2 s) hc.1)) (k0_off4_inb _ hc2))
            (pqRow c M12 f12 (k0_off5 (w43 c M2 f2 (k0_off2 s) hc.1)) (k0_off5_inb _ hc2)))
          (shapeCast S256x512 (M13.view.readAt (Elt F) (Rect.unit (s := S256x512) ![0, 0] S256x512.size inb_S256x512_S256x512_0_0).toLoadRect f13)
            shapeCasts_S256x512_S256x512) := by
  exact rfl

theorem wide_val : wideRun.sl.v67 c s M2 M3 M4 M5 M6 M7 M8 M9 M10 M11 M12 M13 M14 M15 f2 f3 f4 f5 f6 f7 f8 f9 f10 f11 f12 f13 hc hc2 hc3
      = outTile (w43 c M2 f2 (k0_off6 s) hc.2.2) (w43 c M3 f3 (k0_off6 s) hc.2.2) (w8 c M4 f4 (k0_off7 (w43 c M2 f2 (k0_off6 s) hc.2.2)) (k0_off7_inb _ hc3))
          (w8 c M4 f4 (k0_off8 (w43 c M2 f2 (k0_off6 s) hc.2.2)) (k0_off8_inb _ hc3))
          (hTile (M7.view.readAt (Elt F) (Rect.unit (s := S256x6144) ![0, 0] S256x6144.size inb_S256x6144_S256x6144_0_0).toLoadRect f7) (M14.view.readAt (Elt F) (Rect.unit (s := S6144x512) ![0, 0] S6144x512.size inb_S6144x512_S6144x512_0_0).toLoadRect (M14.view.writes (Elt F) M14.view.junk (wideRun.sl.H14_96 c M8 M9 f8 f9))) (M15.view.readAt (Elt F) (Rect.unit (s := S6144x512) ![0, 0] S6144x512.size inb_S6144x512_S6144x512_0_0).toLoadRect (M15.view.writes (Elt F) M15.view.junk (wideRun.sl.H15_96 c M10 M11 f10 f11)))
            (w8 c M5 f5 (k0_off4 (w43 c M2 f2 (k0_off2 s) hc.1)) (k0_off4_inb _ hc2)) (w8 c M6 f6 (k0_off4 (w43 c M2 f2 (k0_off2 s) hc.1)) (k0_off4_inb _ hc2))
            (pqRow c M12 f12 (k0_off5 (w43 c M2 f2 (k0_off2 s) hc.1)) (k0_off5_inb _ hc2)))
          (shapeCast S256x512 (M13.view.readAt (Elt F) (Rect.unit (s := S256x512) ![0, 0] S256x512.size inb_S256x512_S256x512_0_0).toLoadRect f13)
            shapeCasts_S256x512_S256x512) := by
  exact rfl

theorem keepRun_out (hn : ¬ k0_cond s (w43 c M2 f2 (k0_off2 s) hc.1) (w43 c M2 f2 (k0_off3 s) hc.2.1)) :
    (keepRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc hc2 hc3 hn).1 = M13.view.writes (Elt F) f13 [⟨Rect.unit (s := S256x512) ![0, 0] S256x512.size inb_S256x512_S256x512_0_0, keepRun.sl.v67 c s M2 M3 M4 M5 M6 M7 M12 M13 M14 M15 f2 f3 f4 f5 f6 f7 f12 f13 f14 f15 hc hc2 hc3⟩] := by
  delta keepRun
  dsimp only

theorem wideRun_out (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.1 = M13.view.writes (Elt F) M13.view.junk [⟨Rect.unit (s := S256x512) ![0, 0] S256x512.size inb_S256x512_S256x512_0_0, wideRun.sl.v67 c s M2 M3 M4 M5 M6 M7 M8 M9 M10 M11 M12 M13 M14 M15 f2 f3 f4 f5 f6 f7 f8 f9 f10 f11 f12 f13 hc hc2 hc3⟩] := by
  delta wideRun
  dsimp only
  exact rfl

theorem wideRun_first (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.2.1 = M14.view.writes (Elt F) M14.view.junk (wideRun.sl.H14_96 c M8 M9 f8 f9) := by
  delta wideRun
  dsimp only

theorem wideRun_second (hn : k0_cond s (w43 c M2 f2 (k0_off2 s) hc.1) (w43 c M2 f2 (k0_off3 s) hc.2.1)) :
    (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.2.2 = M15.view.writes (Elt F) M15.view.junk (wideRun.sl.H15_96 c M10 M11 f10 f11) := by
  delta wideRun
  dsimp only

/-- A step on the weights already widened leaves this in its output window. -/
theorem keep_out (hn : ¬ k0_cond s (w43 c M2 f2 (k0_off2 s) hc.1) (w43 c M2 f2 (k0_off3 s) hc.2.1)) :
    M13.view.read (Elt F) (keepRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 hc hc2 hc3 hn).1
      = outTile (w43 c M2 f2 (k0_off6 s) hc.2.2) (w43 c M3 f3 (k0_off6 s) hc.2.2) (w8 c M4 f4 (k0_off7 (w43 c M2 f2 (k0_off6 s) hc.2.2)) (k0_off7_inb _ hc3))
          (w8 c M4 f4 (k0_off8 (w43 c M2 f2 (k0_off6 s) hc.2.2)) (k0_off8_inb _ hc3))
          (hTile (M7.view.read (Elt F) f7) (M14.view.read (Elt F) f14) (M15.view.read (Elt F) f15)
            (w8 c M5 f5 (k0_off4 (w43 c M2 f2 (k0_off2 s) hc.1)) (k0_off4_inb _ hc2)) (w8 c M6 f6 (k0_off4 (w43 c M2 f2 (k0_off2 s) hc.1)) (k0_off4_inb _ hc2))
            (pqRow c M12 f12 (k0_off5 (w43 c M2 f2 (k0_off2 s) hc.1)) (k0_off5_inb _ hc2)))
          (M13.view.read (Elt F) f13) := by
  rw [keepRun_out, read_writes_full, keep_val, read_cast13, read_full, read_full, read_full]

/-- A step that widens new weights leaves them in the two scratches. -/
theorem wide_first (hn : k0_cond s (w43 c M2 f2 (k0_off2 s) hc.1) (w43 c M2 f2 (k0_off3 s) hc.2.1)) :
    M14.view.read (Elt F) (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.2.1 = wide (M8.view.read (Elt F) f8) (M9.view.read (Elt F) f9) := by
  rw [wideRun_first, stores_first]
  exact read_stores c M8 M9 f8 f9 M14 M14.view.junk

theorem wide_second (hn : k0_cond s (w43 c M2 f2 (k0_off2 s) hc.1) (w43 c M2 f2 (k0_off3 s) hc.2.1)) :
    M15.view.read (Elt F) (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.2.2 = wide (M10.view.read (Elt F) f10) (M11.view.read (Elt F) f11) := by
  rw [wideRun_second, stores_second]
  exact read_stores c M10 M11 f10 f11 M15 M15.view.junk

/-- A step that widens new weights leaves this in its output window. -/
theorem wide_out (hn : k0_cond s (w43 c M2 f2 (k0_off2 s) hc.1) (w43 c M2 f2 (k0_off3 s) hc.2.1)) :
    M13.view.read (Elt F) (wideRun c b i s M2 h2 M3 h3 M4 h4 M5 h5 M6 h6 M7 h7 M8 h8 M9 h9 M10 h10 M11 h11 M12 h12 M13 h13 M14 h14 M15 h15 f2 f3 f4 f5 f6 f7 f8 f9 f10 f11 f12 f13 hc hc2 hc3 hn).1.1
      = outTile (w43 c M2 f2 (k0_off6 s) hc.2.2) (w43 c M3 f3 (k0_off6 s) hc.2.2) (w8 c M4 f4 (k0_off7 (w43 c M2 f2 (k0_off6 s) hc.2.2)) (k0_off7_inb _ hc3))
          (w8 c M4 f4 (k0_off8 (w43 c M2 f2 (k0_off6 s) hc.2.2)) (k0_off8_inb _ hc3))
          (hTile (M7.view.read (Elt F) f7) (wide (M8.view.read (Elt F) f8) (M9.view.read (Elt F) f9)) (wide (M10.view.read (Elt F) f10) (M11.view.read (Elt F) f11))
            (w8 c M5 f5 (k0_off4 (w43 c M2 f2 (k0_off2 s) hc.1)) (k0_off4_inb _ hc2)) (w8 c M6 f6 (k0_off4 (w43 c M2 f2 (k0_off2 s) hc.1)) (k0_off4_inb _ hc2))
            (pqRow c M12 f12 (k0_off5 (w43 c M2 f2 (k0_off2 s) hc.1)) (k0_off5_inb _ hc2)))
          (M13.view.read (Elt F) f13) := by
  rw [wideRun_out, read_writes_full, wide_val, read_cast13, read_full, read_full, read_full, stores_first, stores_second, read_stores, read_stores]

end

end Cert.UpIdeal.Gate
-- ==== Proof.VPlan.lean ====
/- What the tables say: the grid's points, the windows' blocks and the body's checked words, at tables that hold a work list. -/
module

public import proofs.«01_k».proof.Proof.Gen.UpIdeal
public import proofs.«01_k».proof.Proof.Gen.UpIdeal.Launch
public import proofs.«01_k».proof.Proof.WorkWords
public import Idealize.ShloMosaic.Lib.PairWhole

@[expose] public section

set_option maxRecDepth 4000

noncomputable section

namespace Cert.UpIdeal.Gate

open Cert.UpIdeal Cert.UpIdeal.Gen
open Cert.Down
open Idealize.ShloMosaic Idealize.ShloMosaic.TcCoe Idealize.ShloMosaic.ValueIdx

variable {F : FTy → Type} [FloatOps F]

/-- The tables hold the work list of the group sizes `γ`. -/
structure Plan (pf : pre0.Contents (Elt F)) (γ : Nat → Nat) : Prop where
  h8 : pre γ 8 = 9216
  n : ∀ i, (pf 0 : IVec S_ 32) i = BitVec.ofNat 32 (steps γ)
  expert : ∀ s : Fin 43, (pf 1 : IVec S43 32) (ix1 s) = BitVec.ofNat 32 (expertOf γ s.val)
  tile : ∀ s : Fin 43, (pf 2 : IVec S43 32) (ix1 s) = BitVec.ofNat 32 (tileOf γ s.val)
  ends : ∀ e : Fin 8, (pf 3 : IVec S8 32) (ix1 e) = BitVec.ofNat 32 (pre γ (e.val + 1))

/-- A word as an index. -/
theorem cast_nat {n : Nat} (h : n < 2 ^ 32) : (Scalar.indexCast (BitVec.ofNat 32 n) : Index).toNat = n := by
  have : (Scalar.indexCast (BitVec.ofNat 32 n) : Index) = BitVec.ofNat 32 n := by
    unfold Scalar.indexCast; simp
  rw [this, BitVec.toNat_ofNat, Nat.mod_eq_of_lt h]

theorem toNat_nat {n : Nat} (h : n < 2 ^ 32) : (BitVec.ofNat 32 n).toNat = n := by
  rw [BitVec.toNat_ofNat, Nat.mod_eq_of_lt h]

section
variable {pf : pre0.Contents (Elt F)} {γ : Nat → Nat} (P : Plan pf γ)
include P

theorem steps_lt : steps γ ≤ 43 := steps_le γ P.h8

theorem dynb_one : dynb0 pf 1 = steps γ := by
  have := steps_lt P
  show ((pf 0 : IVec S_ 32) _).toNat = _
  rw [P.n, toNat_nat (by omega)]

theorem bound_zero : (grid0.at (dynb0 pf)).bound 0 = 8 := rfl
theorem bound_one : (grid0.at (dynb0 pf)).bound 1 = steps γ := by
  show grid0.boundAt (dynb0 pf) 1 = _
  rw [grid0.boundAt_of_dyn_true rfl, dynb_one P]

theorem grid_N : (grid0.at (dynb0 pf)).N = 8 * steps γ := by
  have h1 := bound_one P
  unfold Pipeline.Grid.N
  simp only [List.ofFn_succ, List.ofFn_zero, List.prod_cons, List.prod_nil]
  show (grid0.at (dynb0 pf)).bound 0 * ((grid0.at (dynb0 pf)).bound 1 * 1) = _
  rw [h1, bound_zero P, Nat.mul_one]

theorem coord_lt (i : (grid0.at (dynb0 pf)).Coords) : (i 1).val < steps γ := bound_one P ▸ (i 1).isLt
theorem coord_lt0 (i : (grid0.at (dynb0 pf)).Coords) : (i 0).val < 8 := (i 0).isLt

theorem coords_one (t : Fin (grid0.at (dynb0 pf)).N) : ((grid0.at (dynb0 pf)).coords t 1).val = t.val % steps γ := by
  rw [Pipeline.Grid.coords_val t 1 (S := 1) (B := steps γ) (by
    unfold Pipeline.Grid.stride
    simp only [List.ofFn_succ, List.ofFn_zero, List.prod_cons, List.prod_nil]; rfl) (bound_one P), Nat.div_one]

theorem coords_zero (t : Fin (grid0.at (dynb0 pf)).N) : ((grid0.at (dynb0 pf)).coords t 0).val = t.val / steps γ := by
  have ht : t.val < 8 * steps γ := t.isLt.trans_eq (grid_N P)
  rw [Pipeline.Grid.coords_val t 0 (S := steps γ) (B := 8) (by
    unfold Pipeline.Grid.stride
    simp only [List.ofFn_succ, List.ofFn_zero, List.prod_cons, List.prod_nil]
    show 1 * ((grid0.at (dynb0 pf)).bound 1 * 1) = _
    rw [bound_one P]; omega) rfl]
  exact Nat.mod_eq_of_lt (Nat.div_lt_of_lt_mul (by rw [Nat.mul_comm]; exact ht))

omit P in
theorem off_lt {n : Nat} (hn : n < 43) : ∀ a, (![n] : Fin 1 → Nat) a + 1 ≤ S43.size a := fun a => by
  obtain rfl := Fin.fin_one_eq_zero a; exact hn
omit P in
theorem off_ix {n : Nat} (hn : n < 43) : (fun a => ⟨(![n] : Fin 1 → Nat) a, off_lt hn a⟩ : S43.Idx) = ix1 ⟨n, hn⟩ := by
  funext a; obtain rfl := Fin.fin_one_eq_zero a; rfl
omit P in
theorem atD_at (f : IVec S43 32) {n : Nat} (hn : n < 43) :
    (if h : ∀ a, (![n] : Fin 1 → Nat) a + 1 ≤ S43.size a then f (fun a => ⟨(![n] : Fin 1 → Nat) a, h a⟩) else default) = f (ix1 ⟨n, hn⟩) := by
  rw [dif_pos (off_lt hn), off_ix]

theorem expert_at {n : Nat} (hn : n < steps γ) : pf.atD 1 ![n] = BitVec.ofNat 32 (expertOf γ n) :=
  (atD_at (pf 1 : IVec S43 32) (Nat.lt_of_lt_of_le hn (steps_lt P))).trans (P.expert _)
theorem tile_at {n : Nat} (hn : n < steps γ) : pf.atD 2 ![n] = BitVec.ofNat 32 (tileOf γ n) :=
  (atD_at (pf 2 : IVec S43 32) (Nat.lt_of_lt_of_le hn (steps_lt P))).trans (P.tile _)

theorem expert_lt (s : Nat) : expertOf γ s < 8 := slot_lt _ _
theorem tile_le (s : Nat) : tileOf γ s ≤ 35 := Nat.min_le_right _ _

theorem trans2 (i : (grid0.at (dynb0 pf)).Coords) : cc0_transform_2 pf (dynb0 pf) i = ![tileOf γ (i 1).val, 0] := by
  have h := coord_lt P i; have := steps_lt P; have := tile_le P (i 1).val
  unfold cc0_transform_2
  dsimp only
  rw [cast_nat (by omega), tile_at P h, toNat_nat (by omega)]; rfl
theorem trans3 (i : (grid0.at (dynb0 pf)).Coords) : cc0_transform_3 pf (dynb0 pf) i = ![expertOf γ (i 1).val, 0, (i 0).val] := by
  have h := coord_lt P i; have := steps_lt P; have := expert_lt P (i 1).val; have := coord_lt0 P i
  unfold cc0_transform_3
  dsimp only
  rw [cast_nat (by omega), expert_at P h, toNat_nat (by omega), toNat_nat (n := (i 0).val) (by omega)]; rfl
theorem trans4 (i : (grid0.at (dynb0 pf)).Coords) : cc0_transform_4 pf (dynb0 pf) i = ![expertOf γ (i 1).val, 0, (i 0).val] := by
  have h := coord_lt P i; have := steps_lt P; have := expert_lt P (i 1).val; have := coord_lt0 P i
  unfold cc0_transform_4
  dsimp only
  rw [cast_nat (by omega), expert_at P h, toNat_nat (by omega), toNat_nat (n := (i 0).val) (by omega)]; rfl
theorem trans5 (i : (grid0.at (dynb0 pf)).Coords) : cc0_transform_5 pf (dynb0 pf) i = ![expertOf γ (i 1).val, 0, (i 0).val] := by
  exact trans3 P i
theorem trans6 (i : (grid0.at (dynb0 pf)).Coords) : cc0_transform_6 pf (dynb0 pf) i = ![expertOf γ (i 1).val, 0, (i 0).val] := by
  exact trans4 P i
theorem trans7 (i : (grid0.at (dynb0 pf)).Coords) : cc0_transform_7 (dynb0 pf) i = ![0, (i 0).val] := by
  have := coord_lt0 P i
  unfold cc0_transform_7
  dsimp only
  rw [toNat_nat (n := (i 0).val) (by omega)]; rfl
theorem trans8 (i : (grid0.at (dynb0 pf)).Coords) : cc0_transform_8 pf (dynb0 pf) i = ![tileOf γ (i 1).val, (i 0).val] := by
  have h := coord_lt P i; have := steps_lt P; have := tile_le P (i 1).val; have := coord_lt0 P i
  unfold cc0_transform_8
  dsimp only
  rw [cast_nat (by omega), tile_at P h, toNat_nat (by omega), toNat_nat (n := (i 0).val) (by omega)]

/-- A block of packed weights lies in its array, on whole words. -/
theorem packed_ok (i : (grid0.at (dynb0 pf)).Coords) (x : Fin 3 → Nat) (hx : x = ![expertOf γ (i 1).val, 0, (i 0).val]) :
    ∃ h : (∀ a, (x a + 1) * S1x3072x512.size a ≤ S8x3072x4096.size a), EltTy.bits .i8 = 32 ∨ (Rect.block (s := S8x3072x4096) S1x3072x512.size x h).WholeWords (EltTy.packing .i8) := by
  have := expert_lt P (i 1).val; have := coord_lt0 P i
  subst hx
  refine ⟨fun a => ?_, .inr ((Rect.packedRows_of_rowAxis _ _ (by decide) ?_ (show 4 ∣ 3072 by decide) rfl).wholeWords)⟩
  · fin_cases a
    · show (expertOf γ (i 1).val + 1) * 1 ≤ 8; omega
    · exact (show (0 + 1) * 3072 ≤ 3072 by decide)
    · show ((i 0).val + 1) * 512 ≤ 4096; omega
  · exact (show 4 ∣ 0 * 3072 by decide)

/-- A block of weight scales lies in its array, on whole words. -/
theorem scales_ok (i : (grid0.at (dynb0 pf)).Coords) (x : Fin 3 → Nat) (hx : x = ![expertOf γ (i 1).val, 0, (i 0).val]) :
    ∃ h : (∀ a, (x a + 1) * S1x48x512.size a ≤ S8x48x4096.size a), EltTy.bits .bf16 = 32 ∨ (Rect.block (s := S8x48x4096) S1x48x512.size x h).WholeWords (EltTy.packing .bf16) := by
  have := expert_lt P (i 1).val; have := coord_lt0 P i
  subst hx
  refine ⟨fun a => ?_, .inr ((Rect.packedRows_of_rowAxis _ _ (by decide) ?_ (show 2 ∣ 48 by decide) rfl).wholeWords)⟩
  · fin_cases a
    · show (expertOf γ (i 1).val + 1) * 1 ≤ 8; omega
    · exact (show (0 + 1) * 48 ≤ 48 by decide)
    · show ((i 0).val + 1) * 512 ≤ 4096; omega
  · exact (show 2 ∣ 0 * 48 by decide)

/-- The region's side condition holds of such tables. -/
theorem ok_of_plan : ok0 pf := by
  have hs := steps_lt P
  refine ⟨?_, fun i a => ?_, fun i => ⟨fun a => ?_, .inl rfl⟩, fun i => ⟨fun a => ?_, .inl rfl⟩, fun i => ⟨fun a => ?_, .inr ?_⟩,
    fun i => packed_ok P i _ (trans3 P i), fun i => scales_ok P i _ (trans4 P i), fun i => packed_ok P i _ (trans5 P i), fun i => scales_ok P i _ (trans6 P i),
    fun i => ⟨fun a => ?_, .inl rfl⟩, fun i => ⟨fun a => ?_, .inr ?_⟩⟩
  · unfold Pipeline.Grid.Admits; rw [grid_N P]; omega
  · have h := coord_lt P i
    obtain rfl := Fin.fin_one_eq_zero a
    show (Scalar.indexCast (BitVec.ofNat 32 (i 1).val) : Index).toNat + 1 ≤ 43
    rw [cast_nat (by omega)]; omega
  · obtain rfl := Fin.fin_one_eq_zero a; exact (show (0 + 1) * 8 ≤ 8 by decide)
  · obtain rfl := Fin.fin_one_eq_zero a; exact (show (0 + 1) * 8 ≤ 8 by decide)
  · have h := coord_lt P i; have := tile_le P (i 1).val
    rw [trans2 P i]
    fin_cases a
    · show (tileOf γ (i 1).val + 1) * 256 ≤ 9216; omega
    · exact (show (0 + 1) * 6144 ≤ 6144 by decide)
  · refine (Rect.packedRows_of_rowAxis _ _ (by decide) ?_ (show 4 ∣ 256 by decide) rfl).wholeWords
    show 4 ∣ cc0_transform_2 pf (dynb0 pf) i 0 * 256
    exact Dvd.dvd.mul_left (by decide) _
  · have := coord_lt0 P i
    rw [trans7 P i]
    fin_cases a
    · exact (show (0 + 1) * 8 ≤ 8 by decide)
    · show ((i 0).val + 1) * 512 ≤ 4096; omega
  · have h := coord_lt P i; have := tile_le P (i 1).val; have := coord_lt0 P i
    rw [trans8 P i]
    fin_cases a
    · show (tileOf γ (i 1).val + 1) * 256 ≤ 9216; omega
    · show ((i 0).val + 1) * 512 ≤ 4096; omega
  · refine (Rect.packedRows_of_rowAxis _ _ (by decide) ?_ (show 4 ∣ 256 by decide) rfl).wholeWords
    show 4 ∣ cc0_transform_8 pf (dynb0 pf) i 0 * 256
    exact Dvd.dvd.mul_left (by decide) _

end

/-- A step's number passes the body's first check. -/
theorem chk1 {n : Nat} (h : n < 43) : k0_chk1 (BitVec.ofNat 32 n) := by
  refine ⟨fun a => ?_, fun a => ?_, fun a => ?_⟩ <;> obtain rfl := Fin.fin_one_eq_zero a
  · show (Scalar.indexCast (BitVec.ofNat 32 n) : Index).toNat + 1 ≤ 43
    rw [cast_nat (by omega)]; omega
  · show (Scalar.indexCast (Scalar.maxsi (Scalar.subi (BitVec.ofNat 32 n) 1#32) 0#32) : Index).toNat + 1 ≤ 43
    have : Scalar.maxsi (Scalar.subi (BitVec.ofNat 32 n) 1#32) 0#32 = BitVec.ofNat 32 (n - 1) := Routing.maxsi_pred (by omega)
    rw [this, cast_nat (by omega)]; omega
  · show (Scalar.indexCast (BitVec.ofNat 32 n) : Index).toNat + 1 ≤ 43
    rw [cast_nat (by omega)]; omega

/-- A group's number passes the body's other checks. -/
theorem chk2 {e : Nat} (h : e < 8) : k0_chk2 (BitVec.ofNat 32 e) := by
  refine ⟨fun a => ?_, fun a => ?_⟩
  · obtain rfl := Fin.fin_one_eq_zero a
    show (Scalar.indexCast (BitVec.ofNat 32 e) : Index).toNat + 1 ≤ 8
    rw [cast_nat (by omega)]; omega
  · fin_cases a
    · show (Scalar.indexCast (BitVec.ofNat 32 e) : Index).toNat + 1 ≤ 8
      rw [cast_nat (by omega)]; omega
    · exact (show 0 + 512 ≤ 512 by decide)
theorem chk3 {e : Nat} (h : e < 8) : k0_chk3 (BitVec.ofNat 32 e) := by
  refine ⟨fun a => ?_, fun a => ?_⟩ <;> obtain rfl := Fin.fin_one_eq_zero a
  · show (Scalar.indexCast (Scalar.maxsi (Scalar.subi (BitVec.ofNat 32 e) 1#32) 0#32) : Index).toNat + 1 ≤ 8
    have : Scalar.maxsi (Scalar.subi (BitVec.ofNat 32 e) 1#32) 0#32 = BitVec.ofNat 32 (e - 1) := Routing.maxsi_pred (by omega)
    rw [this, cast_nat (by omega)]; omega
  · show (Scalar.indexCast (BitVec.ofNat 32 e) : Index).toNat + 1 ≤ 8
    rw [cast_nat (by omega)]; omega

end Cert.UpIdeal.Gate
-- ==== Proof.VStep.lean ====
/- One step's words and blocks by numbers: the words the body reads off the tables, the rows a step keeps, the blocks the windows
   hold. -/
module

public import proofs.«01_k».proof.Proof.VOut
public import proofs.«01_k».proof.Proof.VPlan

@[expose] public section

set_option maxRecDepth 4000

noncomputable section

namespace Cert.UpIdeal.Gate

open Cert.UpIdeal Cert.UpIdeal.Gen
open Cert.Down
open Idealize.ShloMosaic Idealize.ShloMosaic.TcCoe Idealize.ShloMosaic.ValueIdx

variable {F : FTy → Type} [FloatOps F]

/-! ## The words -/

theorem off_step {n : Nat} (hn : n < 43) : k0_off2 (BitVec.ofNat 32 n) = ![n] := by
  show ![(Scalar.indexCast (BitVec.ofNat 32 n) : Index).toNat] = _
  rw [cast_nat (by omega)]
theorem off_step6 {n : Nat} (hn : n < 43) : k0_off6 (BitVec.ofNat 32 n) = ![n] := by
  show ![(Scalar.indexCast (BitVec.ofNat 32 n) : Index).toNat] = _
  rw [cast_nat (by omega)]
theorem off_back {n : Nat} (hn : n < 43) : k0_off3 (BitVec.ofNat 32 n) = ![n - 1] := by
  show ![(Scalar.indexCast (Scalar.maxsi (Scalar.subi (BitVec.ofNat 32 n) 1#32) 0#32) : Index).toNat] = _
  have : Scalar.maxsi (Scalar.subi (BitVec.ofNat 32 n) 1#32) 0#32 = BitVec.ofNat 32 (n - 1) := Routing.maxsi_pred (by omega)
  rw [this, cast_nat (by omega)]
theorem off_group {e : Nat} (he : e < 8) : k0_off4 (BitVec.ofNat 32 e) = ![e] := by
  show ![(Scalar.indexCast (BitVec.ofNat 32 e) : Index).toNat] = _
  rw [cast_nat (by omega)]
theorem off_group8 {e : Nat} (he : e < 8) : k0_off8 (BitVec.ofNat 32 e) = ![e] := by
  show ![(Scalar.indexCast (BitVec.ofNat 32 e) : Index).toNat] = _
  rw [cast_nat (by omega)]
theorem off_group_back {e : Nat} (he : e < 8) : k0_off7 (BitVec.ofNat 32 e) = ![e - 1] := by
  show ![(Scalar.indexCast (Scalar.maxsi (Scalar.subi (BitVec.ofNat 32 e) 1#32) 0#32) : Index).toNat] = _
  have : Scalar.maxsi (Scalar.subi (BitVec.ofNat 32 e) 1#32) 0#32 = BitVec.ofNat 32 (e - 1) := Routing.maxsi_pred (by omega)
  rw [this, cast_nat (by omega)]

/-- A word of a 43-word table at a numbered offset. -/
theorem w43_at (c : Dev nD) {e : EltTy} (M : Memref sig .tc .smem S43 e) (f : Bf (F := F) c M) (off : Fin 1 → Nat)
    (h : ∀ a, off a + S1.size a ≤ S43.size a) {n : Nat} (hn : n < 43) (ho : off = ![n]) :
    w43 c M f off h = M.view.read (Elt F) f (ix1 ⟨n, hn⟩) := by
  subst ho
  unfold w43
  rw [View.readAt_apply]
  refine congrArg _ (funext fun a => Fin.ext ?_)
  obtain rfl := Fin.fin_one_eq_zero a
  show n + 1 * 0 = n
  omega

/-- A word of an 8-word buffer at a numbered offset. -/
theorem w8_at (c : Dev nD) {e : EltTy} (M : Memref sig .tc .smem S8 e) (f : Bf (F := F) c M) (off : Fin 1 → Nat)
    (h : ∀ a, off a + S1.size a ≤ S8.size a) {n : Nat} (hn : n < 8) (ho : off = ![n]) :
    w8 c M f off h = M.view.read (Elt F) f (ix1 ⟨n, hn⟩) := by
  subst ho
  unfold w8
  rw [View.readAt_apply]
  refine congrArg _ (funext fun a => Fin.ext ?_)
  obtain rfl := Fin.fin_one_eq_zero a
  show n + 1 * 0 = n
  omega

/-- The widening runs at the first step and where the expert changes. -/
theorem cond_iff {n e p : Nat} (hn : n < 43) (he : e < 8) (hp : p < 8) :
    k0_cond (BitVec.ofNat 32 n) (BitVec.ofNat 32 e) (BitVec.ofNat 32 p) ↔ (n = 0 ∨ e ≠ p) := by
  have h1 : Scalar.cmpi .eq (BitVec.ofNat 32 n) 0#32 = if n = 0 then 1#1 else 0#1 := by
    show BitVec.ofBool (BitVec.ofNat 32 n == 0#32) = _
    by_cases h : n = 0
    · subst h; rfl
    · rw [if_neg h, show (BitVec.ofNat 32 n == 0#32) = false from by
        rw [beq_eq_false_iff_ne]; exact Routing.ofNat32_ne_zero (by omega) (by omega)]; rfl
  have h2 : Scalar.cmpi .ne (BitVec.ofNat 32 e) (BitVec.ofNat 32 p) = if e ≠ p then 1#1 else 0#1 := by
    show BitVec.ofBool (BitVec.ofNat 32 e != BitVec.ofNat 32 p) = _
    by_cases h : e = p
    · subst h; simp
    · rw [if_pos h, show (BitVec.ofNat 32 e != BitVec.ofNat 32 p) = true from by
        rw [bne_iff_ne]; intro h'; have := congrArg BitVec.toNat h'
        rw [toNat_nat (by omega), toNat_nat (by omega)] at this; exact h this]; rfl
  unfold k0_cond
  rw [h1, h2]
  by_cases ha : n = 0 <;> by_cases hb : e ≠ p <;> simp only [ha, hb, if_true, if_false, true_or, or_true, or_false, not_true, not_false_iff, ite_true, ite_false, ne_eq, iff_true, iff_false] <;> decide

/-! ## The rows a step keeps -/

theorem keep_at {e t : Nat} (lo hi : Nat) (he : e < 8) (ht : t ≤ 35) (hlo : lo ≤ 9216) (hhi : hi ≤ 9216) (h0 : e = 0 → lo = 0) (st : BitVec 32)
    (hst : e ≠ 0 → st = BitVec.ofNat 32 lo) (p : Fin 256) (q : Fin 512) :
    keepTile (BitVec.ofNat 32 e) (BitVec.ofNat 32 t) st (BitVec.ofNat 32 hi) (ix2 p q)
      = if lo ≤ 256 * t + p.val ∧ 256 * t + p.val < hi then 1#1 else 0#1 := by
  have hp := p.isLt
  have hr : (addi (broadcast S256x512 (Scalar.muli (BitVec.ofNat 32 t) 256#32)) (iota .tc S256x512 32 [0]) : IVec S256x512 32) (ix2 p q)
      = BitVec.ofNat 32 (256 * t + p.val) := by
    show BitVec.ofNat 32 t * 256#32 + BitVec.ofNat 32 (0 * 256 + p.val) = _
    apply BitVec.eq_of_toNat_eq
    simp only [BitVec.toNat_add, BitVec.toNat_mul, BitVec.toNat_ofNat]
    omega
  have hs : Scalar.select (Scalar.cmpi .eq (BitVec.ofNat 32 e) 0#32) 0#32 st = BitVec.ofNat 32 lo := by
    by_cases h : e = 0
    · rw [h0 h]; subst h; rfl
    · rw [hst h]
      show (if BitVec.ofBool (BitVec.ofNat 32 e == 0#32) = 1#1 then 0#32 else BitVec.ofNat 32 lo) = _
      rw [show (BitVec.ofNat 32 e == 0#32) = false from by rw [beq_eq_false_iff_ne]; exact Routing.ofNat32_ne_zero (by omega) (by omega)]
      rfl
  show (BitVec.ofBool ((broadcast S256x512 (Scalar.select (Scalar.cmpi .eq (BitVec.ofNat 32 e) 0#32) 0#32 st) : IVec S256x512 32) (ix2 p q)
      |>.sle ((addi (broadcast S256x512 (Scalar.muli (BitVec.ofNat 32 t) 256#32)) (iota .tc S256x512 32 [0]) : IVec S256x512 32) (ix2 p q))))
    &&& BitVec.ofBool (((addi (broadcast S256x512 (Scalar.muli (BitVec.ofNat 32 t) 256#32)) (iota .tc S256x512 32 [0]) : IVec S256x512 32) (ix2 p q)).slt (BitVec.ofNat 32 hi)) = _
  rw [hr]
  show BitVec.ofBool ((Scalar.select (Scalar.cmpi .eq (BitVec.ofNat 32 e) 0#32) 0#32 st).sle _) &&& _ = _
  rw [hs, Routing.sle_ofNat32 (by omega) (by omega), Routing.slt_ofNat32 (by omega) (by omega)]
  by_cases h1 : lo ≤ 256 * t + p.val <;> by_cases h2 : 256 * t + p.val < hi <;> simp [h1, h2]

/-! ## The blocks -/

/-- Row block `k` of the codes. -/
def aAt (X : Vec F S9216x6144 .fp8e4m3) (k : Fin 36) : Vec F S256x6144 .fp8e4m3 :=
  fun j => X (ix2 ⟨256 * k.val + (j 0).val, by have h : (j 0).val < 256 := (j 0).isLt; have := k.isLt; omega⟩ (j 1))
/-- Column block `n` of expert `e`'s weights. -/
def wAt (X : Vec F S8x3072x4096 .i8) (e : Fin 8) (n : Fin 8) : Vec F S1x3072x512 .i8 :=
  fun j => X (ix3 e (j 1) ⟨512 * n.val + (j 2).val, by have h : (j 2).val < 512 := (j 2).isLt; have := n.isLt; omega⟩)
/-- Column block `n` of expert `e`'s weight scales. -/
def uAt (X : Vec F S8x48x4096 .bf16) (e : Fin 8) (n : Fin 8) : Vec F S1x48x512 .bf16 :=
  fun j => X (ix3 e (j 1) ⟨512 * n.val + (j 2).val, by have h : (j 2).val < 512 := (j 2).isLt; have := n.isLt; omega⟩)
/-- Column block `n` of the column scales. -/
def pAt (X : Vec F S8x4096 .f32) (n : Fin 8) : Vec F S8x512 .f32 :=
  fun j => X (ix2 (j 0) ⟨512 * n.val + (j 1).val, by have h : (j 1).val < 512 := (j 1).isLt; have := n.isLt; omega⟩)
/-- Expert `e`'s row of a block of column scales. -/
def rowOf (X : Vec F S8x512 .f32) (e : Fin 8) : S1x512.Idx → F .f32 := fun j => X (ix2 e (j 1))

/-- The row read off the window of column scales. -/
theorem pqRow_at (c : Dev nD) (M : Memref sig .tc .vmem S8x512 .f32) (f : Bf (F := F) c M) {w : BitVec 32}
    (h : ∀ a, k0_off5 w a + S1x512.size a ≤ S8x512.size a) {e : Nat} (he : e < 8) (hw : w = BitVec.ofNat 32 e) :
    pqRow c M f (k0_off5 w) h = rowOf (M.view.read (Elt F) f) ⟨e, he⟩ := by
  subst hw
  refine funext fun j => ?_
  unfold pqRow
  rw [View.readAt_apply]
  refine congrArg (M.view.read (Elt F) f) (funext fun a => Fin.ext ?_)
  match a with
  | ⟨0, _⟩ =>
    have hj : (j 0).val < 1 := (j 0).isLt
    show (Scalar.indexCast (BitVec.ofNat 32 e) : Index).toNat + 1 * (j 0).val = e
    rw [cast_nat (by omega)]; omega
  | ⟨1, _⟩ => show 0 + 1 * (j 1).val = (j 1).val; omega

/-- Column block `n` of expert `e`'s widened weight. -/
def wideAt (X : Vec F S8x3072x4096 .i8) (Z : Vec F S8x48x4096 .bf16) (e : Fin 8) (n : Fin 8) : Vec F S6144x512 .bf16 :=
  wide (wAt X e n) (uAt Z e n)

/-- Before the cast, the result of row block `k` and column block `n` at expert `e`. -/
def hAt (X0 X1 : Vec F S8 .f32) (X2 : Vec F S9216x6144 .fp8e4m3) (X3 : Vec F S8x3072x4096 .i8) (X4 : Vec F S8x48x4096 .bf16)
    (X5 : Vec F S8x3072x4096 .i8) (X6 : Vec F S8x48x4096 .bf16) (X7 : Vec F S8x4096 .f32) (e : Fin 8) (k : Fin 36) (n : Fin 8) : Vec F S256x512 .f32 :=
  hTile (aAt X2 k) (wideAt X3 X4 e n) (wideAt X5 X6 e n) (X0 (ix1 e)) (X1 (ix1 e)) (rowOf (pAt X7 n) e)

/-- What a step of expert `e` on the rows `lo` to `hi` leaves in the output window, by its cells. -/
theorem out_at {e t : Nat} (lo hi : Nat) (he : e < 8) (ht : t ≤ 35) (hlo : lo ≤ 9216) (hhi : hi ≤ 9216) (h0 : e = 0 → lo = 0) (st : BitVec 32)
    (hst : e ≠ 0 → st = BitVec.ofNat 32 lo) (h : FVec F S256x512 .f32) (old : Vec F S256x512 .fp8e4m3)
    (p : Fin 256) (q : Fin 512) :
    outTile (BitVec.ofNat 32 e) (BitVec.ofNat 32 t) st (BitVec.ofNat 32 hi) h old (ix2 p q)
      = FloatOps.truncf .fp8e4m3 bitsLt_fp8e4m3_f32 (if lo ≤ 256 * t + p.val ∧ 256 * t + p.val < hi then h (ix2 p q)
          else FloatOps.extf .f32 bitsLt_fp8e4m3_f32 (old (ix2 p q))) := by
  show FloatOps.truncf .fp8e4m3 bitsLt_fp8e4m3_f32 (if keepTile (BitVec.ofNat 32 e) (BitVec.ofNat 32 t) st (BitVec.ofNat 32 hi) (ix2 p q) = 1#1 then _ else _) = _
  congr 1
  rw [keep_at lo hi he ht hlo hhi h0 st hst]
  by_cases hc : lo ≤ 256 * t + p.val ∧ 256 * t + p.val < hi
  · rw [if_pos hc, if_pos hc, if_pos rfl]
  · rw [if_neg hc, if_neg hc, if_neg (by decide)]
    rfl

end Cert.UpIdeal.Gate
-- ==== Proof.VStepRun.lean ====
/- One step of the kernel's body, run: what it leaves in the output window and in the scratch. -/
module

public import proofs.«01_k».proof.Proof.VBody
public import proofs.«01_k».proof.Proof.VWide
public import proofs.«01_k».proof.Proof.VStep

@[expose] public section

set_option maxRecDepth 4000

noncomputable section

namespace Cert.UpIdeal.Gate

open Cert.UpIdeal Cert.UpIdeal.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- The tables' memrefs and the two scratches'. -/
abbrev mE : Memref sig .tc .smem S43 .i32 := Memref.whole main_v21
abbrev mT : Memref sig .tc .smem S43 .i32 := Memref.whole main_v40
abbrev mS : Memref sig .tc .smem S8 .i32 := Memref.whole main_v0
abbrev mW : Memref sig .tc .vmem S6144x512 .bf16 := Memref.whole cc0_scratch0
abbrev mU : Memref sig .tc .vmem S6144x512 .bf16 := Memref.whole cc0_scratch1

variable {pf : pre0.Contents (Elt F)} {γ : Nat → Nat} (P : Plan pf γ)
include P

section
variable (c : Dev nD) {s : Nat} (hs : s < steps γ)
include hs

theorem lt43 : s < 43 := Nat.lt_of_lt_of_le hs (steps_lt P)

theorem word_expert (h) : w43 c mE (pf 1) (k0_off2 (BitVec.ofNat 32 s)) h = BitVec.ofNat 32 (expertOf γ s) := by
  exact (w43_at c mE (pf 1) _ h (lt43 P hs) (off_step (lt43 P hs))).trans (P.expert _)
theorem word_expert6 (h) : w43 c mE (pf 1) (k0_off6 (BitVec.ofNat 32 s)) h = BitVec.ofNat 32 (expertOf γ s) := by
  exact (w43_at c mE (pf 1) _ h (lt43 P hs) (off_step6 (lt43 P hs))).trans (P.expert _)
theorem word_back (h) : w43 c mE (pf 1) (k0_off3 (BitVec.ofNat 32 s)) h = BitVec.ofNat 32 (expertOf γ (s - 1)) := by
  have := lt43 P hs
  exact (w43_at c mE (pf 1) _ h (n := s - 1) (by omega) (off_back (lt43 P hs))).trans (P.expert _)
theorem word_tile (h) : w43 c mT (pf 2) (k0_off6 (BitVec.ofNat 32 s)) h = BitVec.ofNat 32 (tileOf γ s) := by
  exact (w43_at c mT (pf 2) _ h (lt43 P hs) (off_step6 (lt43 P hs))).trans (P.tile _)
omit hs in
theorem word_end {e : BitVec 32} (he : e = BitVec.ofNat 32 (expertOf γ s)) (h) :
    w8 c mS (pf 3) (k0_off8 e) h = BitVec.ofNat 32 (pre γ (expertOf γ s + 1)) := by
  subst he
  exact (w8_at c mS (pf 3) _ h (expert_lt P s) (off_group8 (expert_lt P s))).trans (P.ends _)
omit hs in
theorem word_start {e : BitVec 32} (he : e = BitVec.ofNat 32 (expertOf γ s)) (h0 : expertOf γ s ≠ 0) (h) :
    w8 c mS (pf 3) (k0_off7 e) h = BitVec.ofNat 32 (pre γ (expertOf γ s)) := by
  subst he
  have h8 := expert_lt P s
  refine ((w8_at c mS (pf 3) _ h (n := expertOf γ s - 1) (by omega) (off_group_back (expert_lt P s))).trans (P.ends _)).trans ?_
  show BitVec.ofNat 32 (pre γ (expertOf γ s - 1 + 1)) = _
  rw [Nat.sub_add_cancel (by omega)]
omit P hs in
theorem word_act (M5 : Memref sig .tc .smem S8 .f32) (f5 : Bf (F := F) c M5) {e : BitVec 32} {k : Nat} (hk : k < 8) (he : e = BitVec.ofNat 32 k) (h) :
    w8 c M5 f5 (k0_off4 e) h = M5.view.read (Elt F) f5 (ix1 ⟨k, hk⟩) := by
  subst he
  exact w8_at c M5 f5 _ h hk (off_group hk)

end

/-- What a step leaves in the output window, by its cells. -/
def Cells (s : Nat) (a : Vec F S256x6144 .fp8e4m3) (w1 w3 : Vec F S6144x512 .bf16) (act1 act2 : Vec F S8 .f32) (pq : Vec F S8x512 .f32)
    (old new : Vec F S256x512 .fp8e4m3) : Prop :=
  ∀ (p : Fin 256) (q : Fin 512), new (ix2 p q)
    = FloatOps.truncf .fp8e4m3 bitsLt_fp8e4m3_f32
        (if pre γ (expertOf γ s) ≤ 256 * tileOf γ s + p.val ∧ 256 * tileOf γ s + p.val < pre γ (expertOf γ s + 1)
          then hTile a w1 w3 (act1 (ix1 ⟨expertOf γ s, slot_lt _ _⟩)) (act2 (ix1 ⟨expertOf γ s, slot_lt _ _⟩)) (rowOf pq ⟨expertOf γ s, slot_lt _ _⟩) (ix2 p q)
          else FloatOps.extf .f32 bitsLt_fp8e4m3_f32 (old (ix2 p q)))

theorem cells_of_out {s : Nat} (c : Dev nD) {x y st en : BitVec 32} (hx : x = BitVec.ofNat 32 (expertOf γ s)) (hy : y = BitVec.ofNat 32 (tileOf γ s))
    (hst : expertOf γ s ≠ 0 → st = BitVec.ofNat 32 (pre γ (expertOf γ s))) (hen : en = BitVec.ofNat 32 (pre γ (expertOf γ s + 1)))
    (a : Vec F S256x6144 .fp8e4m3) (w1 w3 : Vec F S6144x512 .bf16) (act1 act2 : Vec F S8 .f32) (pq : Vec F S8x512 .f32)
    {ac1 ac2 : F .f32} {pr : S1x512.Idx → F .f32} (ha1 : ac1 = act1 (ix1 ⟨expertOf γ s, slot_lt _ _⟩)) (ha2 : ac2 = act2 (ix1 ⟨expertOf γ s, slot_lt _ _⟩))
    (hp : pr = rowOf pq ⟨expertOf γ s, slot_lt _ _⟩) (old : Vec F S256x512 .fp8e4m3) :
    Cells (γ := γ) s a w1 w3 act1 act2 pq old (outTile x y st en (hTile a w1 w3 ac1 ac2 pr) old) := fun p q => by
  have h8 := expert_lt P s
  subst hx hy hen ha1 ha2 hp
  exact out_at (pre γ (expertOf γ s)) (pre γ (expertOf γ s + 1)) h8 (tile_le P s) (pre_le γ P.h8 (by omega)) (pre_le γ P.h8 (by omega))
    (fun h => by rw [h]; rfl) st hst _ old p q

set_option maxHeartbeats 1000000 in
/-- One step, from windows that hold these and scratches that hold the step's weights unless it widens them. -/
theorem step_run (c : Dev nD) (b : grid0.Bounds) (i : grid0.Static) {s : Nat} (hs : s < steps γ)
    (M5 : Memref sig .tc .smem S8 .f32) (h5 : M5.IsWhole)
    (M6 : Memref sig .tc .smem S8 .f32) (h6 : M6.IsWhole)
    (M7 : Memref sig .tc .vmem S256x6144 .fp8e4m3) (h7 : M7.IsWhole)
    (M8 : Memref sig .tc .vmem S1x3072x512 .i8) (h8 : M8.IsWhole)
    (M9 : Memref sig .tc .vmem S1x48x512 .bf16) (h9 : M9.IsWhole)
    (M10 : Memref sig .tc .vmem S1x3072x512 .i8) (h10 : M10.IsWhole)
    (M11 : Memref sig .tc .vmem S1x48x512 .bf16) (h11 : M11.IsWhole)
    (M12 : Memref sig .tc .vmem S8x512 .f32) (h12 : M12.IsWhole)
    (M13 : Memref sig .tc .vmem S256x512 .fp8e4m3) (h13 : M13.IsWhole)
    (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13)
    (f14 : Bf (F := F) c mW) (f15 : Bf (F := F) c mU)
    (hw : s ≠ 0 → expertOf γ s = expertOf γ (s - 1) → mW.view.read (Elt F) f14 = wide (M8.view.read (Elt F) f8) (M9.view.read (Elt F) f9))
    (hu : s ≠ 0 → expertOf γ s = expertOf γ (s - 1) → mU.view.read (Elt F) f15 = wide (M10.view.read (Elt F) f10) (M11.view.read (Elt F) f11))
    (hE : mE.IsWhole) (hT : mT.IsWhole) (hS : mS.IsWhole) (hW : mW.IsWhole) (hU : mU.IsWhole)
    (E : Set ℕ) (Q : PUnit → sProp 𝕄) :
    iprop(ptH c mE (pf 1) ∗ ptH c mT (pf 2) ∗ ptH c mS (pf 3) ∗ pt c M5 f5 ∗ pt c M6 f6 ∗ pt c M7 f7 ∗ pt c M8 f8 ∗ pt c M9 f9 ∗ pt c M10 f10 ∗ pt c M11 f11 ∗ pt c M12 f12 ∗ pt c M13 f13 ∗ pt c mW f14 ∗ pt c mU f15
        ∗ (iprop(ptH c mE (pf 1) ∗ ptH c mT (pf 2) ∗ ptH c mS (pf 3) ∗ pt c M5 f5 ∗ pt c M6 f6 ∗ pt c M7 f7 ∗ pt c M8 f8 ∗ pt c M9 f9 ∗ pt c M10 f10 ∗ pt c M11 f11 ∗ pt c M12 f12
              ∗ (∃ g13 : Bf (F := F) c M13, ⌜Cells (γ := γ) s (M7.view.read (Elt F) f7) (wide (M8.view.read (Elt F) f8) (M9.view.read (Elt F) f9)) (wide (M10.view.read (Elt F) f10) (M11.view.read (Elt F) f11)) (M5.view.read (Elt F) f5) (M6.view.read (Elt F) f6) (M12.view.read (Elt F) f12)
                    (M13.view.read (Elt F) f13) (M13.view.read (Elt F) g13)⌝ ∗ pt c M13 g13)
              ∗ (∃ g14 : Bf (F := F) c mW, ⌜mW.view.read (Elt F) g14 = wide (M8.view.read (Elt F) f8) (M9.view.read (Elt F) f9)⌝ ∗ pt c mW g14)
              ∗ (∃ g15 : Bf (F := F) c mU, ⌜mU.view.read (Elt F) g15 = wide (M10.view.read (Elt F) f10) (M11.view.read (Elt F) f11)⌝ ∗ pt c mU g15)) -∗ Q ⟨⟩))
      ⊢ wp frame (wpE (defs₀ (F := F)) Variants.none c none) E
          (cc0_gate_up b i (BitVec.ofNat 32 s) mE hE mT hT mS hS M5 h5 M6 h6 M7 h7 M8 h8 M9 h9 M10 h10 M11 h11 M12 h12 M13 h13 mW hW mU hU) Q := by
  have hc := chk1 (lt43 P hs)
  have e2 := word_expert P c hs hc.1
  have e3 := word_back P c hs hc.2.1
  have e6 := word_expert6 P c hs hc.2.2
  have hc2 : k0_chk2 (w43 c mE (pf 1) (k0_off2 (BitVec.ofNat 32 s)) hc.1) := e2 ▸ chk2 (expert_lt P s)
  have hc3 : k0_chk3 (w43 c mE (pf 1) (k0_off6 (BitVec.ofNat 32 s)) hc.2.2) := e6 ▸ chk3 (expert_lt P s)
  by_cases hn : k0_cond (BitVec.ofNat 32 s) (w43 c mE (pf 1) (k0_off2 (BitVec.ofNat 32 s)) hc.1) (w43 c mE (pf 1) (k0_off3 (BitVec.ofNat 32 s)) hc.2.1)
  · have ho := wide_out c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 hc hc2 hc3 hn
    have hs1 := wide_first c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 hc hc2 hc3 hn
    have hs3 := wide_second c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 hc hc2 hc3 hn
    have hcell := cells_of_out P c e6 (word_tile P c hs hc.2.2) (fun h => word_start P c e6 h (k0_off7_inb _ hc3)) (word_end P c e6 (k0_off8_inb _ hc3))
      (M7.view.read (Elt F) f7) (wide (M8.view.read (Elt F) f8) (M9.view.read (Elt F) f9)) (wide (M10.view.read (Elt F) f10) (M11.view.read (Elt F) f11)) (M5.view.read (Elt F) f5) (M6.view.read (Elt F) f6) (M12.view.read (Elt F) f12)
      (word_act c M5 f5 (expert_lt P s) e2 (k0_off4_inb _ hc2)) (word_act c M6 f6 (expert_lt P s) e2 (k0_off4_inb _ hc2))
      (pqRow_at c M12 f12 (k0_off5_inb _ hc2) (expert_lt P s) e2) (M13.view.read (Elt F) f13)
    rw [← ho] at hcell
    generalize hrun : wideRun c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 hc hc2 hc3 hn = W at *
    iintro ⟨HE, HT, HS, H5, H6, H7, H8, H9, H10, H11, H12, H13, HW, HU, Hk⟩
    iapply (W.2 f14 f15 E Q)
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HW]; · iexact HW
    isplitl [HU]; · iexact HU
    iintro ⟨HE, HT, HS, H5, H6, H7, H8, H9, H10, H11, H12, H13, HW, HU⟩
    iapply Hk
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; (· iexact H13); ipureintro; exact hcell
    isplitl [HW]
    · iexists _; isplitr; swap; (· iexact HW); ipureintro; exact hs1
    · iexists _; isplitr; swap; (· iexact HU); ipureintro; exact hs3
  · have hnn := hn
    rw [e2, e3, cond_iff (lt43 P hs) (expert_lt P s) (expert_lt P (s - 1))] at hnn
    have hw1 := hw (fun h => hnn (.inl h)) (Classical.byContradiction fun h => hnn (.inr h))
    have hw3 := hu (fun h => hnn (.inl h)) (Classical.byContradiction fun h => hnn (.inr h))
    have ho := keep_out c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 f14 f15 hc hc2 hc3 hn
    rw [hw1, hw3] at ho
    have hcell := cells_of_out P c e6 (word_tile P c hs hc.2.2) (fun h => word_start P c e6 h (k0_off7_inb _ hc3)) (word_end P c e6 (k0_off8_inb _ hc3))
      (M7.view.read (Elt F) f7) (wide (M8.view.read (Elt F) f8) (M9.view.read (Elt F) f9)) (wide (M10.view.read (Elt F) f10) (M11.view.read (Elt F) f11)) (M5.view.read (Elt F) f5) (M6.view.read (Elt F) f6) (M12.view.read (Elt F) f12)
      (word_act c M5 f5 (expert_lt P s) e2 (k0_off4_inb _ hc2)) (word_act c M6 f6 (expert_lt P s) e2 (k0_off4_inb _ hc2))
      (pqRow_at c M12 f12 (k0_off5_inb _ hc2) (expert_lt P s) e2) (M13.view.read (Elt F) f13)
    rw [← ho] at hcell
    generalize hrun : keepRun c b i (BitVec.ofNat 32 s) mE hE mT hT mS hS M5 h5 M6 h6 M7 h7 M8 h8 M9 h9 M10 h10 M11 h11 M12 h12 M13 h13 mW hW mU hU (pf 1) (pf 2) (pf 3) f5 f6 f7 f8 f9 f10 f11 f12 f13 f14 f15 hc hc2 hc3 hn = W at *
    iintro ⟨HE, HT, HS, H5, H6, H7, H8, H9, H10, H11, H12, H13, HW, HU, Hk⟩
    iapply (W.2 E Q)
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HW]; · iexact HW
    isplitl [HU]; · iexact HU
    iintro ⟨HE, HT, HS, H5, H6, H7, H8, H9, H10, H11, H12, H13, HW, HU⟩
    iapply Hk
    isplitl [HE]; · iexact HE
    isplitl [HT]; · iexact HT
    isplitl [HS]; · iexact HS
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; (· iexact H13); ipureintro; exact hcell
    isplitl [HW]
    · iexists _; isplitr; swap; (· iexact HW); ipureintro; exact hw1
    · iexists _; isplitr; swap; (· iexact HU); ipureintro; exact hw3

end Cert.UpIdeal.Gate
-- ==== Proof.VDat.lean ====
/- The pipeline's proof data of the gated projection: what each step leaves in the output window, the scratch carried from step to
   step, and the body's obligation. -/
module

public import proofs.«01_k».proof.Proof.VStepRun
public import proofs.«01_k».proof.Proof.Gen.UpIdeal.Skeleton
public import Idealize.ShloMosaic.Lib.Pipeline.Frame
public import Idealize.ShloMosaic.Lib.Pipeline.FrameBody

@[expose] public section

set_option maxRecDepth 4000

noncomputable section

namespace Cert.UpIdeal.Gate

open Cert.UpIdeal Cert.UpIdeal.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

instance : ∀ e, Nonempty (Elt F e) := fun _ => inferInstance

variable {pf : pre0.Contents (Elt F)} {γ : Nat → Nat} (P : Plan pf γ)

/-- The tables as the region's parameter. -/
def adm : (p : Fin 1) → (pcfgs (F := F) p).Adm := fun _ => ⟨pf, ok_of_plan P⟩

/-- The pipeline at such tables. -/
abbrev cfgP : Pipeline.Cfg sig Λ₀ := Pipeline.pin (pcfgs (F := F)) (adm P) 0

variable (V : (c : Dev nD) → (b : Ref sig .tc) → Buf (Elt F) ((c.tc : Thread nD τ).loc b)) (c : Dev nD)

abbrev X0 : Vec F S8 .f32 := V c main_arg1
abbrev X1 : Vec F S8 .f32 := V c main_arg2
abbrev X2 : Vec F S9216x6144 .fp8e4m3 := V c main_arg3
abbrev X3 : Vec F S8x3072x4096 .i8 := V c main_arg4
abbrev X4 : Vec F S8x48x4096 .bf16 := V c main_arg5
abbrev X5 : Vec F S8x3072x4096 .i8 := V c main_arg6
abbrev X6 : Vec F S8x48x4096 .bf16 := V c main_arg7
abbrev X7 : Vec F S8x4096 .f32 := V c main_arg8

/-- A step's expert, row block and column block as bounded numbers. -/
def eF (γ : Nat → Nat) (s : Nat) : Fin 8 := ⟨expertOf γ s, slot_lt _ _⟩
def kF (γ : Nat → Nat) (s : Nat) : Fin 36 := ⟨tileOf γ s, Nat.lt_succ_of_le (Nat.min_le_right _ _)⟩
def nF (n : Nat) : Fin 8 := ⟨n % 8, Nat.mod_lt _ (by decide)⟩

/-- What the step at point `t` leaves in the output window it found at `Y`. -/
def Leave (γ : Nat → Nat) (t : Nat) (Y X : Vec F S256x512 .fp8e4m3) : Prop :=
  Cells (γ := γ) (t % steps γ) (aAt (X2 V c) (kF γ (t % steps γ))) (wideAt (X3 V c) (X4 V c) (eF γ (t % steps γ)) (nF (t / steps γ)))
    (wideAt (X5 V c) (X6 V c) (eF γ (t % steps γ)) (nF (t / steps γ))) (X0 V c) (X1 V c) (pAt (X7 V c) (nF (t / steps γ))) Y X

/-- The step count's memref. -/
abbrev mN : Memref sig .tc .smem S_ .i32 := Memref.whole main_v42

/-- Before point `t`: the scratches hold the widened weights of the step before, except at a first step; the tables and the register. -/
def Inv (pf : pre0.Contents (Elt F)) (γ : Nat → Nat) (t : Nat) : sProp 𝕄 :=
  iprop((∃ f : Bf (F := F) c mW, ⌜t % steps γ ≠ 0 → mW.view.read (Elt F) f = wideAt (X3 V c) (X4 V c) (eF γ (t % steps γ - 1)) (nF (t / steps γ))⌝ ∗ pt c mW f)
    ∗ (∃ f : Bf (F := F) c mU, ⌜t % steps γ ≠ 0 → mU.view.read (Elt F) f = wideAt (X5 V c) (X6 V c) (eF γ (t % steps γ - 1)) (nF (t / steps γ))⌝ ∗ pt c mU f)
    ∗ (∃ r, prngReg c r)
    ∗ ptH c mN (pf 0)
    ∗ ptH c mE (pf 1) ∗ ptH c mT (pf 2) ∗ ptH c mS (pf 3))

/-- The proof data on core `c`. -/
def rdat : RDat τ (Elt F) Unit ℕ (UR nD τ) ℕ (cfgP P) c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => Leave V c γ t.val Y X
  Φ t := Inv V c pf γ t.val
  q _ := fullShare
  owed _ := 0

/-- A memref that is its whole buffer, owned. -/
theorem owns_pt {sp : Space} {S : Shape} {e : EltTy} (M : Memref sig .tc sp S e) (h : M.IsWhole) (X : S.Idx → Elt F e) :
    (owns (c.tc : Thread nD τ) M fullShare X : sProp 𝕄) = iprop(∃ f : Bf (F := F) c M, ⌜M.view.read (Elt F) f = X⌝ ∗ pt c M f) := by
  unfold owns; rw [Memref.IsWhole.set_eq_univ h]

theorem point_lt (t : Fin (cfgP P).N) : t.val < 8 * steps γ := t.isLt.trans_eq (grid_N P)
include P in
theorem mod_lt (t : Nat) : t % steps γ < steps γ := Nat.mod_lt _ (steps_pos γ P.h8)
theorem div_lt (t : Fin (cfgP P).N) : t.val / steps γ < 8 := Nat.div_lt_of_lt_mul (by rw [Nat.mul_comm]; exact point_lt P t)

/-! ## What the input windows hold -/

/-- A whole array as its one block. -/
theorem block1 (j i : S8.Idx) (h : (i 0).val = 0 * 8 + 1 * (j 0).val) : i = j := by
  refine funext fun (a : Fin 1) => Fin.ext ?_
  obtain rfl := Fin.fin_one_eq_zero a
  omega

/-- The position within an array of weights or scales of an element of a block. -/
theorem block3 {K : Nat} {x : Fin 3 → Nat} {e n : Fin 8} (hx : x = ![e.val, 0, n.val]) (j : (⟨3, ![1, K, 512]⟩ : Shape).Idx)
    (i : (⟨3, ![8, K, 4096]⟩ : Shape).Idx) (h : ∀ a, (i a).val = x a * (⟨3, ![1, K, 512]⟩ : Shape).size a + 1 * (j a).val) :
    i = ix3 e (j 1) ⟨512 * n.val + (j 2).val, by have h : (j 2).val < 512 := (j 2).isLt; have := n.isLt; omega⟩ := by
  subst hx
  refine funext fun a => Fin.ext ((h a).trans ?_)
  match a with
  | ⟨0, _⟩ => have hj : (j 0).val < 1 := (j 0).isLt; show e.val * 1 + 1 * (j 0).val = e.val; omega
  | ⟨1, _⟩ => show 0 * K + 1 * (j 1).val = (j 1).val; omega
  | ⟨2, _⟩ => show n.val * 512 + 1 * (j 2).val = 512 * n.val + (j 2).val; omega

theorem at_point (t : Fin (cfgP P).N) :
    (![expertOf γ (((grid0.at (dynb0 pf)).coords t) 1).val, 0, (((grid0.at (dynb0 pf)).coords t) 0).val] : Fin 3 → Nat)
      = ![(eF γ (t.val % steps γ)).val, 0, (nF (t.val / steps γ)).val] := by
  rw [coords_one P t, coords_zero P t]
  show _ = ![expertOf γ (t.val % steps γ), 0, (t.val / steps γ) % 8]
  rw [Nat.mod_eq_of_lt (div_lt P t)]

theorem finds0 (t : Fin (cfgP P).N) (Y) (h : (rdat P V c).Finds 0 t Y) : (Y : Vec F S8 .f32) = X0 V c := by
  obtain ⟨d, rfl⟩ := (rdat P V c).finds_in_eq_fetched 0 rfl (fun _ _ _ => rfl) (fun _ _ _ h => h) t Y h
  exact funext fun (j : S8.Idx) => congrArg (V c main_arg1) (block1 j _ rfl)

theorem finds1 (t : Fin (cfgP P).N) (Y) (h : (rdat P V c).Finds 1 t Y) : (Y : Vec F S8 .f32) = X1 V c := by
  obtain ⟨d, rfl⟩ := (rdat P V c).finds_in_eq_fetched 1 rfl (fun _ _ _ => rfl) (fun _ _ _ h => h) t Y h
  exact funext fun (j : S8.Idx) => congrArg (V c main_arg2) (block1 j _ rfl)

theorem finds2 (t : Fin (cfgP P).N) (Y) (h : (rdat P V c).Finds 2 t Y) : (Y : Vec F S256x6144 .fp8e4m3) = aAt (X2 V c) (kF γ (t.val % steps γ)) := by
  obtain ⟨d, rfl⟩ := (rdat P V c).finds_in_eq_fetched 2 rfl (fun _ _ _ => rfl) (fun _ _ _ h => h) t Y h
  have ht := trans2 P ((grid0.at (dynb0 pf)).coords t)
  have h1 := coords_one P t
  refine funext fun (j : S256x6144.Idx) => ?_
  show V c main_arg3 _ = V c main_arg3 _
  congr 1
  refine funext fun (a : Fin 2) => Fin.ext ?_
  match a with
  | ⟨0, _⟩ =>
    show cc0_transform_2 pf (dynb0 pf) ((grid0.at (dynb0 pf)).coords t) 0 * 256 + 1 * (j 0).val = 256 * tileOf γ (t.val % steps γ) + (j 0).val
    rw [ht, ← h1]; show tileOf γ _ * 256 + _ = _; omega
  | ⟨1, _⟩ =>
    show cc0_transform_2 pf (dynb0 pf) ((grid0.at (dynb0 pf)).coords t) 1 * 6144 + 1 * (j 1).val = (j 1).val
    rw [ht]; show 0 * 6144 + _ = _; omega

theorem finds3 (t : Fin (cfgP P).N) (Y) (h : (rdat P V c).Finds 3 t Y) :
    (Y : Vec F S1x3072x512 .i8) = wAt (X3 V c) (eF γ (t.val % steps γ)) (nF (t.val / steps γ)) := by
  obtain ⟨d, rfl⟩ := (rdat P V c).finds_in_eq_fetched 3 rfl (fun _ _ _ => rfl) (fun _ _ _ h => h) t Y h
  exact funext fun j => congrArg (V c main_arg4) (block3 ((trans3 P _).trans (at_point P t)) j _ (fun _ => rfl))

theorem finds4 (t : Fin (cfgP P).N) (Y) (h : (rdat P V c).Finds 4 t Y) :
    (Y : Vec F S1x48x512 .bf16) = uAt (X4 V c) (eF γ (t.val % steps γ)) (nF (t.val / steps γ)) := by
  obtain ⟨d, rfl⟩ := (rdat P V c).finds_in_eq_fetched 4 rfl (fun _ _ _ => rfl) (fun _ _ _ h => h) t Y h
  exact funext fun j => congrArg (V c main_arg5) (block3 ((trans4 P _).trans (at_point P t)) j _ (fun _ => rfl))

theorem finds5 (t : Fin (cfgP P).N) (Y) (h : (rdat P V c).Finds 5 t Y) :
    (Y : Vec F S1x3072x512 .i8) = wAt (X5 V c) (eF γ (t.val % steps γ)) (nF (t.val / steps γ)) := by
  obtain ⟨d, rfl⟩ := (rdat P V c).finds_in_eq_fetched 5 rfl (fun _ _ _ => rfl) (fun _ _ _ h => h) t Y h
  exact funext fun j => congrArg (V c main_arg6) (block3 ((trans5 P _).trans (at_point P t)) j _ (fun _ => rfl))

theorem finds6 (t : Fin (cfgP P).N) (Y) (h : (rdat P V c).Finds 6 t Y) :
    (Y : Vec F S1x48x512 .bf16) = uAt (X6 V c) (eF γ (t.val % steps γ)) (nF (t.val / steps γ)) := by
  obtain ⟨d, rfl⟩ := (rdat P V c).finds_in_eq_fetched 6 rfl (fun _ _ _ => rfl) (fun _ _ _ h => h) t Y h
  exact funext fun j => congrArg (V c main_arg7) (block3 ((trans6 P _).trans (at_point P t)) j _ (fun _ => rfl))

theorem finds7 (t : Fin (cfgP P).N) (Y) (h : (rdat P V c).Finds 7 t Y) : (Y : Vec F S8x512 .f32) = pAt (X7 V c) (nF (t.val / steps γ)) := by
  obtain ⟨d, rfl⟩ := (rdat P V c).finds_in_eq_fetched 7 rfl (fun _ _ _ => rfl) (fun _ _ _ h => h) t Y h
  have ht := trans7 P ((grid0.at (dynb0 pf)).coords t)
  have h0 := coords_zero P t
  have hn := div_lt P t
  refine funext fun (j : S8x512.Idx) => ?_
  show V c main_arg8 _ = V c main_arg8 _
  congr 1
  refine funext fun (a : Fin 2) => Fin.ext ?_
  match a with
  | ⟨0, _⟩ =>
    show cc0_transform_7 (dynb0 pf) ((grid0.at (dynb0 pf)).coords t) 0 * 8 + 1 * (j 0).val = (j 0).val
    rw [ht]; show 0 * 8 + _ = _; omega
  | ⟨1, _⟩ =>
    show cc0_transform_7 (dynb0 pf) ((grid0.at (dynb0 pf)).coords t) 1 * 512 + 1 * (j 1).val = 512 * ((t.val / steps γ) % 8) + (j 1).val
    rw [ht, Nat.mod_eq_of_lt hn, ← h0]; show ((grid0.at (dynb0 pf)).coords t 0).val * 512 + _ = _; omega

/-! ## The body's obligation -/

theorem succ_mod {n t : Nat} (h : (t + 1) % n ≠ 0) : (t + 1) % n - 1 = t % n ∧ (t + 1) / n = t / n := by
  rcases Nat.eq_zero_or_pos n with rfl | hn
  · simp
  have h1 := Nat.div_add_mod t n
  have h2 := Nat.mod_lt t hn
  by_cases hl : t % n + 1 < n
  · have e : t + 1 = (t % n + 1) + n * (t / n) := by omega
    rw [e, Nat.add_mul_mod_self_left, Nat.add_mul_div_left _ _ hn, Nat.mod_eq_of_lt hl, Nat.div_eq_of_lt hl]
    omega
  · exfalso; apply h
    have e : t + 1 = n * (t / n + 1) := by rw [Nat.mul_add]; omega
    rw [e, Nat.mul_mod_right]

theorem prev_mod {n t : Nat} (h : t % n ≠ 0) : t % n - 1 = (t - 1) % n ∧ t / n = (t - 1) / n := by
  obtain ⟨u, rfl⟩ : ∃ u, t = u + 1 := ⟨t - 1, by have : t ≠ 0 := fun h' => h (by subst h'; exact Nat.zero_mod n); omega⟩
  exact succ_mod h

theorem defs_tc : (defs₀ (F := F)) .tc (cfgP P).body
    = fun a => cc0_gate_up a.1 (Pipeline.Grid.Coords.static grid0 a.2.1) (BitVec.ofNat 32 (a.2.1 1).val) mE (Memref.isWhole_whole _) mT (Memref.isWhole_whole _)
        mS (Memref.isWhole_whole _) (spec0_0.stage (a.2.2 0)) (hstage0_0 ((a.2.2 0).cast nbuf0_0)) (spec0_1.stage (a.2.2 1)) (hstage0_1 ((a.2.2 1).cast nbuf0_1)) (spec0_2.stage (a.2.2 2)) (hstage0_2 ((a.2.2 2).cast nbuf0_2)) (spec0_3.stage (a.2.2 3)) (hstage0_3 ((a.2.2 3).cast nbuf0_3)) (spec0_4.stage (a.2.2 4)) (hstage0_4 ((a.2.2 4).cast nbuf0_4)) (spec0_5.stage (a.2.2 5)) (hstage0_5 ((a.2.2 5).cast nbuf0_5)) (spec0_6.stage (a.2.2 6)) (hstage0_6 ((a.2.2 6).cast nbuf0_6)) (spec0_7.stage (a.2.2 7)) (hstage0_7 ((a.2.2 7).cast nbuf0_7)) (spec0_8.stage (a.2.2 8)) (hstage0_8 ((a.2.2 8).cast nbuf0_8))
        mW (Memref.isWhole_whole _) mU (Memref.isWhole_whole _) := rfl

end Cert.UpIdeal.Gate
-- ==== Proof.VOblig.lean ====
/- The body's obligation: every step, at every point, does to the windows and the scratch what the proof data say. -/
module

public import proofs.«01_k».proof.Proof.VDat

@[expose] public section

set_option maxRecDepth 4000

noncomputable section

namespace Cert.UpIdeal.Gate

open Cert.UpIdeal Cert.UpIdeal.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

variable {pf : pre0.Contents (Elt F)} {γ : Nat → Nat} (P : Plan pf γ)
variable (V : (c : Dev nD) → (b : Ref sig .tc) → Buf (Elt F) ((c.tc : Thread nD τ).loc b)) (c : Dev nD)

/-- The windows' current staging memrefs at a point. -/
abbrev s0 (t : Fin (cfgP P).N) : Memref sig .tc .smem S8 .f32 := spec0_0.stage ((cfgP P).slots t 0)
abbrev s1 (t : Fin (cfgP P).N) : Memref sig .tc .smem S8 .f32 := spec0_1.stage ((cfgP P).slots t 1)
abbrev s2 (t : Fin (cfgP P).N) : Memref sig .tc .vmem S256x6144 .fp8e4m3 := spec0_2.stage ((cfgP P).slots t 2)
abbrev s3 (t : Fin (cfgP P).N) : Memref sig .tc .vmem S1x3072x512 .i8 := spec0_3.stage ((cfgP P).slots t 3)
abbrev s4 (t : Fin (cfgP P).N) : Memref sig .tc .vmem S1x48x512 .bf16 := spec0_4.stage ((cfgP P).slots t 4)
abbrev s5 (t : Fin (cfgP P).N) : Memref sig .tc .vmem S1x3072x512 .i8 := spec0_5.stage ((cfgP P).slots t 5)
abbrev s6 (t : Fin (cfgP P).N) : Memref sig .tc .vmem S1x48x512 .bf16 := spec0_6.stage ((cfgP P).slots t 6)
abbrev s7 (t : Fin (cfgP P).N) : Memref sig .tc .vmem S8x512 .f32 := spec0_7.stage ((cfgP P).slots t 7)
abbrev s8 (t : Fin (cfgP P).N) : Memref sig .tc .vmem S256x512 .fp8e4m3 := spec0_8.stage ((cfgP P).slots t 8)

theorem prog_eq (t : Fin (cfgP P).N) :
    (defs₀ (F := F)) .tc (cfgP P).body ((cfgP P).bodyArgs t ((cfgP P).slots t))
      = cc0_gate_up (dynb0 pf) (Pipeline.Grid.Coords.static grid0 ((grid0.at (dynb0 pf)).coords t)) (BitVec.ofNat 32 (t.val % steps γ))
          mE (Memref.isWhole_whole _) mT (Memref.isWhole_whole _) mS (Memref.isWhole_whole _)
          (s0 P t) (hstage0_0 (((cfgP P).slots t 0).cast nbuf0_0))
          (s1 P t) (hstage0_1 (((cfgP P).slots t 1).cast nbuf0_1))
          (s2 P t) (hstage0_2 (((cfgP P).slots t 2).cast nbuf0_2))
          (s3 P t) (hstage0_3 (((cfgP P).slots t 3).cast nbuf0_3))
          (s4 P t) (hstage0_4 (((cfgP P).slots t 4).cast nbuf0_4))
          (s5 P t) (hstage0_5 (((cfgP P).slots t 5).cast nbuf0_5))
          (s6 P t) (hstage0_6 (((cfgP P).slots t 6).cast nbuf0_6))
          (s7 P t) (hstage0_7 (((cfgP P).slots t 7).cast nbuf0_7))
          (s8 P t) (hstage0_8 (((cfgP P).slots t 8).cast nbuf0_8))
          mW (Memref.isWhole_whole _) mU (Memref.isWhole_whole _) := by
  rw [← coords_one P t]
  exact (congrFun (defs_tc P) _).trans rfl

/-- A scratch at a step that repeats the step before's expert. -/
theorem scratch_kept (X : Vec F S8x3072x4096 .i8) (Z : Vec F S8x48x4096 .bf16) (t : Nat) (he : expertOf γ (t % steps γ) = expertOf γ (t % steps γ - 1)) :
    wideAt X Z (eF γ (t % steps γ - 1)) (nF (t / steps γ)) = wideAt X Z (eF γ (t % steps γ)) (nF (t / steps γ)) := by
  congr 1
  exact Fin.ext he.symm

set_option maxHeartbeats 2000000 in
set_option backward.isDefEq.respectTransparency.types false in
theorem body_obligation : (rdat P V c).BodyObligation (defs₀ (F := F)) Variants.none () Set.univ := fun t Y hY => by
  have y0 := finds0 P V c t (Y 0) (hY 0)
  have y1 := finds1 P V c t (Y 1) (hY 1)
  have y2 := finds2 P V c t (Y 2) (hY 2)
  have y3 := finds3 P V c t (Y 3) (hY 3)
  have y4 := finds4 P V c t (Y 4) (hY 4)
  have y5 := finds5 P V c t (Y 5) (hY 5)
  have y6 := finds6 P V c t (Y 6) (hY 6)
  have y7 := finds7 P V c t (Y 7) (hY 7)
  have hs := mod_lt P t.val
  rw [bigSep_W0, bigSep_W0]
  rw [show (rdat P V c).Φ t.castSucc = Inv V c pf γ t.val from rfl, show (rdat P V c).Φ t.succ = Inv V c pf γ (t.val + 1) from rfl]
  unfold RDat.owesAt Pipeline.owesWithin
  rw [show (rdat P V c).owed t.castSucc = 0 from rfl, show (rdat P V c).owed t.succ = 0 from rfl]
  rw [prog_eq P t]
  show iprop(_ ∗ _ ∗ owns (c.tc : Thread nD τ) (s0 P t) fullShare (Y 0 : Vec F S8 .f32)
      ∗ owns (c.tc : Thread nD τ) (s1 P t) fullShare (Y 1 : Vec F S8 .f32)
      ∗ owns (c.tc : Thread nD τ) (s2 P t) fullShare (Y 2 : Vec F S256x6144 .fp8e4m3)
      ∗ owns (c.tc : Thread nD τ) (s3 P t) fullShare (Y 3 : Vec F S1x3072x512 .i8)
      ∗ owns (c.tc : Thread nD τ) (s4 P t) fullShare (Y 4 : Vec F S1x48x512 .bf16)
      ∗ owns (c.tc : Thread nD τ) (s5 P t) fullShare (Y 5 : Vec F S1x3072x512 .i8)
      ∗ owns (c.tc : Thread nD τ) (s6 P t) fullShare (Y 6 : Vec F S1x48x512 .bf16)
      ∗ owns (c.tc : Thread nD τ) (s7 P t) fullShare (Y 7 : Vec F S8x512 .f32)
      ∗ owns (c.tc : Thread nD τ) (s8 P t) fullShare (Y 8 : Vec F S256x512 .fp8e4m3))
    ⊢ wp _ _ _ _ fun _ => iprop(_ ∗ _ ∗ (∃ X : Vec F S8 .f32, ⌜X = Y 0⌝ ∗ owns (c.tc : Thread nD τ) (s0 P t) fullShare X)
      ∗ (∃ X : Vec F S8 .f32, ⌜X = Y 1⌝ ∗ owns (c.tc : Thread nD τ) (s1 P t) fullShare X)
      ∗ (∃ X : Vec F S256x6144 .fp8e4m3, ⌜X = Y 2⌝ ∗ owns (c.tc : Thread nD τ) (s2 P t) fullShare X)
      ∗ (∃ X : Vec F S1x3072x512 .i8, ⌜X = Y 3⌝ ∗ owns (c.tc : Thread nD τ) (s3 P t) fullShare X)
      ∗ (∃ X : Vec F S1x48x512 .bf16, ⌜X = Y 4⌝ ∗ owns (c.tc : Thread nD τ) (s4 P t) fullShare X)
      ∗ (∃ X : Vec F S1x3072x512 .i8, ⌜X = Y 5⌝ ∗ owns (c.tc : Thread nD τ) (s5 P t) fullShare X)
      ∗ (∃ X : Vec F S1x48x512 .bf16, ⌜X = Y 6⌝ ∗ owns (c.tc : Thread nD τ) (s6 P t) fullShare X)
      ∗ (∃ X : Vec F S8x512 .f32, ⌜X = Y 7⌝ ∗ owns (c.tc : Thread nD τ) (s7 P t) fullShare X)
      ∗ (∃ X : Vec F S256x512 .fp8e4m3, ⌜Leave V c γ t.val (Y 8) X⌝ ∗ owns (c.tc : Thread nD τ) (s8 P t) fullShare X))
  simp only [owns_pt c (s0 P t) (hstage0_0 (((cfgP P).slots t 0).cast nbuf0_0)),
    owns_pt c (s1 P t) (hstage0_1 (((cfgP P).slots t 1).cast nbuf0_1)),
    owns_pt c (s2 P t) (hstage0_2 (((cfgP P).slots t 2).cast nbuf0_2)),
    owns_pt c (s3 P t) (hstage0_3 (((cfgP P).slots t 3).cast nbuf0_3)),
    owns_pt c (s4 P t) (hstage0_4 (((cfgP P).slots t 4).cast nbuf0_4)),
    owns_pt c (s5 P t) (hstage0_5 (((cfgP P).slots t 5).cast nbuf0_5)),
    owns_pt c (s6 P t) (hstage0_6 (((cfgP P).slots t 6).cast nbuf0_6)),
    owns_pt c (s7 P t) (hstage0_7 (((cfgP P).slots t 7).cast nbuf0_7)),
    owns_pt c (s8 P t) (hstage0_8 (((cfgP P).slots t 8).cast nbuf0_8))]
  unfold Inv
  iintro ⟨⟨⟨%f14, %h14, HW⟩, ⟨%f15, %h15, HU⟩, Hg, HN, HE, HT, HS⟩, ⟨%W, -, HO⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
  have hw1 : wide ((s3 P t).view.read (Elt F) f3) ((s4 P t).view.read (Elt F) f4) = wideAt (X3 V c) (X4 V c) (eF γ (t.val % steps γ)) (nF (t.val / steps γ)) := by
    unfold wideAt; rw [e3, e4]; exact congrArg₂ wide y3 y4
  have hw3 : wide ((s5 P t).view.read (Elt F) f5) ((s6 P t).view.read (Elt F) f6) = wideAt (X5 V c) (X6 V c) (eF γ (t.val % steps γ)) (nF (t.val / steps γ)) := by
    unfold wideAt; rw [e5, e6]; exact congrArg₂ wide y5 y6
  iapply (step_run P c (dynb0 pf) (Pipeline.Grid.Coords.static grid0 ((grid0.at (dynb0 pf)).coords t)) hs (s0 P t) _ (s1 P t) _ (s2 P t) _ (s3 P t) _ (s4 P t) _ (s5 P t) _ (s6 P t) _ (s7 P t) _ (s8 P t) _
    f0 f1 f2 f3 f4 f5 f6 f7 f8 f14 f15
    (fun h he => (h14 h).trans ((scratch_kept (X3 V c) (X4 V c) t.val he).trans hw1.symm))
    (fun h he => (h15 h).trans ((scratch_kept (X5 V c) (X6 V c) t.val he).trans hw3.symm)) _ _ _ _ _ Set.univ _)
  isplitl [HE]; · iexact HE
  isplitl [HT]; · iexact HT
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  isplitl [HU]; · iexact HU
  iintro ⟨HE, HT, HS, H0, H1, H2, H3, H4, H5, H6, H7, ⟨%g8, %k8, H8⟩, ⟨%g14, %k14, HW⟩, ⟨%g15, %k15, HU⟩⟩
  isplitl [HW HU Hg HN HE HT HS]
  · isplitl [HW]
    · iexists g14
      isplitr; swap; (· iexact HW)
      ipureintro
      intro h
      obtain ⟨a1, a2⟩ := succ_mod h
      rw [a1, a2]
      exact k14.trans hw1
    isplitl [HU]
    · iexists g15
      isplitr; swap; (· iexact HU)
      ipureintro
      intro h
      obtain ⟨a1, a2⟩ := succ_mod h
      rw [a1, a2]
      exact k15.trans hw3
    isplitl [Hg]; · iexact Hg
    isplitl [HN]; · iexact HN
    isplitl [HE]; · iexact HE
    isplitl [HT]; · iexact HT
    iexact HS
  isplitl [HO]
  · iexists W; isplitr; · ipureintro; exact fun _ _ => Or.inl trivial
    iexact HO
  isplitl [H0]
  · iexists (Y 0); isplitr; · ipureintro; rfl
    iexists f0; isplitr; (· ipureintro; exact e0); iexact H0
  isplitl [H1]
  · iexists (Y 1); isplitr; · ipureintro; rfl
    iexists f1; isplitr; (· ipureintro; exact e1); iexact H1
  isplitl [H2]
  · iexists (Y 2); isplitr; · ipureintro; rfl
    iexists f2; isplitr; (· ipureintro; exact e2); iexact H2
  isplitl [H3]
  · iexists (Y 3); isplitr; · ipureintro; rfl
    iexists f3; isplitr; (· ipureintro; exact e3); iexact H3
  isplitl [H4]
  · iexists (Y 4); isplitr; · ipureintro; rfl
    iexists f4; isplitr; (· ipureintro; exact e4); iexact H4
  isplitl [H5]
  · iexists (Y 5); isplitr; · ipureintro; rfl
    iexists f5; isplitr; (· ipureintro; exact e5); iexact H5
  isplitl [H6]
  · iexists (Y 6); isplitr; · ipureintro; rfl
    iexists f6; isplitr; (· ipureintro; exact e6); iexact H6
  isplitl [H7]
  · iexists (Y 7); isplitr; · ipureintro; rfl
    iexists f7; isplitr; (· ipureintro; exact e7); iexact H7
  · iexists ((s8 P t).view.read (Elt F) g8); isplitr
    · ipureintro
      have := k8
      rw [hw1, hw3, e2, e0, e1, e7, e8] at this
      show Cells (γ := γ) _ _ _ _ _ _ _ _ _
      rw [← y2, ← y0, ← y1, ← y7]
      exact this
    iexists g8; isplitr; (· ipureintro; rfl); iexact H8

end Cert.UpIdeal.Gate
-- ==== Proof.VTables.lean ====
/- What the host part leaves before the region: the work list's words in the four tables, and the arguments as launched. -/
module

public import proofs.«01_k».proof.Proof.Gen.UpIdeal
public import proofs.«01_k».proof.Proof.Gen.UpIdeal.Launch
public import proofs.«01_k».proof.Proof.WorkWords
public import Idealize.ShloMosaic.Lib.StableHlo.RunRead
meta import proofs.«01_k».proof.Proof.Gen.UpIdeal.Launch

@[expose] public section

set_option maxRecDepth 4000

noncomputable section

namespace Cert.UpIdeal.Gate

open Cert.UpIdeal Cert.UpIdeal.Gen
open Cert.Down
open Idealize.ShloMosaic Idealize.ShloMosaic.TcCoe Idealize.ShloMosaic.StableHlo
open Idealize.ShloMosaic.Routing (pyDiv)

variable {F : FTy → Type} [FloatOps F]

/-- The work list's side conditions, from the program's facts. -/
theorem sides : Sides :=
  ⟨bcast_S_S_, reduceWindows_S8_S8_w8s1p7_0, h_S_, bcast_S_S8, bcast_S_S43, bcast_S43_S43x1_0, slices_S8_S7_0, bcast_S7_S1x7_1,
    bcast_S43x1_S43x7_0_1, bcast_S1x7_S43x7_0_1, natLt_1_32, reducesTo_S43x7_S43_d1, slices_S8_S1_7, shapeCasts_S1_S_,
    gather_S8_S43x1_S43_n_0_n_n_0_1_1.wf⟩

/-- A buffer's reference on the TensorCore. -/
abbrev at_ (b : Ref sig .tc) : DevRef τ sig := Proc.devRef .tc b

variable (V : Valuation τ sig (Elt F))

theorem ops0_v0 : after hostOps0 V (Proc.devRef .tc main_v0) = cumW sides (V (Proc.devRef .tc main_arg0)) := by
  after_reads_simp; unfold cumW; congr 1
theorem ops1_v1 : after hostOps0_1 V (Proc.devRef .tc main_v1) = subi (V (Proc.devRef .tc main_v0)) (V (Proc.devRef .tc main_arg0)) := by
  after_reads_simp
theorem ops1_c : after hostOps0_1 V (Proc.devRef .tc main_c) = constantI S_ 32 256#32 := by
  after_reads_simp
theorem ops2_v2 : after hostOps0_2 V (Proc.devRef .tc main_v2) = pyDiv sides.bc8 (V (Proc.devRef .tc main_v1)) (V (Proc.devRef .tc main_c)) := by
  after_reads_simp; rfl
theorem ops3_v4 : after hostOps0_3 V (Proc.devRef .tc main_v4) = cmpi .sgt (V (Proc.devRef .tc main_arg0)) (c8 sides 0#32) := by
  after_reads_simp; rfl
theorem ops3_v6 : after hostOps0_3 V (Proc.devRef .tc main_v6) = subi (V (Proc.devRef .tc main_v0)) (c8 sides 1#32) := by
  after_reads_simp; rfl
theorem ops3_c : after hostOps0_3 V (Proc.devRef .tc main_c_2) = constantI S_ 32 256#32 := by
  after_reads_simp
theorem ops4_v7 : after hostOps0_4 V (Proc.devRef .tc main_v7) = pyDiv sides.bc8 (V (Proc.devRef .tc main_v6)) (V (Proc.devRef .tc main_c_2)) := by
  after_reads_simp; rfl
theorem ops5_v10 : after hostOps0_5 V (Proc.devRef .tc main_v10) = addi (subi (V (Proc.devRef .tc main_v7)) (V (Proc.devRef .tc main_v2))) (c8 sides 1#32) := by
  after_reads_simp; rfl
theorem ops5_c : after hostOps0_5 V (Proc.devRef .tc main_c_4) = constantI S_ 32 0#32 := by
  after_reads_simp
theorem ops6_v11 : after hostOps0_6 V (Proc.devRef .tc main_v11)
    = select (V (Proc.devRef .tc main_v4)) (V (Proc.devRef .tc main_v10)) (broadcastInDim S8 ![] bcast_S_S8 (V (Proc.devRef .tc main_c_4))) := by
  after_reads_simp; rfl
theorem ops7_v12 : after hostOps0_7 V (Proc.devRef .tc main_v12) = cumW sides (V (Proc.devRef .tc main_v11)) := by
  after_reads_simp; unfold cumW; congr 1

/-- The steps' experts from the groups' step ends. -/
def expertOn (te : IVec S8 32) : IVec S43 32 :=
  Host.reduce IntOp.addi (extui 32 (cmpi .sge
      (broadcastInDim S43x7 ![0, 1] bcast_S43x1_S43x7_0_1 (broadcastInDim S43x1 ![0] bcast_S43_S43x1_0 (iotaInDim S43 32 0)))
      (broadcastInDim S43x7 ![0, 1] bcast_S1x7_S43x7_0_1 (broadcastInDim S1x7 ![1] bcast_S7_S1x7_1 (extractStridedSlice S7 ![0] te slices_S8_S7_0)))) natLt_1_32)
    (constantI S_ 32 0#32) reducesTo_S43x7_S43_d1 h_S_
/-- Experts as take indices. -/
def pickOn (e : IVec S43 32) : IVec S43x1 32 :=
  broadcastInDim S43x1 ![0] bcast_S43_S43x1_0 (select (cmpi .slt e (c43 sides 0#32)) (addi e (c43 sides 8#32)) e)
/-- The steps' tiles from the groups' first tiles, numbers of tiles and step ends. -/
def tileOn (first num te : IVec S8 32) : IVec S43 32 :=
  minsi (subi (addi (Host.gather gather_S8_S43x1_S43_n_0_n_n_0_1_1 first (pickOn (expertOn te))) (iotaInDim S43 32 0))
    (Host.gather gather_S8_S43x1_S43_n_0_n_n_0_1_1 (subi te num) (pickOn (expertOn te)))) (c43 sides 35#32)

theorem ops8_v21 : after hostOps0_8 V (Proc.devRef .tc main_v21) = expertOn (V (Proc.devRef .tc main_v12)) := by
  after_reads_simp; rfl
theorem ops8_v40 : after hostOps0_8 V (Proc.devRef .tc main_v40) = tileOn (V (Proc.devRef .tc main_v2)) (V (Proc.devRef .tc main_v11)) (V (Proc.devRef .tc main_v12)) := by
  after_reads_simp; rfl
theorem ops8_v42 : after hostOps0_8 V (Proc.devRef .tc main_v42)
    = shapeCast S_ (extractStridedSlice S1 ![7] (V (Proc.devRef .tc main_v12)) slices_S8_S1_7) shapeCasts_S1_S_ := by
  after_reads_simp; rfl

theorem pass_1_v0 : after hostOps0_1 V (Proc.devRef .tc main_v0) = V (Proc.devRef .tc main_v0) := by after_reads_simp
theorem pass_2_v0 : after hostOps0_2 V (Proc.devRef .tc main_v0) = V (Proc.devRef .tc main_v0) := by after_reads_simp
theorem pass_3_v0 : after hostOps0_3 V (Proc.devRef .tc main_v0) = V (Proc.devRef .tc main_v0) := by after_reads_simp
theorem pass_4_v0 : after hostOps0_4 V (Proc.devRef .tc main_v0) = V (Proc.devRef .tc main_v0) := by after_reads_simp
theorem pass_5_v0 : after hostOps0_5 V (Proc.devRef .tc main_v0) = V (Proc.devRef .tc main_v0) := by after_reads_simp
theorem pass_6_v0 : after hostOps0_6 V (Proc.devRef .tc main_v0) = V (Proc.devRef .tc main_v0) := by after_reads_simp
theorem pass_7_v0 : after hostOps0_7 V (Proc.devRef .tc main_v0) = V (Proc.devRef .tc main_v0) := by after_reads_simp
theorem pass_8_v0 : after hostOps0_8 V (Proc.devRef .tc main_v0) = V (Proc.devRef .tc main_v0) := by after_reads_simp
theorem pass_3_v2 : after hostOps0_3 V (Proc.devRef .tc main_v2) = V (Proc.devRef .tc main_v2) := by after_reads_simp
theorem pass_4_v2 : after hostOps0_4 V (Proc.devRef .tc main_v2) = V (Proc.devRef .tc main_v2) := by after_reads_simp
theorem pass_5_v2 : after hostOps0_5 V (Proc.devRef .tc main_v2) = V (Proc.devRef .tc main_v2) := by after_reads_simp
theorem pass_6_v2 : after hostOps0_6 V (Proc.devRef .tc main_v2) = V (Proc.devRef .tc main_v2) := by after_reads_simp
theorem pass_7_v2 : after hostOps0_7 V (Proc.devRef .tc main_v2) = V (Proc.devRef .tc main_v2) := by after_reads_simp
theorem pass_4_v4 : after hostOps0_4 V (Proc.devRef .tc main_v4) = V (Proc.devRef .tc main_v4) := by after_reads_simp
theorem pass_5_v4 : after hostOps0_5 V (Proc.devRef .tc main_v4) = V (Proc.devRef .tc main_v4) := by after_reads_simp
theorem pass_7_v11 : after hostOps0_7 V (Proc.devRef .tc main_v11) = V (Proc.devRef .tc main_v11) := by after_reads_simp
theorem pass_arg0 : after hostOps0 V (Proc.devRef .tc main_arg0) = V (Proc.devRef .tc main_arg0) := by after_reads_simp
theorem pass_1_arg0 : after hostOps0_1 V (Proc.devRef .tc main_arg0) = V (Proc.devRef .tc main_arg0) := by after_reads_simp
theorem pass_2_arg0 : after hostOps0_2 V (Proc.devRef .tc main_arg0) = V (Proc.devRef .tc main_arg0) := by after_reads_simp

/-- The host part's stretches. -/
abbrev opss : List (List (HloOp τ sig (Elt F))) :=
  [hostOps0, hostOps0_1, hostOps0_2, hostOps0_3, hostOps0_4, hostOps0_5, hostOps0_6, hostOps0_7, hostOps0_8]

/-- The contents before the last stretch, of what it reads. -/
def mid : Valuation τ sig (Elt F) := after hostOps0_7 (after hostOps0_6 (after hostOps0_5 (after hostOps0_4
    (after hostOps0_3 (after hostOps0_2 (after hostOps0_1 (after hostOps0 V)))))))

theorem after_opss (b : DevRef τ sig) : after opss.flatten V b = after hostOps0_8 (mid V) b := by
  simp only [List.flatten_cons, List.flatten_nil, List.append_nil, after_append, mid]

theorem mid_first : mid V (Proc.devRef .tc main_v2) = firstW sides (V (Proc.devRef .tc main_arg0)) := by
  unfold mid; rw [pass_7_v2, pass_6_v2, pass_5_v2, pass_4_v2, pass_3_v2, ops2_v2, ops1_v1, ops1_c, ops0_v0, pass_arg0]; rfl
theorem mid_tiles : mid V (Proc.devRef .tc main_v11) = tilesW sides (V (Proc.devRef .tc main_arg0)) := by
  unfold mid; rw [pass_7_v11, ops6_v11, pass_5_v4, pass_4_v4, ops3_v4, ops5_v10, ops5_c, ops4_v7, ops3_v6, ops3_c, pass_4_v2, pass_3_v2, ops2_v2, ops1_v1, ops1_c,
    pass_2_v0, pass_1_v0, ops0_v0, pass_2_arg0, pass_1_arg0, pass_arg0]; rfl
theorem mid_tends : mid V (Proc.devRef .tc main_v12) = tendsW sides (V (Proc.devRef .tc main_arg0)) := by
  unfold tendsW; rw [← mid_tiles V]; unfold mid; rw [ops7_v12, pass_7_v11]

theorem table_n : after opss.flatten V (Proc.devRef .tc main_v42) = stepsW sides (V (Proc.devRef .tc main_arg0)) := by
  rw [after_opss, ops8_v42, mid_tends]; rfl
theorem table_expert : after opss.flatten V (Proc.devRef .tc main_v21) = expertW sides (V (Proc.devRef .tc main_arg0)) := by
  rw [after_opss, ops8_v21, mid_tends]; rfl
theorem table_tile : after opss.flatten V (Proc.devRef .tc main_v40) = tileW sides (V (Proc.devRef .tc main_arg0)) := by
  rw [after_opss, ops8_v40, mid_tends, mid_tiles, mid_first]; rfl
theorem table_ends : after opss.flatten V (Proc.devRef .tc main_v0) = endsW sides (V (Proc.devRef .tc main_arg0)) := by
  rw [after_opss, pass_8_v0]; unfold mid; rw [pass_7_v0, pass_6_v0, pass_5_v0, pass_4_v0, pass_3_v0, pass_2_v0, pass_1_v0, ops0_v0]; rfl

theorem kept_arg0 : after opss.flatten V (Proc.devRef .tc main_arg0) = V (Proc.devRef .tc main_arg0) := by
  rw [after_opss]; unfold mid; after_reads_simp
theorem kept_arg1 : after opss.flatten V (Proc.devRef .tc main_arg1) = V (Proc.devRef .tc main_arg1) := by
  rw [after_opss]; unfold mid; after_reads_simp
theorem kept_arg2 : after opss.flatten V (Proc.devRef .tc main_arg2) = V (Proc.devRef .tc main_arg2) := by
  rw [after_opss]; unfold mid; after_reads_simp
theorem kept_arg3 : after opss.flatten V (Proc.devRef .tc main_arg3) = V (Proc.devRef .tc main_arg3) := by
  rw [after_opss]; unfold mid; after_reads_simp
theorem kept_arg4 : after opss.flatten V (Proc.devRef .tc main_arg4) = V (Proc.devRef .tc main_arg4) := by
  rw [after_opss]; unfold mid; after_reads_simp
theorem kept_arg5 : after opss.flatten V (Proc.devRef .tc main_arg5) = V (Proc.devRef .tc main_arg5) := by
  rw [after_opss]; unfold mid; after_reads_simp
theorem kept_arg6 : after opss.flatten V (Proc.devRef .tc main_arg6) = V (Proc.devRef .tc main_arg6) := by
  rw [after_opss]; unfold mid; after_reads_simp
theorem kept_arg7 : after opss.flatten V (Proc.devRef .tc main_arg7) = V (Proc.devRef .tc main_arg7) := by
  rw [after_opss]; unfold mid; after_reads_simp
theorem kept_arg8 : after opss.flatten V (Proc.devRef .tc main_arg8) = V (Proc.devRef .tc main_arg8) := by
  rw [after_opss]; unfold mid; after_reads_simp

end Cert.UpIdeal.Gate
-- ==== Proof.VRun.lean ====
/- The gated projection's run: from group sizes that fill the rows, the program ends with its arguments kept and its result in the
   relation the steps' proof data state. -/
module

public import proofs.«01_k».proof.Proof.VOblig
public import proofs.«01_k».proof.Proof.VTables

@[expose] public section

set_option maxRecDepth 20000

noncomputable section

namespace Cert.UpIdeal.Gate

open Cert.UpIdeal Cert.UpIdeal.Gen
open Cert.Down
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR nD τ) ℕ

variable (m : (ℓ : Loc nD τ sig) → Buf (Elt F) ℓ) (g : Dev nD → PrngReg)

/-- The buffers when the region is entered. -/
def VE (c : Dev nD) (b : Ref sig .tc) : Buf (Elt F) ((c.tc : Thread nD τ).loc b) := StableHlo.after opss.flatten (fun b => m (c, b)) (Proc.devRef .tc b)

/-- The tables then. -/
def tbl : pre0.Contents (Elt F) := fun k => VE m 0 (pre0.ref k)

/-- The group sizes given. -/
abbrev G : IVec S8 32 := m ((0 : Dev nD).tc.loc main_arg0)

variable {γ : Nat → Nat} (hg : ∀ e : Fin 8, G m (ix1 e) = BitVec.ofNat 32 (γ e.val)) (h8 : pre γ 8 = 9216)

include hg h8 in
theorem plan : Plan (tbl m) γ where
  h8 := h8
  n i := (congrFun (table_n (fun b => m ((0 : Dev nD), b))) i).trans (stepsW_ap sides (G m) γ hg h8 i)
  expert s := (congrFun (table_expert (fun b => m ((0 : Dev nD), b))) (ix1 s)).trans (expertW_ap sides (G m) γ hg h8 s)
  tile s := (congrFun (table_tile (fun b => m ((0 : Dev nD), b))) (ix1 s)).trans (tileW_ap sides (G m) γ hg h8 s)
  ends e := (congrFun (table_ends (fun b => m ((0 : Dev nD), b))) (ix1 e)).trans (endsW_ap sides (G m) γ hg e)

theorem tables_eq (c : Dev nD) (pf : pre0.Contents (Elt F)) :
    (Pipeline.ΦT (U := UR nD τ) pre0 pf c : sProp 𝕄) = iprop(ptH c mN (pf 0) ∗ ptH c mE (pf 1) ∗ ptH c mT (pf 2) ∗ ptH c mS (pf 3)) := by
  unfold Pipeline.ΦT Pipeline.prefHeld
  exact bigSep_univ_eq_bigSepL [(0 : Fin 4), (1 : Fin 4), (2 : Fin 4), (3 : Fin 4)] (by decide) (by decide) _

theorem hmain : Pipeline.HMainP (Ix := Unit) (Name := ℕ) (U := UR nD τ) (Lvl := ℕ) (pcfgs (F := F)) 0 defs₀ Variants.none m (main (F := F)) (VE m) :=
  Pipeline.hmainP_prefixes (pcfgs (F := F)) 0 defs₀ Variants.none m (main (F := F)) opss
    ⟨hostOps0_sub, hostOps0_1_sub, hostOps0_2_sub, hostOps0_3_sub, hostOps0_4_sub, hostOps0_5_sub, hostOps0_6_sub, hostOps0_7_sub, hostOps0_8_sub⟩
    (by repeat' first | exact rfl | constructor)
    main_chain

section
variable (P : Plan (tbl m) γ)

theorem hin (c : Dev nD) : iprop(Pipeline.ΦA (U := UR nD τ) spec0 c ∗ Pipeline.ΦT (U := UR nD τ) pre0 (tbl m) c) ⊢ (Inv (VE m) c (tbl m) γ 0 : sProp 𝕄) := by
  rw [tables_eq]
  unfold Pipeline.ΦA Inv
  rw [scopedRest0_eq]
  iintro ⟨⟨⟨⟨%f, Hs⟩, ⟨%f', Hu⟩⟩, Hg⟩, HT⟩
  isplitl [Hs]
  · iexists f
    isplitr; swap; (· iexact Hs)
    ipureintro
    intro h
    exact absurd (Nat.zero_mod _) h
  isplitl [Hu]
  · iexists f'
    isplitr; swap; (· iexact Hu)
    ipureintro
    intro h
    exact absurd (Nat.zero_mod _) h
  isplitl [Hg]; · iexact Hg
  iexact HT

theorem hout (c : Dev nD) (t : Nat) : (Inv (VE m) c (tbl m) γ t : sProp 𝕄) ⊢ Pipeline.ΦA (U := UR nD τ) spec0 c := by
  unfold Pipeline.ΦA Inv
  rw [scopedRest0_eq]
  iintro ⟨⟨%f, -, Hs⟩, ⟨%f', -, Hu⟩, Hg, -⟩
  isplitl [Hs Hu]
  · isplitl [Hs]
    · iexists f; iexact Hs
    iexists f'; iexact Hu
  iexact Hg

theorem shares (c : Dev nD) (w) : (rdat P (VE m) c).share w = fullShare := by
  unfold RDat.share; split <;> rfl

theorem entry_array (V : (c : Dev nD) → (b : Ref sig .tc) → Buf (Elt F) ((c.tc : Thread nD τ).loc b)) (c : Dev nD) (w) :
    (rdat P V c).A w = V c (Pipeline.arrRef (cfgP P).spec w) := by exact rfl

theorem entry_inv (V : (c : Dev nD) → (b : Ref sig .tc) → Buf (Elt F) ((c.tc : Thread nD τ).loc b)) (c : Dev nD) (t) :
    (rdat P V c).Φ t = Inv V c (tbl m) γ t.val := by exact rfl

theorem held_tables (c : Dev nD) (k) : VE m c ((pcfgs (F := F) 0).pre.ref k) = (adm P 0).1 k := by
  rw [Subsingleton.elim c 0]; exact rfl

/-- The run, with what the result's array may hold. -/
theorem run_rel : θ_run (defs (F := F)) (onTc (τ := τ) (main (F := F))) ⟨m, fun _ => 0, g⟩ (fun r =>
    RDat.FramePost (cfgP P) (fun c => rdat P (VE m) c) (VE m) r ∧ r.2.sem = fun _ => 0) := by
  refine RDat.θ_run_frameP_track (pcfgs (F := F)) (adm P) 0 launch0 defs₀ Variants.none (fun c => rdat P (VE m) c) m g (main (F := F))
    ?_ ?_ ?_ (VE m) ?_ ?_ ?_ ?_ ?_ _ (fun _ h => h)
  · exact fun c => body_obligation P (VE m) c
  · exact shares m P
  · exact fun _ _ => rfl
  · exact hmain m
  · exact fun c w => entry_array m P (VE m) c w
  · exact held_tables m P
  · intro c; rw [entry_inv m P]; exact hin m c
  · intro c; rw [entry_inv m P]; exact hout m c _

end

end Cert.UpIdeal.Gate
-- ==== Proof.VFrame.lean ====
/- The gated projection leaves its arguments as it found them. -/
module

public import proofs.«01_k».proof.Proof.VRun

@[expose] public section

set_option maxRecDepth 20000

noncomputable section

namespace Cert.UpIdeal.Gate

open Cert.UpIdeal Cert.UpIdeal.Gen
open Cert.Down
open Idealize.ShloMosaic Idealize.ShloMosaic.TcCoe Idealize.ShloMosaic.ValueIdx
open Idealize.SL Idealize.SL.Sem
open Idealize.ShloMosaic.Pipeline (RDat)

variable {F : FTy → Type} [FloatOps F]

variable (m : (ℓ : Loc nD τ sig) → Buf (Elt F) ℓ) (g : Dev nD → PrngReg) {γ : Nat → Nat}

/-- The arguments are as launched. -/
abbrev Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

variable (P : Plan (tbl m) γ)

theorem VE_arg0 (c : Dev nD) : VE m c main_arg0 = m ((c.tc : Thread nD τ).loc main_arg0) := kept_arg0 _
theorem VE_arg1 (c : Dev nD) : VE m c main_arg1 = m ((c.tc : Thread nD τ).loc main_arg1) := kept_arg1 _
theorem VE_arg2 (c : Dev nD) : VE m c main_arg2 = m ((c.tc : Thread nD τ).loc main_arg2) := kept_arg2 _
theorem VE_arg3 (c : Dev nD) : VE m c main_arg3 = m ((c.tc : Thread nD τ).loc main_arg3) := kept_arg3 _
theorem VE_arg4 (c : Dev nD) : VE m c main_arg4 = m ((c.tc : Thread nD τ).loc main_arg4) := kept_arg4 _
theorem VE_arg5 (c : Dev nD) : VE m c main_arg5 = m ((c.tc : Thread nD τ).loc main_arg5) := kept_arg5 _
theorem VE_arg6 (c : Dev nD) : VE m c main_arg6 = m ((c.tc : Thread nD τ).loc main_arg6) := kept_arg6 _
theorem VE_arg7 (c : Dev nD) : VE m c main_arg7 = m ((c.tc : Thread nD τ).loc main_arg7) := kept_arg7 _
theorem VE_arg8 (c : Dev nD) : VE m c main_arg8 = m ((c.tc : Thread nD τ).loc main_arg8) := kept_arg8 _

theorem input0 : ((cfgP P).win 0).isOut = false := by exact rfl
theorem input1 : ((cfgP P).win 1).isOut = false := by exact rfl
theorem input2 : ((cfgP P).win 2).isOut = false := by exact rfl
theorem input3 : ((cfgP P).win 3).isOut = false := by exact rfl
theorem input4 : ((cfgP P).win 4).isOut = false := by exact rfl
theorem input5 : ((cfgP P).win 5).isOut = false := by exact rfl
theorem input6 : ((cfgP P).win 6).isOut = false := by exact rfl
theorem input7 : ((cfgP P).win 7).isOut = false := by exact rfl

theorem sizes_no_window : ∀ w : Fin 9, (spec0 w).arr.view.ref ≠ main_arg0 := by decide

theorem post_kept (V : (c : Dev nD) → (b : Ref sig .tc) → Buf (Elt F) ((c.tc : Thread nD τ).loc b)) (r : PUnit × MemSt nD τ sig (Elt F))
    (h : RDat.FramePost (cfgP P) (fun c => rdat P V c) V r) (c : Dev nD) :
    r.2.mem ((c.tc : Thread nD τ).loc main_arg0) = V c main_arg0
    ∧ r.2.mem ((c.tc : Thread nD τ).loc main_arg1) = V c main_arg1
    ∧ r.2.mem ((c.tc : Thread nD τ).loc main_arg2) = V c main_arg2
    ∧ r.2.mem ((c.tc : Thread nD τ).loc main_arg3) = V c main_arg3
    ∧ r.2.mem ((c.tc : Thread nD τ).loc main_arg4) = V c main_arg4
    ∧ r.2.mem ((c.tc : Thread nD τ).loc main_arg5) = V c main_arg5
    ∧ r.2.mem ((c.tc : Thread nD τ).loc main_arg6) = V c main_arg6
    ∧ r.2.mem ((c.tc : Thread nD τ).loc main_arg7) = V c main_arg7
    ∧ r.2.mem ((c.tc : Thread nD τ).loc main_arg8) = V c main_arg8 :=
  ⟨(h c).2 main_arg0 (Pipeline.mem_restRefs_of main_arg0 (by decide) (by exact sizes_no_window)), h.arr_in c 0 (input0 m P), h.arr_in c 1 (input1 m P), h.arr_in c 2 (input2 m P), h.arr_in c 3 (input3 m P), h.arr_in c 4 (input4 m P), h.arr_in c 5 (input5 m P), h.arr_in c 6 (input6 m P), h.arr_in c 7 (input7 m P)⟩

/-- The run keeps its arguments and ends with every semaphore at zero. -/
theorem run_kept (hg : ∀ e : Fin 8, G m (ix1 e) = BitVec.ofNat 32 (γ e.val)) (h8 : pre γ 8 = 9216) :
    θ_run (defs (F := F)) (onTc (τ := τ) (main (F := F))) ⟨m, fun _ => 0, g⟩ (fun r => Kept m r ∧ r.2.sem = fun _ => 0) :=
  (θ_run (defs (F := F)) _ _).mono (fun r h => ⟨fun c => by
    have := post_kept m (plan m hg h8) (VE m) r h.1 c
    rwa [VE_arg0, VE_arg1, VE_arg2, VE_arg3, VE_arg4, VE_arg5, VE_arg6, VE_arg7, VE_arg8] at this, h.2⟩) (run_rel m g (plan m hg h8))

end Cert.UpIdeal.Gate
-- ==== Proof.VValue.lean ====
/- What the gated projection's result array holds: every block is written back when its last step has filled the last of its rows, so
   every element is its row's expert's tile element. -/
module

public import proofs.«01_k».proof.Proof.VFrame
public import Idealize.ShloMosaic.Lib.Pipeline.ArrRel
public import Idealize.ShloMosaic.Lib.Pipeline.Value

@[expose] public section

set_option maxRecDepth 20000

noncomputable section

namespace Cert.UpIdeal.Gate

open Cert.UpIdeal Cert.UpIdeal.Gen
open Cert.Down
open Idealize.ShloMosaic Idealize.ShloMosaic.TcCoe Idealize.ShloMosaic.ValueIdx
open Idealize.SL Idealize.SL.Sem
open Idealize.ShloMosaic.Pipeline (RDat)

variable {F : FTy → Type} [FloatOps F]

variable {pf : pre0.Contents (Elt F)} {γ : Nat → Nat} (P : Plan pf γ)
variable (V : (c : Dev nD) → (b : Ref sig .tc) → Buf (Elt F) ((c.tc : Thread nD τ).loc b)) (c : Dev nD)

/-- The expert of a row. -/
def rowE (γ : Nat → Nat) (r : Nat) : Fin 8 := ⟨slot γ r, slot_lt γ r⟩

/-- The block the result ends with at tile `k` and column block `n`. -/
def target (γ : Nat → Nat) (k : Fin 36) (n : Fin 8) (p : Fin 256) (q : Fin 512) : F .fp8e4m3 :=
  FloatOps.truncf .fp8e4m3 bitsLt_fp8e4m3_f32 (hAt (X0 V c) (X1 V c) (X2 V c) (X3 V c) (X4 V c) (X5 V c) (X6 V c) (X7 V c) (rowE γ (256 * k.val + p.val)) k n (ix2 p q))

theorem index8 (t : Fin (cfgP P).N) : (((cfgP P).win 8).index t : Fin 2 → Nat) = ![tileOf γ (t.val % steps γ), t.val / steps γ] := by
  have h1 := coords_one P t
  have h0 := coords_zero P t
  rw [← h1, ← h0]
  exact trans8 P ((grid0.at (dynb0 pf)).coords t)

theorem no_fetch (t : Fin (cfgP P).N) : ((cfgP P).win 8).fetch t = false := by exact rfl

theorem flush_iff (t : Fin (cfgP P).N) :
    ((cfgP P).win 8).flush t = true ↔ t.val + 1 = (cfgP P).N ∨ ∃ h : t.val + 1 < (cfgP P).N, ((cfgP P).win 8).index ⟨t.val + 1, h⟩ ≠ ((cfgP P).win 8).index t := by
  unfold Pipeline.Window.flush
  rw [Bool.and_eq_true, Bool.or_eq_true, decide_eq_true_eq, decide_eq_true_eq]
  exact ⟨fun h => h.2, fun h => ⟨rfl, h⟩⟩

/-- The output's block is kept between two steps on one tile, and written back after a tile's last step. -/
theorem index8_next (t : Fin (cfgP P).N) (h : t.val + 1 < (cfgP P).N) :
    ((cfgP P).win 8).index ⟨t.val + 1, h⟩ ≠ ((cfgP P).win 8).index t
      ↔ ((t.val + 1) % steps γ = 0 ∨ tileOf γ (t.val % steps γ) ≠ tileOf γ ((t.val + 1) % steps γ)) := by
  have e1 := index8 P ⟨t.val + 1, h⟩
  have e2 := index8 P t
  have hs := steps_pos γ P.h8
  constructor
  · intro hne
    by_contra hc
    push Not at hc
    obtain ⟨h1, h2⟩ := succ_mod hc.1
    have e3 : (![tileOf γ ((t.val + 1) % steps γ), (t.val + 1) / steps γ] : Fin 2 → Nat) = ![tileOf γ (t.val % steps γ), t.val / steps γ] := by
      rw [h2, hc.2]
    exact hne (e1.trans (e3.trans e2.symm))
  · rintro hor heq
    have e3 : (![tileOf γ ((t.val + 1) % steps γ), (t.val + 1) / steps γ] : Fin 2 → Nat) = ![tileOf γ (t.val % steps γ), t.val / steps γ] :=
      e1.symm.trans (Eq.trans heq e2)
    have e4 := congrFun e3 0
    have e5 := congrFun e3 1
    simp only [Matrix.cons_val_zero, Matrix.cons_val_one] at e4 e5
    rcases hor with h0 | h0
    · have h1 := Nat.div_add_mod (t.val + 1) (steps γ)
      have h2 := Nat.div_add_mod t.val (steps γ)
      rw [h0, e5] at h1
      omega
    · exact h0 e4.symm

variable (hid : ∀ x : F .fp8e4m3, FloatOps.truncf .fp8e4m3 bitsLt_fp8e4m3_f32 (FloatOps.extf .f32 bitsLt_fp8e4m3_f32 x) = x)

include hid in
/-- A step's rows up to its expert's end are final. -/
theorem leaves_rows : ∀ (u : Nat) (t : Fin (cfgP P).N), t.val = u → ∀ X, (rdat P V c).Leaves 8 t X → ∀ (p : Fin 256) (q : Fin 512),
    256 * tileOf γ (t.val % steps γ) + p.val < pre γ (expertOf γ (t.val % steps γ) + 1) →
    (X : Vec F S256x512 .fp8e4m3) (ix2 p q) = target V c γ (kF γ (t.val % steps γ)) (nF (t.val / steps γ)) p q := by
  intro u
  induction u using Nat.strong_induction_on with
  | _ u ih =>
  intro t htu X hX p q hpq
  obtain ⟨Y, hY, hA⟩ := hX
  have hA' : Leave V c γ t.val Y X := hA
  have hc := hA' p q
  have hs := mod_lt P t.val
  by_cases hge : pre γ (expertOf γ (t.val % steps γ)) ≤ 256 * tileOf γ (t.val % steps γ) + p.val
  · have he : rowE γ (256 * (kF γ (t.val % steps γ)).val + p.val) = eF γ (t.val % steps γ) := Fin.ext (slot_row γ P.h8 hs hge hpq)
    refine hc.trans ((congrArg _ (if_pos ⟨hge, hpq⟩)).trans ?_)
    unfold target
    rw [he]; rfl
  · refine hc.trans ((congrArg _ (if_neg fun h => hge h.1)).trans ((hid _).trans ?_))
    have h0 : t.val % steps γ ≠ 0 := fun h => hge (by rw [h, (step_zero γ P.h8).1]; exact Nat.zero_le _)
    obtain ⟨h1, h2⟩ := prev_mod h0
    have hs1 : t.val % steps γ - 1 + 1 = t.val % steps γ := by omega
    have htile : tileOf γ (t.val % steps γ - 1) = tileOf γ (t.val % steps γ) := by
      by_contra hne
      have := tile_first γ P.h8 (s := t.val % steps γ - 1) (by omega) (by rw [hs1]; exact hne)
      rw [hs1] at this
      omega
    have hag := tile_again γ P.h8 (s := t.val % steps γ - 1) (by omega) (by rw [hs1]; exact htile)
    rw [hs1] at hag
    have ht0 : t.val ≠ 0 := fun h => h0 (by rw [h]; exact Nat.zero_mod _)
    have ht1 : t.val - 1 + 1 = t.val := by omega
    have hlt : t.val - 1 < (cfgP P).N := by have := t.isLt; omega
    rcases ((rdat P V c).finds_of_pos (no_fetch P t) ht0 Y).1 hY with hf | hL
    · exfalso
      rcases (flush_iff P _).1 hf with hl | ⟨h, hne⟩
      · have := t.isLt; simp only at hl; omega
      · rcases (index8_next P ⟨t.val - 1, hlt⟩ h).1 hne with h' | h'
        · simp only [ht1] at h'; exact h0 h'
        · simp only [ht1] at h'; rw [← h1] at h'; exact h' htile
    · have := ih (t.val - 1) (by omega) ⟨t.val - 1, hlt⟩ rfl Y hL p q (by
        simp only
        rw [← h1, htile, ← hag]; omega)
      simp only at this
      rw [← h1, ← h2] at this
      refine this.trans ?_
      rw [show kF γ (t.val % steps γ - 1) = kF γ (t.val % steps γ) from Fin.ext htile]

include hid in
/-- A block written back is final. -/
theorem leaves_block (t : Fin (cfgP P).N) (hf : ((cfgP P).win 8).flush t = true) (X) (hX : (rdat P V c).Leaves 8 t X) (p : Fin 256) (q : Fin 512) :
    (X : Vec F S256x512 .fp8e4m3) (ix2 p q) = target V c γ (kF γ (t.val % steps γ)) (nF (t.val / steps γ)) p q := by
  refine leaves_rows P V c hid t.val t rfl X hX p q ?_
  have hs := mod_lt P t.val
  have hd : 256 * (tileOf γ (t.val % steps γ) + 1) ≤ pre γ (expertOf γ (t.val % steps γ) + 1) := by
    refine tile_done γ P.h8 hs ?_
    rw [or_iff_not_imp_left]
    intro hne
    have hmod : (t.val + 1) % steps γ = t.val % steps γ + 1 := by
      rw [Nat.add_mod, Nat.mod_eq_of_lt (a := t.val % steps γ + 1 % steps γ)] <;>
      · have : 1 % steps γ = 1 := Nat.mod_eq_of_lt (by omega)
        omega
    rcases (flush_iff P t).1 hf with hl | ⟨h, hn⟩
    · exfalso
      have hN : t.val + 1 = 8 * steps γ := hl.trans (grid_N P)
      rw [hN, Nat.mul_mod_left] at hmod
      omega
    · rcases (index8_next P t h).1 hn with h' | h'
      · omega
      · rwa [hmod] at h'
  have := p.isLt
  omega

/-- The result. -/
def result (γ : Nat → Nat) : Vec F S9216x4096 .fp8e4m3 := fun i =>
  target V c γ ⟨(i 0).val / 256, by have h : (i 0).val < 9216 := (i 0).isLt; omega⟩ ⟨(i 1).val / 512, by have h : (i 1).val < 4096 := (i 1).isLt; omega⟩
    ⟨(i 0).val % 256, Nat.mod_lt _ (by decide)⟩ ⟨(i 1).val % 512, Nat.mod_lt _ (by decide)⟩

theorem result_at (k : Fin 36) (n : Fin 8) (p : Fin 256) (q : Fin 512) (i : S9216x4096.Idx) (h0 : (i 0).val = k.val * 256 + p.val)
    (h1 : (i 1).val = n.val * 512 + q.val) : result V c γ i = target V c γ k n p q := by
  unfold result
  congr 1 <;> exact Fin.ext (by simp only [h0, h1]; omega)

/-- Row and column of an element of the output's block. -/
theorem emb8 (t : Fin (cfgP P).N) (y : (((cfgP P).win 8).xblock ((cfgP P).grid.coords t)).Idx) (i : S9216x4096.Idx)
    (hi : i = (((cfgP P).win 8).rect t).emb y) :
    (i 0).val = tileOf γ (t.val % steps γ) * 256 + (y (0 : Fin 2)).val ∧ (i 1).val = t.val / steps γ * 512 + (y (1 : Fin 2)).val := by
  have e := index8 P t
  subst hi
  constructor
  · refine (Pipeline.Window.rect_emb_val _ t y ⟨0, (by decide : 0 < 2)⟩ rfl).trans ?_
    exact congrArg (fun x => x * 256 + (y (0 : Fin 2)).val) (congrFun e ⟨0, Nat.zero_lt_two⟩)
  · refine (Pipeline.Window.rect_emb_val _ t y ⟨1, (by decide : 1 < 2)⟩ rfl).trans ?_
    exact congrArg (fun x => x * 512 + (y (1 : Fin 2)).val) (congrFun e ⟨1, Nat.one_lt_two⟩)

include hid in
theorem result_of_exact (after : (w' : Fin (cfgP P).W) → Fin (cfgP P).N → ((cfgP P).win w').block.Idx → Elt F ((cfgP P).win w').elt)
    (hL : ∀ u : Fin (cfgP P).N, ((cfgP P).win 8).flush u = true → (rdat P V c).Leaves 8 u (after 8 u)) :
    ((rdat P V c).withAfter after).arrAt 8 (cfgP P).N = (result V c γ : Vec F S9216x4096 .fp8e4m3) := by
  refine funext fun (i : S9216x4096.Idx) => ?_
  refine Pipeline.Dat.arrAt_forall_of_cover ((rdat P V c).withAfter after) 8 (fun i v => v = (result V c γ : Vec F S9216x4096 .fp8e4m3) i) ?_ ?_ i
  · intro t hf y
    have hy0 : (y (0 : Fin 2)).val < 256 := (y (0 : Fin 2)).isLt
    have hy1 : (y (1 : Fin 2)).val < 512 := (y (1 : Fin 2)).isLt
    obtain ⟨h0, h1⟩ := emb8 P t y _ rfl
    refine Eq.trans ?_ ((leaves_block P V c hid t hf _ (hL t hf) ⟨_, hy0⟩ ⟨_, hy1⟩).trans (result_at V c (kF γ (t.val % steps γ)) (nF (t.val / steps γ))
      ⟨_, hy0⟩ ⟨_, hy1⟩ _ h0 (h1.trans ?_)).symm)
    · show after 8 t _ = after 8 t _
      congr 1
      refine funext fun (a : Fin 2) => Fin.ext ?_
      match a with
      | ⟨0, _⟩ => rfl
      | ⟨1, _⟩ => rfl
    · have := div_lt P t
      show _ = (t.val / steps γ) % 8 * 512 + _
      rw [Nat.mod_eq_of_lt this]
  · intro (i : S9216x4096.Idx)
    have hi0 : (i 0).val < 9216 := (i 0).isLt
    have hi1 : (i 1).val < 4096 := (i 1).isLt
    obtain ⟨s, hs, hk, hlast⟩ := tile_met γ P.h8 (k := (i 0).val / 256) (by omega)
    have hmod : (s + steps γ * ((i 1).val / 512)) % steps γ = s := by rw [Nat.add_mul_mod_self_left, Nat.mod_eq_of_lt hs]
    have hdiv : (s + steps γ * ((i 1).val / 512)) / steps γ = (i 1).val / 512 := by
      rw [Nat.add_mul_div_left _ _ (steps_pos γ P.h8), Nat.div_eq_of_lt hs, Nat.zero_add]
    have hlt : s + steps γ * ((i 1).val / 512) < (cfgP P).N := by
      refine lt_of_lt_of_eq ?_ (grid_N P).symm
      have : steps γ * ((i 1).val / 512) ≤ steps γ * 7 := Nat.mul_le_mul_left _ (by omega)
      omega
    refine ⟨⟨_, hlt⟩, ?_, ?_⟩
    · rw [flush_iff]
      by_cases hl : s + steps γ * ((i 1).val / 512) + 1 = (cfgP P).N
      · exact Or.inl hl
      · refine Or.inr ⟨by show s + steps γ * ((i 1).val / 512) + 1 < (cfgP P).N; omega, (index8_next P ⟨_, hlt⟩ _).2 ?_⟩
        show (s + steps γ * ((i 1).val / 512) + 1) % steps γ = 0
          ∨ tileOf γ ((s + steps γ * ((i 1).val / 512)) % steps γ) ≠ tileOf γ ((s + steps γ * ((i 1).val / 512) + 1) % steps γ)
        by_cases hz : s + 1 = steps γ
        · left
          rw [show s + steps γ * ((i 1).val / 512) + 1 = steps γ * ((i 1).val / 512 + 1) by rw [Nat.mul_add]; omega, Nat.mul_mod_right]
        · right
          rw [hmod, show s + steps γ * ((i 1).val / 512) + 1 = (s + 1) + steps γ * ((i 1).val / 512) by omega, Nat.add_mul_mod_self_left,
            Nat.mod_eq_of_lt (by omega)]
          exact hlast.resolve_left hz
    · refine Finset.mem_map.mpr ⟨(fun (a : Fin 2) => match a with
        | ⟨0, _⟩ => (⟨(i 0).val % 256, Nat.mod_lt _ (by decide)⟩ : Fin 256)
        | ⟨1, _⟩ => (⟨(i 1).val % 512, Nat.mod_lt _ (by decide)⟩ : Fin 512)), Finset.mem_univ _, ?_⟩
      obtain ⟨h0, h1⟩ := emb8 P ⟨_, hlt⟩ (fun (a : Fin 2) => match a with
        | ⟨0, _⟩ => (⟨(i 0).val % 256, Nat.mod_lt _ (by decide)⟩ : Fin 256)
        | ⟨1, _⟩ => (⟨(i 1).val % 512, Nat.mod_lt _ (by decide)⟩ : Fin 512)) _ rfl
      refine funext fun (a : Fin 2) => Fin.ext ?_
      match a with
      | ⟨0, _⟩ =>
        refine h0.trans ?_
        show tileOf γ ((s + steps γ * ((i 1).val / 512)) % steps γ) * 256 + (i 0).val % 256 = (i 0).val
        rw [hmod, hk]; omega
      | ⟨1, _⟩ =>
        refine h1.trans ?_
        show (s + steps γ * ((i 1).val / 512)) / steps γ * 512 + (i 1).val % 512 = (i 1).val
        rw [hdiv]; omega

section
variable (m : (ℓ : Loc nD τ sig) → Buf (Elt F) ℓ) (g : Dev nD → PrngReg)

include hid in
theorem result_of_post (r : PUnit × MemSt nD τ sig (Elt F)) (h : RDat.FramePost (cfgP P) (fun c => rdat P V c) V r) :
    (r.2.mem ((c.tc : Thread nD τ).loc main_v43) : Vec F S9216x4096 .fp8e4m3) = result V c γ := by
  obtain ⟨after, hL, hA⟩ := h.exists_exact c
  exact (hA 8).trans (result_of_exact P V c hid after (fun u hf => hL 8 u hf))

include hid in
/-- The run ends with the result and the arguments kept. -/
theorem run_result (hg : ∀ e : Fin 8, G m (ix1 e) = BitVec.ofNat 32 (γ e.val)) (h8 : pre γ 8 = 9216) :
    θ_run (defs (F := F)) (onTc (τ := τ) (main (F := F))) ⟨m, fun _ => 0, g⟩ (fun r =>
      (∀ c : Dev nD, (r.2.mem ((c.tc : Thread nD τ).loc main_v43) : Vec F S9216x4096 .fp8e4m3) = result (VE m) c γ) ∧ Kept m r) :=
  (θ_run (defs (F := F)) _ _).mono (fun r h => ⟨fun c => result_of_post (plan m hg h8) (VE m) c hid r h.1, fun c => by
    have := post_kept m (plan m hg h8) (VE m) r h.1 c
    rwa [VE_arg0, VE_arg1, VE_arg2, VE_arg3, VE_arg4, VE_arg5, VE_arg6, VE_arg7, VE_arg8] at this⟩) (run_rel m g (plan m hg h8))

end

end Cert.UpIdeal.Gate
-- ==== Proof.USpec.lean ====
/- The gated projection over the extended reals: two products of the row by four-bit weights, the first through `x · logistic x`, their
   product times the column's scale over the expert's second scale, clipped. Nothing here names a program. -/
module

public import proofs.«01_k».proof.Proof.Spec

@[expose] public section

noncomputable section

namespace Cert.Gate

open Cert.Down (half nib16)
open Idealize.ShloMosaic Idealize.ShloMosaic.ValueIdx

/-- One weight: row `k` of the product's columns is the half `k % 128 / 64` of packed row `64 (k / 128) + k % 64`, times the scale of
    its 128 rows. -/
def weight (w : IVec ⟨3, ![8, 3072, 4096]⟩ 8) (s : (⟨3, ![8, 48, 4096]⟩ : Shape).Idx → EReal) (e : Fin 8) (k : Fin 6144) (c : Fin 4096) : EReal :=
  (((half (decide (64 ≤ k.val % 128)) (w (ix3 e ⟨64 * (k.val / 128) + k.val % 64, by omega⟩ c))).toInt : ℝ) : EReal)
    * s (ix3 e ⟨k.val / 128, by omega⟩ c)

/-- Row `r` by column `c` of expert `e`'s weights. -/
def sumAt (x : (⟨2, ![9216, 6144]⟩ : Shape).Idx → EReal) (w : IVec ⟨3, ![8, 3072, 4096]⟩ 8) (s : (⟨3, ![8, 48, 4096]⟩ : Shape).Idx → EReal)
    (e : Fin 8) (r : Fin 9216) (c : Fin 4096) : EReal :=
  ∑ k : Fin 6144, x (ix2 r k) * weight w s e k c

/-- The two products `g` and `u`, both scaled by `a`: `(g a) logistic (g a) (u a) p / b`, clipped to ±448. -/
def gated (g u p a b : Ideal .f32) : Ideal .f32 :=
  FloatOps.minimumf (Scalar.ofBits .f32 0x43E00000#32) (FloatOps.maximumf (Scalar.ofBits .f32 0xC3E00000#32)
    (FloatOps.divf (FloatOps.mulf (FloatOps.mulf (FloatOps.mulf (FloatOps.mulf g a) (FloatOps.logistic (FloatOps.mulf g a))) (FloatOps.mulf u a)) p) b))

/-- Row `r`, column `c` of the result by expert `e`'s weights and scales. -/
def outAt (a1 a2 : (⟨1, ![8]⟩ : Shape).Idx → EReal) (x : (⟨2, ![9216, 6144]⟩ : Shape).Idx → EReal) (w1 : IVec ⟨3, ![8, 3072, 4096]⟩ 8)
    (s1 : (⟨3, ![8, 48, 4096]⟩ : Shape).Idx → EReal) (w3 : IVec ⟨3, ![8, 3072, 4096]⟩ 8) (s3 : (⟨3, ![8, 48, 4096]⟩ : Shape).Idx → EReal)
    (p : (⟨2, ![8, 4096]⟩ : Shape).Idx → EReal) (e : Fin 8) (r : Fin 9216) (c : Fin 4096) : EReal :=
  gated (sumAt x w1 s1 e r c) (sumAt x w3 s3 e r c) (p (ix2 e c)) (a1 (ix1 e)) (a2 (ix1 e))

end Cert.Gate
-- ==== Proof.VMath.lean ====
/- The gated projection's result over the extended reals: every element is the specification's, at its row's expert. -/
module

public import proofs.«01_k».proof.Proof.VValue
public import proofs.«01_k».proof.Proof.USpec
public import Idealize.ShloMosaic.Lib.Pointwise.Contract

@[expose] public section

set_option maxRecDepth 20000

noncomputable section

namespace Cert.UpIdeal.Gate

open Cert.UpIdeal Cert.UpIdeal.Gen
open Cert.Down (weight_cell ofBits_sixteenth)
open Cert.Gate
open Idealize.ShloMosaic hiding ix1 ix2 ix3 mulf_apply extf_apply
open Idealize.ShloMosaic.TcCoe Idealize.ShloMosaic.ValueIdx

theorem wideAt_cell (X : Vec Ideal S8x3072x4096 .i8) (Z : Vec Ideal S8x48x4096 .bf16) (e : Fin 8) (n : Fin 8) (k : Fin 6144) (q : Fin 512)
    (c : Fin 4096) (hc : c.val = 512 * n.val + q.val) : wideAt X Z e n (ix2 k q) = weight X Z e k c := by
  have e1 : (⟨512 * n.val + q.val, by omega⟩ : Fin 4096) = c := Fin.ext hc.symm
  unfold weight
  rw [← weight_cell _ _ _ _ ofBits_sixteenth, ← e1]
  rfl

theorem product_cell (a : Vec Ideal S256x6144 .fp8e4m3) (w : Vec Ideal S6144x512 .bf16) (p : Fin 256) (q : Fin 512) :
    matmul (F := Ideal) (φ₁ := .bf16) (φ₂ := .bf16) dot_S256x6144_S6144x512_S256x512_1_0_0_1_n_n none (extf .bf16 a bitsLt_fp8e4m3_bf16) w (constant S256x512 .f32 0#32) (ix2 p q)
      = ∑ k : Fin 6144, (a (ix2 p k) : EReal) * w (ix2 k q) := by
  refine (Ideal.matmul_constant_zero_apply (φ₁ := .bf16) (φ₂ := .bf16) _ none _ _ _).trans ?_
  refine (DotDims.sum_contr₁ _ (a := 1) rfl (K := 6144) rfl _).trans (Finset.sum_congr rfl fun k _ => ?_)
  rw [extf_apply]
  congr 2 <;> funext d <;> match d with | ⟨0, _⟩ => exact Fin.ext rfl | ⟨1, _⟩ => exact Fin.ext rfl

theorem tile_cell (a : Vec Ideal S256x6144 .fp8e4m3) (w1 w3 : Vec Ideal S6144x512 .bf16) (act1 act2 : Ideal .f32) (v : S1x512.Idx → Ideal .f32)
    (p : Fin 256) (q : Fin 512) :
    hTile a w1 w3 act1 act2 v (ix2 p q) = gated (∑ k : Fin 6144, (a (ix2 p k) : EReal) * w1 (ix2 k q)) (∑ k : Fin 6144, (a (ix2 p k) : EReal) * w3 (ix2 k q))
      (v (ix2 (0 : Fin 1) q)) act1 act2 := by
  rw [← product_cell, ← product_cell]
  have hv : broadcastTo S256x512 (s := S1x512) v broadcasts_S1x512_S256x512 (ix2 p q) = v (ix2 (0 : Fin 1) q) := by
    refine congrArg v (funext fun d => Fin.ext ?_)
    match d with
    | ⟨0, _⟩ => rfl
    | ⟨1, _⟩ => rfl
  rw [← hv]
  rfl

variable (V : (c : Dev nD) → (b : Ref sig .tc) → Buf (Elt Ideal) ((c.tc : Thread nD τ).loc b)) (c : Dev nD) (γ : Nat → Nat)

/-- One product's cell in a step's tile, as the specification's sum. -/
theorem sum_cell (X : Vec Ideal S8x3072x4096 .i8) (Z : Vec Ideal S8x48x4096 .bf16) (A : Vec Ideal S9216x6144 .fp8e4m3) (e : Fin 8) (r : Fin 9216) (q : Fin 4096) :
    (∑ k : Fin 6144, (aAt A ⟨r.val / 256, by omega⟩ (ix2 ⟨r.val % 256, by omega⟩ k) : EReal)
        * wideAt X Z e ⟨q.val / 512, by omega⟩ (ix2 k ⟨q.val % 512, by omega⟩)) = sumAt A X Z e r q := by
  have er : 256 * (r.val / 256) + r.val % 256 = r.val := by omega
  refine Finset.sum_congr rfl fun k _ => ?_
  rw [wideAt_cell _ _ _ _ _ _ q (by simp; omega)]
  congr 1
  unfold aAt
  congr 2
  exact Fin.ext er

theorem result_out (r : Fin 9216) (q : Fin 4096) :
    (result V c γ (ix2 r q) : EReal) = outAt (X0 V c) (X1 V c) (X2 V c) (X3 V c) (X4 V c) (X5 V c) (X6 V c) (X7 V c) (rowE γ r.val) r q := by
  have er : 256 * (r.val / 256) + r.val % 256 = r.val := by omega
  have eq : (⟨512 * (q.val / 512) + q.val % 512, by omega⟩ : Fin 4096) = q := Fin.ext (by simp only; omega)
  rw [result_at V c ⟨r.val / 256, by omega⟩ ⟨q.val / 512, by omega⟩ ⟨r.val % 256, by omega⟩ ⟨q.val % 512, by omega⟩ _
    (by show r.val = _; simp only; omega) (by show q.val = _; simp only; omega)]
  unfold target hAt outAt
  simp only [er]
  show hTile _ _ _ _ _ _ (ix2 _ _) = _
  rw [tile_cell, sum_cell, sum_cell]
  congr 1
  show X7 V c (ix2 (rowE γ r.val) ⟨512 * (q.val / 512) + q.val % 512, _⟩) = _
  rw [eq]

end Cert.UpIdeal.Gate
-- ==== Proof.UpRefBody.lean ====
/- The gated reference's region: eight layers, each replacing one expert's rows, and the gated product of what they leave. -/
module

public import proofs.«01_k».proof.Proof.Gen.UpReferenceIdeal.Frame
public import proofs.«01_k».proof.Proof.USpec
public import Idealize.ShloMosaic.Lib.Routing.Words
public import Idealize.ShloMosaic.Lib.Routing.OpsSet
public import Idealize.ShloMosaic.Lib.Pointwise.Contract
public import Idealize.ShloMosaic.Lib.ValueLayout
public import Idealize.ShloMosaic.Lib.Pipeline.ValueKit.Tiles

@[expose] public section

set_option maxRecDepth 20000

noncomputable section

namespace Cert.UpReferenceIdeal.Gate

open Cert.UpReferenceIdeal Cert.UpReferenceIdeal.Gen
open Cert.Gate
open Idealize.ShloMosaic hiding ix1 ix2 ix3 mulf_apply extf_apply
open Idealize.ShloMosaic.TcCoe Idealize.ShloMosaic.ValueIdx Idealize.ShloMosaic.WordCmp

/-- Eight layers, one over another. -/
def chain {α : Type} (L : Fin 8 → α → α) (z : α) : α :=
  L ⟨7, by decide⟩ (L ⟨6, by decide⟩ (L ⟨5, by decide⟩ (L ⟨4, by decide⟩ (L ⟨3, by decide⟩ (L ⟨2, by decide⟩ (L ⟨1, by decide⟩ (L ⟨0, by decide⟩ z)))))))

/-- Where each layer replaces only its own, what the layers leave is the layer's whose own it is. -/
theorem chain_ap {α : Type} (L : Fin 8 → α → α) (z : α) (rd : α → EReal) (f : Fin 8 → EReal) (s : Nat) (hs : s < 8)
    (h : ∀ (n : Fin 8) (old : α), rd (L n old) = if s = n.val then f n else rd old) : rd (chain L z) = f ⟨s, hs⟩ := by
  unfold chain
  rw [h, h, h, h, h, h, h, h]
  revert hs
  intro hs
  interval_cases s <;> simp only [Nat.reduceEqDiff, if_true, if_false]

section
variable {F : FTy → Type} [FloatOps F]

/-- The rows of expert `n`. -/
def own (er : IVec S9216x1 32) (n : Nat) : IVec S9216x1 1 := cmpi .eq er (broadcast S9216x1 (BitVec.ofNat 32 n))
/-- The same, over all columns. -/
def ownAll (er : IVec S9216x1 32) (n : Nat) : IVec S9216x4096 1 :=
  broadcastTo S9216x4096 (shapeCast S9216x1 (own er n) shapeCasts_S9216x1_S9216x1) broadcasts_S9216x1_S9216x4096
/-- A layer of a product. -/
def matL (er : IVec S9216x1 32) (a : FVec F S9216x6144 .bf16) (w : Vec F S1x6144x4096 .bf16) (n : Nat) (old : FVec F S9216x4096 .f32) : FVec F S9216x4096 .f32 :=
  select (ownAll er n) (matmul dot_S9216x6144_S6144x4096_S9216x4096_1_0_0_1_n_n none a (shapeCast S6144x4096 w shapeCasts_S1x6144x4096_S6144x4096)
    (constant S9216x4096 .f32 0x00000000#32)) old
/-- A layer of a row of column scales. -/
def rowL (er : IVec S9216x1 32) (v : Vec F S1x4096 .f32) (n : Nat) (old : FVec F S9216x4096 .f32) : FVec F S9216x4096 .f32 :=
  select (ownAll er n) (broadcastTo S9216x4096 (shapeCast S1x4096 v shapeCasts_S1x4096_S1x4096) broadcasts_S1x4096_S9216x4096) old
/-- A layer of one scale. -/
def colS (o : IVec S9216x1 1) (v : Vec F S1x1 .f32) (old : FVec F S9216x1 .f32) : FVec F S9216x1 .f32 :=
  select o (broadcastTo S9216x1 (shapeCast S1x1 (shapeCast S1x1 v shapeCasts_S1x1_S1x1) shapeCasts_S1x1_S1x1) broadcasts_S1x1_S9216x1) old

/-- Expert `n`'s weights. -/
def wLd (x : Vec F S8x6144x4096 .bf16) (n : Fin 8) : Vec F S1x6144x4096 .bf16 :=
  View.ld x (Rect.unit (s := S8x6144x4096) ![n.val, 0, 0] S1x6144x4096.size (fun a => match a with
    | ⟨0, _⟩ => Nat.succ_le_of_lt n.isLt | ⟨1, _⟩ => Nat.le_refl _ | ⟨2, _⟩ => Nat.le_refl _))
/-- Expert `n`'s column scales. -/
def pLd (x : Vec F S8x4096 .f32) (n : Fin 8) : Vec F S1x4096 .f32 :=
  View.ld x (Rect.unit (s := S8x4096) ![n.val, 0] S1x4096.size (fun a => match a with | ⟨0, _⟩ => Nat.succ_le_of_lt n.isLt | ⟨1, _⟩ => Nat.le_refl _))
/-- Expert `n`'s scale. -/
def sLd (x : Vec F S8x1 .f32) (n : Fin 8) : Vec F S1x1 .f32 :=
  View.ld x (Rect.unit (s := S8x1) ![n.val, 0] S1x1.size (fun a => match a with | ⟨0, _⟩ => Nat.succ_le_of_lt n.isLt | ⟨1, _⟩ => Nat.le_refl _))

variable (x0 : Vec F S9216x6144 .fp8e4m3) (x1 : Vec F S9216x1 .i32) (x2 : Vec F S8x1 .f32) (x3 : Vec F S8x1 .f32) (x4 : Vec F S8x6144x4096 .bf16) (x5 : Vec F S8x6144x4096 .bf16) (x6 : Vec F S8x4096 .f32)

/-- The rows' experts and the codes as the body loads them. -/
abbrev erLd : IVec S9216x1 32 := k0_pay3 (View.ld x1 r0_1)
abbrev aLd : FVec F S9216x6144 .bf16 := k0_pay2 (View.ld x0 r0_0)

/-- The layers of a product, of the column scales, and of a scale. -/
def matC (w : Vec F S8x6144x4096 .bf16) : FVec F S9216x4096 .f32 := chain (fun n old => matL (erLd x1) (aLd x0) (wLd w n) n.val old) k0_pay4
def rowC (p : Vec F S8x4096 .f32) : FVec F S9216x4096 .f32 := chain (fun n old => rowL (erLd x1) (pLd p n) n.val old) k0_pay4
def colC (s : Vec F S8x1 .f32) : FVec F S9216x1 .f32 := chain (fun n old => colS (own (erLd x1) n.val) (sLd s n) old) k0_pay5

/-- What follows the layers. -/
def fin (g u p : FVec F S9216x4096 .f32) (r1 r2 : FVec F S9216x1 .f32) : FVec F S9216x4096 .fp8e4m3 :=
  truncf .fp8e4m3 (minimumf (broadcast S9216x4096 (Scalar.ofBits .f32 0x43E00000#32)) (maximumf (broadcast S9216x4096 (Scalar.ofBits .f32 0xC3E00000#32))
    (divf (mulf (mulf (mulf (mulf g (broadcastTo S9216x4096 r1 broadcasts_S9216x1_S9216x4096)) (logistic (mulf g (broadcastTo S9216x4096 r1 broadcasts_S9216x1_S9216x4096))))
      (mulf u (broadcastTo S9216x4096 r1 broadcasts_S9216x1_S9216x4096))) p) (broadcastTo S9216x4096 r2 broadcasts_S9216x1_S9216x4096)))) bitsLt_fp8e4m3_f32

theorem pay1_eq (v210 v215 : FVec F S9216x1 .f32) (v217 : IVec S9216x1 1) (v223 v229 v235 : FVec F S9216x4096 .f32) (v236 v241 : Vec F S1x1 .f32) :
    k0_pay1 v210 v215 v217 v223 v229 v235 v236 v241 = fin v223 v229 v235 (colS v217 v236 v210) (colS v217 v241 v215) := by exact rfl

theorem g_chain : (k0_pay43 (k0_pay46 x0 x1 x2 x3 x4 x5 x6) (k0_pay47 x0 x1 x2 x3 x4 x5 x6) (k0_pay38 (k0_pay46 x0 x1 x2 x3 x4 x5 x6) (k0_pay47 x0 x1 x2 x3 x4 x5 x6) (k0_pay27 (k0_pay46 x0 x1 x2 x3 x4 x5 x6) (k0_pay47 x0 x1 x2 x3 x4 x5 x6) (k0_pay23 (k0_pay46 x0 x1 x2 x3 x4 x5 x6) (k0_pay47 x0 x1 x2 x3 x4 x5 x6) (k0_pay18 (k0_pay46 x0 x1 x2 x3 x4 x5 x6) (k0_pay47 x0 x1 x2 x3 x4 x5 x6) (k0_pay7 (View.ld x0 r0_0) (View.ld x1 r0_1) (View.ld x4 r0_2)) (k0_pay48 x0 x1 x2 x3 x4 x5 x6) (View.ld x4 r0_5) (View.ld x4 r0_8)) (View.ld x4 r0_11)) (View.ld x4 r0_14)) (k0_pay51 x0 x1 x2 x3 x4 x5 x6) (View.ld x4 r0_17) (View.ld x4 r0_20)) (View.ld x4 r0_23)) = matC x0 x1 x4 := by exact rfl
theorem u_chain : (k0_pay44 (k0_pay46 x0 x1 x2 x3 x4 x5 x6) (k0_pay47 x0 x1 x2 x3 x4 x5 x6) (k0_pay33 (k0_pay46 x0 x1 x2 x3 x4 x5 x6) (k0_pay28 (k0_pay46 x0 x1 x2 x3 x4 x5 x6) (k0_pay47 x0 x1 x2 x3 x4 x5 x6) (k0_pay24 (k0_pay46 x0 x1 x2 x3 x4 x5 x6) (k0_pay47 x0 x1 x2 x3 x4 x5 x6) (k0_pay13 (k0_pay46 x0 x1 x2 x3 x4 x5 x6) (k0_pay8 (View.ld x0 r0_0) (View.ld x1 r0_1) (View.ld x5 r0_2)) (k0_pay48 x0 x1 x2 x3 x4 x5 x6) (View.ld x5 r0_5)) (k0_pay49 x0 x1 x2 x3 x4 x5 x6) (k0_pay19 (View.ld x5 r0_8)) (View.ld x5 r0_11)) (View.ld x5 r0_14)) (k0_pay51 x0 x1 x2 x3 x4 x5 x6) (View.ld x5 r0_17)) (k0_pay52 x0 x1 x2 x3 x4 x5 x6) (k0_pay39 (View.ld x5 r0_20)) (View.ld x5 r0_23)) = matC x0 x1 x5 := by exact rfl
theorem p_chain : (k0_pay45 (k0_pay47 x0 x1 x2 x3 x4 x5 x6) (k0_pay34 (k0_pay29 (k0_pay47 x0 x1 x2 x3 x4 x5 x6) (k0_pay25 (k0_pay47 x0 x1 x2 x3 x4 x5 x6) (k0_pay14 (k0_pay9 (View.ld x1 r0_1) (View.ld x6 r0_3)) (k0_pay48 x0 x1 x2 x3 x4 x5 x6) (View.ld x6 r0_6)) (k0_pay49 x0 x1 x2 x3 x4 x5 x6) (View.ld x6 r0_9) (View.ld x6 r0_12)) (View.ld x6 r0_15)) (k0_pay51 x0 x1 x2 x3 x4 x5 x6) (View.ld x6 r0_18)) (k0_pay52 x0 x1 x2 x3 x4 x5 x6) (View.ld x6 r0_21) (View.ld x6 r0_24)) = rowC x1 x6 := by exact rfl
theorem a_chain : colS (k0_pay42 (k0_pay47 x0 x1 x2 x3 x4 x5 x6)) (View.ld x2 r0_25) (k0_pay40 (k0_pay35 (k0_pay30 (k0_pay47 x0 x1 x2 x3 x4 x5 x6) (k0_pay20 (k0_pay15 (k0_pay10 (View.ld x1 r0_1) (View.ld x2 r0_4)) (k0_pay48 x0 x1 x2 x3 x4 x5 x6) (View.ld x2 r0_7)) (k0_pay49 x0 x1 x2 x3 x4 x5 x6) (View.ld x2 r0_10)) (k0_pay50 x0 x1 x2 x3 x4 x5 x6) (View.ld x2 r0_13) (View.ld x2 r0_16)) (k0_pay51 x0 x1 x2 x3 x4 x5 x6) (View.ld x2 r0_19)) (k0_pay52 x0 x1 x2 x3 x4 x5 x6) (View.ld x2 r0_22)) = colC x1 x2 := by exact rfl
theorem b_chain : colS (k0_pay42 (k0_pay47 x0 x1 x2 x3 x4 x5 x6)) (View.ld x3 r0_25) (k0_pay41 (k0_pay36 (k0_pay31 (k0_pay47 x0 x1 x2 x3 x4 x5 x6) (k0_pay21 (k0_pay16 (k0_pay11 (View.ld x1 r0_1) (View.ld x3 r0_4)) (k0_pay48 x0 x1 x2 x3 x4 x5 x6) (View.ld x3 r0_7)) (k0_pay49 x0 x1 x2 x3 x4 x5 x6) (View.ld x3 r0_10)) (k0_pay50 x0 x1 x2 x3 x4 x5 x6) (View.ld x3 r0_13) (View.ld x3 r0_16)) (k0_pay51 x0 x1 x2 x3 x4 x5 x6) (View.ld x3 r0_19)) (k0_pay52 x0 x1 x2 x3 x4 x5 x6) (View.ld x3 r0_22)) = colC x1 x3 := by exact rfl

theorem out_eq : out0_7 x0 x1 x2 x3 x4 x5 x6 = fin (matC x0 x1 x4) (matC x0 x1 x5) (rowC x1 x6) (colC x1 x2) (colC x1 x3) := by
  have hz : (![0, 0] : Fin 2 → Nat) = fun _ => 0 := funext fun a => by fin_cases a <;> rfl
  unfold out0_7
  refine (View.canon_unit_zero hz inb_S9216x4096_S9216x4096_0_0 _).trans ?_
  rw [pay1_eq, g_chain, u_chain, p_chain, a_chain, b_chain]

end

end Cert.UpReferenceIdeal.Gate
-- ==== Proof.UpRefHost.lean ====
/- The gated reference's operations before its region, over the extended reals: each row's expert, the scales as columns, and the weights. -/
module

public import proofs.«01_k».proof.Proof.Gen.UpReferenceIdeal.Frame
public import proofs.«01_k».proof.Proof.USpec
public import proofs.«01_k».proof.Proof.Work
public import Idealize.ShloMosaic.Lib.StableHlo.RunRead
public import Idealize.ShloMosaic.Lib.Routing.Words
public import Idealize.ShloMosaic.Lib.Routing.OpsSet
public import Idealize.ShloMosaic.Lib.Pointwise.Contract
meta import proofs.«01_k».proof.Proof.Gen.UpReferenceIdeal.Launch

@[expose] public section

set_option maxRecDepth 20000

noncomputable section

namespace Cert.UpReferenceIdeal.Gate

open Cert.UpReferenceIdeal Cert.UpReferenceIdeal.Gen
open Cert.Down (half pre pre_mono slot slot_lt)
open Cert.Gate
open Idealize.ShloMosaic hiding ix1 ix2 ix3 mulf_apply extf_apply
open Idealize.ShloMosaic.TcCoe Idealize.ShloMosaic.ValueIdx Idealize.ShloMosaic.WordCmp Idealize.ShloMosaic.StableHlo
open Idealize.ShloMosaic.Routing (bc0 bcRows bcCols slice1 reduce_count cumsum1 iota1_ap)

/-! ## The values -/

/-- The groups' ends. -/
def endsV (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- Each row's expert: how many of the first seven ends it has passed. -/
def rowsV (x : IVec S8 32) : IVec S9216 32 :=
  Host.reduce IntOp.addi (extui 32 (cmpi .sge (broadcastInDim S9216x7 ![0, 1] bcast_S9216x1_S9216x7_0_1 (broadcastInDim S9216x1 ![0] bcast_S9216_S9216x1_0 (iotaInDim S9216 32 0)))
    (broadcastInDim S9216x7 ![0, 1] bcast_S1x7_S9216x7_0_1 (broadcastInDim S1x7 ![1] bcast_S7_S1x7_1 (extractStridedSlice S7 ![0] (endsV x) slices_S8_S7_0)))) natLt_1_32)
    (constantI S_ 32 0#32) reducesTo_S9216x7_S9216_d1 h_S_

/-- The packed bytes, 64 rows to a group. -/
def bytesV (w : IVec S8x3072x4096 8) : IVec S8x48x1x64x4096 8 := shapeCast S8x48x1x64x4096 w shapeCasts_S8x3072x4096_S8x48x1x64x4096

/-- One half of every byte, shifted up by `k` and back by 28. -/
def halfV (k : BitVec 32) (w : IVec S8x3072x4096 8) : IVec S8x48x1x64x4096 32 :=
  Host.shrsi (Host.shli (extsi 32 (bytesV w) natLt_8_32) (broadcastInDim S8x48x1x64x4096 ![] bcast_S_S8x48x1x64x4096 (constantI S_ 32 k)))
    (broadcastInDim S8x48x1x64x4096 ![] bcast_S_S8x48x1x64x4096 (constantI S_ 32 28#32))

/-- Both halves. -/
def nibblesV (w : IVec S8x3072x4096 8) : IVec S8x48x2x64x4096 32 :=
  concatenate S8x48x2x64x4096 2 [⟨S8x48x1x64x4096, halfV 28#32 w⟩, ⟨S8x48x1x64x4096, halfV 24#32 w⟩] concatenates_S8x48x1x64x4096_S8x48x1x64x4096_S8x48x2x64x4096_d2

/-- The weights. -/
def weightsV (w : IVec S8x3072x4096 8) (s : FVec Ideal S8x48x4096 .bf16) : FVec Ideal S8x6144x4096 .bf16 :=
  shapeCast S8x6144x4096 (mulf (sitofp .bf16 (nibblesV w)) (broadcastInDim S8x48x2x64x4096 ![0, 1, 2, 3, 4] bcast_S8x48x1x1x4096_S8x48x2x64x4096_0_1_2_3_4
    (broadcastInDim S8x48x1x1x4096 ![0, 1, 4] bcast_S8x48x4096_S8x48x1x1x4096_0_1_4 s))) shapeCasts_S8x48x2x64x4096_S8x6144x4096

/-! ## What the region finds -/

section reads
variable (V : Valuation τ sig (Elt Ideal))

theorem ops0_v0 : after hostOps0 V (Proc.devRef .tc main_v0) = endsV (V (Proc.devRef .tc main_arg0)) := by
  after_reads_simp; unfold endsV; congr 1
theorem pass_arg1 : after hostOps0 V (Proc.devRef .tc main_arg1) = V (Proc.devRef .tc main_arg1) := by after_reads_simp
theorem pass_arg2 : after hostOps0 V (Proc.devRef .tc main_arg2) = V (Proc.devRef .tc main_arg2) := by after_reads_simp
theorem pass_arg4 : after hostOps0 V (Proc.devRef .tc main_arg4) = V (Proc.devRef .tc main_arg4) := by after_reads_simp
theorem pass_arg5 : after hostOps0 V (Proc.devRef .tc main_arg5) = V (Proc.devRef .tc main_arg5) := by after_reads_simp
theorem pass_arg6 : after hostOps0 V (Proc.devRef .tc main_arg6) = V (Proc.devRef .tc main_arg6) := by after_reads_simp
theorem pass_arg7 : after hostOps0 V (Proc.devRef .tc main_arg7) = V (Proc.devRef .tc main_arg7) := by after_reads_simp

/-- The rows' experts from the ends. -/
def rowsOn (e : IVec S8 32) : IVec S9216x1 32 := broadcastInDim S9216x1 ![0] bcast_S9216_S9216x1_0
  (Host.reduce IntOp.addi (extui 32 (cmpi .sge (broadcastInDim S9216x7 ![0, 1] bcast_S9216x1_S9216x7_0_1 (broadcastInDim S9216x1 ![0] bcast_S9216_S9216x1_0 (iotaInDim S9216 32 0)))
    (broadcastInDim S9216x7 ![0, 1] bcast_S1x7_S9216x7_0_1 (broadcastInDim S1x7 ![1] bcast_S7_S1x7_1 (extractStridedSlice S7 ![0] e slices_S8_S7_0)))) natLt_1_32)
    (constantI S_ 32 0#32) reducesTo_S9216x7_S9216_d1 h_S_)

theorem ops1_v10 : after hostOps0_1 V (Proc.devRef .tc main_v10) = rowsOn (V (Proc.devRef .tc main_v0)) := by
  after_reads_simp; rfl
theorem ops1_v11 : after hostOps0_1 V (Proc.devRef .tc main_v11) = broadcastInDim S8x1 ![0] bcast_S8_S8x1_0 (V (Proc.devRef .tc main_arg1)) := by
  after_reads_simp
theorem ops1_v12 : after hostOps0_1 V (Proc.devRef .tc main_v12) = broadcastInDim S8x1 ![0] bcast_S8_S8x1_0 (V (Proc.devRef .tc main_arg2)) := by
  after_reads_simp
theorem ops1_v28 : after hostOps0_1 V (Proc.devRef .tc main_v28) = weightsV (V (Proc.devRef .tc main_arg4)) (V (Proc.devRef .tc main_arg5)) := by
  after_reads_simp; rfl
theorem ops1_v44 : after hostOps0_1 V (Proc.devRef .tc main_v44) = weightsV (V (Proc.devRef .tc main_arg6)) (V (Proc.devRef .tc main_arg7)) := by
  after_reads_simp; rfl

end reads

variable (m : (ℓ : Loc nD τ sig) → Buf (Elt Ideal) ℓ) (c : Dev nD)

theorem V_split (b : Ref sig .tc) : V m c b = after hostOps0_1 (after hostOps0 (fun b => m (c, b))) (Proc.devRef .tc b) := by
  show after (List.flatten [hostOps0, hostOps0_1]) _ _ = _
  rw [List.flatten_cons, List.flatten_cons, List.flatten_nil, List.append_nil, after_append]

theorem V_v10 : V m c main_v10 = (broadcastInDim S9216x1 ![0] bcast_S9216_S9216x1_0 (rowsV (m ((c : Thread nD τ).loc main_arg0))) : IVec S9216x1 32) := by
  rw [V_split, ops1_v10, ops0_v0]; rfl
theorem V_v11 : V m c main_v11 = (broadcastInDim S8x1 ![0] bcast_S8_S8x1_0 (m ((c : Thread nD τ).loc main_arg1) : FVec Ideal S8 .f32) : FVec Ideal S8x1 .f32) := by
  rw [V_split, ops1_v11, pass_arg1]
theorem V_v12 : V m c main_v12 = (broadcastInDim S8x1 ![0] bcast_S8_S8x1_0 (m ((c : Thread nD τ).loc main_arg2) : FVec Ideal S8 .f32) : FVec Ideal S8x1 .f32) := by
  rw [V_split, ops1_v12, pass_arg2]
theorem V_v28 : V m c main_v28 = weightsV (m ((c : Thread nD τ).loc main_arg4)) (m ((c : Thread nD τ).loc main_arg5)) := by
  rw [V_split, ops1_v28, pass_arg4, pass_arg5]
theorem V_v44 : V m c main_v44 = weightsV (m ((c : Thread nD τ).loc main_arg6)) (m ((c : Thread nD τ).loc main_arg7)) := by
  rw [V_split, ops1_v44, pass_arg6, pass_arg7]

/-! ## The values, element by element -/

section expert
variable (x0 : IVec S8 32) (γ : Nat → Nat) (hg : ∀ e : Fin 8, x0 (ix1 e) = BitVec.ofNat 32 (γ e.val)) (h8 : pre γ 8 = 9216)
include hg

theorem ends_ap (e : Fin 8) : endsV x0 (ix1 e) = BitVec.ofNat 32 (pre γ (e.val + 1)) :=
  cumsum1 rfl x0 γ hg _ (by rfl) reduceWindows_S8_S8_w8s1p7_0 h_S_ e

include h8

theorem row_ap (r : Fin 9216) : rowsV x0 (ix1 r) = BitVec.ofNat 32 (slot γ r.val) := by
  unfold rowsV slot
  refine reduce_count (by decide) _ natLt_1_32 reducesTo_S9216x7_S9216_d1 h_S_ r _ fun q => ?_
  have h7 : pre γ (q.val + 1) ≤ 9216 := h8 ▸ pre_mono γ (by omega)
  rw [cmpi_at]
  refine (iff_of_eq (congrArg (· = 1#1) (congrArg₂ (IntOp.cmpi .sge) (bcRows _ _ _ r q) (bcCols _ _ _ r q)))).trans ?_
  rw [slice1 0 _ _ _ (by omega), iota1_ap, ends_ap x0 γ hg,
    cmpi_sge_ofNat (w := 32) (by omega) (by simp only [Nat.zero_add]; omega), ofBool_eq_one_iff, decide_eq_true_eq]
  simp only [Nat.zero_add]

end expert

section weight
variable (w : IVec S8x3072x4096 8) (s : FVec Ideal S8x48x4096 .bf16)

/-- An index of the packed weights as the reference groups them. -/
def packIx (e : Fin 8) (g : Fin 48) (j : Fin 64) (c : Fin 4096) : S8x48x1x64x4096.Idx := fun a => match a with
  | ⟨0, _⟩ => e | ⟨1, _⟩ => g | ⟨2, _⟩ => (0 : Fin 1) | ⟨3, _⟩ => j | ⟨4, _⟩ => c
/-- An index of the unpacked weights as the reference groups them. -/
def wideIx (e : Fin 8) (g : Fin 48) (h : Fin 2) (j : Fin 64) (c : Fin 4096) : S8x48x2x64x4096.Idx := fun a => match a with
  | ⟨0, _⟩ => e | ⟨1, _⟩ => g | ⟨2, _⟩ => h | ⟨3, _⟩ => j | ⟨4, _⟩ => c

theorem byte_ap (e : Fin 8) (g : Fin 48) (j : Fin 64) (c : Fin 4096) :
    bytesV w (packIx e g j c) = w (ix3 e ⟨64 * g.val + j.val, by omega⟩ c) := by
  unfold bytesV
  refine shapeCast_apply _ _ _ _ ?_
  rw [Shape.rowMajor_val_three, Shape.rowMajor_val_five]
  show (e.val * 3072 + (64 * g.val + j.val)) * 4096 + c.val = (((e.val * 48 + g.val) * 1 + 0) * 64 + j.val) * 4096 + c.val
  omega

theorem half_ap (h : Bool) (i : S8x48x1x64x4096.Idx) : halfV (if h then 24#32 else 28#32) w i = half h (bytesV w i) := by
  cases h <;> rfl

theorem nibble_ap (e : Fin 8) (g : Fin 48) (h : Fin 2) (j : Fin 64) (c : Fin 4096) :
    nibblesV w (wideIx e g h j c) = half (decide (h.val = 1)) (w (ix3 e ⟨64 * g.val + j.val, by omega⟩ c)) := by
  unfold nibblesV
  rw [← byte_ap w e g j c]
  match h with
  | ⟨0, _⟩ =>
    refine (concatenate_pair_apply_left (2 : Fin S8x48x2x64x4096.rank) (halfV 28#32 w) (halfV 24#32 w)
      concatenates_S8x48x1x64x4096_S8x48x1x64x4096_S8x48x2x64x4096_d2 _ rfl (packIx e g j c) fun b => ?_).trans (half_ap w false _)
    match b with | ⟨0, _⟩ => rfl | ⟨1, _⟩ => rfl | ⟨2, _⟩ => rfl | ⟨3, _⟩ => rfl | ⟨4, _⟩ => rfl
  | ⟨1, h1⟩ =>
    refine (concatenate_pair_apply_right (2 : Fin S8x48x2x64x4096.rank) (halfV 28#32 w) (halfV 24#32 w)
      concatenates_S8x48x1x64x4096_S8x48x1x64x4096_S8x48x2x64x4096_d2 (wideIx e g ⟨1, h1⟩ j c) rfl rfl (packIx e g j c) (fun b hb => ?_) ?_).trans
      (half_ap w true _)
    · match b with | ⟨0, _⟩ => rfl | ⟨1, _⟩ => rfl | ⟨2, _⟩ => exact absurd rfl hb | ⟨3, _⟩ => rfl | ⟨4, _⟩ => rfl
    · show 0 + 1 = 1
      rfl

theorem weight_ap (e : Fin 8) (k : Fin 6144) (c : Fin 4096) : (weightsV w s (ix3 e k c) : EReal) = weight w s e k c := by
  unfold weightsV
  refine (shapeCast_apply _ _ _ (wideIx e ⟨k.val / 128, by omega⟩ ⟨k.val / 64 % 2, by omega⟩ ⟨k.val % 64, by omega⟩ c) ?_).trans ?_
  · rw [Shape.rowMajor_val_three, Shape.rowMajor_val_five]
    show (((e.val * 48 + k.val / 128) * 2 + k.val / 64 % 2) * 64 + k.val % 64) * 4096 + c.val = (e.val * 6144 + k.val) * 4096 + c.val
    omega
  rw [mulf_apply]
  have hd : decide (k.val / 64 % 2 = 1) = decide (64 ≤ k.val % 128) := by
    rw [decide_eq_decide]; omega
  have hn := nibble_ap w e ⟨k.val / 128, by omega⟩ ⟨k.val / 64 % 2, by omega⟩ ⟨k.val % 64, by omega⟩ c
  simp only [hd] at hn
  unfold weight
  refine congrArg₂ (· * ·) ?_ ?_
  · exact (congrArg (fun b : BitVec 32 => (((b.toInt : ℤ) : ℝ) : EReal)) hn)
  · refine congrArg s ?_
    funext a
    match a with
    | ⟨0, _⟩ => rfl
    | ⟨1, _⟩ => rfl
    | ⟨2, _⟩ => rfl

end weight

end Cert.UpReferenceIdeal.Gate
-- ==== Proof.UpRefVal.lean ====
/- The gated reference's region over the extended reals, element by element: each row's layers leave its expert's, so the element is the
   specification's at that expert. -/
module

public import proofs.«01_k».proof.Proof.UpRefBody
public import proofs.«01_k».proof.Proof.UpRefHost

@[expose] public section

set_option maxRecDepth 20000

noncomputable section

namespace Cert.UpReferenceIdeal.Gate

open Cert.UpReferenceIdeal Cert.UpReferenceIdeal.Gen
open Cert.Down (half pre pre_mono slot slot_lt)
open Cert.Gate
open Idealize.ShloMosaic hiding ix1 ix2 ix3 mulf_apply extf_apply
open Idealize.ShloMosaic.TcCoe Idealize.ShloMosaic.ValueIdx Idealize.ShloMosaic.WordCmp

section layers
variable (er : IVec S9216x1 32) (s : Nat) (hs : s < 8) (r : Fin 9216) (hr : er (ix2 r (0 : Fin 1)) = BitVec.ofNat 32 s)
include hs hr

theorem own_ap (n : Fin 8) : own er n.val (ix2 r (0 : Fin 1)) = BitVec.ofBool (decide (s = n.val)) := by
  have hn := n.isLt
  unfold own
  show IntOp.cmpi .eq (er (ix2 r (0 : Fin 1))) (BitVec.ofNat 32 n.val) = _
  rw [hr, cmpi_eq_ofNat (w := 32) (by omega) (by omega)]

theorem ownAll_ap (n : Fin 8) (c : Fin 4096) : ownAll er n.val (ix2 r c) = BitVec.ofBool (decide (s = n.val)) := by
  rw [← own_ap er s hs r hr n]
  unfold ownAll
  refine (broadcastTo_apply _ _ _ (ix2 r (0 : Fin 1)) fun a => ?_).trans (shapeCast_apply _ _ _ _ rfl)
  match a with
  | ⟨0, _⟩ => rfl
  | ⟨1, _⟩ => rfl

theorem wLd_ap (x : Vec Ideal S8x6144x4096 .bf16) (n : Fin 8) (k : Fin 6144) (c : Fin 4096) :
    shapeCast S6144x4096 (wLd x n) shapeCasts_S1x6144x4096_S6144x4096 (ix2 k c) = x (ix3 n k c) := by
  refine (shapeCast_apply _ _ _ (ix3 (0 : Fin 1) k c) ?_).trans ?_
  · rw [Shape.rowMajor_val_three, Shape.rowMajor_val_two]
    show (0 * 6144 + k.val) * 4096 + c.val = k.val * 4096 + c.val
    omega
  · exact View.ld_unit_apply_of x _ _ _ _ _ (fun a => match a with
      | ⟨0, _⟩ => rfl | ⟨1, _⟩ => (Nat.zero_add _).symm | ⟨2, _⟩ => (Nat.zero_add _).symm)

theorem matL_ap (a : FVec Ideal S9216x6144 .bf16) (x : Vec Ideal S8x6144x4096 .bf16) (c : Fin 4096) (n : Fin 8) (old : FVec Ideal S9216x4096 .f32) :
    (matL er a (wLd x n) n.val old (ix2 r c) : EReal) = if s = n.val then (∑ k : Fin 6144, (a (ix2 r k) : EReal) * x (ix3 n k c)) else old (ix2 r c) := by
  have hm : matmul (F := Ideal) (φ₁ := .bf16) (φ₂ := .bf16) dot_S9216x6144_S6144x4096_S9216x4096_1_0_0_1_n_n none a
      (shapeCast S6144x4096 (wLd x n) shapeCasts_S1x6144x4096_S6144x4096) (constant S9216x4096 .f32 0x00000000#32) (ix2 r c)
      = ∑ k : Fin 6144, (a (ix2 r k) : EReal) * x (ix3 n k c) := by
    refine (Ideal.matmul_constant_zero_apply (φ₁ := .bf16) (φ₂ := .bf16) _ none _ _ _).trans ?_
    refine (DotDims.sum_contr₁ _ (a := 1) rfl (K := 6144) rfl _).trans (Finset.sum_congr rfl fun k _ => ?_)
    rw [← wLd_ap er s hs r hr x n k c]
    congr 2 <;> funext d <;> match d with | ⟨0, _⟩ => exact Fin.ext rfl | ⟨1, _⟩ => exact Fin.ext rfl
  rw [← hm, ← WordCmp.select_decide]
  unfold matL
  exact congrArg (fun b => Scalar.select b _ (old (ix2 r c))) (ownAll_ap er s hs r hr n c)

theorem rowL_ap (p : Vec Ideal S8x4096 .f32) (c : Fin 4096) (n : Fin 8) (old : FVec Ideal S9216x4096 .f32) :
    (rowL er (pLd p n) n.val old (ix2 r c) : EReal) = if s = n.val then p (ix2 n c) else old (ix2 r c) := by
  have hm : broadcastTo S9216x4096 (shapeCast S1x4096 (pLd p n) shapeCasts_S1x4096_S1x4096) broadcasts_S1x4096_S9216x4096 (ix2 r c) = p (ix2 n c) := by
    refine (broadcastTo_apply _ _ _ (ix2 (0 : Fin 1) c) fun a => ?_).trans ((shapeCast_apply _ _ _ _ rfl).trans ?_)
    · match a with
      | ⟨0, _⟩ => rfl
      | ⟨1, _⟩ => rfl
    · exact View.ld_unit_apply_of p _ _ _ _ _ (fun a => match a with | ⟨0, _⟩ => rfl | ⟨1, _⟩ => (Nat.zero_add _).symm)
  rw [← hm, ← WordCmp.select_decide]
  unfold rowL
  exact congrArg (fun b => Scalar.select b _ (old (ix2 r c))) (ownAll_ap er s hs r hr n c)

theorem colS_ap (v : Vec Ideal S8x1 .f32) (n : Fin 8) (old : FVec Ideal S9216x1 .f32) :
    (colS (own er n.val) (sLd v n) old (ix2 r (0 : Fin 1)) : EReal) = if s = n.val then v (ix2 n (0 : Fin 1)) else old (ix2 r (0 : Fin 1)) := by
  have hm : broadcastTo S9216x1 (shapeCast S1x1 (shapeCast S1x1 (sLd v n) shapeCasts_S1x1_S1x1) shapeCasts_S1x1_S1x1) broadcasts_S1x1_S9216x1 (ix2 r (0 : Fin 1))
      = v (ix2 n (0 : Fin 1)) := by
    refine (broadcastTo_apply _ _ _ (ix2 (0 : Fin 1) (0 : Fin 1)) fun a => ?_).trans
      ((shapeCast_apply _ _ _ (ix2 (0 : Fin 1) (0 : Fin 1)) rfl).trans ((shapeCast_apply _ _ _ (ix2 (0 : Fin 1) (0 : Fin 1)) rfl).trans ?_))
    · match a with
      | ⟨0, _⟩ => rfl
      | ⟨1, _⟩ => rfl
    · exact View.ld_unit_apply_of v _ _ _ _ _ (fun a => match a with | ⟨0, _⟩ => rfl | ⟨1, _⟩ => rfl)
  rw [← hm, ← WordCmp.select_decide]
  unfold colS
  exact congrArg (fun b => Scalar.select b _ (old (ix2 r (0 : Fin 1)))) (own_ap er s hs r hr n)

end layers

/-- A column of row scales over all columns. -/
theorem spread_ap (v : FVec Ideal S9216x1 .f32) (r : Fin 9216) (c : Fin 4096) :
    broadcastTo S9216x4096 v broadcasts_S9216x1_S9216x4096 (ix2 r c) = v (ix2 r (0 : Fin 1)) :=
  broadcastTo_apply _ _ _ (ix2 r (0 : Fin 1)) fun a => match a with
    | ⟨0, _⟩ => rfl
    | ⟨1, _⟩ => rfl

theorem fin_ap (g u p : FVec Ideal S9216x4096 .f32) (r1 r2 : FVec Ideal S9216x1 .f32) (r : Fin 9216) (c : Fin 4096) :
    (fin g u p r1 r2 (ix2 r c) : EReal) = gated (g (ix2 r c)) (u (ix2 r c)) (p (ix2 r c)) (r1 (ix2 r (0 : Fin 1))) (r2 (ix2 r (0 : Fin 1))) := by
  rw [← spread_ap r1 r c, ← spread_ap r2 r c]
  rfl

section value
variable (x0 : IVec S8 32) (a1 a2 : FVec Ideal S8 .f32) (x : FVec Ideal S9216x6144 .fp8e4m3) (w1 : IVec S8x3072x4096 8) (s1 : FVec Ideal S8x48x4096 .bf16)
  (w3 : IVec S8x3072x4096 8) (s3 : FVec Ideal S8x48x4096 .bf16) (p : FVec Ideal S8x4096 .f32)
  (γ : Nat → Nat) (hg : ∀ e : Fin 8, x0 (ix1 e) = BitVec.ofNat 32 (γ e.val)) (h8 : pre γ 8 = 9216)

/-- The reference's result. -/
def refOut : FVec Ideal S9216x4096 .fp8e4m3 :=
  out0_7 (F := Ideal) x (broadcastInDim S9216x1 ![0] bcast_S9216_S9216x1_0 (rowsV x0)) (broadcastInDim S8x1 ![0] bcast_S8_S8x1_0 a1)
    (broadcastInDim S8x1 ![0] bcast_S8_S8x1_0 a2) (weightsV w1 s1) (weightsV w3 s3) p

include hg h8

theorem er_ap (r : Fin 9216) : erLd (F := Ideal) (broadcastInDim S9216x1 ![0] bcast_S9216_S9216x1_0 (rowsV x0)) (ix2 r (0 : Fin 1)) = BitVec.ofNat 32 (slot γ r.val) := by
  rw [← row_ap x0 γ hg h8 r]
  unfold erLd k0_pay3
  refine (shapeCast_apply _ _ _ (ix2 r (0 : Fin 1)) rfl).trans ?_
  refine (View.ld_unit_apply_of _ _ _ _ _ (ix2 r (0 : Fin 1)) (fun a => match a with | ⟨0, _⟩ => (Nat.zero_add _).symm | ⟨1, _⟩ => rfl)).trans ?_
  refine congrArg (rowsV x0) (funext fun a => ?_)
  match a with
  | ⟨0, _⟩ => rfl

omit hg h8 in
theorem a_ap (r : Fin 9216) (k : Fin 6144) : (aLd (F := Ideal) x (ix2 r k) : EReal) = x (ix2 r k) := by
  have hz : (![0, 0] : Fin 2 → Nat) = fun _ => 0 := funext fun a => by fin_cases a <;> rfl
  exact congrFun (View.ld_unit_zero (Val := Elt Ideal) (S := S9216x6144) (e := .fp8e4m3) hz inb_S9216x6144_S9216x6144_0_0 x) (ix2 r k)

omit hg h8 in
theorem col_ap (a : FVec Ideal S8 .f32) (n : Fin 8) : broadcastInDim S8x1 ![0] bcast_S8_S8x1_0 a (ix2 n (0 : Fin 1)) = a (ix1 n) := by
  refine congrArg a (funext fun d => ?_)
  match d with
  | ⟨0, _⟩ => rfl

theorem refOut_ap (r : Fin 9216) (c : Fin 4096) :
    (refOut x0 a1 a2 x w1 s1 w3 s3 p (ix2 r c) : EReal) = outAt a1 a2 x w1 s1 w3 s3 p ⟨slot γ r.val, slot_lt γ r.val⟩ r c := by
  have hr := er_ap x0 γ hg h8 r
  have hs := slot_lt γ r.val
  have hmat : ∀ w s, (matC (F := Ideal) x (broadcastInDim S9216x1 ![0] bcast_S9216_S9216x1_0 (rowsV x0)) (weightsV w s) (ix2 r c) : EReal)
      = sumAt x w s ⟨slot γ r.val, hs⟩ r c := fun w s => by
    refine (chain_ap _ _ (fun v : FVec Ideal S9216x4096 .f32 => v (ix2 r c)) _ _ hs fun n old => matL_ap _ _ hs r hr _ _ c n old).trans ?_
    exact Finset.sum_congr rfl fun k _ => congrArg₂ (· * ·) (a_ap x r k) (weight_ap w s _ k c)
  have hcol : ∀ a, (colC (F := Ideal) (broadcastInDim S9216x1 ![0] bcast_S9216_S9216x1_0 (rowsV x0)) (broadcastInDim S8x1 ![0] bcast_S8_S8x1_0 a) (ix2 r (0 : Fin 1)) : EReal)
      = a (ix1 ⟨slot γ r.val, hs⟩) := fun a =>
    (chain_ap _ _ (fun v : FVec Ideal S9216x1 .f32 => v (ix2 r (0 : Fin 1))) _ _ hs fun n old => colS_ap _ _ hs r hr _ n old).trans (col_ap a _)
  have hrow : (rowC (F := Ideal) (broadcastInDim S9216x1 ![0] bcast_S9216_S9216x1_0 (rowsV x0)) p (ix2 r c) : EReal) = p (ix2 ⟨slot γ r.val, hs⟩ c) :=
    chain_ap _ _ (fun v : FVec Ideal S9216x4096 .f32 => v (ix2 r c)) (fun n => p (ix2 n c)) _ hs fun n old => rowL_ap _ _ hs r hr _ c n old
  unfold refOut outAt
  rw [out_eq, fin_ap, hmat, hmat, hcol, hcol, hrow]

end value

end Cert.UpReferenceIdeal.Gate
-- ==== Proof.UpRefRun.lean ====
/- The gated reference's run over the extended reals: its result is the specification's at every row's expert, and it keeps its arguments. -/
module

public import proofs.«01_k».proof.Proof.UpRefVal
public import proofs.«01_k».proof.Proof.Gen.UpReferenceIdeal.Points

@[expose] public section

set_option maxRecDepth 20000

noncomputable section

namespace Cert.UpReferenceIdeal.Gate

open Cert.UpReferenceIdeal Cert.UpReferenceIdeal.Gen
open Cert.Down (half pre pre_mono slot slot_lt)
open Cert.Gate
open Idealize.ShloMosaic hiding ix1 ix2 ix3 mulf_apply extf_apply
open Idealize.ShloMosaic.TcCoe Idealize.ShloMosaic.ValueIdx
open Idealize.SL Idealize.SL.Sem

variable (m : (ℓ : Loc nD τ sig) → Buf (Elt Ideal) ℓ)

/-- Every window has one block, at index zero. -/
theorem zero0 : ∀ (t : Fin grid0.N) (a : Fin win0_0.shape.rank), win0_0.index t a = 0 := by decide +kernel
theorem zero1 : ∀ (t : Fin grid0.N) (a : Fin win0_1.shape.rank), win0_1.index t a = 0 := by decide +kernel
theorem zero2 : ∀ (t : Fin grid0.N) (a : Fin win0_2.shape.rank), win0_2.index t a = 0 := by decide +kernel
theorem zero3 : ∀ (t : Fin grid0.N) (a : Fin win0_3.shape.rank), win0_3.index t a = 0 := by decide +kernel
theorem zero4 : ∀ (t : Fin grid0.N) (a : Fin win0_4.shape.rank), win0_4.index t a = 0 := by decide +kernel
theorem zero5 : ∀ (t : Fin grid0.N) (a : Fin win0_5.shape.rank), win0_5.index t a = 0 := by decide +kernel
theorem zero6 : ∀ (t : Fin grid0.N) (a : Fin win0_6.shape.rank), win0_6.index t a = 0 := by decide +kernel
theorem zero7 : ∀ (t : Fin grid0.N) (a : Fin win0_7.shape.rank), win0_7.index t a = 0 := by decide +kernel

/-- An array's one block has the array's own positions. -/
theorem block_all (w : Pipeline.Window sig grid0) (t : Fin grid0.N) (hz : ∀ a : Fin w.shape.rank, w.index t a = 0) (y : (w.xblock (grid0.coords t)).Idx) (j : w.shape.Idx)
    (h : ∀ a, (j a).val = (y a).val) : (w.rect t).emb y = j :=
  funext fun a => Fin.ext ((Pipeline.Window.rect_emb_val_of_index_zero w t a (hz a) y).trans (h a).symm)

section blocks
variable (c : Dev nD) (t : Fin cfg0.N)

theorem iblk0 : (iblk m c 0 t : Vec Ideal S9216x6144 .fp8e4m3) = m ((c : Thread nD τ).loc main_arg3) :=
  (funext fun j => congrArg (V m c main_arg3) (block_all win0_0 t (zero0 t) j j fun _ => rfl)).trans (V_main_arg3 m c)
theorem iblk1 : (iblk m c 1 t : Vec Ideal S9216x1 .i32) = broadcastInDim S9216x1 ![0] bcast_S9216_S9216x1_0 (rowsV (m ((c : Thread nD τ).loc main_arg0))) :=
  (funext fun j => congrArg (V m c main_v10) (block_all win0_1 t (zero1 t) j j fun _ => rfl)).trans (V_v10 m c)
theorem iblk2 : (iblk m c 2 t : Vec Ideal S8x1 .f32) = broadcastInDim S8x1 ![0] bcast_S8_S8x1_0 (m ((c : Thread nD τ).loc main_arg1) : FVec Ideal S8 .f32) :=
  (funext fun j => congrArg (V m c main_v11) (block_all win0_2 t (zero2 t) j j fun _ => rfl)).trans (V_v11 m c)
theorem iblk3 : (iblk m c 3 t : Vec Ideal S8x1 .f32) = broadcastInDim S8x1 ![0] bcast_S8_S8x1_0 (m ((c : Thread nD τ).loc main_arg2) : FVec Ideal S8 .f32) :=
  (funext fun j => congrArg (V m c main_v12) (block_all win0_3 t (zero3 t) j j fun _ => rfl)).trans (V_v12 m c)
theorem iblk4 : (iblk m c 4 t : Vec Ideal S8x6144x4096 .bf16) = weightsV (m ((c : Thread nD τ).loc main_arg4)) (m ((c : Thread nD τ).loc main_arg5)) :=
  (funext fun j => congrArg (V m c main_v28) (block_all win0_4 t (zero4 t) j j fun _ => rfl)).trans (V_v28 m c)
theorem iblk5 : (iblk m c 5 t : Vec Ideal S8x6144x4096 .bf16) = weightsV (m ((c : Thread nD τ).loc main_arg6)) (m ((c : Thread nD τ).loc main_arg7)) :=
  (funext fun j => congrArg (V m c main_v44) (block_all win0_5 t (zero5 t) j j fun _ => rfl)).trans (V_v44 m c)
theorem iblk6 : (iblk m c 6 t : Vec Ideal S8x4096 .f32) = m ((c : Thread nD τ).loc main_arg8) :=
  (funext fun j => congrArg (V m c main_arg8) (block_all win0_6 t (zero6 t) j j fun _ => rfl)).trans (V_main_arg8 m c)

end blocks

/-- The result. -/
def out (c : Dev nD) : Buf (Elt Ideal) ((c : Thread nD τ).loc main_v45) :=
  refOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))

theorem after_out (c : Dev nD) (t : Fin cfg0.N) : (dats m 0 c).after 7 t = (out m c : S9216x4096.Idx → EReal) := by
  rw [after0_7, iblk0, iblk1, iblk2, iblk3, iblk4, iblk5, iblk6]
  rfl

/-- Cut to its one block, a window's contents are the array's, read through it. -/
theorem cut_all (t : Fin cfg0.N) (c : Dev nD) (X : Buf (Elt Ideal) ((c : Thread nD τ).loc main_v45)) :
    win0_7.cut (grid0.coords t) (X : S9216x4096.Idx → EReal) = (win0_7.blk t).view.read (Elt Ideal) X :=
  funext fun y => congrArg X (block_all win0_7 t (zero7 t) y _ fun _ => rfl).symm

theorem flushed_eq (c : Dev nD) (t : Fin cfg0.N) : (dats m 0 c).flushed 7 t = (win0_7.blk t).view.read (Elt Ideal) (out m c) :=
  (congrArg (win0_7.cut (grid0.coords t)) (after_out m c t)).trans (cut_all t c (out m c))

/-- The region's one point. -/
abbrev t0 : Fin cfg0.N := ⟨0, Nat.one_pos⟩

theorem cover (i : S9216x4096.Idx) : ∃ t : Fin cfg0.N, (cfg0.win 7).flush t = true ∧ i ∈ ((cfg0.win 7).blk t).view.set := by
  refine ⟨t0, flush0_7 _, ?_⟩
  show i ∈ ((View.whole main_v45).slice (win0_7.rect t0)).set
  rw [View.set_slice_whole, Rect.mem_set_unit]
  intro a
  match a with
  | ⟨0, _⟩ => exact ⟨Nat.zero_le _, by have h : (i 0).val < 9216 := (i 0).isLt; exact h⟩
  | ⟨1, _⟩ => exact ⟨Nat.zero_le _, by have h : (i 1).val < 4096 := (i 1).isLt; exact h⟩

theorem region (c : Dev nD) : (dats m 0 c).arrAt 7 cfg0.N = out m c :=
  (dats m 0 c).arrAt_eq_of_cover 7 (out m c) (fun t _ => flushed_eq m c t) cover

/-- The reference runs, its result is the specification's at every row's expert, and its arguments are kept. -/
theorem run_out (ρ : Dev nD → PrngReg) (γ : Nat → Nat)
    (hg : ∀ (c : Dev nD) (e : Fin 8), (m ((c.tc : Thread nD τ).loc main_arg0) : IVec S8 32) (ix1 e) = BitVec.ofNat 32 (γ e.val)) (h8 : pre γ 8 = 9216) :
    θ_run (defs (F := Ideal)) (onTc (τ := τ) (main (F := Ideal))) ⟨m, fun _ => 0, ρ⟩ fun r =>
      (∀ (c : Dev nD) (p : Fin 9216) (q : Fin 4096), (r.2.mem ((c.tc : Thread nD τ).loc main_v45) : S9216x4096.Idx → EReal) (ix2 p q)
        = outAt (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) ⟨slot γ p.val, slot_lt γ p.val⟩ p q)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_and ((θ_run defs _ _).mono (fun r h c p q => by
    have e : r.2.mem ((c : Thread nD τ).loc main_v45) = out m c := ((h c).1 7).trans (region m c)
    rw [e]
    exact refOut_ap _ _ _ _ _ _ _ _ _ γ (hg c) h8 p q) (run_main m ρ)) (unchanged m ρ)

end Cert.UpReferenceIdeal.Gate
-- ==== Proof.lean ====
/- The certificate: the claims of Defs.lean from the two runs of each call, the down projection's and the gate and up projections', and their references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.RefRead
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpIdeal.Skeleton
public import proofs.«01_k».proof.Proof.Gen.UpIdeal.Launch
public import proofs.«01_k».proof.Proof.Gen.UpReferenceIdeal
public import proofs.«01_k».proof.Proof.Gen.UpReferenceIdeal.Frame
public import proofs.«01_k».proof.Proof.Gen.UpReferenceIdeal.Points
public import proofs.«01_k».proof.Proof.PreRead
public import proofs.«01_k».proof.Proof.KFrame
public import proofs.«01_k».proof.Proof.IMath
public import proofs.«01_k».proof.Proof.RefRun
public import proofs.«01_k».proof.Proof.UFrame
public import proofs.«01_k».proof.Proof.VMath
public import proofs.«01_k».proof.Proof.UpRefRun
public import Idealize.ShloMosaic.Adequacy
public import Idealize.ShloMosaic.Init

@[expose] public section

noncomputable section

namespace Cert.Proof

open Idealize.ShloMosaic Idealize.SL.Sem Cert.Kernel

theorem pre_facts : Cert.Pre_groups_fill_the_rows.Facts := Cert.Down.preFacts

theorem kernel_frame : Cert.quiescent_Kernel (hKernel := Cert.Kernel.Gen.facts) (hPre_groups_fill_the_rows := pre_facts) := fun m g h =>
  Cert.Kernel.Down.run_kept m g (fun e => Cert.Down.sizes_word (Cert.Kernel.Down.G m) e) (Cert.Down.sizes_fill _ _ _ _ _ (h 0))

theorem ideal_frame : Cert.quiescent_KernelIdeal (hKernelIdeal := Cert.KernelIdeal.Gen.facts) (hPre_groups_fill_the_rows := pre_facts) := fun m g h =>
  Cert.KernelIdeal.Down.run_kept m g (fun e => Cert.Down.sizes_word (Cert.KernelIdeal.Down.G m) e) (Cert.Down.sizes_fill _ _ _ _ _ (h 0))

theorem algebraic : Cert.algebraic_KernelIdeal_ReferenceIdeal (hKernelIdeal := Cert.KernelIdeal.Gen.facts)
    (hReferenceIdeal := Cert.ReferenceIdeal.Gen.facts) (hPre_groups_fill_the_rows := pre_facts) := fun m g m' g' h hm => by
  have hg := fun e => Cert.Down.sizes_word (Cert.KernelIdeal.Down.G m) e
  have h8 := Cert.Down.sizes_fill _ _ _ _ _ (h 0)
  refine ⟨fun c => Cert.KernelIdeal.Down.result (Cert.KernelIdeal.Down.VE m) c (Cert.Down.sizes (Cert.KernelIdeal.Down.G m)), ?_, ?_⟩
  · exact (θ_run _ _ _).mono (fun r hr c => ⟨hr.1 c, hr.2 c⟩) (Cert.KernelIdeal.Down.run_result m g hg h8)
  · refine (θ_run _ _ _).mono (fun r hr c => ⟨?_, (hr c).2⟩) (Cert.ReferenceIdeal.Down.run_out m' g' (Cert.Down.sizes (Cert.KernelIdeal.Down.G m))
      (fun c e => ?_) h8)
    · obtain ⟨e0, e1, e2, e3, e4⟩ := hm c
      refine funext fun i : Cert.ReferenceIdeal.S9216x6144.Idx => ?_
      obtain ⟨p, q, rfl⟩ : ∃ (p : Fin 9216) (q : Fin 6144), i = ValueIdx.ix2 p q := ⟨_, _, ValueIdx.eq_ix2 i⟩
      refine ((hr c).1 p q).trans ?_
      rw [e1, e2, e3, e4]
      refine Eq.trans ?_ (Cert.KernelIdeal.Down.result_out _ c _ p q).symm
      rw [show Cert.KernelIdeal.Down.X0 (Cert.KernelIdeal.Down.VE m) c = _ from Cert.KernelIdeal.Down.VE_arg1 m c,
        show Cert.KernelIdeal.Down.X1 (Cert.KernelIdeal.Down.VE m) c = _ from Cert.KernelIdeal.Down.VE_arg2 m c,
        show Cert.KernelIdeal.Down.X2 (Cert.KernelIdeal.Down.VE m) c = _ from Cert.KernelIdeal.Down.VE_arg3 m c,
        show Cert.KernelIdeal.Down.X3 (Cert.KernelIdeal.Down.VE m) c = _ from Cert.KernelIdeal.Down.VE_arg4 m c]
      rfl
    · obtain rfl : c = 0 := Subsingleton.elim _ _
      rw [(hm 0).1]
      exact hg e

theorem up_pre_facts : Cert.Pre_groups_fill_the_rows_up.Facts := Cert.Down.upPreFacts

theorem up_frame : Cert.quiescent_Up (hUp := Cert.Up.Gen.facts) (hPre_groups_fill_the_rows_up := up_pre_facts) := fun m g h =>
  Cert.Up.Gate.run_kept m g (fun e => Cert.Down.sizes_word (Cert.Up.Gate.G m) e) (Cert.Down.sizes_fill_up _ _ _ _ _ _ _ _ _ (h 0))

theorem up_ideal_frame : Cert.quiescent_UpIdeal (hUpIdeal := Cert.UpIdeal.Gen.facts) (hPre_groups_fill_the_rows_up := up_pre_facts) := fun m g h =>
  Cert.UpIdeal.Gate.run_kept m g (fun e => Cert.Down.sizes_word (Cert.UpIdeal.Gate.G m) e) (Cert.Down.sizes_fill_up _ _ _ _ _ _ _ _ _ (h 0))

theorem up_algebraic : Cert.algebraic_UpIdeal_UpReferenceIdeal (hUpIdeal := Cert.UpIdeal.Gen.facts)
    (hUpReferenceIdeal := Cert.UpReferenceIdeal.Gen.facts) (hPre_groups_fill_the_rows_up := up_pre_facts) := fun m g m' g' h hm => by
  have hg := fun e => Cert.Down.sizes_word (Cert.UpIdeal.Gate.G m) e
  have h8 := Cert.Down.sizes_fill_up _ _ _ _ _ _ _ _ _ (h 0)
  refine ⟨fun c => Cert.UpIdeal.Gate.result (Cert.UpIdeal.Gate.VE m) c (Cert.Down.sizes (Cert.UpIdeal.Gate.G m)), ?_, ?_⟩
  · exact (θ_run _ _ _).mono (fun r hr c => ⟨hr.1 c, hr.2 c⟩) (Cert.UpIdeal.Gate.run_result (fun _ => rfl) m g hg h8)
  · refine (θ_run _ _ _).mono (fun r hr c => ⟨?_, hr.2 c⟩) (Cert.UpReferenceIdeal.Gate.run_out m' g' (Cert.Down.sizes (Cert.UpIdeal.Gate.G m))
      (fun c e => ?_) h8)
    · obtain ⟨e0, e1, e2, e3, e4, e5, e6, e7, e8⟩ := hm c
      refine funext fun i : Cert.UpReferenceIdeal.S9216x4096.Idx => ?_
      obtain ⟨p, q, rfl⟩ : ∃ (p : Fin 9216) (q : Fin 4096), i = ValueIdx.ix2 p q := ⟨_, _, ValueIdx.eq_ix2 i⟩
      refine (hr.1 c p q).trans ?_
      rw [e1, e2, e3, e4, e5, e6, e7, e8]
      refine Eq.trans ?_ (Cert.UpIdeal.Gate.result_out _ c _ p q).symm
      rw [show Cert.UpIdeal.Gate.X0 (Cert.UpIdeal.Gate.VE m) c = _ from Cert.UpIdeal.Gate.VE_arg1 m c,
        show Cert.UpIdeal.Gate.X1 (Cert.UpIdeal.Gate.VE m) c = _ from Cert.UpIdeal.Gate.VE_arg2 m c,
        show Cert.UpIdeal.Gate.X2 (Cert.UpIdeal.Gate.VE m) c = _ from Cert.UpIdeal.Gate.VE_arg3 m c,
        show Cert.UpIdeal.Gate.X3 (Cert.UpIdeal.Gate.VE m) c = _ from Cert.UpIdeal.Gate.VE_arg4 m c,
        show Cert.UpIdeal.Gate.X4 (Cert.UpIdeal.Gate.VE m) c = _ from Cert.UpIdeal.Gate.VE_arg5 m c,
        show Cert.UpIdeal.Gate.X5 (Cert.UpIdeal.Gate.VE m) c = _ from Cert.UpIdeal.Gate.VE_arg6 m c,
        show Cert.UpIdeal.Gate.X6 (Cert.UpIdeal.Gate.VE m) c = _ from Cert.UpIdeal.Gate.VE_arg7 m c,
        show Cert.UpIdeal.Gate.X7 (Cert.UpIdeal.Gate.VE m) c = _ from Cert.UpIdeal.Gate.VE_arg8 m c]
      rfl
    · obtain rfl : c = 0 := Subsingleton.elim _ _
      rw [(hm 0).1]
      exact hg e

theorem claim : Cert.Claim :=
  ⟨Cert.Kernel.Gen.facts, Cert.KernelIdeal.Gen.facts, Cert.ReferenceIdeal.Gen.facts, Cert.Up.Gen.facts, Cert.UpIdeal.Gen.facts,
    Cert.UpReferenceIdeal.Gen.facts, pre_facts, up_pre_facts,
    kernel_frame, ideal_frame, fun m g _ => Cert.ReferenceIdeal.Gen.frame m g, fun m g _ => Cert.ReferenceIdeal.Gen.frame m g,
    up_frame, up_ideal_frame, fun m g _ => Cert.UpReferenceIdeal.Gen.frame m g, fun m g _ => Cert.UpReferenceIdeal.Gen.frame m g,
    trivial, algebraic, trivial, up_algebraic⟩

end Cert.Proof

end
